-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Features (m : (ℓ : Loc Cert.Features.nD Cert.Features.τ Cert.Features.sig) → Buf (Elt Bits) ℓ) : Prop :=
  True

def Pre_FeaturesIdeal (m : (ℓ : Loc Cert.FeaturesIdeal.nD Cert.FeaturesIdeal.τ Cert.FeaturesIdeal.sig) → Buf (Elt Ideal) ℓ) : Prop :=
  True

def Pre_EdgesIdeal (m : (ℓ : Loc Cert.EdgesIdeal.nD Cert.EdgesIdeal.τ Cert.EdgesIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_distinct [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Features [hFeatures : Cert.Features.Facts] : Prop :=
  ∀ (m : (ℓ : Loc Cert.Features.nD Cert.Features.τ Cert.Features.sig) → Buf (Elt Bits) ℓ) (g : Dev Cert.Features.nD → PrngReg), Pre_Features m →
    θ_run (Cert.Features.defs (F := Bits)) (onTc (τ := Cert.Features.τ) (Cert.Features.main (F := Bits))) ⟨m, fun _ => 0, g⟩ (fun r => (∀ c : Dev Cert.Features.nD,
      r.2.mem ((c.tc : Thread Cert.Features.nD Cert.Features.τ).loc Cert.Features.main_arg0) = m ((c.tc : Thread Cert.Features.nD Cert.Features.τ).loc Cert.Features.main_arg0)
      ∧ r.2.mem ((c.tc : Thread Cert.Features.nD Cert.Features.τ).loc Cert.Features.main_arg1) = m ((c.tc : Thread Cert.Features.nD Cert.Features.τ).loc Cert.Features.main_arg1)
      ∧ r.2.mem ((c.tc : Thread Cert.Features.nD Cert.Features.τ).loc Cert.Features.main_arg2) = m ((c.tc : Thread Cert.Features.nD Cert.Features.τ).loc Cert.Features.main_arg2)
      ∧ r.2.mem ((c.tc : Thread Cert.Features.nD Cert.Features.τ).loc Cert.Features.main_arg3) = m ((c.tc : Thread Cert.Features.nD Cert.Features.τ).loc Cert.Features.main_arg3)
      ∧ r.2.mem ((c.tc : Thread Cert.Features.nD Cert.Features.τ).loc Cert.Features.main_arg4) = m ((c.tc : Thread Cert.Features.nD Cert.Features.τ).loc Cert.Features.main_arg4))
      ∧ r.2.sem = fun _ => 0)

def quiescent_FeaturesIdeal [hFeaturesIdeal : Cert.FeaturesIdeal.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal m →
    θ_run (Cert.FeaturesIdeal.defs (F := Ideal)) (onTc (τ := Cert.FeaturesIdeal.τ) (Cert.FeaturesIdeal.main (F := Ideal))) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
      ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
      ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
      ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4))
      ∧ r.2.sem = fun _ => 0)

def quiescent_EdgesIdeal [hEdgesIdeal : Cert.EdgesIdeal.Facts] : Prop :=
  ∀ (m : (ℓ : Loc Cert.EdgesIdeal.nD Cert.EdgesIdeal.τ Cert.EdgesIdeal.sig) → Buf (Elt Ideal) ℓ) (g : Dev Cert.EdgesIdeal.nD → PrngReg), Pre_EdgesIdeal m →
    θ_run (Cert.EdgesIdeal.defs (F := Ideal)) (onTc (τ := Cert.EdgesIdeal.τ) (Cert.EdgesIdeal.main (F := Ideal))) ⟨m, fun _ => 0, g⟩ (fun r => (∀ c : Dev Cert.EdgesIdeal.nD,
      r.2.mem ((c.tc : Thread Cert.EdgesIdeal.nD Cert.EdgesIdeal.τ).loc Cert.EdgesIdeal.main_arg0) = m ((c.tc : Thread Cert.EdgesIdeal.nD Cert.EdgesIdeal.τ).loc Cert.EdgesIdeal.main_arg0)
      ∧ r.2.mem ((c.tc : Thread Cert.EdgesIdeal.nD Cert.EdgesIdeal.τ).loc Cert.EdgesIdeal.main_arg1) = m ((c.tc : Thread Cert.EdgesIdeal.nD Cert.EdgesIdeal.τ).loc Cert.EdgesIdeal.main_arg1)
      ∧ r.2.mem ((c.tc : Thread Cert.EdgesIdeal.nD Cert.EdgesIdeal.τ).loc Cert.EdgesIdeal.main_arg2) = m ((c.tc : Thread Cert.EdgesIdeal.nD Cert.EdgesIdeal.τ).loc Cert.EdgesIdeal.main_arg2)
      ∧ r.2.mem ((c.tc : Thread Cert.EdgesIdeal.nD Cert.EdgesIdeal.τ).loc Cert.EdgesIdeal.main_arg3) = m ((c.tc : Thread Cert.EdgesIdeal.nD Cert.EdgesIdeal.τ).loc Cert.EdgesIdeal.main_arg3)
      ∧ r.2.mem ((c.tc : Thread Cert.EdgesIdeal.nD Cert.EdgesIdeal.τ).loc Cert.EdgesIdeal.main_arg4) = m ((c.tc : Thread Cert.EdgesIdeal.nD Cert.EdgesIdeal.τ).loc Cert.EdgesIdeal.main_arg4))
      ∧ r.2.sem = fun _ => 0)

def preserves_Kernel_KernelIdeal : Prop :=
  True

def algebraic_KernelIdeal_ReferenceIdeal_pre_distinct [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Features_FeaturesIdeal : Prop :=
  IdealRules.named_const.Statement Cert.FeaturesIdeal.κ "two_pi_hi" .f32 0x40C90FDB#32 (((200000005565507 / 100000000000000) * Real.pi : ℝ) : EReal)
  ∧ IdealRules.named_const.Statement Cert.FeaturesIdeal.κ "two_pi_lo" .f32 0xB43BBD2E#32 (((-5565507 / 100000000000000) * Real.pi : ℝ) : EReal)
  ∧ IdealRules.sign_bit.Statement Cert.FeaturesIdeal.S8x512 .f32

def algebraic_FeaturesIdeal_EdgesIdeal [hFeaturesIdeal : Cert.FeaturesIdeal.Facts] [hEdgesIdeal : Cert.EdgesIdeal.Facts] : Prop :=
  ∀ (m : (ℓ : Loc Cert.FeaturesIdeal.nD Cert.FeaturesIdeal.τ Cert.FeaturesIdeal.sig) → Buf (Elt Ideal) ℓ) (g : Dev Cert.FeaturesIdeal.nD → PrngReg)
    (m' : (ℓ : Loc Cert.EdgesIdeal.nD Cert.EdgesIdeal.τ Cert.EdgesIdeal.sig) → Buf (Elt Ideal) ℓ) (g' : Dev Cert.EdgesIdeal.nD → PrngReg), Pre_FeaturesIdeal m →
    (∀ c : Dev Cert.FeaturesIdeal.nD,
      m' ((c.tc : Thread Cert.EdgesIdeal.nD Cert.EdgesIdeal.τ).loc Cert.EdgesIdeal.main_arg0) = m ((c.tc : Thread Cert.FeaturesIdeal.nD Cert.FeaturesIdeal.τ).loc Cert.FeaturesIdeal.main_arg0)
      ∧ m' ((c.tc : Thread Cert.EdgesIdeal.nD Cert.EdgesIdeal.τ).loc Cert.EdgesIdeal.main_arg1) = m ((c.tc : Thread Cert.FeaturesIdeal.nD Cert.FeaturesIdeal.τ).loc Cert.FeaturesIdeal.main_arg1)
      ∧ m' ((c.tc : Thread Cert.EdgesIdeal.nD Cert.EdgesIdeal.τ).loc Cert.EdgesIdeal.main_arg2) = m ((c.tc : Thread Cert.FeaturesIdeal.nD Cert.FeaturesIdeal.τ).loc Cert.FeaturesIdeal.main_arg2)
      ∧ m' ((c.tc : Thread Cert.EdgesIdeal.nD Cert.EdgesIdeal.τ).loc Cert.EdgesIdeal.main_arg3) = m ((c.tc : Thread Cert.FeaturesIdeal.nD Cert.FeaturesIdeal.τ).loc Cert.FeaturesIdeal.main_arg3)
      ∧ m' ((c.tc : Thread Cert.EdgesIdeal.nD Cert.EdgesIdeal.τ).loc Cert.EdgesIdeal.main_arg4) = m ((c.tc : Thread Cert.FeaturesIdeal.nD Cert.FeaturesIdeal.τ).loc Cert.FeaturesIdeal.main_arg4)) →
    ∃ (v0 : (c : Dev Cert.FeaturesIdeal.nD) → Buf (Elt Ideal) ((c.tc : Thread Cert.FeaturesIdeal.nD Cert.FeaturesIdeal.τ).loc Cert.FeaturesIdeal.main_v7)),
      θ_run (Cert.FeaturesIdeal.defs (F := Ideal)) (onTc (τ := Cert.FeaturesIdeal.τ) (Cert.FeaturesIdeal.main (F := Ideal))) ⟨m, fun _ => 0, g⟩ (fun r => ∀ c : Dev Cert.FeaturesIdeal.nD,
          r.2.mem ((c.tc : Thread Cert.FeaturesIdeal.nD Cert.FeaturesIdeal.τ).loc Cert.FeaturesIdeal.main_v7) = v0 c
          ∧ r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
          ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
          ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
          ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
          ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4))
      ∧ θ_run (Cert.EdgesIdeal.defs (F := Ideal)) (onTc (τ := Cert.EdgesIdeal.τ) (Cert.EdgesIdeal.main (F := Ideal))) ⟨m', fun _ => 0, g'⟩ (fun r => ∀ c : Dev Cert.EdgesIdeal.nD,
          r.2.mem ((c.tc : Thread Cert.EdgesIdeal.nD Cert.EdgesIdeal.τ).loc Cert.EdgesIdeal.main_v147) = v0 c
          ∧ r.2.mem ((c.tc : Thread Cert.EdgesIdeal.nD Cert.EdgesIdeal.τ).loc Cert.EdgesIdeal.main_arg0) = m' ((c.tc : Thread Cert.EdgesIdeal.nD Cert.EdgesIdeal.τ).loc Cert.EdgesIdeal.main_arg0)
          ∧ r.2.mem ((c.tc : Thread Cert.EdgesIdeal.nD Cert.EdgesIdeal.τ).loc Cert.EdgesIdeal.main_arg1) = m' ((c.tc : Thread Cert.EdgesIdeal.nD Cert.EdgesIdeal.τ).loc Cert.EdgesIdeal.main_arg1)
          ∧ r.2.mem ((c.tc : Thread Cert.EdgesIdeal.nD Cert.EdgesIdeal.τ).loc Cert.EdgesIdeal.main_arg2) = m' ((c.tc : Thread Cert.EdgesIdeal.nD Cert.EdgesIdeal.τ).loc Cert.EdgesIdeal.main_arg2)
          ∧ r.2.mem ((c.tc : Thread Cert.EdgesIdeal.nD Cert.EdgesIdeal.τ).loc Cert.EdgesIdeal.main_arg3) = m' ((c.tc : Thread Cert.EdgesIdeal.nD Cert.EdgesIdeal.τ).loc Cert.EdgesIdeal.main_arg3)
          ∧ r.2.mem ((c.tc : Thread Cert.EdgesIdeal.nD Cert.EdgesIdeal.τ).loc Cert.EdgesIdeal.main_arg4) = m' ((c.tc : Thread Cert.EdgesIdeal.nD Cert.EdgesIdeal.τ).loc Cert.EdgesIdeal.main_arg4))

def Claim : Prop :=
  ∃ (hKernel : Cert.Kernel.Facts) (hKernelIdeal : Cert.KernelIdeal.Facts) (hReferenceIdeal : Cert.ReferenceIdeal.Facts) (hFeatures : Cert.Features.Facts) (hFeaturesIdeal : Cert.FeaturesIdeal.Facts) (hEdgesIdeal : Cert.EdgesIdeal.Facts) (hPre_distinct : Cert.Pre_distinct.Facts),
    quiescent_Kernel (hKernel := hKernel)
    ∧ quiescent_KernelIdeal (hKernelIdeal := hKernelIdeal)
    ∧ quiescent_KernelIdeal_pre_distinct (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ quiescent_Features (hFeatures := hFeatures)
    ∧ quiescent_FeaturesIdeal (hFeaturesIdeal := hFeaturesIdeal)
    ∧ quiescent_EdgesIdeal (hEdgesIdeal := hEdgesIdeal)
    ∧ preserves_Kernel_KernelIdeal
    ∧ algebraic_KernelIdeal_ReferenceIdeal_pre_distinct (hKernelIdeal := hKernelIdeal) (hReferenceIdeal := hReferenceIdeal) (hPre_distinct := hPre_distinct)
    ∧ preserves_Features_FeaturesIdeal
    ∧ algebraic_FeaturesIdeal_EdgesIdeal (hFeaturesIdeal := hFeaturesIdeal) (hEdgesIdeal := hEdgesIdeal)
-- ==== Pre_distinct.lean ====
abbrev S8x1024x3 : Shape := ⟨3, ![8, 1024, 3]⟩
abbrev S8x1024 : Shape := ⟨2, ![8, 1024]⟩
abbrev S8x1x1024x3 : Shape := ⟨4, ![8, 1, 1024, 3]⟩
abbrev S8x1024x1x3 : Shape := ⟨4, ![8, 1024, 1, 3]⟩
abbrev S8x1024x1024x3 : Shape := ⟨4, ![8, 1024, 1024, 3]⟩
abbrev S_ : Shape := ⟨0, ![]⟩
abbrev S8x1024x1024 : Shape := ⟨3, ![8, 1024, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S8x1024x1024x1 : Shape := ⟨4, ![8, 1024, 1024, 1]⟩
abbrev S8x1024x1x1024 : Shape := ⟨4, ![8, 1024, 1, 1024]⟩
abbrev S8x1024x1024x1024 : Shape := ⟨4, ![8, 1024, 1024, 1024]⟩

class Facts : Prop where
  bcast_S8x1024x3_S8x1x1024x3_0_2_3 : S8x1024x3.BroadcastsInDim S8x1x1024x3 (![0, 2, 3] : Fin 3 → Fin S8x1x1024x3.rank)
  bcast_S8x1024x3_S8x1024x1x3_0_1_3 : S8x1024x3.BroadcastsInDim S8x1024x1x3 (![0, 1, 3] : Fin 3 → Fin S8x1024x1x3.rank)
  bcast_S8x1x1024x3_S8x1024x1024x3_0_1_2_3 : S8x1x1024x3.BroadcastsInDim S8x1024x1024x3 (![0, 1, 2, 3] : Fin 4 → Fin S8x1024x1024x3.rank)
  bcast_S8x1024x1x3_S8x1024x1024x3_0_1_2_3 : S8x1024x1x3.BroadcastsInDim S8x1024x1024x3 (![0, 1, 2, 3] : Fin 4 → Fin S8x1024x1024x3.rank)
  reducesTo_S8x1024x1024x3_S8x1024x1024_d3 : S8x1024x1024x3.ReducesTo [3] S8x1024x1024
  h_S_ : 0 < S_.numel
  bcast_S_S8x1024x1024 : S_.BroadcastsInDim S8x1024x1024 (![] : Fin 0 → Fin S8x1024x1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S8x1024 : S_.BroadcastsInDim S8x1024 (![] : Fin 0 → Fin S8x1024.rank)
  reducesTo_S8x1024_S_d0_1 : S8x1024.ReducesTo [0, 1] S_
  bcast_S8x1024x1024_S8x1024x1024x1_0_1_2 : S8x1024x1024.BroadcastsInDim S8x1024x1024x1 (![0, 1, 2] : Fin 3 → Fin S8x1024x1024x1.rank)
  bcast_S8x1024x1024_S8x1024x1x1024_0_1_3 : S8x1024x1024.BroadcastsInDim S8x1024x1x1024 (![0, 1, 3] : Fin 3 → Fin S8x1024x1x1024.rank)
  bcast_S8x1024x1024x1_S8x1024x1024x1024_0_1_2_3 : S8x1024x1024x1.BroadcastsInDim S8x1024x1024x1024 (![0, 1, 2, 3] : Fin 4 → Fin S8x1024x1024x1024.rank)
  bcast_S8x1024x1x1024_S8x1024x1024x1024_0_1_2_3 : S8x1024x1x1024.BroadcastsInDim S8x1024x1024x1024 (![0, 1, 2, 3] : Fin 4 → Fin S8x1024x1024x1024.rank)
  bcast_S1024x1024_S8x1024x1024x1024_2_3 : S1024x1024.BroadcastsInDim S8x1024x1024x1024 (![2, 3] : Fin 2 → Fin S8x1024x1024x1024.rank)
  bcast_S_S8x1024x1024x1024 : S_.BroadcastsInDim S8x1024x1024x1024 (![] : Fin 0 → Fin S8x1024x1024x1024.rank)
  reducesTo_S8x1024x1024x1024_S_d0_1_2_3 : S8x1024x1024x1024.ReducesTo [0, 1, 2, 3] S_

variable [Facts]

def fn_where {F : FTy → Type} [FloatOps F] (arg0 : IVec S1024x1024 1) (arg1 : IVec S8x1024x1024x1024 1) (arg2 : IVec S_ 1) : IVec S8x1024x1024x1024 1 :=
  let v0 : IVec S8x1024x1024x1024 1 := broadcastInDim S8x1024x1024x1024 ![2, 3] bcast_S1024x1024_S8x1024x1024x1024_2_3 arg0
  let v1 : IVec S8x1024x1024x1024 1 := broadcastInDim S8x1024x1024x1024 ![] bcast_S_S8x1024x1024x1024 arg2
  let v2 : IVec S8x1024x1024x1024 1 := select v0 arg1 v1
  v2

def fn_part1 {F : FTy → Type} [FloatOps F] (main_v9 : FVec F S8x1024x1024 .f32) (main_v15 : IVec S1024x1024 1) (main_v18 : IVec S_ 1) (main_v19 : FVec F S8x1024x1024x1 .f32) : IVec S_ 1 :=
  let main_v20 : FVec F S8x1024x1x1024 .f32 := broadcastInDim S8x1024x1x1024 ![0, 1, 3] bcast_S8x1024x1024_S8x1024x1x1024_0_1_3 main_v9
  let main_v21 : FVec F S8x1024x1024x1024 .f32 := broadcastInDim S8x1024x1024x1024 ![0, 1, 2, 3] bcast_S8x1024x1024x1_S8x1024x1024x1024_0_1_2_3 main_v19
  let main_v22 : FVec F S8x1024x1024x1024 .f32 := broadcastInDim S8x1024x1024x1024 ![0, 1, 2, 3] bcast_S8x1024x1x1024_S8x1024x1024x1024_0_1_2_3 main_v20
  let main_v23 : IVec S8x1024x1024x1024 1 := cmpf .une main_v21 main_v22
  let main_c_2 : IVec S_ 1 := constantI S_ 1 1#1
  let main_v24 : IVec S8x1024x1024x1024 1 := fn_where (F := F) main_v15 main_v23 main_c_2
  let main_c_3 : IVec S_ 1 := constantI S_ 1 1#1
  let main_v25 : IVec S_ 1 := (fun x v => Host.reduce IntOp.andi x v reducesTo_S8x1024x1024x1024_S_d0_1_2_3 h_S_) main_v24 main_c_3
  let main_v26 : IVec S_ 1 := andi main_v18 main_v25
  main_v26

def fn {F : FTy → Type} [FloatOps F] (main_arg0 : FVec F S8x1024x3 .f32) (main_arg1 : FVec F S8x1024 .f32) : IVec S_ 1 :=
  let main_v0 : FVec F S8x1x1024x3 .f32 := broadcastInDim S8x1x1024x3 ![0, 2, 3] bcast_S8x1024x3_S8x1x1024x3_0_2_3 main_arg0
  let main_v1 : FVec F S8x1024x1x3 .f32 := broadcastInDim S8x1024x1x3 ![0, 1, 3] bcast_S8x1024x3_S8x1024x1x3_0_1_3 main_arg0
  let main_v2 : FVec F S8x1024x1024x3 .f32 := broadcastInDim S8x1024x1024x3 ![0, 1, 2, 3] bcast_S8x1x1024x3_S8x1024x1024x3_0_1_2_3 main_v0
  let main_v3 : FVec F S8x1024x1024x3 .f32 := broadcastInDim S8x1024x1024x3 ![0, 1, 2, 3] bcast_S8x1024x1x3_S8x1024x1024x3_0_1_2_3 main_v1
  let main_v4 : FVec F S8x1024x1024x3 .f32 := subf main_v2 main_v3
  let main_v5 : FVec F S8x1024x1024x3 .f32 := mulf main_v4 main_v4
  let main_cst : FVec F S_ .f32 := constant S_ .f32 0x00000000#32
  let main_v6 : FVec F S8x1024x1024 .f32 := (fun x v => Host.reduceAdd x v reducesTo_S8x1024x1024x3_S8x1024x1024_d3 h_S_) main_v5 main_cst
  let main_cst_0 : FVec F S_ .f32 := constant S_ .f32 0x358637BD#32
  let main_v7 : FVec F S8x1024x1024 .f32 := broadcastInDim S8x1024x1024 ![] bcast_S_S8x1024x1024 main_cst_0
  let main_v8 : FVec F S8x1024x1024 .f32 := addf main_v6 main_v7
  let main_v9 : FVec F S8x1024x1024 .f32 := Host.sqrt main_v8
  let main_v10 : IVec S1024 32 := iotaInDim S1024 32 0
  let main_v11 : IVec S1024x1 32 := broadcastInDim S1024x1 ![0] bcast_S1024_S1024x1_0 main_v10
  let main_v12 : IVec S1x1024 32 := broadcastInDim S1x1024 ![1] bcast_S1024_S1x1024_1 main_v10
  let main_v13 : IVec S1024x1024 32 := broadcastInDim S1024x1024 ![0, 1] bcast_S1024x1_S1024x1024_0_1 main_v11
  let main_v14 : IVec S1024x1024 32 := broadcastInDim S1024x1024 ![0, 1] bcast_S1x1024_S1024x1024_0_1 main_v12
  let main_v15 : IVec S1024x1024 1 := cmpi .ne main_v13 main_v14
  let main_cst_1 : FVec F S_ .f32 := constant S_ .f32 0x3F800000#32
  let main_v16 : FVec F S8x1024 .f32 := broadcastInDim S8x1024 ![] bcast_S_S8x1024 main_cst_1
  let main_v17 : IVec S8x1024 1 := cmpf .oeq main_arg1 main_v16
  let main_c : IVec S_ 1 := constantI S_ 1 1#1
  let main_v18 : IVec S_ 1 := (fun x v => Host.reduce IntOp.andi x v reducesTo_S8x1024_S_d0_1 h_S_) main_v17 main_c
  let main_v19 : FVec F S8x1024x1024x1 .f32 := broadcastInDim S8x1024x1024x1 ![0, 1, 2] bcast_S8x1024x1024_S8x1024x1024x1_0_1_2 main_v9
  fn_part1 (F := F) main_v9 main_v15 main_v18 main_v19
-- ==== Kernel.lean ====
abbrev S8x1024x3 : Shape := ⟨3, ![8, 1024, 3]⟩
abbrev S8x1024 : Shape := ⟨2, ![8, 1024]⟩
abbrev S8x3x1024 : Shape := ⟨3, ![8, 3, 1024]⟩
abbrev S8x1024x1024 : Shape := ⟨3, ![8, 1024, 1024]⟩
abbrev S8x16x1024 : Shape := ⟨3, ![8, 16, 1024]⟩
abbrev S1x256x3 : Shape := ⟨3, ![1, 256, 3]⟩
abbrev S1x3x1024 : Shape := ⟨3, ![1, 3, 1024]⟩
abbrev S1x256x1024 : Shape := ⟨3, ![1, 256, 1024]⟩
abbrev S1x16x1024 : Shape := ⟨3, ![1, 16, 1024]⟩
abbrev S256x3 : Shape := ⟨2, ![256, 3]⟩
abbrev S3x1024 : Shape := ⟨2, ![3, 1024]⟩
abbrev S256x1 : Shape := ⟨2, ![256, 1]⟩
abbrev S1x1024 : Shape := ⟨2, ![1, 1024]⟩
abbrev S256x1024 : Shape := ⟨2, ![256, 1024]⟩
abbrev S16x1024 : Shape := ⟨2, ![16, 1024]⟩
abbrev S1x1023 : Shape := ⟨2, ![1, 1023]⟩
abbrev S1x1021 : Shape := ⟨2, ![1, 1021]⟩
abbrev S1x1x1021 : Shape := ⟨3, ![1, 1, 1021]⟩
abbrev S1x1x1024 : Shape := ⟨3, ![1, 1, 1024]⟩
abbrev S131072 : Shape := ⟨1, ![131072]⟩
abbrev S245760 : Shape := ⟨1, ![245760]⟩
abbrev S6389760 : Shape := ⟨1, ![6389760]⟩
abbrev S32768 : Shape := ⟨1, ![32768]⟩
abbrev S16384 : Shape := ⟨1, ![16384]⟩
abbrev S1024 : Shape := ⟨1, ![1024]⟩
abbrev S976 : Shape := ⟨1, ![976]⟩
abbrev S24960 : Shape := ⟨1, ![24960]⟩
abbrev S_ : Shape := ⟨0, ![]⟩
abbrev S16 : Shape := ⟨1, ![16]⟩
abbrev S15 : Shape := ⟨1, ![15]⟩
abbrev S1 : Shape := ⟨1, ![1]⟩
abbrev S960 : Shape := ⟨1, ![960]⟩
abbrev S8x1024x30 : Shape := ⟨3, ![8, 1024, 30]⟩

abbrev nBuf : Table → Nat
  | .hbm => 9
  | .local .tc .vmem => 8
  | .local .scVector .vmem => 6
  | _ => 0

abbrev bufTy : (tb : Table) → Fin (nBuf tb) → BufTy
  | .hbm, ⟨0, _⟩ => ⟨S8x1024x3, .f32⟩
  | .hbm, ⟨1, _⟩ => ⟨S8x1024, .f32⟩
  | .hbm, ⟨2, _⟩ => ⟨S8x3x1024, .f32⟩
  | .hbm, ⟨3, _⟩ => ⟨S8x1024x1024, .f32⟩
  | .hbm, ⟨4, _⟩ => ⟨S8x16x1024, .f32⟩
  | .hbm, ⟨5, _⟩ => ⟨S131072, .f32⟩
  | .hbm, ⟨6, _⟩ => ⟨S245760, .i32⟩
  | .hbm, ⟨7, _⟩ => ⟨S6389760, .f32⟩
  | .hbm, ⟨8, _⟩ => ⟨S8x1024x30, .i32⟩
  | .local .tc .vmem, ⟨0, _⟩ => ⟨S1x256x3, .f32⟩
  | .local .tc .vmem, ⟨1, _⟩ => ⟨S1x256x3, .f32⟩
  | .local .tc .vmem, ⟨2, _⟩ => ⟨S1x3x1024, .f32⟩
  | .local .tc .vmem, ⟨3, _⟩ => ⟨S1x3x1024, .f32⟩
  | .local .tc .vmem, ⟨4, _⟩ => ⟨S1x256x1024, .f32⟩
  | .local .tc .vmem, ⟨5, _⟩ => ⟨S1x256x1024, .f32⟩
  | .local .tc .vmem, ⟨6, _⟩ => ⟨S1x16x1024, .f32⟩
  | .local .tc .vmem, ⟨7, _⟩ => ⟨S1x16x1024, .f32⟩
  | .local .scVector .vmem, ⟨0, _⟩ => ⟨S32768, .f32⟩
  | .local .scVector .vmem, ⟨1, _⟩ => ⟨S16384, .f32⟩
  | .local .scVector .vmem, ⟨2, _⟩ => ⟨S1024, .f32⟩
  | .local .scVector .vmem, ⟨3, _⟩ => ⟨S1024, .i32⟩
  | .local .scVector .vmem, ⟨4, _⟩ => ⟨S976, .i32⟩
  | .local .scVector .vmem, ⟨5, _⟩ => ⟨S24960, .f32⟩
  | _, _ => ⟨S8x1024x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v1_0_scv : Ref sig .scVector := ⟨.hbm, 3, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v27 : BitVec 1 := Scalar.cmpi .eq arg1 c0_i32
  let v28 : BitVec 32 := Scalar.extui v27
  let c0_i32_8 : BitVec 32 := 0#32
  let v29 : BitVec 1 := Scalar.cmpi .ne v28 c0_i32_8
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c16384_i32 : BitVec 32 := 16384#32
  let v24 : BitVec 32 := Scalar.muli v23 c16384_i32
  ![v24.toNat]
@[reducible] def k1_t1_loop : Scf.Loop 32 :=
  let c0_i32_5 : BitVec 32 := 0#32
  let c8_i32 : BitVec 32 := 8#32
  let v25 : BitVec 32 := Scalar.addi c0_i32_5 c8_i32
  let c1_i32_6 : BitVec 32 := 1#32
  ⟨c0_i32_5, v25, c1_i32_6⟩
def k1_off2 (i : grid1.Coords) (k1_t1 : Fin k1_t1_loop.trips) (c0_i32_8 : BitVec 32) : Fin 3 → Nat :=
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c1024_i32 : BitVec 32 := 1024#32
  let v29 : BitVec 32 := Scalar.muli v23 c1024_i32
  let v30 : BitVec 32 := Scalar.subi v28 v29
  let v31 : BitVec 32 := Scalar.addi v30 c0_i32_8
  let c0_i32_10 : BitVec 32 := 0#32
  ![v23.toNat, v31.toNat, 0]
@[reducible] def k1_t2_loop : Scf.Loop 32 :=
  let c0_i32_274 : BitVec 32 := 0#32
  let c32_i32_275 : BitVec 32 := 32#32
  let v509 : BitVec 32 := Scalar.addi c0_i32_274 c32_i32_275
  let c1_i32_276 : BitVec 32 := 1#32
  ⟨c0_i32_274, v509, c1_i32_276⟩
def k1_off3 (k1_t2 : Fin k1_t2_loop.trips) (c0_i32_363 : BitVec 32) : Fin 1 → Nat :=
  let c0_i32_274 : BitVec 32 := 0#32
  let c1_i32_276 : BitVec 32 := 1#32
  let arg15 : BitVec 32 := Scf.iv c0_i32_274 c1_i32_276 k1_t2
  let c1024_i32_361 : BitVec 32 := 1024#32
  let v747 : BitVec 32 := Scalar.muli arg15 c1024_i32_361
  let v751 : BitVec 32 := Scalar.addi v747 c0_i32_363
  let v752 : Index := Scalar.indexCast v751
  ![v752.toNat]
@[reducible] def k1_t3_loop : Scf.Loop 32 :=
  let c0_i32_369 : BitVec 32 := 0#32
  let c16_i32_370 : BitVec 32 := 16#32
  let v1007 : BitVec 32 := Scalar.addi c0_i32_369 c16_i32_370
  let c1_i32_371 : BitVec 32 := 1#32
  ⟨c0_i32_369, v1007, c1_i32_371⟩
@[reducible] def k1_t4_loop : Scf.Loop 32 :=
  let c0_i32_373 : BitVec 32 := 0#32
  let c16_i32_374 : BitVec 32 := 16#32
  let v1009 : BitVec 32 := Scalar.addi c0_i32_373 c16_i32_374
  let c1_i32_375 : BitVec 32 := 1#32
  ⟨c0_i32_373, v1009, c1_i32_375⟩
@[reducible] def k1_t5_loop : Scf.Loop 32 :=
  let c0_i32_378 : BitVec 32 := 0#32
  let c16_i32_379 : BitVec 32 := 16#32
  let v1015 : BitVec 32 := Scalar.addi c0_i32_378 c16_i32_379
  let c1_i32_380 : BitVec 32 := 1#32
  ⟨c0_i32_378, v1015, c1_i32_380⟩
@[reducible] def k1_t6_loop : Scf.Loop 32 :=
  let c0_i32_382 : BitVec 32 := 0#32
  let c16_i32_383 : BitVec 32 := 16#32
  let v1017 : BitVec 32 := Scalar.addi c0_i32_382 c16_i32_383
  let c1_i32_384 : BitVec 32 := 1#32
  ⟨c0_i32_382, v1017, c1_i32_384⟩
@[reducible] def k1_t7_loop : Scf.Loop 32 :=
  let c0_i32_387 : BitVec 32 := 0#32
  let c16_i32_388 : BitVec 32 := 16#32
  let v1023 : BitVec 32 := Scalar.addi c0_i32_387 c16_i32_388
  let c1_i32_389 : BitVec 32 := 1#32
  ⟨c0_i32_387, v1023, c1_i32_389⟩
@[reducible] def k1_t8_loop : Scf.Loop 32 :=
  let c0_i32_391 : BitVec 32 := 0#32
  let c16_i32_392 : BitVec 32 := 16#32
  let v1025 : BitVec 32 := Scalar.addi c0_i32_391 c16_i32_392
  let c1_i32_393 : BitVec 32 := 1#32
  ⟨c0_i32_391, v1025, c1_i32_393⟩
@[reducible] def k1_t9_loop : Scf.Loop 32 :=
  let c0_i32_396 : BitVec 32 := 0#32
  let c16_i32_397 : BitVec 32 := 16#32
  let v1031 : BitVec 32 := Scalar.addi c0_i32_396 c16_i32_397
  let c1_i32_398 : BitVec 32 := 1#32
  ⟨c0_i32_396, v1031, c1_i32_398⟩
@[reducible] def k1_t10_loop : Scf.Loop 32 :=
  let c0_i32_400 : BitVec 32 := 0#32
  let c16_i32_401 : BitVec 32 := 16#32
  let v1033 : BitVec 32 := Scalar.addi c0_i32_400 c16_i32_401
  let c1_i32_402 : BitVec 32 := 1#32
  ⟨c0_i32_400, v1033, c1_i32_402⟩
@[reducible] def k1_t11_loop : Scf.Loop 32 :=
  let c0_i32_405 : BitVec 32 := 0#32
  let c16_i32_406 : BitVec 32 := 16#32
  let v1058 : BitVec 32 := Scalar.addi c0_i32_405 c16_i32_406
  let c1_i32_407 : BitVec 32 := 1#32
  ⟨c0_i32_405, v1058, c1_i32_407⟩
@[reducible] def k1_t12_loop : Scf.Loop 32 :=
  let c0_i32_409 : BitVec 32 := 0#32
  let c16_i32_410 : BitVec 32 := 16#32
  let v1060 : BitVec 32 := Scalar.addi c0_i32_409 c16_i32_410
  let c1_i32_411 : BitVec 32 := 1#32
  ⟨c0_i32_409, v1060, c1_i32_411⟩
@[reducible] def k1_t13_loop : Scf.Loop 32 :=
  let c0_i32_414 : BitVec 32 := 0#32
  let c16_i32_415 : BitVec 32 := 16#32
  let v1066 : BitVec 32 := Scalar.addi c0_i32_414 c16_i32_415
  let c1_i32_416 : BitVec 32 := 1#32
  ⟨c0_i32_414, v1066, c1_i32_416⟩
@[reducible] def k1_t14_loop : Scf.Loop 32 :=
  let c0_i32_418 : BitVec 32 := 0#32
  let c16_i32_419 : BitVec 32 := 16#32
  let v1068 : BitVec 32 := Scalar.addi c0_i32_418 c16_i32_419
  let c1_i32_420 : BitVec 32 := 1#32
  ⟨c0_i32_418, v1068, c1_i32_420⟩
@[reducible] def k1_t15_loop : Scf.Loop 32 :=
  let c0_i32_423 : BitVec 32 := 0#32
  let c16_i32_424 : BitVec 32 := 16#32
  let v1093 : BitVec 32 := Scalar.addi c0_i32_423 c16_i32_424
  let c1_i32_425 : BitVec 32 := 1#32
  ⟨c0_i32_423, v1093, c1_i32_425⟩
@[reducible] def k1_t16_loop : Scf.Loop 32 :=
  let c0_i32_427 : BitVec 32 := 0#32
  let c16_i32_428 : BitVec 32 := 16#32
  let v1095 : BitVec 32 := Scalar.addi c0_i32_427 c16_i32_428
  let c1_i32_429 : BitVec 32 := 1#32
  ⟨c0_i32_427, v1095, c1_i32_429⟩
@[reducible] def k1_t17_loop : Scf.Loop 32 :=
  let c0_i32_432 : BitVec 32 := 0#32
  let c16_i32_433 : BitVec 32 := 16#32
  let v1101 : BitVec 32 := Scalar.addi c0_i32_432 c16_i32_433
  let c1_i32_434 : BitVec 32 := 1#32
  ⟨c0_i32_432, v1101, c1_i32_434⟩
@[reducible] def k1_t18_loop : Scf.Loop 32 :=
  let c0_i32_436 : BitVec 32 := 0#32
  let c16_i32_437 : BitVec 32 := 16#32
  let v1103 : BitVec 32 := Scalar.addi c0_i32_436 c16_i32_437
  let c1_i32_438 : BitVec 32 := 1#32
  ⟨c0_i32_436, v1103, c1_i32_438⟩
@[reducible] def k1_t19_loop : Scf.Loop 32 :=
  let c0_i32_441 : BitVec 32 := 0#32
  let c16_i32_442 : BitVec 32 := 16#32
  let v1147 : BitVec 32 := Scalar.addi c0_i32_441 c16_i32_442
  let c1_i32_443 : BitVec 32 := 1#32
  ⟨c0_i32_441, v1147, c1_i32_443⟩
@[reducible] def k1_t20_loop : Scf.Loop 32 :=
  let c0_i32_445 : BitVec 32 := 0#32
  let c16_i32_446 : BitVec 32 := 16#32
  let v1149 : BitVec 32 := Scalar.addi c0_i32_445 c16_i32_446
  let c1_i32_447 : BitVec 32 := 1#32
  ⟨c0_i32_445, v1149, c1_i32_447⟩
@[reducible] def k1_t21_loop : Scf.Loop 32 :=
  let c0_i32_450 : BitVec 32 := 0#32
  let c16_i32_451 : BitVec 32 := 16#32
  let v1155 : BitVec 32 := Scalar.addi c0_i32_450 c16_i32_451
  let c1_i32_452 : BitVec 32 := 1#32
  ⟨c0_i32_450, v1155, c1_i32_452⟩
@[reducible] def k1_t22_loop : Scf.Loop 32 :=
  let c0_i32_454 : BitVec 32 := 0#32
  let c16_i32_455 : BitVec 32 := 16#32
  let v1157 : BitVec 32 := Scalar.addi c0_i32_454 c16_i32_455
  let c1_i32_456 : BitVec 32 := 1#32
  ⟨c0_i32_454, v1157, c1_i32_456⟩
@[reducible] def k1_t23_loop : Scf.Loop 32 :=
  let c0_i32_459 : BitVec 32 := 0#32
  let c64_i32_460 : BitVec 32 := 64#32
  let v1161 : BitVec 32 := Scalar.addi c0_i32_459 c64_i32_460
  let c1_i32_461 : BitVec 32 := 1#32
  ⟨c0_i32_459, v1161, c1_i32_461⟩
def k1_off4 (k1_t2 : Fin k1_t2_loop.trips) (k1_t23 : Fin k1_t23_loop.trips) : Fin 1 → Nat :=
  let c0_i32_274 : BitVec 32 := 0#32
  let c1_i32_276 : BitVec 32 := 1#32
  let arg15 : BitVec 32 := Scf.iv c0_i32_274 c1_i32_276 k1_t2
  let c1024_i32_361 : BitVec 32 := 1024#32
  let v747 : BitVec 32 := Scalar.muli arg15 c1024_i32_361
  let c0_i32_459 : BitVec 32 := 0#32
  let c1_i32_461 : BitVec 32 := 1#32
  let arg16 : BitVec 32 := Scf.iv c0_i32_459 c1_i32_461 k1_t23
  let c16_i32_605 : BitVec 32 := 16#32
  let v1585 : BitVec 32 := Scalar.muli arg16 c16_i32_605
  let v1586 : BitVec 32 := Scalar.addi v747 v1585
  let v1587 : Index := Scalar.indexCast v1586
  ![v1587.toNat]

def k1_chk1 (v1598 : IVec S16 32) : Prop :=
  (∀ a x, ((![v1598] : Fin 1 → IVec S16 32) a x).toNat < S1024.size a) ∧
  (∀ a x, ((![v1598] : Fin 1 → IVec S16 32) a x).toNat < S1024.size a)
theorem k1_idx1_inb : ∀ (v1598 : IVec S16 32) (k1_hw1 : k1_chk1 v1598), ∀ a x, ((![v1598] : Fin 1 → IVec S16 32) a x).toNat < S1024.size a := fun v1598 k1_hw1 => k1_hw1.1
theorem k1_idx2_inb : ∀ (v1598 : IVec S16 32) (k1_hw1 : k1_chk1 v1598), ∀ a x, ((![v1598] : Fin 1 → IVec S16 32) a x).toNat < S1024.size a := fun v1598 k1_hw1 => k1_hw1.2
@[reducible] def k1_t24_loop : Scf.Loop 32 :=
  let c0_i32_465 : BitVec 32 := 0#32
  let c16_i32_466 : BitVec 32 := 16#32
  let v1169 : BitVec 32 := Scalar.addi c0_i32_465 c16_i32_466
  let c1_i32_467 : BitVec 32 := 1#32
  ⟨c0_i32_465, v1169, c1_i32_467⟩
@[reducible] def k1_t25_loop : Scf.Loop 32 :=
  let c0_i32_469 : BitVec 32 := 0#32
  let c16_i32_470 : BitVec 32 := 16#32
  let v1171 : BitVec 32 := Scalar.addi c0_i32_469 c16_i32_470
  let c1_i32_471 : BitVec 32 := 1#32
  ⟨c0_i32_469, v1171, c1_i32_471⟩
@[reducible] def k1_t26_loop : Scf.Loop 32 :=
  let c0_i32_476 : BitVec 32 := 0#32
  let c16_i32_477 : BitVec 32 := 16#32
  let v1184 : BitVec 32 := Scalar.addi c0_i32_476 c16_i32_477
  let c1_i32_478 : BitVec 32 := 1#32
  ⟨c0_i32_476, v1184, c1_i32_478⟩
@[reducible] def k1_t27_loop : Scf.Loop 32 :=
  let c0_i32_480 : BitVec 32 := 0#32
  let c16_i32_481 : BitVec 32 := 16#32
  let v1186 : BitVec 32 := Scalar.addi c0_i32_480 c16_i32_481
  let c1_i32_482 : BitVec 32 := 1#32
  ⟨c0_i32_480, v1186, c1_i32_482⟩
@[reducible] def k1_t28_loop : Scf.Loop 32 :=
  let c0_i32_485 : BitVec 32 := 0#32
  let c16_i32_486 : BitVec 32 := 16#32
  let v1231 : BitVec 32 := Scalar.addi c0_i32_485 c16_i32_486
  let c1_i32_487 : BitVec 32 := 1#32
  ⟨c0_i32_485, v1231, c1_i32_487⟩
@[reducible] def k1_t29_loop : Scf.Loop 32 :=
  let c0_i32_489 : BitVec 32 := 0#32
  let c16_i32_490 : BitVec 32 := 16#32
  let v1233 : BitVec 32 := Scalar.addi c0_i32_489 c16_i32_490
  let c1_i32_491 : BitVec 32 := 1#32
  ⟨c0_i32_489, v1233, c1_i32_491⟩
@[reducible] def k1_t30_loop : Scf.Loop 32 :=
  let c0_i32_494 : BitVec 32 := 0#32
  let c16_i32_495 : BitVec 32 := 16#32
  let v1239 : BitVec 32 := Scalar.addi c0_i32_494 c16_i32_495
  let c1_i32_496 : BitVec 32 := 1#32
  ⟨c0_i32_494, v1239, c1_i32_496⟩
@[reducible] def k1_t31_loop : Scf.Loop 32 :=
  let c0_i32_498 : BitVec 32 := 0#32
  let c16_i32_499 : BitVec 32 := 16#32
  let v1241 : BitVec 32 := Scalar.addi c0_i32_498 c16_i32_499
  let c1_i32_500 : BitVec 32 := 1#32
  ⟨c0_i32_498, v1241, c1_i32_500⟩
@[reducible] def k1_t32_loop (v1162 : BitVec 32) : Scf.Loop 32 :=
  let c2_i32_510 : BitVec 32 := 2#32
  let c15_i32_502 : BitVec 32 := 15#32
  let v1243 : BitVec 32 := Scalar.addi v1162 c15_i32_502
  let c0_i32_504 : BitVec 32 := 0#32
  let v1245 : BitVec 1 := Scalar.cmpi .sgt v1243 c0_i32_504
  let v1246 : BitVec 32 := Scalar.extui v1245
  let c0_i32_505 : BitVec 32 := 0#32
  let v1247 : BitVec 1 := Scalar.cmpi .slt v1243 c0_i32_505
  let v1248 : BitVec 32 := Scalar.extui v1247
  let v1249 : BitVec 32 := Scalar.subi v1246 v1248
  let c16_i32_503 : BitVec 32 := 16#32
  let c0_i32_506 : BitVec 32 := 0#32
  let v1250 : BitVec 1 := Scalar.cmpi .sgt c16_i32_503 c0_i32_506
  let v1251 : BitVec 32 := Scalar.extui v1250
  let c0_i32_507 : BitVec 32 := 0#32
  let v1252 : BitVec 1 := Scalar.cmpi .slt c16_i32_503 c0_i32_507
  let v1253 : BitVec 32 := Scalar.extui v1252
  let v1254 : BitVec 32 := Scalar.subi v1251 v1253
  let v1255 : BitVec 1 := Scalar.cmpi .ne v1249 v1254
  let v1256 : BitVec 32 := Scalar.remsi v1243 c16_i32_503
  let c0_i32_508 : BitVec 32 := 0#32
  let v1257 : BitVec 1 := Scalar.cmpi .ne v1256 c0_i32_508
  let v1258 : BitVec 1 := Scalar.andi v1255 v1257
  let v1244 : BitVec 32 := Scalar.divsi v1243 c16_i32_503
  let c1_i32_509 : BitVec 32 := 1#32
  let v1259 : BitVec 32 := Scalar.subi v1244 c1_i32_509
  let v1260 : BitVec 32 := Scalar.select v1258 v1259 v1244
  let v1261 : BitVec 32 := Scalar.subi v1260 c2_i32_510
  let c1_i32_511 : BitVec 32 := 1#32
  let v1263 : BitVec 32 := Scalar.divsi v1261 c1_i32_511
  let v1264 : BitVec 32 := Scalar.muli v1263 c1_i32_511
  let v1265 : BitVec 32 := Scalar.addi c2_i32_510 v1264
  let c1_i32_512 : BitVec 32 := 1#32
  ⟨c2_i32_510, v1265, c1_i32_512⟩

def k1_off5 (v1162 : BitVec 32) (k1_t32 : Fin (k1_t32_loop v1162).trips) : Fin 1 → Nat :=
  let c2_i32_510 : BitVec 32 := 2#32
  let c1_i32_512 : BitVec 32 := 1#32
  let arg16 : BitVec 32 := Scf.iv c2_i32_510 c1_i32_512 k1_t32
  let c16_i32_605 : BitVec 32 := 16#32
  let v1585 : BitVec 32 := Scalar.muli arg16 c16_i32_605
  let v1586 : Index := Scalar.indexCast v1585
  ![v1586.toNat]
@[reducible] def k1_t33_loop : Scf.Loop 32 :=
  let c0_i32_610 : BitVec 32 := 0#32
  let c16_i32_611 : BitVec 32 := 16#32
  let v1601 : BitVec 32 := Scalar.addi c0_i32_610 c16_i32_611
  let c1_i32_612 : BitVec 32 := 1#32
  ⟨c0_i32_610, v1601, c1_i32_612⟩
@[reducible] def k1_t34_loop : Scf.Loop 32 :=
  let c0_i32_614 : BitVec 32 := 0#32
  let c16_i32_615 : BitVec 32 := 16#32
  let v1603 : BitVec 32 := Scalar.addi c0_i32_614 c16_i32_615
  let c1_i32_616 : BitVec 32 := 1#32
  ⟨c0_i32_614, v1603, c1_i32_616⟩
@[reducible] def k1_t35_loop : Scf.Loop 32 :=
  let c0_i32_619 : BitVec 32 := 0#32
  let c16_i32_620 : BitVec 32 := 16#32
  let v1646 : BitVec 32 := Scalar.addi c0_i32_619 c16_i32_620
  let c1_i32_621 : BitVec 32 := 1#32
  ⟨c0_i32_619, v1646, c1_i32_621⟩
@[reducible] def k1_t36_loop : Scf.Loop 32 :=
  let c0_i32_623 : BitVec 32 := 0#32
  let c16_i32_624 : BitVec 32 := 16#32
  let v1648 : BitVec 32 := Scalar.addi c0_i32_623 c16_i32_624
  let c1_i32_625 : BitVec 32 := 1#32
  ⟨c0_i32_623, v1648, c1_i32_625⟩
@[reducible] def k1_t37_loop : Scf.Loop 32 :=
  let c0_i32_628 : BitVec 32 := 0#32
  let c16_i32_629 : BitVec 32 := 16#32
  let v1693 : BitVec 32 := Scalar.addi c0_i32_628 c16_i32_629
  let c1_i32_630 : BitVec 32 := 1#32
  ⟨c0_i32_628, v1693, c1_i32_630⟩
@[reducible] def k1_t38_loop : Scf.Loop 32 :=
  let c0_i32_632 : BitVec 32 := 0#32
  let c16_i32_633 : BitVec 32 := 16#32
  let v1695 : BitVec 32 := Scalar.addi c0_i32_632 c16_i32_633
  let c1_i32_634 : BitVec 32 := 1#32
  ⟨c0_i32_632, v1695, c1_i32_634⟩
@[reducible] def k1_t39_loop : Scf.Loop 32 :=
  let c0_i32_637 : BitVec 32 := 0#32
  let c16_i32_638 : BitVec 32 := 16#32
  let v1701 : BitVec 32 := Scalar.addi c0_i32_637 c16_i32_638
  let c1_i32_639 : BitVec 32 := 1#32
  ⟨c0_i32_637, v1701, c1_i32_639⟩
@[reducible] def k1_t40_loop : Scf.Loop 32 :=
  let c0_i32_641 : BitVec 32 := 0#32
  let c16_i32_642 : BitVec 32 := 16#32
  let v1703 : BitVec 32 := Scalar.addi c0_i32_641 c16_i32_642
  let c1_i32_643 : BitVec 32 := 1#32
  ⟨c0_i32_641, v1703, c1_i32_643⟩
@[reducible] def k1_t41_loop (v1162 : BitVec 32) : Scf.Loop 32 :=
  let c2_i32_510 : BitVec 32 := 2#32
  let c15_i32_502 : BitVec 32 := 15#32
  let v1243 : BitVec 32 := Scalar.addi v1162 c15_i32_502
  let c0_i32_504 : BitVec 32 := 0#32
  let v1245 : BitVec 1 := Scalar.cmpi .sgt v1243 c0_i32_504
  let v1246 : BitVec 32 := Scalar.extui v1245
  let c0_i32_505 : BitVec 32 := 0#32
  let v1247 : BitVec 1 := Scalar.cmpi .slt v1243 c0_i32_505
  let v1248 : BitVec 32 := Scalar.extui v1247
  let v1249 : BitVec 32 := Scalar.subi v1246 v1248
  let c16_i32_503 : BitVec 32 := 16#32
  let c0_i32_506 : BitVec 32 := 0#32
  let v1250 : BitVec 1 := Scalar.cmpi .sgt c16_i32_503 c0_i32_506
  let v1251 : BitVec 32 := Scalar.extui v1250
  let c0_i32_507 : BitVec 32 := 0#32
  let v1252 : BitVec 1 := Scalar.cmpi .slt c16_i32_503 c0_i32_507
  let v1253 : BitVec 32 := Scalar.extui v1252
  let v1254 : BitVec 32 := Scalar.subi v1251 v1253
  let v1255 : BitVec 1 := Scalar.cmpi .ne v1249 v1254
  let v1256 : BitVec 32 := Scalar.remsi v1243 c16_i32_503
  let c0_i32_508 : BitVec 32 := 0#32
  let v1257 : BitVec 1 := Scalar.cmpi .ne v1256 c0_i32_508
  let v1258 : BitVec 1 := Scalar.andi v1255 v1257
  let v1244 : BitVec 32 := Scalar.divsi v1243 c16_i32_503
  let c1_i32_509 : BitVec 32 := 1#32
  let v1259 : BitVec 32 := Scalar.subi v1244 c1_i32_509
  let v1260 : BitVec 32 := Scalar.select v1258 v1259 v1244
  let v1261 : BitVec 32 := Scalar.subi v1260 c2_i32_510
  let c1_i32_511 : BitVec 32 := 1#32
  let v1263 : BitVec 32 := Scalar.divsi v1261 c1_i32_511
  let v1264 : BitVec 32 := Scalar.muli v1263 c1_i32_511
  let v1265 : BitVec 32 := Scalar.addi c2_i32_510 v1264
  let v1262 : BitVec 32 := Scalar.addi c2_i32_510 v1261
  let c1_i32_513 : BitVec 32 := 1#32
  ⟨v1265, v1262, c1_i32_513⟩
def k1_off6 (v1162 : BitVec 32) (k1_t41 : Fin (k1_t41_loop v1162).trips) : Fin 1 → Nat :=
  let c2_i32_510 : BitVec 32 := 2#32
  let c15_i32_502 : BitVec 32 := 15#32
  let v1243 : BitVec 32 := Scalar.addi v1162 c15_i32_502
  let c0_i32_504 : BitVec 32 := 0#32
  let v1245 : BitVec 1 := Scalar.cmpi .sgt v1243 c0_i32_504
  let v1246 : BitVec 32 := Scalar.extui v1245
  let c0_i32_505 : BitVec 32 := 0#32
  let v1247 : BitVec 1 := Scalar.cmpi .slt v1243 c0_i32_505
  let v1248 : BitVec 32 := Scalar.extui v1247
  let v1249 : BitVec 32 := Scalar.subi v1246 v1248
  let c16_i32_503 : BitVec 32 := 16#32
  let c0_i32_506 : BitVec 32 := 0#32
  let v1250 : BitVec 1 := Scalar.cmpi .sgt c16_i32_503 c0_i32_506
  let v1251 : BitVec 32 := Scalar.extui v1250
  let c0_i32_507 : BitVec 32 := 0#32
  let v1252 : BitVec 1 := Scalar.cmpi .slt c16_i32_503 c0_i32_507
  let v1253 : BitVec 32 := Scalar.extui v1252
  let v1254 : BitVec 32 := Scalar.subi v1251 v1253
  let v1255 : BitVec 1 := Scalar.cmpi .ne v1249 v1254
  let v1256 : BitVec 32 := Scalar.remsi v1243 c16_i32_503
  let c0_i32_508 : BitVec 32 := 0#32
  let v1257 : BitVec 1 := Scalar.cmpi .ne v1256 c0_i32_508
  let v1258 : BitVec 1 := Scalar.andi v1255 v1257
  let v1244 : BitVec 32 := Scalar.divsi v1243 c16_i32_503
  let c1_i32_509 : BitVec 32 := 1#32
  let v1259 : BitVec 32 := Scalar.subi v1244 c1_i32_509
  let v1260 : BitVec 32 := Scalar.select v1258 v1259 v1244
  let v1261 : BitVec 32 := Scalar.subi v1260 c2_i32_510
  let c1_i32_511 : BitVec 32 := 1#32
  let v1263 : BitVec 32 := Scalar.divsi v1261 c1_i32_511
  let v1264 : BitVec 32 := Scalar.muli v1263 c1_i32_511
  let v1265 : BitVec 32 := Scalar.addi c2_i32_510 v1264
  let c1_i32_513 : BitVec 32 := 1#32
  let arg16 : BitVec 32 := Scf.iv v1265 c1_i32_513 k1_t41
  let c16_i32_605 : BitVec 32 := 16#32
  let v1585 : BitVec 32 := Scalar.muli arg16 c16_i32_605
  let v1586 : Index := Scalar.indexCast v1585
  ![v1586.toNat]

def k1_chk2 (v1162 : BitVec 32) : Prop :=
  ((k1_t32_loop v1162).OK) ∧
  (∀ k1_t32 : Fin (k1_t32_loop v1162).trips, ∀ a, (k1_off5 v1162 k1_t32) a + S16.size a ≤ S1024.size a) ∧
  ((k1_t41_loop v1162).OK) ∧
  (∀ k1_t41 : Fin (k1_t41_loop v1162).trips, ∀ a, (k1_off6 v1162 k1_t41) a + S16.size a ≤ S1024.size a)
theorem k1_t32_ok : ∀ (v1162 : BitVec 32) (k1_hw2 : k1_chk2 v1162), (k1_t32_loop v1162).OK := fun v1162 k1_hw2 => k1_hw2.1
theorem k1_off5_inb : ∀ (v1162 : BitVec 32) (k1_hw2 : k1_chk2 v1162) (k1_t32 : Fin (k1_t32_loop v1162).trips), ∀ a, (k1_off5 v1162 k1_t32) a + S16.size a ≤ S1024.size a := fun v1162 k1_hw2 k1_t32 => k1_hw2.2.1 k1_t32
theorem k1_t41_ok : ∀ (v1162 : BitVec 32) (k1_hw2 : k1_chk2 v1162), (k1_t41_loop v1162).OK := fun v1162 k1_hw2 => k1_hw2.2.2.1
theorem k1_off6_inb : ∀ (v1162 : BitVec 32) (k1_hw2 : k1_chk2 v1162) (k1_t41 : Fin (k1_t41_loop v1162).trips), ∀ a, (k1_off6 v1162 k1_t41) a + S16.size a ≤ S1024.size a := fun v1162 k1_hw2 k1_t41 => k1_hw2.2.2.2 k1_t41

@[reducible] def k1_t42_loop : Scf.Loop 32 :=
  let c0_i32_610 : BitVec 32 := 0#32
  let c16_i32_611 : BitVec 32 := 16#32
  let v1601 : BitVec 32 := Scalar.addi c0_i32_610 c16_i32_611
  let c1_i32_612 : BitVec 32 := 1#32
  ⟨c0_i32_610, v1601, c1_i32_612⟩
@[reducible] def k1_t43_loop : Scf.Loop 32 :=
  let c0_i32_614 : BitVec 32 := 0#32
  let c16_i32_615 : BitVec 32 := 16#32
  let v1603 : BitVec 32 := Scalar.addi c0_i32_614 c16_i32_615
  let c1_i32_616 : BitVec 32 := 1#32
  ⟨c0_i32_614, v1603, c1_i32_616⟩
@[reducible] def k1_t44_loop : Scf.Loop 32 :=
  let c0_i32_619 : BitVec 32 := 0#32
  let c16_i32_620 : BitVec 32 := 16#32
  let v1646 : BitVec 32 := Scalar.addi c0_i32_619 c16_i32_620
  let c1_i32_621 : BitVec 32 := 1#32
  ⟨c0_i32_619, v1646, c1_i32_621⟩
@[reducible] def k1_t45_loop : Scf.Loop 32 :=
  let c0_i32_623 : BitVec 32 := 0#32
  let c16_i32_624 : BitVec 32 := 16#32
  let v1648 : BitVec 32 := Scalar.addi c0_i32_623 c16_i32_624
  let c1_i32_625 : BitVec 32 := 1#32
  ⟨c0_i32_623, v1648, c1_i32_625⟩
@[reducible] def k1_t46_loop : Scf.Loop 32 :=
  let c0_i32_628 : BitVec 32 := 0#32
  let c16_i32_629 : BitVec 32 := 16#32
  let v1693 : BitVec 32 := Scalar.addi c0_i32_628 c16_i32_629
  let c1_i32_630 : BitVec 32 := 1#32
  ⟨c0_i32_628, v1693, c1_i32_630⟩
@[reducible] def k1_t47_loop : Scf.Loop 32 :=
  let c0_i32_632 : BitVec 32 := 0#32
  let c16_i32_633 : BitVec 32 := 16#32
  let v1695 : BitVec 32 := Scalar.addi c0_i32_632 c16_i32_633
  let c1_i32_634 : BitVec 32 := 1#32
  ⟨c0_i32_632, v1695, c1_i32_634⟩
@[reducible] def k1_t48_loop : Scf.Loop 32 :=
  let c0_i32_637 : BitVec 32 := 0#32
  let c16_i32_638 : BitVec 32 := 16#32
  let v1701 : BitVec 32 := Scalar.addi c0_i32_637 c16_i32_638
  let c1_i32_639 : BitVec 32 := 1#32
  ⟨c0_i32_637, v1701, c1_i32_639⟩
@[reducible] def k1_t49_loop : Scf.Loop 32 :=
  let c0_i32_641 : BitVec 32 := 0#32
  let c16_i32_642 : BitVec 32 := 16#32
  let v1703 : BitVec 32 := Scalar.addi c0_i32_641 c16_i32_642
  let c1_i32_643 : BitVec 32 := 1#32
  ⟨c0_i32_641, v1703, c1_i32_643⟩
def k1_off7 (k1_t2 : Fin k1_t2_loop.trips) : Fin 1 → Nat :=
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1273 : Index := Scalar.indexCast v1272
  ![v1273.toNat]

def k1_chk3 (v1277 : IVec S16 32) : Prop :=
  (∀ a x, ((![v1277] : Fin 1 → IVec S16 32) a x).toNat < S976.size a)
theorem k1_idx3_inb : ∀ (v1277 : IVec S16 32) (k1_hw3 : k1_chk3 v1277), ∀ a x, ((![v1277] : Fin 1 → IVec S16 32) a x).toNat < S976.size a := fun v1277 k1_hw3 => k1_hw3
def k1_off8 (k1_t2 : Fin k1_t2_loop.trips) : Fin 1 → Nat :=
  let c0_i32_517 : BitVec 32 := 0#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1279 : BitVec 32 := Scalar.addi c0_i32_517 v1272
  let v1280 : Index := Scalar.indexCast v1279
  ![v1280.toNat]

def k1_chk4 (v1284 : IVec S16 32) : Prop :=
  (∀ a x, ((![v1284] : Fin 1 → IVec S16 32) a x).toNat < S24960.size a)
theorem k1_idx4_inb : ∀ (v1284 : IVec S16 32) (k1_hw4 : k1_chk4 v1284), ∀ a x, ((![v1284] : Fin 1 → IVec S16 32) a x).toNat < S24960.size a := fun v1284 k1_hw4 => k1_hw4
def k1_off9 (k1_t2 : Fin k1_t2_loop.trips) : Fin 1 → Nat :=
  let c960_i32_519 : BitVec 32 := 960#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1291 : BitVec 32 := Scalar.addi c960_i32_519 v1272
  let v1292 : Index := Scalar.indexCast v1291
  ![v1292.toNat]

def k1_chk5 (v1296 : IVec S16 32) : Prop :=
  (∀ a x, ((![v1296] : Fin 1 → IVec S16 32) a x).toNat < S24960.size a)
theorem k1_idx5_inb : ∀ (v1296 : IVec S16 32) (k1_hw5 : k1_chk5 v1296), ∀ a x, ((![v1296] : Fin 1 → IVec S16 32) a x).toNat < S24960.size a := fun v1296 k1_hw5 => k1_hw5

def k1_chk6 (v1298 : IVec S16 32) : Prop :=
  (∀ a x, ((![v1298] : Fin 1 → IVec S16 32) a x).toNat < S16384.size a)
theorem k1_idx6_inb : ∀ (v1298 : IVec S16 32) (k1_hw6 : k1_chk6 v1298), ∀ a x, ((![v1298] : Fin 1 → IVec S16 32) a x).toNat < S16384.size a := fun v1298 k1_hw6 => k1_hw6

def k1_chk7 (v1301 : IVec S16 32) : Prop :=
  (∀ a x, ((![v1301] : Fin 1 → IVec S16 32) a x).toNat < S16384.size a)
theorem k1_idx7_inb : ∀ (v1301 : IVec S16 32) (k1_hw7 : k1_chk7 v1301), ∀ a x, ((![v1301] : Fin 1 → IVec S16 32) a x).toNat < S16384.size a := fun v1301 k1_hw7 => k1_hw7
def k1_off10 (k1_t2 : Fin k1_t2_loop.trips) : Fin 1 → Nat :=
  let c1920_i32_523 : BitVec 32 := 1920#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1303 : BitVec 32 := Scalar.addi c1920_i32_523 v1272
  let v1304 : Index := Scalar.indexCast v1303
  ![v1304.toNat]

def k1_chk8 (v1308 : IVec S16 32) : Prop :=
  (∀ a x, ((![v1308] : Fin 1 → IVec S16 32) a x).toNat < S24960.size a)
theorem k1_idx8_inb : ∀ (v1308 : IVec S16 32) (k1_hw8 : k1_chk8 v1308), ∀ a x, ((![v1308] : Fin 1 → IVec S16 32) a x).toNat < S24960.size a := fun v1308 k1_hw8 => k1_hw8

def k1_chk9 (v1310 : IVec S16 32) : Prop :=
  (∀ a x, ((![v1310] : Fin 1 → IVec S16 32) a x).toNat < S16384.size a)
theorem k1_idx9_inb : ∀ (v1310 : IVec S16 32) (k1_hw9 : k1_chk9 v1310), ∀ a x, ((![v1310] : Fin 1 → IVec S16 32) a x).toNat < S16384.size a := fun v1310 k1_hw9 => k1_hw9

def k1_chk10 (v1313 : IVec S16 32) : Prop :=
  (∀ a x, ((![v1313] : Fin 1 → IVec S16 32) a x).toNat < S16384.size a)
theorem k1_idx10_inb : ∀ (v1313 : IVec S16 32) (k1_hw10 : k1_chk10 v1313), ∀ a x, ((![v1313] : Fin 1 → IVec S16 32) a x).toNat < S16384.size a := fun v1313 k1_hw10 => k1_hw10
def k1_off11 (k1_t2 : Fin k1_t2_loop.trips) : Fin 1 → Nat :=
  let c2880_i32_527 : BitVec 32 := 2880#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1315 : BitVec 32 := Scalar.addi c2880_i32_527 v1272
  let v1316 : Index := Scalar.indexCast v1315
  ![v1316.toNat]

def k1_chk11 (v1320 : IVec S16 32) : Prop :=
  (∀ a x, ((![v1320] : Fin 1 → IVec S16 32) a x).toNat < S24960.size a)
theorem k1_idx11_inb : ∀ (v1320 : IVec S16 32) (k1_hw11 : k1_chk11 v1320), ∀ a x, ((![v1320] : Fin 1 → IVec S16 32) a x).toNat < S24960.size a := fun v1320 k1_hw11 => k1_hw11

def k1_chk12 (v1322 : IVec S16 32) : Prop :=
  (∀ a x, ((![v1322] : Fin 1 → IVec S16 32) a x).toNat < S16384.size a)
theorem k1_idx12_inb : ∀ (v1322 : IVec S16 32) (k1_hw12 : k1_chk12 v1322), ∀ a x, ((![v1322] : Fin 1 → IVec S16 32) a x).toNat < S16384.size a := fun v1322 k1_hw12 => k1_hw12

def k1_chk13 (v1325 : IVec S16 32) : Prop :=
  (∀ a x, ((![v1325] : Fin 1 → IVec S16 32) a x).toNat < S16384.size a)
theorem k1_idx13_inb : ∀ (v1325 : IVec S16 32) (k1_hw13 : k1_chk13 v1325), ∀ a x, ((![v1325] : Fin 1 → IVec S16 32) a x).toNat < S16384.size a := fun v1325 k1_hw13 => k1_hw13
def k1_off12 (k1_t2 : Fin k1_t2_loop.trips) : Fin 1 → Nat :=
  let c3840_i32_531 : BitVec 32 := 3840#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1327 : BitVec 32 := Scalar.addi c3840_i32_531 v1272
  let v1328 : Index := Scalar.indexCast v1327
  ![v1328.toNat]

def k1_chk14 (v1332 : IVec S16 32) : Prop :=
  (∀ a x, ((![v1332] : Fin 1 → IVec S16 32) a x).toNat < S24960.size a)
theorem k1_idx14_inb : ∀ (v1332 : IVec S16 32) (k1_hw14 : k1_chk14 v1332), ∀ a x, ((![v1332] : Fin 1 → IVec S16 32) a x).toNat < S24960.size a := fun v1332 k1_hw14 => k1_hw14
def k1_off13 (i : grid1.Coords) (k1_t1 : Fin k1_t1_loop.trips) (k1_t2 : Fin k1_t2_loop.trips) : Fin 1 → Nat :=
  let c9216_i32_533 : BitVec 32 := 9216#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1333 : BitVec 32 := Scalar.addi c9216_i32_533 v750
  let v1334 : Index := Scalar.indexCast v1333
  ![v1334.toNat]
def k1_off14 (k1_t2 : Fin k1_t2_loop.trips) : Fin 1 → Nat :=
  let c4800_i32_534 : BitVec 32 := 4800#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1339 : BitVec 32 := Scalar.addi c4800_i32_534 v1272
  let v1340 : Index := Scalar.indexCast v1339
  ![v1340.toNat]

def k1_chk15 (v1344 : IVec S16 32) : Prop :=
  (∀ a x, ((![v1344] : Fin 1 → IVec S16 32) a x).toNat < S24960.size a)
theorem k1_idx15_inb : ∀ (v1344 : IVec S16 32) (k1_hw15 : k1_chk15 v1344), ∀ a x, ((![v1344] : Fin 1 → IVec S16 32) a x).toNat < S24960.size a := fun v1344 k1_hw15 => k1_hw15
def k1_off15 (i : grid1.Coords) (k1_t1 : Fin k1_t1_loop.trips) (k1_t2 : Fin k1_t2_loop.trips) : Fin 1 → Nat :=
  let c10240_i32_536 : BitVec 32 := 10240#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1345 : BitVec 32 := Scalar.addi c10240_i32_536 v750
  let v1346 : Index := Scalar.indexCast v1345
  ![v1346.toNat]
def k1_off16 (k1_t2 : Fin k1_t2_loop.trips) : Fin 1 → Nat :=
  let c5760_i32_537 : BitVec 32 := 5760#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1351 : BitVec 32 := Scalar.addi c5760_i32_537 v1272
  let v1352 : Index := Scalar.indexCast v1351
  ![v1352.toNat]

def k1_chk16 (v1356 : IVec S16 32) : Prop :=
  (∀ a x, ((![v1356] : Fin 1 → IVec S16 32) a x).toNat < S24960.size a)
theorem k1_idx16_inb : ∀ (v1356 : IVec S16 32) (k1_hw16 : k1_chk16 v1356), ∀ a x, ((![v1356] : Fin 1 → IVec S16 32) a x).toNat < S24960.size a := fun v1356 k1_hw16 => k1_hw16
def k1_off17 (i : grid1.Coords) (k1_t1 : Fin k1_t1_loop.trips) (k1_t2 : Fin k1_t2_loop.trips) : Fin 1 → Nat :=
  let c11264_i32_539 : BitVec 32 := 11264#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1357 : BitVec 32 := Scalar.addi c11264_i32_539 v750
  let v1358 : Index := Scalar.indexCast v1357
  ![v1358.toNat]
def k1_off18 (k1_t2 : Fin k1_t2_loop.trips) : Fin 1 → Nat :=
  let c6720_i32_540 : BitVec 32 := 6720#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1363 : BitVec 32 := Scalar.addi c6720_i32_540 v1272
  let v1364 : Index := Scalar.indexCast v1363
  ![v1364.toNat]

def k1_chk17 (v1368 : IVec S16 32) : Prop :=
  (∀ a x, ((![v1368] : Fin 1 → IVec S16 32) a x).toNat < S24960.size a)
theorem k1_idx17_inb : ∀ (v1368 : IVec S16 32) (k1_hw17 : k1_chk17 v1368), ∀ a x, ((![v1368] : Fin 1 → IVec S16 32) a x).toNat < S24960.size a := fun v1368 k1_hw17 => k1_hw17

def k1_chk18 (v1370 : IVec S16 32) : Prop :=
  (∀ a x, ((![v1370] : Fin 1 → IVec S16 32) a x).toNat < S16384.size a)
theorem k1_idx18_inb : ∀ (v1370 : IVec S16 32) (k1_hw18 : k1_chk18 v1370), ∀ a x, ((![v1370] : Fin 1 → IVec S16 32) a x).toNat < S16384.size a := fun v1370 k1_hw18 => k1_hw18

def k1_chk19 (v1373 : IVec S16 32) : Prop :=
  (∀ a x, ((![v1373] : Fin 1 → IVec S16 32) a x).toNat < S16384.size a)
theorem k1_idx19_inb : ∀ (v1373 : IVec S16 32) (k1_hw19 : k1_chk19 v1373), ∀ a x, ((![v1373] : Fin 1 → IVec S16 32) a x).toNat < S16384.size a := fun v1373 k1_hw19 => k1_hw19
def k1_off19 (k1_t2 : Fin k1_t2_loop.trips) : Fin 1 → Nat :=
  let c7680_i32_544 : BitVec 32 := 7680#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1375 : BitVec 32 := Scalar.addi c7680_i32_544 v1272
  let v1376 : Index := Scalar.indexCast v1375
  ![v1376.toNat]

def k1_chk20 (v1380 : IVec S16 32) : Prop :=
  (∀ a x, ((![v1380] : Fin 1 → IVec S16 32) a x).toNat < S24960.size a)
theorem k1_idx20_inb : ∀ (v1380 : IVec S16 32) (k1_hw20 : k1_chk20 v1380), ∀ a x, ((![v1380] : Fin 1 → IVec S16 32) a x).toNat < S24960.size a := fun v1380 k1_hw20 => k1_hw20

def k1_chk21 (v1382 : IVec S16 32) : Prop :=
  (∀ a x, ((![v1382] : Fin 1 → IVec S16 32) a x).toNat < S16384.size a)
theorem k1_idx21_inb : ∀ (v1382 : IVec S16 32) (k1_hw21 : k1_chk21 v1382), ∀ a x, ((![v1382] : Fin 1 → IVec S16 32) a x).toNat < S16384.size a := fun v1382 k1_hw21 => k1_hw21

def k1_chk22 (v1385 : IVec S16 32) : Prop :=
  (∀ a x, ((![v1385] : Fin 1 → IVec S16 32) a x).toNat < S16384.size a)
theorem k1_idx22_inb : ∀ (v1385 : IVec S16 32) (k1_hw22 : k1_chk22 v1385), ∀ a x, ((![v1385] : Fin 1 → IVec S16 32) a x).toNat < S16384.size a := fun v1385 k1_hw22 => k1_hw22
def k1_off20 (k1_t2 : Fin k1_t2_loop.trips) : Fin 1 → Nat :=
  let c8640_i32_548 : BitVec 32 := 8640#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1387 : BitVec 32 := Scalar.addi c8640_i32_548 v1272
  let v1388 : Index := Scalar.indexCast v1387
  ![v1388.toNat]

def k1_chk23 (v1392 : IVec S16 32) : Prop :=
  (∀ a x, ((![v1392] : Fin 1 → IVec S16 32) a x).toNat < S24960.size a)
theorem k1_idx23_inb : ∀ (v1392 : IVec S16 32) (k1_hw23 : k1_chk23 v1392), ∀ a x, ((![v1392] : Fin 1 → IVec S16 32) a x).toNat < S24960.size a := fun v1392 k1_hw23 => k1_hw23

def k1_chk24 (v1394 : IVec S16 32) : Prop :=
  (∀ a x, ((![v1394] : Fin 1 → IVec S16 32) a x).toNat < S16384.size a)
theorem k1_idx24_inb : ∀ (v1394 : IVec S16 32) (k1_hw24 : k1_chk24 v1394), ∀ a x, ((![v1394] : Fin 1 → IVec S16 32) a x).toNat < S16384.size a := fun v1394 k1_hw24 => k1_hw24

def k1_chk25 (v1397 : IVec S16 32) : Prop :=
  (∀ a x, ((![v1397] : Fin 1 → IVec S16 32) a x).toNat < S16384.size a)
theorem k1_idx25_inb : ∀ (v1397 : IVec S16 32) (k1_hw25 : k1_chk25 v1397), ∀ a x, ((![v1397] : Fin 1 → IVec S16 32) a x).toNat < S16384.size a := fun v1397 k1_hw25 => k1_hw25
def k1_off21 (k1_t2 : Fin k1_t2_loop.trips) : Fin 1 → Nat :=
  let c9600_i32_552 : BitVec 32 := 9600#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1399 : BitVec 32 := Scalar.addi c9600_i32_552 v1272
  let v1400 : Index := Scalar.indexCast v1399
  ![v1400.toNat]

def k1_chk26 (v1404 : IVec S16 32) : Prop :=
  (∀ a x, ((![v1404] : Fin 1 → IVec S16 32) a x).toNat < S24960.size a)
theorem k1_idx26_inb : ∀ (v1404 : IVec S16 32) (k1_hw26 : k1_chk26 v1404), ∀ a x, ((![v1404] : Fin 1 → IVec S16 32) a x).toNat < S24960.size a := fun v1404 k1_hw26 => k1_hw26

def k1_chk27 (v1406 : IVec S16 32) : Prop :=
  (∀ a x, ((![v1406] : Fin 1 → IVec S16 32) a x).toNat < S16384.size a)
theorem k1_idx27_inb : ∀ (v1406 : IVec S16 32) (k1_hw27 : k1_chk27 v1406), ∀ a x, ((![v1406] : Fin 1 → IVec S16 32) a x).toNat < S16384.size a := fun v1406 k1_hw27 => k1_hw27

def k1_chk28 (v1409 : IVec S16 32) : Prop :=
  (∀ a x, ((![v1409] : Fin 1 → IVec S16 32) a x).toNat < S16384.size a)
theorem k1_idx28_inb : ∀ (v1409 : IVec S16 32) (k1_hw28 : k1_chk28 v1409), ∀ a x, ((![v1409] : Fin 1 → IVec S16 32) a x).toNat < S16384.size a := fun v1409 k1_hw28 => k1_hw28
def k1_off22 (k1_t2 : Fin k1_t2_loop.trips) : Fin 1 → Nat :=
  let c10560_i32_556 : BitVec 32 := 10560#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1411 : BitVec 32 := Scalar.addi c10560_i32_556 v1272
  let v1412 : Index := Scalar.indexCast v1411
  ![v1412.toNat]

def k1_chk29 (v1416 : IVec S16 32) : Prop :=
  (∀ a x, ((![v1416] : Fin 1 → IVec S16 32) a x).toNat < S24960.size a)
theorem k1_idx29_inb : ∀ (v1416 : IVec S16 32) (k1_hw29 : k1_chk29 v1416), ∀ a x, ((![v1416] : Fin 1 → IVec S16 32) a x).toNat < S24960.size a := fun v1416 k1_hw29 => k1_hw29

def k1_chk30 (v1418 : IVec S16 32) : Prop :=
  (∀ a x, ((![v1418] : Fin 1 → IVec S16 32) a x).toNat < S16384.size a)
theorem k1_idx30_inb : ∀ (v1418 : IVec S16 32) (k1_hw30 : k1_chk30 v1418), ∀ a x, ((![v1418] : Fin 1 → IVec S16 32) a x).toNat < S16384.size a := fun v1418 k1_hw30 => k1_hw30

def k1_chk31 (v1421 : IVec S16 32) : Prop :=
  (∀ a x, ((![v1421] : Fin 1 → IVec S16 32) a x).toNat < S16384.size a)
theorem k1_idx31_inb : ∀ (v1421 : IVec S16 32) (k1_hw31 : k1_chk31 v1421), ∀ a x, ((![v1421] : Fin 1 → IVec S16 32) a x).toNat < S16384.size a := fun v1421 k1_hw31 => k1_hw31
def k1_off23 (k1_t2 : Fin k1_t2_loop.trips) : Fin 1 → Nat :=
  let c11520_i32_560 : BitVec 32 := 11520#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1423 : BitVec 32 := Scalar.addi c11520_i32_560 v1272
  let v1424 : Index := Scalar.indexCast v1423
  ![v1424.toNat]

def k1_chk32 (v1428 : IVec S16 32) : Prop :=
  (∀ a x, ((![v1428] : Fin 1 → IVec S16 32) a x).toNat < S24960.size a)
theorem k1_idx32_inb : ∀ (v1428 : IVec S16 32) (k1_hw32 : k1_chk32 v1428), ∀ a x, ((![v1428] : Fin 1 → IVec S16 32) a x).toNat < S24960.size a := fun v1428 k1_hw32 => k1_hw32

def k1_chk33 (v1430 : IVec S16 32) : Prop :=
  (∀ a x, ((![v1430] : Fin 1 → IVec S16 32) a x).toNat < S16384.size a)
theorem k1_idx33_inb : ∀ (v1430 : IVec S16 32) (k1_hw33 : k1_chk33 v1430), ∀ a x, ((![v1430] : Fin 1 → IVec S16 32) a x).toNat < S16384.size a := fun v1430 k1_hw33 => k1_hw33

def k1_chk34 (v1433 : IVec S16 32) : Prop :=
  (∀ a x, ((![v1433] : Fin 1 → IVec S16 32) a x).toNat < S16384.size a)
theorem k1_idx34_inb : ∀ (v1433 : IVec S16 32) (k1_hw34 : k1_chk34 v1433), ∀ a x, ((![v1433] : Fin 1 → IVec S16 32) a x).toNat < S16384.size a := fun v1433 k1_hw34 => k1_hw34
def k1_off24 (k1_t2 : Fin k1_t2_loop.trips) : Fin 1 → Nat :=
  let c12480_i32_564 : BitVec 32 := 12480#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1435 : BitVec 32 := Scalar.addi c12480_i32_564 v1272
  let v1436 : Index := Scalar.indexCast v1435
  ![v1436.toNat]

def k1_chk35 (v1440 : IVec S16 32) : Prop :=
  (∀ a x, ((![v1440] : Fin 1 → IVec S16 32) a x).toNat < S24960.size a)
theorem k1_idx35_inb : ∀ (v1440 : IVec S16 32) (k1_hw35 : k1_chk35 v1440), ∀ a x, ((![v1440] : Fin 1 → IVec S16 32) a x).toNat < S24960.size a := fun v1440 k1_hw35 => k1_hw35

def k1_chk36 (v1442 : IVec S16 32) : Prop :=
  (∀ a x, ((![v1442] : Fin 1 → IVec S16 32) a x).toNat < S16384.size a)
theorem k1_idx36_inb : ∀ (v1442 : IVec S16 32) (k1_hw36 : k1_chk36 v1442), ∀ a x, ((![v1442] : Fin 1 → IVec S16 32) a x).toNat < S16384.size a := fun v1442 k1_hw36 => k1_hw36

def k1_chk37 (v1445 : IVec S16 32) : Prop :=
  (∀ a x, ((![v1445] : Fin 1 → IVec S16 32) a x).toNat < S16384.size a)
theorem k1_idx37_inb : ∀ (v1445 : IVec S16 32) (k1_hw37 : k1_chk37 v1445), ∀ a x, ((![v1445] : Fin 1 → IVec S16 32) a x).toNat < S16384.size a := fun v1445 k1_hw37 => k1_hw37
def k1_off25 (k1_t2 : Fin k1_t2_loop.trips) : Fin 1 → Nat :=
  let c13440_i32_568 : BitVec 32 := 13440#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1447 : BitVec 32 := Scalar.addi c13440_i32_568 v1272
  let v1448 : Index := Scalar.indexCast v1447
  ![v1448.toNat]

def k1_chk38 (v1452 : IVec S16 32) : Prop :=
  (∀ a x, ((![v1452] : Fin 1 → IVec S16 32) a x).toNat < S24960.size a)
theorem k1_idx38_inb : ∀ (v1452 : IVec S16 32) (k1_hw38 : k1_chk38 v1452), ∀ a x, ((![v1452] : Fin 1 → IVec S16 32) a x).toNat < S24960.size a := fun v1452 k1_hw38 => k1_hw38

def k1_chk39 (v1454 : IVec S16 32) : Prop :=
  (∀ a x, ((![v1454] : Fin 1 → IVec S16 32) a x).toNat < S16384.size a)
theorem k1_idx39_inb : ∀ (v1454 : IVec S16 32) (k1_hw39 : k1_chk39 v1454), ∀ a x, ((![v1454] : Fin 1 → IVec S16 32) a x).toNat < S16384.size a := fun v1454 k1_hw39 => k1_hw39

def k1_chk40 (v1457 : IVec S16 32) : Prop :=
  (∀ a x, ((![v1457] : Fin 1 → IVec S16 32) a x).toNat < S16384.size a)
theorem k1_idx40_inb : ∀ (v1457 : IVec S16 32) (k1_hw40 : k1_chk40 v1457), ∀ a x, ((![v1457] : Fin 1 → IVec S16 32) a x).toNat < S16384.size a := fun v1457 k1_hw40 => k1_hw40
def k1_off26 (k1_t2 : Fin k1_t2_loop.trips) : Fin 1 → Nat :=
  let c14400_i32_572 : BitVec 32 := 14400#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1459 : BitVec 32 := Scalar.addi c14400_i32_572 v1272
  let v1460 : Index := Scalar.indexCast v1459
  ![v1460.toNat]

def k1_chk41 (v1464 : IVec S16 32) : Prop :=
  (∀ a x, ((![v1464] : Fin 1 → IVec S16 32) a x).toNat < S24960.size a)
theorem k1_idx41_inb : ∀ (v1464 : IVec S16 32) (k1_hw41 : k1_chk41 v1464), ∀ a x, ((![v1464] : Fin 1 → IVec S16 32) a x).toNat < S24960.size a := fun v1464 k1_hw41 => k1_hw41

def k1_chk42 (v1466 : IVec S16 32) : Prop :=
  (∀ a x, ((![v1466] : Fin 1 → IVec S16 32) a x).toNat < S16384.size a)
theorem k1_idx42_inb : ∀ (v1466 : IVec S16 32) (k1_hw42 : k1_chk42 v1466), ∀ a x, ((![v1466] : Fin 1 → IVec S16 32) a x).toNat < S16384.size a := fun v1466 k1_hw42 => k1_hw42

def k1_chk43 (v1469 : IVec S16 32) : Prop :=
  (∀ a x, ((![v1469] : Fin 1 → IVec S16 32) a x).toNat < S16384.size a)
theorem k1_idx43_inb : ∀ (v1469 : IVec S16 32) (k1_hw43 : k1_chk43 v1469), ∀ a x, ((![v1469] : Fin 1 → IVec S16 32) a x).toNat < S16384.size a := fun v1469 k1_hw43 => k1_hw43
def k1_off27 (k1_t2 : Fin k1_t2_loop.trips) : Fin 1 → Nat :=
  let c15360_i32_576 : BitVec 32 := 15360#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1471 : BitVec 32 := Scalar.addi c15360_i32_576 v1272
  let v1472 : Index := Scalar.indexCast v1471
  ![v1472.toNat]

def k1_chk44 (v1476 : IVec S16 32) : Prop :=
  (∀ a x, ((![v1476] : Fin 1 → IVec S16 32) a x).toNat < S24960.size a)
theorem k1_idx44_inb : ∀ (v1476 : IVec S16 32) (k1_hw44 : k1_chk44 v1476), ∀ a x, ((![v1476] : Fin 1 → IVec S16 32) a x).toNat < S24960.size a := fun v1476 k1_hw44 => k1_hw44
def k1_off28 (i : grid1.Coords) (k1_t1 : Fin k1_t1_loop.trips) (k1_t2 : Fin k1_t2_loop.trips) : Fin 1 → Nat :=
  let c0_i32_578 : BitVec 32 := 0#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1477 : BitVec 32 := Scalar.addi c0_i32_578 v750
  let v1478 : Index := Scalar.indexCast v1477
  ![v1478.toNat]
def k1_off29 (k1_t2 : Fin k1_t2_loop.trips) : Fin 1 → Nat :=
  let c16320_i32_579 : BitVec 32 := 16320#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1483 : BitVec 32 := Scalar.addi c16320_i32_579 v1272
  let v1484 : Index := Scalar.indexCast v1483
  ![v1484.toNat]

def k1_chk45 (v1488 : IVec S16 32) : Prop :=
  (∀ a x, ((![v1488] : Fin 1 → IVec S16 32) a x).toNat < S24960.size a)
theorem k1_idx45_inb : ∀ (v1488 : IVec S16 32) (k1_hw45 : k1_chk45 v1488), ∀ a x, ((![v1488] : Fin 1 → IVec S16 32) a x).toNat < S24960.size a := fun v1488 k1_hw45 => k1_hw45
def k1_off30 (i : grid1.Coords) (k1_t1 : Fin k1_t1_loop.trips) (k1_t2 : Fin k1_t2_loop.trips) : Fin 1 → Nat :=
  let c1024_i32_581 : BitVec 32 := 1024#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1489 : BitVec 32 := Scalar.addi c1024_i32_581 v750
  let v1490 : Index := Scalar.indexCast v1489
  ![v1490.toNat]
def k1_off31 (k1_t2 : Fin k1_t2_loop.trips) : Fin 1 → Nat :=
  let c17280_i32_582 : BitVec 32 := 17280#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1495 : BitVec 32 := Scalar.addi c17280_i32_582 v1272
  let v1496 : Index := Scalar.indexCast v1495
  ![v1496.toNat]

def k1_chk46 (v1500 : IVec S16 32) : Prop :=
  (∀ a x, ((![v1500] : Fin 1 → IVec S16 32) a x).toNat < S24960.size a)
theorem k1_idx46_inb : ∀ (v1500 : IVec S16 32) (k1_hw46 : k1_chk46 v1500), ∀ a x, ((![v1500] : Fin 1 → IVec S16 32) a x).toNat < S24960.size a := fun v1500 k1_hw46 => k1_hw46
def k1_off32 (i : grid1.Coords) (k1_t1 : Fin k1_t1_loop.trips) (k1_t2 : Fin k1_t2_loop.trips) : Fin 1 → Nat :=
  let c2048_i32_584 : BitVec 32 := 2048#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1501 : BitVec 32 := Scalar.addi c2048_i32_584 v750
  let v1502 : Index := Scalar.indexCast v1501
  ![v1502.toNat]
def k1_off33 (k1_t2 : Fin k1_t2_loop.trips) : Fin 1 → Nat :=
  let c18240_i32_585 : BitVec 32 := 18240#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1507 : BitVec 32 := Scalar.addi c18240_i32_585 v1272
  let v1508 : Index := Scalar.indexCast v1507
  ![v1508.toNat]

def k1_chk47 (v1512 : IVec S16 32) : Prop :=
  (∀ a x, ((![v1512] : Fin 1 → IVec S16 32) a x).toNat < S24960.size a)
theorem k1_idx47_inb : ∀ (v1512 : IVec S16 32) (k1_hw47 : k1_chk47 v1512), ∀ a x, ((![v1512] : Fin 1 → IVec S16 32) a x).toNat < S24960.size a := fun v1512 k1_hw47 => k1_hw47
def k1_off34 (i : grid1.Coords) (k1_t1 : Fin k1_t1_loop.trips) (k1_t2 : Fin k1_t2_loop.trips) : Fin 1 → Nat :=
  let c3072_i32_587 : BitVec 32 := 3072#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1513 : BitVec 32 := Scalar.addi c3072_i32_587 v750
  let v1514 : Index := Scalar.indexCast v1513
  ![v1514.toNat]
def k1_off35 (k1_t2 : Fin k1_t2_loop.trips) : Fin 1 → Nat :=
  let c19200_i32_588 : BitVec 32 := 19200#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1519 : BitVec 32 := Scalar.addi c19200_i32_588 v1272
  let v1520 : Index := Scalar.indexCast v1519
  ![v1520.toNat]

def k1_chk48 (v1524 : IVec S16 32) : Prop :=
  (∀ a x, ((![v1524] : Fin 1 → IVec S16 32) a x).toNat < S24960.size a)
theorem k1_idx48_inb : ∀ (v1524 : IVec S16 32) (k1_hw48 : k1_chk48 v1524), ∀ a x, ((![v1524] : Fin 1 → IVec S16 32) a x).toNat < S24960.size a := fun v1524 k1_hw48 => k1_hw48
def k1_off36 (i : grid1.Coords) (k1_t1 : Fin k1_t1_loop.trips) (k1_t2 : Fin k1_t2_loop.trips) : Fin 1 → Nat :=
  let c4096_i32_590 : BitVec 32 := 4096#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1525 : BitVec 32 := Scalar.addi c4096_i32_590 v750
  let v1526 : Index := Scalar.indexCast v1525
  ![v1526.toNat]
def k1_off37 (k1_t2 : Fin k1_t2_loop.trips) : Fin 1 → Nat :=
  let c20160_i32_591 : BitVec 32 := 20160#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1531 : BitVec 32 := Scalar.addi c20160_i32_591 v1272
  let v1532 : Index := Scalar.indexCast v1531
  ![v1532.toNat]

def k1_chk49 (v1536 : IVec S16 32) : Prop :=
  (∀ a x, ((![v1536] : Fin 1 → IVec S16 32) a x).toNat < S24960.size a)
theorem k1_idx49_inb : ∀ (v1536 : IVec S16 32) (k1_hw49 : k1_chk49 v1536), ∀ a x, ((![v1536] : Fin 1 → IVec S16 32) a x).toNat < S24960.size a := fun v1536 k1_hw49 => k1_hw49
def k1_off38 (i : grid1.Coords) (k1_t1 : Fin k1_t1_loop.trips) (k1_t2 : Fin k1_t2_loop.trips) : Fin 1 → Nat :=
  let c5120_i32_593 : BitVec 32 := 5120#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1537 : BitVec 32 := Scalar.addi c5120_i32_593 v750
  let v1538 : Index := Scalar.indexCast v1537
  ![v1538.toNat]
def k1_off39 (k1_t2 : Fin k1_t2_loop.trips) : Fin 1 → Nat :=
  let c21120_i32_594 : BitVec 32 := 21120#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1543 : BitVec 32 := Scalar.addi c21120_i32_594 v1272
  let v1544 : Index := Scalar.indexCast v1543
  ![v1544.toNat]

def k1_chk50 (v1548 : IVec S16 32) : Prop :=
  (∀ a x, ((![v1548] : Fin 1 → IVec S16 32) a x).toNat < S24960.size a)
theorem k1_idx50_inb : ∀ (v1548 : IVec S16 32) (k1_hw50 : k1_chk50 v1548), ∀ a x, ((![v1548] : Fin 1 → IVec S16 32) a x).toNat < S24960.size a := fun v1548 k1_hw50 => k1_hw50
def k1_off40 (i : grid1.Coords) (k1_t1 : Fin k1_t1_loop.trips) (k1_t2 : Fin k1_t2_loop.trips) : Fin 1 → Nat :=
  let c6144_i32_596 : BitVec 32 := 6144#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1549 : BitVec 32 := Scalar.addi c6144_i32_596 v750
  let v1550 : Index := Scalar.indexCast v1549
  ![v1550.toNat]
def k1_off41 (k1_t2 : Fin k1_t2_loop.trips) : Fin 1 → Nat :=
  let c22080_i32_597 : BitVec 32 := 22080#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1555 : BitVec 32 := Scalar.addi c22080_i32_597 v1272
  let v1556 : Index := Scalar.indexCast v1555
  ![v1556.toNat]

def k1_chk51 (v1560 : IVec S16 32) : Prop :=
  (∀ a x, ((![v1560] : Fin 1 → IVec S16 32) a x).toNat < S24960.size a)
theorem k1_idx51_inb : ∀ (v1560 : IVec S16 32) (k1_hw51 : k1_chk51 v1560), ∀ a x, ((![v1560] : Fin 1 → IVec S16 32) a x).toNat < S24960.size a := fun v1560 k1_hw51 => k1_hw51
def k1_off42 (i : grid1.Coords) (k1_t1 : Fin k1_t1_loop.trips) (k1_t2 : Fin k1_t2_loop.trips) : Fin 1 → Nat :=
  let c7168_i32_599 : BitVec 32 := 7168#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1561 : BitVec 32 := Scalar.addi c7168_i32_599 v750
  let v1562 : Index := Scalar.indexCast v1561
  ![v1562.toNat]
def k1_off43 (k1_t2 : Fin k1_t2_loop.trips) : Fin 1 → Nat :=
  let c23040_i32_600 : BitVec 32 := 23040#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1567 : BitVec 32 := Scalar.addi c23040_i32_600 v1272
  let v1568 : Index := Scalar.indexCast v1567
  ![v1568.toNat]

def k1_chk52 (v1572 : IVec S16 32) : Prop :=
  (∀ a x, ((![v1572] : Fin 1 → IVec S16 32) a x).toNat < S24960.size a)
theorem k1_idx52_inb : ∀ (v1572 : IVec S16 32) (k1_hw52 : k1_chk52 v1572), ∀ a x, ((![v1572] : Fin 1 → IVec S16 32) a x).toNat < S24960.size a := fun v1572 k1_hw52 => k1_hw52
def k1_off44 (i : grid1.Coords) (k1_t1 : Fin k1_t1_loop.trips) (k1_t2 : Fin k1_t2_loop.trips) : Fin 1 → Nat :=
  let c8192_i32_602 : BitVec 32 := 8192#32
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c256_i32 : BitVec 32 := 256#32
  let v26 : BitVec 32 := Scalar.muli v6 c256_i32
  let c0_i32_5 : BitVec 32 := 0#32
  let c1_i32_6 : BitVec 32 := 1#32
  let arg14 : BitVec 32 := Scf.iv c0_i32_5 c1_i32_6 k1_t1
  let c32_i32 : BitVec 32 := 32#32
  let v27 : BitVec 32 := Scalar.muli arg14 c32_i32
  let v28 : BitVec 32 := Scalar.addi v26 v27
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c4_i32 : BitVec 32 := 4#32
  let c0_i32_1 : BitVec 32 := 0#32
  let v13 : BitVec 1 := Scalar.cmpi .sgt c4_i32 c0_i32_1
  let v14 : BitVec 32 := Scalar.extui v13
  let c0_i32_2 : BitVec 32 := 0#32
  let v15 : BitVec 1 := Scalar.cmpi .slt c4_i32 c0_i32_2
  let v16 : BitVec 32 := Scalar.extui v15
  let v17 : BitVec 32 := Scalar.subi v14 v16
  let v18 : BitVec 1 := Scalar.cmpi .ne v12 v17
  let v19 : BitVec 32 := Scalar.remsi v6 c4_i32
  let c0_i32_3 : BitVec 32 := 0#32
  let v20 : BitVec 1 := Scalar.cmpi .ne v19 c0_i32_3
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1024_i32_362 : BitVec 32 := 1024#32
  let v748 : BitVec 32 := Scalar.muli v23 c1024_i32_362
  let v749 : BitVec 32 := Scalar.subi v28 v748
  let c0_i32_274 : BitVec 32 := 0#32
  let c1_i32_276 : BitVec 32 := 1#32
  let arg15 : BitVec 32 := Scf.iv c0_i32_274 c1_i32_276 k1_t2
  let v750 : BitVec 32 := Scalar.addi v749 arg15
  let v1573 : BitVec 32 := Scalar.addi c8192_i32_602 v750
  let v1574 : Index := Scalar.indexCast v1573
  ![v1574.toNat]
def k1_off45 (k1_t2 : Fin k1_t2_loop.trips) : Fin 1 → Nat :=
  let c24000_i32_603 : BitVec 32 := 24000#32
  let c0_i32_274 : BitVec 32 := 0#32
  let c1_i32_276 : BitVec 32 := 1#32
  let arg15 : BitVec 32 := Scf.iv c0_i32_274 c1_i32_276 k1_t2
  let c30_i32_515 : BitVec 32 := 30#32
  let v1272 : BitVec 32 := Scalar.muli arg15 c30_i32_515
  let v1579 : BitVec 32 := Scalar.addi c24000_i32_603 v1272
  let v1580 : Index := Scalar.indexCast v1579
  ![v1580.toNat]

def k1_chk53 (v1584 : IVec S16 32) : Prop :=
  (∀ a x, ((![v1584] : Fin 1 → IVec S16 32) a x).toNat < S24960.size a)
theorem k1_idx53_inb : ∀ (v1584 : IVec S16 32) (k1_hw53 : k1_chk53 v1584), ∀ a x, ((![v1584] : Fin 1 → IVec S16 32) a x).toNat < S24960.size a := fun v1584 k1_hw53 => k1_hw53
def k1_off46 (i : grid1.Coords) (k1_t1 : Fin k1_t1_loop.trips) (c0_i32_278 : BitVec 32) : Fin 1 → Nat :=
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c7680_i32 : BitVec 32 := 7680#32
  let v510 : BitVec 32 := Scalar.muli v6 c7680_i32
  let c0_i32_5 : BitVec 32 := 0#32
  let c1_i32_6 : BitVec 32 := 1#32
  let arg14 : BitVec 32 := Scf.iv c0_i32_5 c1_i32_6 k1_t1
  let c960_i32 : BitVec 32 := 960#32
  let v511 : BitVec 32 := Scalar.muli arg14 c960_i32
  let v512 : BitVec 32 := Scalar.addi v510 v511
  let v513 : BitVec 32 := Scalar.addi c0_i32_278 v512
  ![v513.toNat]
def k1_off47 (i : grid1.Coords) (k1_t1 : Fin k1_t1_loop.trips) : Fin 1 → Nat :=
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c7680_i32 : BitVec 32 := 7680#32
  let v510 : BitVec 32 := Scalar.muli v6 c7680_i32
  let c0_i32_5 : BitVec 32 := 0#32
  let c1_i32_6 : BitVec 32 := 1#32
  let arg14 : BitVec 32 := Scf.iv c0_i32_5 c1_i32_6 k1_t1
  let c960_i32 : BitVec 32 := 960#32
  let v511 : BitVec 32 := Scalar.muli arg14 c960_i32
  let v512 : BitVec 32 := Scalar.addi v510 v511
  ![v512.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1024x3 : Shape := ⟨3, ![8, 1024, 3]⟩
abbrev S8x1024 : Shape := ⟨2, ![8, 1024]⟩
abbrev S8x1x1024 : Shape := ⟨3, ![8, 1, 1024]⟩
abbrev S8x1024x1 : Shape := ⟨3, ![8, 1024, 1]⟩
abbrev S8x1024x1024 : Shape := ⟨3, ![8, 1024, 1024]⟩
abbrev S8x1x1024x3 : Shape := ⟨4, ![8, 1, 1024, 3]⟩
abbrev S8x1024x1x3 : Shape := ⟨4, ![8, 1024, 1, 3]⟩
abbrev S8x1024x1024x3 : Shape := ⟨4, ![8, 1024, 1024, 3]⟩
abbrev S_ : Shape := ⟨0, ![]⟩
abbrev S8x1024x30 : Shape := ⟨3, ![8, 1024, 30]⟩
abbrev S8x1023x3 : Shape := ⟨3, ![8, 1023, 3]⟩
abbrev S8x1023 : Shape := ⟨2, ![8, 1023]⟩
abbrev S8x1023x1 : Shape := ⟨3, ![8, 1023, 1]⟩
abbrev S8x1021x3 : Shape := ⟨3, ![8, 1021, 3]⟩
abbrev S8x1021x1 : Shape := ⟨3, ![8, 1021, 1]⟩
abbrev S8x1021 : Shape := ⟨2, ![8, 1021]⟩
abbrev S8x1021x9 : Shape := ⟨3, ![8, 1021, 9]⟩
abbrev S8x1024x9 : Shape := ⟨3, ![8, 1024, 9]⟩
abbrev S8x9x1024 : Shape := ⟨3, ![8, 9, 1024]⟩
abbrev S8x3x1024 : Shape := ⟨3, ![8, 3, 1024]⟩
abbrev S8x1024x30x1 : Shape := ⟨4, ![8, 1024, 30, 1]⟩
abbrev S8x3x1024x30 : Shape := ⟨4, ![8, 3, 1024, 30]⟩
abbrev S3x8x1024x30 : Shape := ⟨4, ![3, 8, 1024, 30]⟩
abbrev S3x8x1024 : Shape := ⟨3, ![3, 8, 1024]⟩
abbrev S3x8x1024x1 : Shape := ⟨4, ![3, 8, 1024, 1]⟩
abbrev S1x8x1024x30 : Shape := ⟨4, ![1, 8, 1024, 30]⟩
abbrev S8x9x1024x30 : Shape := ⟨4, ![8, 9, 1024, 30]⟩
abbrev S9x8x1024x30 : Shape := ⟨4, ![9, 8, 1024, 30]⟩
abbrev S9x8x1024 : Shape := ⟨3, ![9, 8, 1024]⟩
abbrev S9x8x1024x1 : Shape := ⟨4, ![9, 8, 1024, 1]⟩
abbrev S26x8x1024x30 : Shape := ⟨4, ![26, 8, 1024, 30]⟩
abbrev S6389760 : Shape := ⟨1, ![6389760]⟩

abbrev nBuf : Space → Nat
  | .hbm => 144
  | .vmem => 0
  | .smem => 0
  | _ => 0

abbrev hbmTy0_0 (i : Nat) : BufTy := match i % 128 with
  | 0 => ⟨S8x1024x3, .f32⟩
  | 1 => ⟨S8x1024, .f32⟩
  | 2 => ⟨S8x1x1024, .f32⟩
  | 3 => ⟨S8x1024x1, .f32⟩
  | 4 => ⟨S8x1024x1024, .f32⟩
  | 5 => ⟨S8x1024x1024, .f32⟩
  | 6 => ⟨S8x1024x1024, .f32⟩
  | 7 => ⟨S8x1x1024x3, .f32⟩
  | 8 => ⟨S8x1024x1x3, .f32⟩
  | 9 => ⟨S8x1024x1024x3, .f32⟩
  | 10 => ⟨S8x1024x1024x3, .f32⟩
  | 11 => ⟨S8x1024x1024x3, .f32⟩
  | 12 => ⟨S8x1024x1024x3, .f32⟩
  | 13 => ⟨S_, .f32⟩
  | 14 => ⟨S8x1024x1024, .f32⟩
  | 15 => ⟨S_, .f32⟩
  | 16 => ⟨S8x1024x1024, .f32⟩
  | 17 => ⟨S8x1024x1024, .f32⟩
  | 18 => ⟨S8x1024x1024, .f32⟩
  | 19 => ⟨S8x1024x1024, .f32⟩
  | 20 => ⟨S_, .f32⟩
  | 21 => ⟨S8x1024, .f32⟩
  | 22 => ⟨S8x1024x1, .f32⟩
  | 23 => ⟨S_, .f32⟩
  | 24 => ⟨S8x1024x1024, .f32⟩
  | 25 => ⟨S8x1024x1024, .f32⟩
  | 26 => ⟨S8x1024x1024, .f32⟩
  | 27 => ⟨S8x1024x1024, .f32⟩
  | 28 => ⟨S8x1024x1024, .f32⟩
  | 29 => ⟨S8x1024x1024, .f32⟩
  | 30 => ⟨S8x1024x30, .f32⟩
  | 31 => ⟨S8x1024x30, .i32⟩
  | 32 => ⟨S8x1023x3, .f32⟩
  | 33 => ⟨S8x1023x3, .f32⟩
  | 34 => ⟨S8x1023x3, .f32⟩
  | 35 => ⟨S8x1023x3, .f32⟩
  | 36 => ⟨S_, .f32⟩
  | 37 => ⟨S8x1023, .f32⟩
  | 38 => ⟨S8x1023x1, .f32⟩
  | 39 => ⟨S8x1023x1, .f32⟩
  | 40 => ⟨S_, .f32⟩
  | 41 => ⟨S8x1023x1, .f32⟩
  | 42 => ⟨S8x1023x1, .f32⟩
  | 43 => ⟨S8x1023x3, .f32⟩
  | 44 => ⟨S8x1023x3, .f32⟩
  | 45 => ⟨S8x1021x3, .f32⟩
  | 46 => ⟨S8x1021x3, .f32⟩
  | 47 => ⟨S8x1021x1, .f32⟩
  | 48 => ⟨S8x1021x1, .f32⟩
  | 49 => ⟨S8x1021x1, .f32⟩
  | 50 => ⟨S8x1021x1, .f32⟩
  | 51 => ⟨S8x1021x1, .f32⟩
  | 52 => ⟨S8x1021x1, .f32⟩
  | 53 => ⟨S8x1021x1, .f32⟩
  | 54 => ⟨S8x1021x1, .f32⟩
  | 55 => ⟨S8x1021x1, .f32⟩
  | 56 => ⟨S8x1021x1, .f32⟩
  | 57 => ⟨S8x1021x1, .f32⟩
  | 58 => ⟨S8x1021x1, .f32⟩
  | 59 => ⟨S8x1021x1, .f32⟩
  | 60 => ⟨S8x1021x1, .f32⟩
  | 61 => ⟨S8x1021x1, .f32⟩
  | 62 => ⟨S8x1021x3, .f32⟩
  | 63 => ⟨S8x1021x3, .f32⟩
  | 64 => ⟨S_, .f32⟩
  | 65 => ⟨S8x1021, .f32⟩
  | 66 => ⟨S8x1021x1, .f32⟩
  | 67 => ⟨S8x1021x1, .f32⟩
  | 68 => ⟨S_, .f32⟩
  | 69 => ⟨S8x1021x1, .f32⟩
  | 70 => ⟨S8x1021x1, .f32⟩
  | 71 => ⟨S8x1021x3, .f32⟩
  | 72 => ⟨S8x1021x3, .f32⟩
  | 73 => ⟨S8x1021x3, .f32⟩
  | 74 => ⟨S8x1021x3, .f32⟩
  | 75 => ⟨S_, .f32⟩
  | 76 => ⟨S8x1021, .f32⟩
  | 77 => ⟨S8x1021x1, .f32⟩
  | 78 => ⟨S8x1021x1, .f32⟩
  | 79 => ⟨S_, .f32⟩
  | 80 => ⟨S8x1021x1, .f32⟩
  | 81 => ⟨S8x1021x1, .f32⟩
  | 82 => ⟨S8x1021x3, .f32⟩
  | 83 => ⟨S8x1021x3, .f32⟩
  | 84 => ⟨S8x1021x1, .f32⟩
  | 85 => ⟨S8x1021x1, .f32⟩
  | 86 => ⟨S8x1021x1, .f32⟩
  | 87 => ⟨S8x1021x1, .f32⟩
  | 88 => ⟨S8x1021x1, .f32⟩
  | 89 => ⟨S8x1021x1, .f32⟩
  | 90 => ⟨S8x1021x1, .f32⟩
  | 91 => ⟨S8x1021x1, .f32⟩
  | 92 => ⟨S8x1021x1, .f32⟩
  | 93 => ⟨S8x1021x1, .f32⟩
  | 94 => ⟨S8x1021x1, .f32⟩
  | 95 => ⟨S8x1021x1, .f32⟩
  | 96 => ⟨S8x1021x1, .f32⟩
  | 97 => ⟨S8x1021x1, .f32⟩
  | 98 => ⟨S8x1021x1, .f32⟩
  | 99 => ⟨S8x1021x3, .f32⟩
  | 100 => ⟨S8x1021x9, .f32⟩
  | 101 => ⟨S_, .i32⟩
  | 102 => ⟨S_, .f32⟩
  | 103 => ⟨S8x1024x9, .f32⟩
  | 104 => ⟨S8x9x1024, .f32⟩
  | 105 => ⟨S8x3x1024, .f32⟩
  | 106 => ⟨S8x1024x30, .i32⟩
  | 107 => ⟨S8x1024x30, .f32⟩
  | 108 => ⟨S8x1024x30, .f32⟩
  | 109 => ⟨S8x1024x30, .f32⟩
  | 110 => ⟨S_, .i32⟩
  | 111 => ⟨S8x1024x30, .i32⟩
  | 112 => ⟨S8x1024x30, .i1⟩
  | 113 => ⟨S_, .i32⟩
  | 114 => ⟨S8x1024x30, .i32⟩
  | 115 => ⟨S8x1024x30, .i32⟩
  | 116 => ⟨S8x1024x30, .i32⟩
  | 117 => ⟨S8x1024x30x1, .i32⟩
  | 118 => ⟨S8x3x1024x30, .f32⟩
  | 119 => ⟨S3x8x1024x30, .f32⟩
  | 120 => ⟨S3x8x1024, .f32⟩
  | 121 => ⟨S3x8x1024x1, .f32⟩
  | 122 => ⟨S3x8x1024x30, .f32⟩
  | 123 => ⟨S3x8x1024x30, .f32⟩
  | 124 => ⟨S3x8x1024x30, .f32⟩
  | 125 => ⟨S_, .f32⟩
  | 126 => ⟨S8x1024x30, .f32⟩
  | 127 => ⟨S1x8x1024x30, .f32⟩
  | _ => ⟨S8x1024x3, .f32⟩

abbrev hbmTy0_1 (i : Nat) : BufTy := match i % 128 with
  | 0 => ⟨S1x8x1024x30, .f32⟩
  | 1 => ⟨S_, .i32⟩
  | 2 => ⟨S8x1024x30, .i32⟩
  | 3 => ⟨S8x1024x30, .i1⟩
  | 4 => ⟨S_, .i32⟩
  | 5 => ⟨S8x1024x30, .i32⟩
  | 6 => ⟨S8x1024x30, .i32⟩
  | 7 => ⟨S8x1024x30, .i32⟩
  | 8 => ⟨S8x1024x30x1, .i32⟩
  | 9 => ⟨S8x9x1024x30, .f32⟩
  | 10 => ⟨S9x8x1024x30, .f32⟩
  | 11 => ⟨S9x8x1024, .f32⟩
  | 12 => ⟨S9x8x1024x1, .f32⟩
  | 13 => ⟨S9x8x1024x30, .f32⟩
  | 14 => ⟨S26x8x1024x30, .f32⟩
  | 15 => ⟨S6389760, .f32⟩
  | _ => ⟨S8x1024x3, .f32⟩

abbrev hbmTy (i : Nat) : BufTy := match i / 128 with
  | 0 => hbmTy0_0 i
  | 1 => hbmTy0_1 i
  | _ => ⟨S8x1024x3, .f32⟩

abbrev bufTy : (tb : Table) → Fin (tcTables nBuf tb) → BufTy
  | .hbm, ⟨i, _⟩ => hbmTy i
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_values : Ref sig .tc := ⟨.hbm, 30, rfl⟩
abbrev main_indices : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_c : Ref sig .tc := ⟨.hbm, 101, rfl⟩
abbrev main_call0_v0 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_c_9 : Ref sig .tc := ⟨.hbm, 110, rfl⟩
abbrev main_v94 : Ref sig .tc := ⟨.hbm, 111, rfl⟩
abbrev main_v95 : Ref sig .tc := ⟨.hbm, 112, rfl⟩
abbrev main_c_10 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_11 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_c_12 : Ref sig .tc := ⟨.hbm, 129, rfl⟩
abbrev main_v110 : Ref sig .tc := ⟨.hbm, 130, rfl⟩
abbrev main_v111 : Ref sig .tc := ⟨.hbm, 131, rfl⟩
abbrev main_c_13 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩

abbrev nD : Nat := 1
abbrev τ : Topo := Topo.v7x

variable {F : FTy → Type} [FloatOps F]
-- ==== Features.lean ====
abbrev S6389760 : Shape := ⟨1, ![6389760]⟩
abbrev S128x39 : Shape := ⟨2, ![128, 39]⟩
abbrev S128 : Shape := ⟨1, ![128]⟩
abbrev S26x60x8x512 : Shape := ⟨4, ![26, 60, 8, 512]⟩
abbrev S39x128 : Shape := ⟨2, ![39, 128]⟩
abbrev S_ : Shape := ⟨0, ![]⟩
abbrev S1x128 : Shape := ⟨2, ![1, 128]⟩
abbrev S40x128 : Shape := ⟨2, ![40, 128]⟩
abbrev S60x8x512x128 : Shape := ⟨4, ![60, 8, 512, 128]⟩
abbrev S26x1x8x512 : Shape := ⟨4, ![26, 1, 8, 512]⟩
abbrev S1x8x512x128 : Shape := ⟨4, ![1, 8, 512, 128]⟩
abbrev S8x40x512 : Shape := ⟨3, ![8, 40, 512]⟩
abbrev S1x1x8x512 : Shape := ⟨4, ![1, 1, 8, 512]⟩
abbrev S8x512 : Shape := ⟨2, ![8, 512]⟩
abbrev S8x1x512 : Shape := ⟨3, ![8, 1, 512]⟩
abbrev S1x40x512 : Shape := ⟨3, ![1, 40, 512]⟩
abbrev S40x512 : Shape := ⟨2, ![40, 512]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩

abbrev nBuf : Space → Nat
  | .hbm => 14
  | .vmem => 9
  | .smem => 0
  | _ => 0

abbrev bufTy : (tb : Table) → Fin (tcTables nBuf tb) → BufTy
  | .hbm, ⟨0, _⟩ => ⟨S6389760, .f32⟩
  | .hbm, ⟨1, _⟩ => ⟨S128x39, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S26x60x8x512, .f32⟩
  | .hbm, ⟨6, _⟩ => ⟨S39x128, .f32⟩
  | .hbm, ⟨7, _⟩ => ⟨S_, .f32⟩
  | .hbm, ⟨8, _⟩ => ⟨S1x128, .f32⟩
  | .hbm, ⟨9, _⟩ => ⟨S40x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S60x8x512x128, .f32⟩
  | .local _ .vmem, ⟨0, _⟩ => ⟨S26x1x8x512, .f32⟩
  | .local _ .vmem, ⟨1, _⟩ => ⟨S26x1x8x512, .f32⟩
  | .local _ .vmem, ⟨2, _⟩ => ⟨S40x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x8x512x128, .f32⟩
  | .local _ .vmem, ⟨7, _⟩ => ⟨S1x8x512x128, .f32⟩
  | .local _ .vmem, ⟨8, _⟩ => ⟨S8x40x512, .f32⟩
  | _, _ => ⟨S6389760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨1, ![60], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S26x1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FeaturesIdeal.lean ====
variable {F : FTy → Type} [FloatOps F] [Named F]
def κ : String → Option EReal := fun
  | "two_pi_hi" => some (((200000005565507 / 100000000000000) * Real.pi : ℝ) : EReal)
  | "two_pi_lo" => some (((-5565507 / 100000000000000) * Real.pi : ℝ) : EReal)
  | _ => none
-- ==== EdgesIdeal.lean ====
abbrev S6389760 : Shape := ⟨1, ![6389760]⟩
abbrev S128x39 : Shape := ⟨2, ![128, 39]⟩
abbrev S128 : Shape := ⟨1, ![128]⟩
abbrev S8 : Shape := ⟨1, ![8]⟩
abbrev S16 : Shape := ⟨1, ![16]⟩
abbrev S26x245760 : Shape := ⟨2, ![26, 245760]⟩
abbrev S245760x26 : Shape := ⟨2, ![245760, 26]⟩
abbrev S245760x1 : Shape := ⟨2, ![245760, 1]⟩
abbrev S245760 : Shape := ⟨1, ![245760]⟩
abbrev S245760x3 : Shape := ⟨2, ![245760, 3]⟩
abbrev S245760x9 : Shape := ⟨2, ![245760, 9]⟩
abbrev S245760x3x3 : Shape := ⟨3, ![245760, 3, 3]⟩
abbrev S1x8 : Shape := ⟨2, ![1, 8]⟩
abbrev S245760x8 : Shape := ⟨2, ![245760, 8]⟩
abbrev S245760x16 : Shape := ⟨2, ![245760, 16]⟩
abbrev S_ : Shape := ⟨0, ![]⟩
abbrev S1x16 : Shape := ⟨2, ![1, 16]⟩
abbrev S245760x1x3 : Shape := ⟨3, ![245760, 1, 3]⟩
abbrev S245760x3x3x1 : Shape := ⟨4, ![245760, 3, 3, 1]⟩
abbrev S245760x3x1x3 : Shape := ⟨4, ![245760, 3, 1, 3]⟩
abbrev S245760x3x3x3 : Shape := ⟨4, ![245760, 3, 3, 3]⟩
abbrev S245760x1x1 : Shape := ⟨3, ![245760, 1, 1]⟩
abbrev S245760x4 : Shape := ⟨2, ![245760, 4]⟩
abbrev S245760x39 : Shape := ⟨2, ![245760, 39]⟩
abbrev S39x128 : Shape := ⟨2, ![39, 128]⟩
abbrev S245760x128 : Shape := ⟨2, ![245760, 128]⟩
abbrev S1x128 : Shape := ⟨2, ![1, 128]⟩
abbrev S60x8x512x128 : Shape := ⟨4, ![60, 8, 512, 128]⟩

abbrev nBuf : Space → Nat
  | .hbm => 175
  | .vmem => 0
  | .smem => 0
  | _ => 0

abbrev hbmTy0_0 (i : Nat) : BufTy := match i % 128 with
  | 0 => ⟨S6389760, .f32⟩
  | 1 => ⟨S128x39, .f32⟩
  | 2 => ⟨S128, .f32⟩
  | 3 => ⟨S128, .f32⟩
  | 4 => ⟨S128, .f32⟩
  | 5 => ⟨S8, .f32⟩
  | 6 => ⟨S16, .f32⟩
  | 7 => ⟨S26x245760, .f32⟩
  | 8 => ⟨S245760x26, .f32⟩
  | 9 => ⟨S245760x1, .f32⟩
  | 10 => ⟨S245760, .f32⟩
  | 11 => ⟨S245760x1, .f32⟩
  | 12 => ⟨S245760, .f32⟩
  | 13 => ⟨S245760x3, .f32⟩
  | 14 => ⟨S245760x3, .f32⟩
  | 15 => ⟨S245760x9, .f32⟩
  | 16 => ⟨S245760x3x3, .f32⟩
  | 17 => ⟨S245760x9, .f32⟩
  | 18 => ⟨S245760x3x3, .f32⟩
  | 19 => ⟨S245760x1, .f32⟩
  | 20 => ⟨S1x8, .f32⟩
  | 21 => ⟨S245760x8, .f32⟩
  | 22 => ⟨S245760x8, .f32⟩
  | 23 => ⟨S245760x8, .f32⟩
  | 24 => ⟨S245760x8, .f32⟩
  | 25 => ⟨S245760x8, .f32⟩
  | 26 => ⟨S245760x16, .f32⟩
  | 27 => ⟨S_, .f32⟩
  | 28 => ⟨S245760, .f32⟩
  | 29 => ⟨S245760, .f32⟩
  | 30 => ⟨S245760, .f32⟩
  | 31 => ⟨S245760x1, .f32⟩
  | 32 => ⟨S1x16, .f32⟩
  | 33 => ⟨S245760x16, .f32⟩
  | 34 => ⟨S245760x16, .f32⟩
  | 35 => ⟨S245760x16, .f32⟩
  | 36 => ⟨S_, .f32⟩
  | 37 => ⟨S245760x16, .f32⟩
  | 38 => ⟨S245760x16, .f32⟩
  | 39 => ⟨S245760x16, .f32⟩
  | 40 => ⟨S245760x16, .f32⟩
  | 41 => ⟨S245760x16, .f32⟩
  | 42 => ⟨S245760x3, .f32⟩
  | 43 => ⟨S245760x1x3, .f32⟩
  | 44 => ⟨S245760x3x3, .f32⟩
  | 45 => ⟨S245760x3x3, .f32⟩
  | 46 => ⟨S_, .f32⟩
  | 47 => ⟨S245760x3, .f32⟩
  | 48 => ⟨S245760x3, .f32⟩
  | 49 => ⟨S_, .f32⟩
  | 50 => ⟨S245760, .f32⟩
  | 51 => ⟨S245760x1, .f32⟩
  | 52 => ⟨S245760x1, .f32⟩
  | 53 => ⟨S_, .f32⟩
  | 54 => ⟨S245760x1, .f32⟩
  | 55 => ⟨S245760x1, .f32⟩
  | 56 => ⟨S245760x3, .f32⟩
  | 57 => ⟨S245760x3, .f32⟩
  | 58 => ⟨S245760x3x3x1, .f32⟩
  | 59 => ⟨S245760x3x1x3, .f32⟩
  | 60 => ⟨S245760x3x3x3, .f32⟩
  | 61 => ⟨S245760x3x3x3, .f32⟩
  | 62 => ⟨S245760x3x3x3, .f32⟩
  | 63 => ⟨S_, .f32⟩
  | 64 => ⟨S245760x3x3, .f32⟩
  | 65 => ⟨S245760x1x1, .f32⟩
  | 66 => ⟨S245760, .f32⟩
  | 67 => ⟨S245760x1x1, .f32⟩
  | 68 => ⟨S245760, .f32⟩
  | 69 => ⟨S245760x1x1, .f32⟩
  | 70 => ⟨S245760, .f32⟩
  | 71 => ⟨S245760, .f32⟩
  | 72 => ⟨S245760, .f32⟩
  | 73 => ⟨S245760, .f32⟩
  | 74 => ⟨S245760, .f32⟩
  | 75 => ⟨S245760, .f32⟩
  | 76 => ⟨S245760, .f32⟩
  | 77 => ⟨S245760, .f32⟩
  | 78 => ⟨S245760, .f32⟩
  | 79 => ⟨S245760x1, .f32⟩
  | 80 => ⟨S245760x1, .f32⟩
  | 81 => ⟨S245760x1, .f32⟩
  | 82 => ⟨S245760x3, .f32⟩
  | 83 => ⟨S_, .f32⟩
  | 84 => ⟨S245760x3, .f32⟩
  | 85 => ⟨S245760x3, .f32⟩
  | 86 => ⟨S245760x3, .f32⟩
  | 87 => ⟨S245760x3, .f32⟩
  | 88 => ⟨S_, .f32⟩
  | 89 => ⟨S245760x3, .f32⟩
  | 90 => ⟨S245760x3, .f32⟩
  | 91 => ⟨S245760x1x1, .f32⟩
  | 92 => ⟨S245760, .f32⟩
  | 93 => ⟨S245760x1x1, .f32⟩
  | 94 => ⟨S245760, .f32⟩
  | 95 => ⟨S245760, .f32⟩
  | 96 => ⟨S245760x1x1, .f32⟩
  | 97 => ⟨S245760, .f32⟩
  | 98 => ⟨S245760x1x1, .f32⟩
  | 99 => ⟨S245760, .f32⟩
  | 100 => ⟨S245760, .f32⟩
  | 101 => ⟨S245760x1x1, .f32⟩
  | 102 => ⟨S245760, .f32⟩
  | 103 => ⟨S245760x1x1, .f32⟩
  | 104 => ⟨S245760, .f32⟩
  | 105 => ⟨S245760, .f32⟩
  | 106 => ⟨S245760x1, .f32⟩
  | 107 => ⟨S245760x1, .f32⟩
  | 108 => ⟨S245760x1, .f32⟩
  | 109 => ⟨S245760x3, .f32⟩
  | 110 => ⟨S245760x3, .f32⟩
  | 111 => ⟨S245760, .f32⟩
  | 112 => ⟨S245760, .f32⟩
  | 113 => ⟨S_, .f32⟩
  | 114 => ⟨S245760, .f32⟩
  | 115 => ⟨S245760, .f32⟩
  | 116 => ⟨S_, .f32⟩
  | 117 => ⟨S245760, .f32⟩
  | 118 => ⟨S245760, .f32⟩
  | 119 => ⟨S245760, .f32⟩
  | 120 => ⟨S245760x1, .f32⟩
  | 121 => ⟨S_, .f32⟩
  | 122 => ⟨S245760x1, .f32⟩
  | 123 => ⟨S245760x1, .f32⟩
  | 124 => ⟨S245760x3, .f32⟩
  | 125 => ⟨S245760x4, .f32⟩
  | 126 => ⟨S245760x4, .f32⟩
  | 127 => ⟨S_, .f32⟩
  | _ => ⟨S6389760, .f32⟩

abbrev hbmTy0_1 (i : Nat) : BufTy := match i % 128 with
  | 0 => ⟨S245760, .f32⟩
  | 1 => ⟨S245760x1, .f32⟩
  | 2 => ⟨S245760x1, .f32⟩
  | 3 => ⟨S_, .f32⟩
  | 4 => ⟨S245760x1, .f32⟩
  | 5 => ⟨S245760x1, .f32⟩
  | 6 => ⟨S245760x4, .f32⟩
  | 7 => ⟨S245760x4, .f32⟩
  | 8 => ⟨S245760x39, .f32⟩
  | 9 => ⟨S39x128, .f32⟩
  | 10 => ⟨S245760x128, .f32⟩
  | 11 => ⟨S1x128, .f32⟩
  | 12 => ⟨S245760x128, .f32⟩
  | 13 => ⟨S245760x128, .f32⟩
  | 14 => ⟨S_, .f32⟩
  | 15 => ⟨S245760, .f32⟩
  | 16 => ⟨S245760x1, .f32⟩
  | 17 => ⟨S_, .f32⟩
  | 18 => ⟨S245760x1, .f32⟩
  | 19 => ⟨S245760x1, .f32⟩
  | 20 => ⟨S245760x128, .f32⟩
  | 21 => ⟨S245760x128, .f32⟩
  | 22 => ⟨S245760x128, .f32⟩
  | 23 => ⟨S_, .f32⟩
  | 24 => ⟨S245760, .f32⟩
  | 25 => ⟨S245760x1, .f32⟩
  | 26 => ⟨S_, .f32⟩
  | 27 => ⟨S245760x1, .f32⟩
  | 28 => ⟨S245760x1, .f32⟩
  | 29 => ⟨S_, .f32⟩
  | 30 => ⟨S245760x1, .f32⟩
  | 31 => ⟨S245760x1, .f32⟩
  | 32 => ⟨S245760x1, .f32⟩
  | 33 => ⟨S245760x128, .f32⟩
  | 34 => ⟨S245760x128, .f32⟩
  | 35 => ⟨S1x128, .f32⟩
  | 36 => ⟨S245760x128, .f32⟩
  | 37 => ⟨S245760x128, .f32⟩
  | 38 => ⟨S_, .f32⟩
  | 39 => ⟨S245760x1, .f32⟩
  | 40 => ⟨S245760x1, .f32⟩
  | 41 => ⟨S245760x128, .f32⟩
  | 42 => ⟨S245760x128, .f32⟩
  | 43 => ⟨S1x128, .f32⟩
  | 44 => ⟨S245760x128, .f32⟩
  | 45 => ⟨S245760x128, .f32⟩
  | 46 => ⟨S60x8x512x128, .f32⟩
  | _ => ⟨S6389760, .f32⟩

abbrev hbmTy (i : Nat) : BufTy := match i / 128 with
  | 0 => hbmTy0_0 i
  | 1 => hbmTy0_1 i
  | _ => ⟨S6389760, .f32⟩

abbrev bufTy : (tb : Table) → Fin (tcTables nBuf tb) → BufTy
  | .hbm, ⟨i, _⟩ => hbmTy i
  | _, _ => ⟨S6389760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_7 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_9 : Ref sig .tc := ⟨.hbm, 113, rfl⟩
abbrev main_v98 : Ref sig .tc := ⟨.hbm, 114, rfl⟩
abbrev main_v99 : Ref sig .tc := ⟨.hbm, 115, rfl⟩
abbrev main_call0_cst : Ref sig .tc := ⟨.hbm, 116, rfl⟩
abbrev main_call0_v0 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_10 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_11 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_12 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_cst_13 : Ref sig .tc := ⟨.hbm, 142, rfl⟩
abbrev main_v121 : Ref sig .tc := ⟨.hbm, 143, rfl⟩
abbrev main_v122 : Ref sig .tc := ⟨.hbm, 144, rfl⟩
abbrev main_cst_14 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_cst_15 : Ref sig .tc := ⟨.hbm, 151, rfl⟩
abbrev main_v128 : Ref sig .tc := ⟨.hbm, 152, rfl⟩
abbrev main_v129 : Ref sig .tc := ⟨.hbm, 153, rfl⟩
abbrev main_cst_16 : Ref sig .tc := ⟨.hbm, 154, rfl⟩
abbrev main_v130 : Ref sig .tc := ⟨.hbm, 155, rfl⟩
abbrev main_v131 : Ref sig .tc := ⟨.hbm, 156, rfl⟩
abbrev main_cst_17 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_cst_18 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩

abbrev nD : Nat := 1
abbrev τ : Topo := Topo.v7x

variable {F : FTy → Type} [FloatOps F]
-- ==== Proof.Base.lean ====
/-
  The kernel's tile program read as a STATE TRANSFORMER over the six scratch buffers of a tile: `RowSt` is what the six
  hold, `own` that the tile holds them so, and `WP p s Φ` says that the program `p`, from the scratch state `s`, ends
  with a value and a scratch state of which `Φ` holds. Its rules (a load, a store, a gather, a scatter, a check, a
  counted loop) touch one buffer each, by that buffer's `Lens`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch
public import proofs.«01_k».proof.Proof.Gen.KernelIdeal
public import proofs.«01_k».proof.Proof.Gen.KernelIdeal.Skeleton

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipeline's rounds and the transfers' counters. -/
abbrev UH : Type := URounds (GSem nD τ sig) ℕ
abbrev UU : Type := (UH × UR sig nD τ) × Counters

local notation "𝕄" => MT nD τ sig (HIx 1) (Elt F) ℕ UU ℕ

/-! ## The six scratch buffers of a tile -/

abbrev mD2 : Memref sig .scVector .vmem S32768 .f32 := Memref.whole cc1_scratch0
abbrev mTab : Memref sig .scVector .vmem S16384 .f32 := Memref.whole cc1_scratch1
abbrev mCk : Memref sig .scVector .vmem S1024 .f32 := Memref.whole cc1_scratch2
abbrev mCv : Memref sig .scVector .vmem S1024 .i32 := Memref.whole cc1_scratch3
abbrev mEi : Memref sig .scVector .vmem S976 .i32 := Memref.whole cc1_scratch4
abbrev mPl : Memref sig .scVector .vmem S24960 .f32 := Memref.whole cc1_scratch5

/-- What the six scratch buffers hold: 32 rows of distances, the table of one batch entry, the candidates' keys and
    indices, the staged indices and the staged planes. -/
structure RowSt (F : FTy → Type) where
  d2 : Vec F S32768 .f32
  tab : Vec F S16384 .f32
  ck : Vec F S1024 .f32
  cv : Vec F S1024 .i32
  ei : Vec F S976 .i32
  pl : Vec F S24960 .f32

variable (d : Dev nD) (sc' : Fin τ.nSC) (j : Fin τ.nSub)

/-- The tile holds its six scratch buffers at `s`. -/
def own (s : RowSt F) : sProp 𝕄 :=
  iprop((mD2.view.loc (V d sc' j) ↦{fullShare} s.d2) ∗ (mTab.view.loc (V d sc' j) ↦{fullShare} s.tab)
    ∗ (mCk.view.loc (V d sc' j) ↦{fullShare} s.ck) ∗ (mCv.view.loc (V d sc' j) ↦{fullShare} s.cv)
    ∗ (mEi.view.loc (V d sc' j) ↦{fullShare} s.ei) ∗ (mPl.view.loc (V d sc' j) ↦{fullShare} s.pl))

/-- One buffer within the six: its contents, replacing them, and that the six are held as this one and the rest. -/
structure Lens {sh : Shape} {e : EltTy} (m : Memref sig .scVector .vmem sh e) where
  get : RowSt F → Buf (Elt F) (m.view.loc (V d sc' j))
  set : RowSt F → Buf (Elt F) (m.view.loc (V d sc' j)) → RowSt F
  rest : RowSt F → sProp 𝕄
  get_eq : ∀ s, own d sc' j s = iprop((m.view.loc (V d sc' j) ↦{fullShare} get s) ∗ rest s)
  set_eq : ∀ s v, own d sc' j (set s v) = iprop((m.view.loc (V d sc' j) ↦{fullShare} v) ∗ rest s)

/-! One factor of six taken to the front. -/

theorem six1 (A B C D E G : sProp 𝕄) :
    iprop(A ∗ B ∗ C ∗ D ∗ E ∗ G) = iprop(B ∗ A ∗ C ∗ D ∗ E ∗ G) := by
  refine BI.Entails.antisymm (show iprop(A ∗ B ∗ C ∗ D ∗ E ∗ G) ⊢ iprop(B ∗ A ∗ C ∗ D ∗ E ∗ G) from ?_) (show iprop(B ∗ A ∗ C ∗ D ∗ E ∗ G) ⊢ iprop(A ∗ B ∗ C ∗ D ∗ E ∗ G) from ?_)
  · iintro ⟨HA, HB, HC, HD, HE, HG⟩
    isplitl [HB]; · iexact HB
    isplitl [HA]; · iexact HA
    isplitl [HC]; · iexact HC
    isplitl [HD]; · iexact HD
    isplitl [HE]; · iexact HE
    iexact HG
  · iintro ⟨HB, HA, HC, HD, HE, HG⟩
    isplitl [HA]; · iexact HA
    isplitl [HB]; · iexact HB
    isplitl [HC]; · iexact HC
    isplitl [HD]; · iexact HD
    isplitl [HE]; · iexact HE
    iexact HG

theorem six2 (A B C D E G : sProp 𝕄) :
    iprop(A ∗ B ∗ C ∗ D ∗ E ∗ G) = iprop(C ∗ A ∗ B ∗ D ∗ E ∗ G) := by
  refine BI.Entails.antisymm (show iprop(A ∗ B ∗ C ∗ D ∗ E ∗ G) ⊢ iprop(C ∗ A ∗ B ∗ D ∗ E ∗ G) from ?_) (show iprop(C ∗ A ∗ B ∗ D ∗ E ∗ G) ⊢ iprop(A ∗ B ∗ C ∗ D ∗ E ∗ G) from ?_)
  · iintro ⟨HA, HB, HC, HD, HE, HG⟩
    isplitl [HC]; · iexact HC
    isplitl [HA]; · iexact HA
    isplitl [HB]; · iexact HB
    isplitl [HD]; · iexact HD
    isplitl [HE]; · iexact HE
    iexact HG
  · iintro ⟨HC, HA, HB, HD, HE, HG⟩
    isplitl [HA]; · iexact HA
    isplitl [HB]; · iexact HB
    isplitl [HC]; · iexact HC
    isplitl [HD]; · iexact HD
    isplitl [HE]; · iexact HE
    iexact HG

theorem six3 (A B C D E G : sProp 𝕄) :
    iprop(A ∗ B ∗ C ∗ D ∗ E ∗ G) = iprop(D ∗ A ∗ B ∗ C ∗ E ∗ G) := by
  refine BI.Entails.antisymm (show iprop(A ∗ B ∗ C ∗ D ∗ E ∗ G) ⊢ iprop(D ∗ A ∗ B ∗ C ∗ E ∗ G) from ?_) (show iprop(D ∗ A ∗ B ∗ C ∗ E ∗ G) ⊢ iprop(A ∗ B ∗ C ∗ D ∗ E ∗ G) from ?_)
  · iintro ⟨HA, HB, HC, HD, HE, HG⟩
    isplitl [HD]; · iexact HD
    isplitl [HA]; · iexact HA
    isplitl [HB]; · iexact HB
    isplitl [HC]; · iexact HC
    isplitl [HE]; · iexact HE
    iexact HG
  · iintro ⟨HD, HA, HB, HC, HE, HG⟩
    isplitl [HA]; · iexact HA
    isplitl [HB]; · iexact HB
    isplitl [HC]; · iexact HC
    isplitl [HD]; · iexact HD
    isplitl [HE]; · iexact HE
    iexact HG

theorem six4 (A B C D E G : sProp 𝕄) :
    iprop(A ∗ B ∗ C ∗ D ∗ E ∗ G) = iprop(E ∗ A ∗ B ∗ C ∗ D ∗ G) := by
  refine BI.Entails.antisymm (show iprop(A ∗ B ∗ C ∗ D ∗ E ∗ G) ⊢ iprop(E ∗ A ∗ B ∗ C ∗ D ∗ G) from ?_) (show iprop(E ∗ A ∗ B ∗ C ∗ D ∗ G) ⊢ iprop(A ∗ B ∗ C ∗ D ∗ E ∗ G) from ?_)
  · iintro ⟨HA, HB, HC, HD, HE, HG⟩
    isplitl [HE]; · iexact HE
    isplitl [HA]; · iexact HA
    isplitl [HB]; · iexact HB
    isplitl [HC]; · iexact HC
    isplitl [HD]; · iexact HD
    iexact HG
  · iintro ⟨HE, HA, HB, HC, HD, HG⟩
    isplitl [HA]; · iexact HA
    isplitl [HB]; · iexact HB
    isplitl [HC]; · iexact HC
    isplitl [HD]; · iexact HD
    isplitl [HE]; · iexact HE
    iexact HG

theorem six5 (A B C D E G : sProp 𝕄) :
    iprop(A ∗ B ∗ C ∗ D ∗ E ∗ G) = iprop(G ∗ A ∗ B ∗ C ∗ D ∗ E) := by
  refine BI.Entails.antisymm (show iprop(A ∗ B ∗ C ∗ D ∗ E ∗ G) ⊢ iprop(G ∗ A ∗ B ∗ C ∗ D ∗ E) from ?_) (show iprop(G ∗ A ∗ B ∗ C ∗ D ∗ E) ⊢ iprop(A ∗ B ∗ C ∗ D ∗ E ∗ G) from ?_)
  · iintro ⟨HA, HB, HC, HD, HE, HG⟩
    isplitl [HG]; · iexact HG
    isplitl [HA]; · iexact HA
    isplitl [HB]; · iexact HB
    isplitl [HC]; · iexact HC
    isplitl [HD]; · iexact HD
    iexact HE
  · iintro ⟨HG, HA, HB, HC, HD, HE⟩
    isplitl [HA]; · iexact HA
    isplitl [HB]; · iexact HB
    isplitl [HC]; · iexact HC
    isplitl [HD]; · iexact HD
    isplitl [HE]; · iexact HE
    iexact HG

def lD2 : Lens (F := F) d sc' j mD2 where
  get s := s.d2
  set s v := { s with d2 := v }
  rest s := iprop((mTab.view.loc (V d sc' j) ↦{fullShare} s.tab)
    ∗ (mCk.view.loc (V d sc' j) ↦{fullShare} s.ck) ∗ (mCv.view.loc (V d sc' j) ↦{fullShare} s.cv)
    ∗ (mEi.view.loc (V d sc' j) ↦{fullShare} s.ei) ∗ (mPl.view.loc (V d sc' j) ↦{fullShare} s.pl))
  get_eq _ := rfl
  set_eq _ _ := rfl

def lTab : Lens (F := F) d sc' j mTab where
  get s := s.tab
  set s v := { s with tab := v }
  rest s := iprop((mD2.view.loc (V d sc' j) ↦{fullShare} s.d2)
    ∗ (mCk.view.loc (V d sc' j) ↦{fullShare} s.ck) ∗ (mCv.view.loc (V d sc' j) ↦{fullShare} s.cv)
    ∗ (mEi.view.loc (V d sc' j) ↦{fullShare} s.ei) ∗ (mPl.view.loc (V d sc' j) ↦{fullShare} s.pl))
  get_eq _ := six1 ..
  set_eq _ _ := six1 ..

def lCk : Lens (F := F) d sc' j mCk where
  get s := s.ck
  set s v := { s with ck := v }
  rest s := iprop((mD2.view.loc (V d sc' j) ↦{fullShare} s.d2) ∗ (mTab.view.loc (V d sc' j) ↦{fullShare} s.tab)
    ∗ (mCv.view.loc (V d sc' j) ↦{fullShare} s.cv)
    ∗ (mEi.view.loc (V d sc' j) ↦{fullShare} s.ei) ∗ (mPl.view.loc (V d sc' j) ↦{fullShare} s.pl))
  get_eq _ := six2 ..
  set_eq _ _ := six2 ..

def lCv : Lens (F := F) d sc' j mCv where
  get s := s.cv
  set s v := { s with cv := v }
  rest s := iprop((mD2.view.loc (V d sc' j) ↦{fullShare} s.d2) ∗ (mTab.view.loc (V d sc' j) ↦{fullShare} s.tab)
    ∗ (mCk.view.loc (V d sc' j) ↦{fullShare} s.ck)
    ∗ (mEi.view.loc (V d sc' j) ↦{fullShare} s.ei) ∗ (mPl.view.loc (V d sc' j) ↦{fullShare} s.pl))
  get_eq _ := six3 ..
  set_eq _ _ := six3 ..

def lEi : Lens (F := F) d sc' j mEi where
  get s := s.ei
  set s v := { s with ei := v }
  rest s := iprop((mD2.view.loc (V d sc' j) ↦{fullShare} s.d2) ∗ (mTab.view.loc (V d sc' j) ↦{fullShare} s.tab)
    ∗ (mCk.view.loc (V d sc' j) ↦{fullShare} s.ck) ∗ (mCv.view.loc (V d sc' j) ↦{fullShare} s.cv)
    ∗ (mPl.view.loc (V d sc' j) ↦{fullShare} s.pl))
  get_eq _ := six4 ..
  set_eq _ _ := six4 ..

def lPl : Lens (F := F) d sc' j mPl where
  get s := s.pl
  set s v := { s with pl := v }
  rest s := iprop((mD2.view.loc (V d sc' j) ↦{fullShare} s.d2) ∗ (mTab.view.loc (V d sc' j) ↦{fullShare} s.tab)
    ∗ (mCk.view.loc (V d sc' j) ↦{fullShare} s.ck) ∗ (mCv.view.loc (V d sc' j) ↦{fullShare} s.cv)
    ∗ (mEi.view.loc (V d sc' j) ↦{fullShare} s.ei))
  get_eq _ := six5 ..
  set_eq _ _ := six5 ..

/-! ## Programs over the scratch state -/

section WP

variable [FloatOps F] {α β : Type}

/-- The programs of tile `(sc', j)`. -/
abbrev TileProg (F : FTy → Type) (sc' : Fin τ.nSC) (j : Fin τ.nSub) (α : Type) : Type 1 :=
  Prog (TpuEff nD τ sig (Elt F) Λ₀ (.scVector sc' j)) α

/-- From the scratch state `s` the program `p` ends with a value and a scratch state of which `Φ` holds. -/
def WP (p : TileProg F sc' j α) (s : RowSt F) (Φ : α → RowSt F → Prop) : Prop :=
  own d sc' j s ⊢ wp frame (wpE (defs₀ (F := F)) 𝒱₀ (V d sc' j) none) Set.univ p
    (fun a => iprop(∃ s', ⌜Φ a s'⌝ ∗ own d sc' j s'))

variable {d sc' j}

theorem WP.elim {p : TileProg F sc' j α} {s : RowSt F} {Φ : α → RowSt F → Prop} (h : WP d sc' j p s Φ) :
    own d sc' j s ⊢ wp frame (wpE (defs₀ (F := F)) 𝒱₀ (V d sc' j) none) Set.univ p
      (fun a => iprop(∃ s', ⌜Φ a s'⌝ ∗ own d sc' j s')) := h

theorem WP.ret {a : α} {s : RowSt F} {Φ : α → RowSt F → Prop} (h : Φ a s) : WP d sc' j (.ret a) s Φ := by
  refine BIBase.Entails.trans ?_ (le_wp_ret _ _ _ _ _)
  iintro H
  iexists s
  isplitr
  · ipureintro; exact h
  iexact H

theorem WP.pure {a : α} {s : RowSt F} {Φ : α → RowSt F → Prop} (h : Φ a s) : WP d sc' j (Pure.pure a) s Φ := WP.ret h

theorem WP.mono {p : TileProg F sc' j α} {s : RowSt F} {Φ Ψ : α → RowSt F → Prop} (hp : WP d sc' j p s Φ)
    (h : ∀ a s', Φ a s' → Ψ a s') : WP d sc' j p s Ψ := by
  refine BIBase.Entails.trans hp (wp_mono _ _ _ fun a => ?_)
  iintro ⟨%s', %hΦ, H⟩
  iexists s'
  isplitr
  · ipureintro; exact h _ _ hΦ
  iexact H

theorem WP.bind {p : TileProg F sc' j α} {k : α → TileProg F sc' j β} {s : RowSt F} {Ψ : β → RowSt F → Prop}
    (h : WP d sc' j p s (fun a s' => WP d sc' j (k a) s' Ψ)) : WP d sc' j (p >>= k) s Ψ := by
  unfold WP
  rw [wp_bind]
  refine BIBase.Entails.trans h (wp_mono _ _ _ fun a => ?_)
  iintro ⟨%s', %hΦ, H⟩
  have h1 := WP.elim hΦ
  iapply h1 $$ H

theorem WP.seq {p : TileProg F sc' j α} {k : α → TileProg F sc' j β} {s : RowSt F} {Φ : α → RowSt F → Prop} {Ψ : β → RowSt F → Prop}
    (hp : WP d sc' j p s Φ) (h : ∀ a s', Φ a s' → WP d sc' j (k a) s' Ψ) : WP d sc' j (p >>= k) s Ψ :=
  WP.bind (hp.mono h)

variable {sh : Shape} {e : EltTy} {m : Memref sig .scVector .vmem sh e}

theorem WP.load (l : Lens (F := F) d sc' j m) {r : LoadRect sh} {hl : m.view.LoadsAt r}
    {k : (r.shape.Idx → Elt F e) → TileProg F sc' j α} {s : RowSt F} {Φ : α → RowSt F → Prop}
    (h : WP d sc' j (k (m.view.readAt (Elt F) r (l.get s))) s Φ) :
    WP d sc' j (Prog.lift (.load (cs := .vmem) m r hl) >>= k) s Φ := by
  unfold WP at h ⊢
  rw [Prog.bind_lift]
  rw [l.get_eq] at h ⊢
  iintro ⟨H, Hr⟩
  iapply (wp_load (defs := defs₀ (F := F)) 𝒱₀ (V d sc' j) none Set.univ (m := m) (r := r) (hl := hl) (k := k)
    (S := Finset.univ) (q := fullShare) (f := l.get s) (Finset.subset_univ _)) $$ H
  iintro H
  iapply h
  isplitl [H] <;> iassumption

theorem WP.store (l : Lens (F := F) d sc' j m) {r : Rect sh} {w : r.shape.Idx → Elt F e} {Mk : Finset r.shape.Idx}
    {hx : (m.access r).Stores Mk} {hm : Mk = Finset.univ ∨ ∀ a, r.stride a = 1}
    {k : PUnit → TileProg F sc' j α} {s : RowSt F} {Φ : α → RowSt F → Prop}
    (h : WP d sc' j (k ⟨⟩) (l.set s ((m.access r).write (Elt F) (l.get s) w Mk)) Φ) :
    WP d sc' j (Prog.lift (.store (cs := .vmem) m r w Mk hx hm) >>= k) s Φ := by
  unfold WP at h ⊢
  rw [Prog.bind_lift]
  rw [l.set_eq] at h
  rw [l.get_eq]
  iintro ⟨H, Hr⟩
  iapply (wp_store (defs := defs₀ (F := F)) 𝒱₀ (V d sc' j) none Set.univ (m := m) (r := r) (w := w) (Mk := Mk) (hx := hx) (hm := hm) (k := k)
    (S := Finset.univ) (f := l.get s) (Finset.subset_univ _)) $$ H
  iintro H
  iapply h
  isplitl [H] <;> iassumption

theorem WP.assume {P : Prop} {dec : Decidable P} {k : PLift P → TileProg F sc' j α} {s : RowSt F} {Φ : α → RowSt F → Prop}
    (hP : P) (h : WP d sc' j (k ⟨hP⟩) s Φ) : WP d sc' j (Prog.lift (.assume P dec) >>= k) s Φ := by
  unfold WP at h ⊢
  rw [Prog.bind_lift]
  exact BIBase.Entails.trans h (wp_assume (defs := defs₀ (F := F)) 𝒱₀ (V d sc' j) none Set.univ hP)

/-- A gather of the whole buffer. -/
theorem WP.loadIdx {t : Shape} (l : Lens (F := F) d sc' j m) {idxs : Fin sh.rank → IVec t 32}
    {hi : ∀ a x, (idxs a x).toNat < sh.size a} {hl : m.view.Loads}
    {k : Vec F t e → TileProg F sc' j α} {s : RowSt F} {Φ : α → RowSt F → Prop}
    (h : WP d sc' j (k (loadIdx ((m.access (.whole sh)).read (Elt F) (l.get s)) idxs hi)) s Φ) :
    WP d sc' j (SparseCore.vectorLoadIdx m idxs hi hl >>= k) s Φ := by
  unfold WP at h ⊢
  rw [l.get_eq] at h ⊢
  iintro ⟨H, Hr⟩
  iapply (SparseCore.wp_vectorLoadIdx (defs := defs₀ (F := F)) 𝒱₀ (V d sc' j) none Set.univ (base := m) (idxs := idxs) (h := hi) (hl := hl) (k := k)
    (S := Finset.univ) (q := fullShare) (f := l.get s) (Finset.subset_univ _)) $$ H
  iintro H
  iapply h
  isplitl [H] <;> iassumption

/-- A masked scatter into the whole buffer. -/
theorem WP.storeIdx {n : Fin 1 → Nat} (l : Lens (F := F) d sc' j m) {idxs : Fin sh.rank → IVec ⟨1, n⟩ 32} {v : Vec F ⟨1, n⟩ e}
    {mask : IVec ⟨1, n⟩ 1} {add : Bool} {hi : ∀ a x, (idxs a x).toNat < sh.size a} {hs : (m.access (.whole sh)).Stores Finset.univ}
    (hw : (m.access (.whole sh)).set = Finset.univ)
    {k : PUnit → TileProg F sc' j α} {s : RowSt F} {Φ : α → RowSt F → Prop}
    (h : WP d sc' j (k ⟨⟩) (l.set s ((m.access (.whole sh)).write (Elt F) (l.get s)
      (storeIdx ((m.access (.whole sh)).read (Elt F) (l.get s)) idxs v mask add hi) Finset.univ)) Φ) :
    WP d sc' j (SparseCore.vectorStoreIdx m idxs v mask add hi hs >>= k) s Φ := by
  unfold WP at h ⊢
  rw [l.set_eq] at h
  rw [l.get_eq]
  have h0 := SparseCore.wp_vectorStoreIdx (defs := defs₀ (F := F)) 𝒱₀ (V d sc' j) none Set.univ (base := m) (idxs := idxs) (v := v) (mask := mask)
    (add := add) (h := hi) (hs := hs) (k := k) (f := l.get s) (Ix := HIx 1) (Name := ℕ) (U := UU) (Lvl := ℕ)
    (Q := fun a => iprop(∃ s', ⌜Φ a s'⌝ ∗ own d sc' j s'))
  rw [hw] at h0
  iintro ⟨H, Hr⟩
  iapply h0 $$ H
  iintro H
  iapply h
  isplitl [H] <;> iassumption

/-- A counted loop, by an invariant on the trips done, the carried value and the scratch state. -/
theorem WP.loop {w : Nat} {lp : Scf.Loop w} {hok : lp.OK} {init : β} {body : Fin lp.trips → β → TileProg F sc' j β} {s : RowSt F}
    (I : ℕ → β → RowSt F → Prop) (h0 : I 0 init s)
    (hstep : ∀ (k : Fin lp.trips) b s', I k.val b s' → WP d sc' j (body k b) s' (fun b' s'' => I (k.val + 1) b' s'')) :
    WP d sc' j (Scf.Loop.for lp hok init body) s (fun b s' => I lp.trips b s') := by
  unfold WP
  refine BIBase.Entails.trans ?_ (Scf.wp_for frame (wpE (defs₀ (F := F)) 𝒱₀ (V d sc' j) none) Set.univ lp.lb lp.ub lp.st hok init body
    (fun k b => iprop(∃ s', ⌜I k b s'⌝ ∗ own d sc' j s')) (fun k b => ?_))
  · iintro H
    isplitl [H]
    · iexists s
      isplitr
      · ipureintro; exact h0
      iexact H
    iintro %acc H
    iexact H
  · iintro ⟨%s', %hI, H⟩
    have h1 := WP.elim (hstep k b s' hI)
    iapply h1 $$ H

end WP

end Cert.Proof.Knn

end
-- ==== Proof.Sort.lean ====
/-
  The 16-lane operations the kernel's row body is written with: a register's rotation and reversal, the rank sort of 16
  keys (with or without 16 values carried along), the merges of sorted registers, and the rules by which a program's
  sixteen-trip loop computes a rank or a placement.
-/
module

public import proofs.«01_k».proof.Proof.Base

@[expose] public section

noncomputable section

namespace Cert.Proof.Knn

open Cert.KernelIdeal Cert.KernelIdeal.Gen
open Idealize.ShloMosaic Idealize.SL.Sem

variable {F : FTy → Type} [FloatOps F] {α : Type}

/-- The register rotated by one lane: lane `x` gets what lane `x + 1` held. -/
def rot (v : S16.Idx → α) : S16.Idx → α :=
  concatenate S16 0 [⟨S15, extractStridedSlice S15 ![1] v slices_S16_o1_S15⟩,
    ⟨S1, extractStridedSlice S1 ![0] v slices_S16_o0_S1⟩] concatenates_S15_S1_S16_d0

/-- The register reversed. -/
def rev (v : S16.Idx → α) : S16.Idx → α :=
  concatenate S16 0 [⟨S1, extractStridedSlice S1 ![15] v slices_S16_o15_S1⟩, ⟨S1, extractStridedSlice S1 ![14] v slices_S16_o14_S1⟩,
    ⟨S1, extractStridedSlice S1 ![13] v slices_S16_o13_S1⟩, ⟨S1, extractStridedSlice S1 ![12] v slices_S16_o12_S1⟩,
    ⟨S1, extractStridedSlice S1 ![11] v slices_S16_o11_S1⟩, ⟨S1, extractStridedSlice S1 ![10] v slices_S16_o10_S1⟩,
    ⟨S1, extractStridedSlice S1 ![9] v slices_S16_o9_S1⟩, ⟨S1, extractStridedSlice S1 ![8] v slices_S16_o8_S1⟩,
    ⟨S1, extractStridedSlice S1 ![7] v slices_S16_o7_S1⟩, ⟨S1, extractStridedSlice S1 ![6] v slices_S16_o6_S1⟩,
    ⟨S1, extractStridedSlice S1 ![5] v slices_S16_o5_S1⟩, ⟨S1, extractStridedSlice S1 ![4] v slices_S16_o4_S1⟩,
    ⟨S1, extractStridedSlice S1 ![3] v slices_S16_o3_S1⟩, ⟨S1, extractStridedSlice S1 ![2] v slices_S16_o2_S1⟩,
    ⟨S1, extractStridedSlice S1 ![1] v slices_S16_o1_S1⟩, ⟨S1, extractStridedSlice S1 ![0] v slices_S16_o0_S1⟩]
    concatenates_S1_S1_S1_S1_S1_S1_S1_S1_S1_S1_S1_S1_S1_S1_S1_S1_S16_d0

/-- The lane numbers. -/
def lanes : IVec S16 32 := iota .scVector S16 32 [0] iota_S16_d0_w32_scVector

def zeros : IVec S16 32 := muli lanes (broadcast S16 0#32)

/-- One where the rotated key `a`, of the lane `b`, comes before this lane's key. -/
def before (key a : FVec F S16 .f32) (b : IVec S16 32) : IVec S16 32 :=
  select (cmpi .slt b lanes) (select (cmpf .ole a key) (broadcast S16 1#32) (broadcast S16 0#32))
    (select (cmpf .olt a key) (broadcast S16 1#32) (broadcast S16 0#32))

/-- A step of ranking: the rotated keys, their lanes, the counts so far. -/
def rankStep (key : FVec F S16 .f32) (x : FVec F S16 .f32 × IVec S16 32 × IVec S16 32) : FVec F S16 .f32 × IVec S16 32 × IVec S16 32 :=
  (rot x.1, rot x.2.1, addi x.2.2 (before key x.1 x.2.1))

/-- Each lane's rank among the 16 keys, an earlier lane first among equal ones. -/
def rankOf (key : FVec F S16 .f32) : IVec S16 32 := ((rankStep key)^[16] (key, lanes, zeros)).2.2

/-- A step of placing: the rotated ranks and keys, what is placed so far. -/
def placeStep (x : IVec S16 32 × FVec F S16 .f32 × FVec F S16 .f32) : IVec S16 32 × FVec F S16 .f32 × FVec F S16 .f32 :=
  (rot x.1, rot x.2.1, select (cmpi .eq x.1 lanes) x.2.1 x.2.2)

/-- The 16 keys sorted. -/
def sortK (key : FVec F S16 .f32) : FVec F S16 .f32 := (placeStep^[16] (rankOf key, key, key)).2.2

/-- A step of placing keys with their values. -/
def placeStep2 (x : IVec S16 32 × FVec F S16 .f32 × IVec S16 32 × FVec F S16 .f32 × IVec S16 32) :
    IVec S16 32 × FVec F S16 .f32 × IVec S16 32 × FVec F S16 .f32 × IVec S16 32 :=
  (rot x.1, rot x.2.1, rot x.2.2.1, select (cmpi .eq x.1 lanes) x.2.1 x.2.2.2.1, select (cmpi .eq x.1 lanes) x.2.2.1 x.2.2.2.2)

/-- The 16 keys sorted, and the values in the keys' order. -/
def sortKV (key : FVec F S16 .f32) (val : IVec S16 32) : FVec F S16 .f32 × IVec S16 32 :=
  ((placeStep2^[16] (rankOf key, key, val, key, val)).2.2.2.1, (placeStep2^[16] (rankOf key, key, val, key, val)).2.2.2.2)

/-- Two sorted registers as one sorted pair of registers. -/
def mergeK (a b : FVec F S16 .f32) : FVec F S16 .f32 × FVec F S16 .f32 :=
  (sortK (minimumf a (rev b)), sortK (maximumf a (rev b)))

/-- The lower 32 of two sorted pairs, sorted. -/
def mergeLow (a b : FVec F S16 .f32 × FVec F S16 .f32) : FVec F S16 .f32 × FVec F S16 .f32 :=
  (sortK (minimumf (minimumf a.1 (rev b.2)) (minimumf a.2 (rev b.1))),
   sortK (maximumf (minimumf a.1 (rev b.2)) (minimumf a.2 (rev b.1))))

/-- 16 keys with their values. -/
abbrev KV (F : FTy → Type) : Type := FVec F S16 .f32 × IVec S16 32

def revKV (a : KV F) : KV F := (rev a.1, rev a.2)

/-- Where `a`'s key is at most `b`'s, `a`, elsewhere `b`. -/
def lowKV (a b : KV F) : KV F := (select (cmpf .ole a.1 b.1) a.1 b.1, select (cmpf .ole a.1 b.1) a.2 b.2)

/-- Where `a`'s key is at most `b`'s, `b`, elsewhere `a`. -/
def highKV (a b : KV F) : KV F := (select (cmpf .ole a.1 b.1) b.1 a.1, select (cmpf .ole a.1 b.1) b.2 a.2)

def sortP (a : KV F) : KV F := sortKV a.1 a.2

/-- Two sorted registers, with values, as one sorted pair. -/
def mergeKV (a b : KV F) : KV F × KV F := (sortP (lowKV a (revKV b)), sortP (highKV a (revKV b)))

/-- The 32 lowest so far, with 16 further candidates taken in. -/
def takeIn (st : KV F × KV F) (c : KV F) : KV F × KV F :=
  mergeKV st.1 (sortP (lowKV st.2 (revKV (sortP c))))

section Rules

variable {d : Dev nD} {sc' : Fin τ.nSC} {j : Fin τ.nSub} {β γ : Type}

/-- A counted loop whose trips apply a function runs to the function's iterate. -/
theorem WP.pureLoop {w : Nat} {lp : Scf.Loop w} {hok : lp.OK} {init : β} {body : Fin lp.trips → β → TileProg F sc' j β}
    (f : β → β) (n : ℕ) (hn : lp.trips = n) (hb : ∀ k x, body k x = Pure.pure (f x)) {k : β → TileProg F sc' j γ} {s : RowSt F}
    {Φ : γ → RowSt F → Prop} (h : WP d sc' j (k (f^[n] init)) s Φ) : WP d sc' j (Scf.Loop.for lp hok init body >>= k) s Φ := by
  refine WP.seq (WP.loop (fun t b s' => b = f^[t] init ∧ s' = s) ⟨rfl, rfl⟩ fun t b s' hI => ?_) fun b s' hI => ?_
  · rw [hb]
    refine WP.pure ⟨?_, hI.2⟩
    rw [hI.1, Function.iterate_succ_apply']
  · rw [hI.1, hI.2, hn]
    exact h

theorem WP.rank {w : Nat} {lp : Scf.Loop w} {hok : lp.OK} {key : FVec F S16 .f32}
    {body : Fin lp.trips → FVec F S16 .f32 × IVec S16 32 × IVec S16 32 → TileProg F sc' j (FVec F S16 .f32 × IVec S16 32 × IVec S16 32)}
    (hn : lp.trips = 16) (hb : ∀ k x, body k x = Pure.pure (rankStep key x))
    {k : FVec F S16 .f32 × IVec S16 32 × IVec S16 32 → TileProg F sc' j γ} {s : RowSt F} {Φ : γ → RowSt F → Prop}
    (h : ∀ a b, WP d sc' j (k (a, b, rankOf key)) s Φ) : WP d sc' j (Scf.Loop.for lp hok (key, lanes, zeros) body >>= k) s Φ :=
  WP.pureLoop (rankStep key) 16 hn hb (h _ _)

theorem WP.place {w : Nat} {lp : Scf.Loop w} {hok : lp.OK} {key : FVec F S16 .f32}
    {body : Fin lp.trips → IVec S16 32 × FVec F S16 .f32 × FVec F S16 .f32 → TileProg F sc' j (IVec S16 32 × FVec F S16 .f32 × FVec F S16 .f32)}
    (hn : lp.trips = 16) (hb : ∀ k x, body k x = Pure.pure (placeStep x))
    {k : IVec S16 32 × FVec F S16 .f32 × FVec F S16 .f32 → TileProg F sc' j γ} {s : RowSt F} {Φ : γ → RowSt F → Prop}
    (h : ∀ a b, WP d sc' j (k (a, b, sortK key)) s Φ) : WP d sc' j (Scf.Loop.for lp hok (rankOf key, key, key) body >>= k) s Φ :=
  WP.pureLoop placeStep 16 hn hb (h _ _)

theorem WP.place2 {w : Nat} {lp : Scf.Loop w} {hok : lp.OK} {key : FVec F S16 .f32} {val : IVec S16 32}
    {body : Fin lp.trips → IVec S16 32 × FVec F S16 .f32 × IVec S16 32 × FVec F S16 .f32 × IVec S16 32 →
      TileProg F sc' j (IVec S16 32 × FVec F S16 .f32 × IVec S16 32 × FVec F S16 .f32 × IVec S16 32)}
    (hn : lp.trips = 16) (hb : ∀ k x, body k x = Pure.pure (placeStep2 x))
    {k : IVec S16 32 × FVec F S16 .f32 × IVec S16 32 × FVec F S16 .f32 × IVec S16 32 → TileProg F sc' j γ} {s : RowSt F} {Φ : γ → RowSt F → Prop}
    (h : ∀ a b c, WP d sc' j (k (a, b, c, sortKV key val)) s Φ) :
    WP d sc' j (Scf.Loop.for lp hok (rankOf key, key, val, key, val) body >>= k) s Φ :=
  WP.pureLoop placeStep2 16 hn hb (h _ _ _)

end Rules

end Cert.Proof.Knn

end
-- ==== Proof.Keys.lean ====
/-
  The first pass over a row of distances: 64 minima of the row's 1024 entries, sorted, give the threshold of the second
  pass. Each lemma here runs one printed part of the row's body and states the values it hands on.
-/
module

public import proofs.«01_k».proof.Proof.Sort

@[expose] public section

set_option maxRecDepth 8192

noncomputable section

namespace Cert.Proof.Knn

open Cert.KernelIdeal Cert.KernelIdeal.Gen
open Idealize.ShloMosaic Idealize.SL.Sem

variable {F : FTy → Type} [FloatOps F] {α : Type}

/-- The position `i` of a flat array of `n` words. -/
def cell (n : ℕ) [NeZero n] (i : ℕ) : (⟨1, ![n]⟩ : Shape).Idx := Shape.ofLane (d := ![n]) ⟨i % n, Nat.mod_lt _ (NeZero.pos n)⟩

/-- The 16 words from `o` of a flat array. -/
def words {n : ℕ} [NeZero n] (f : (⟨1, ![n]⟩ : Shape).Idx → α) (o : ℕ) : S16.Idx → α := fun x => f (cell n (o + (x 0).val))

/-- The 16 entries from column `16 c` of the staged row `r`. -/
def chunk (f : Vec F S32768 .f32) (r : Fin k1_t2_loop.trips) (c : ℕ) : FVec F S16 .f32 := words f (k1_off3 r (BitVec.ofNat 32 (16 * c)) 0)

/-- The lanewise minimum of `f 0, …, f n`. -/
def accMin (f : ℕ → FVec F S16 .f32) : ℕ → FVec F S16 .f32
  | 0 => f 0
  | n + 1 => minimumf (accMin f n) (f (n + 1))

/-- The lanewise minimum of the first `n + 1` chunks of the row's quarter `q`. -/
def gmin (f : Vec F S32768 .f32) (r : Fin k1_t2_loop.trips) (q n : ℕ) : FVec F S16 .f32 := accMin (fun k => chunk f r (16 * q + k)) n

/-- The lower 32 of the 64 minima of a row, sorted. -/
def lowMin (f : Vec F S32768 .f32) (r : Fin k1_t2_loop.trips) : FVec F S16 .f32 × FVec F S16 .f32 :=
  mergeLow (mergeK (sortK (gmin f r 0 15)) (sortK (gmin f r 1 15))) (mergeK (sortK (gmin f r 2 15)) (sortK (gmin f r 3 15)))

section Parts

variable {d : Dev nD} {i : grid1.Coords} {γ : Type}

theorem read_words {n : ℕ} [NeZero n] (f : (⟨1, ![n]⟩ : Shape).Idx → α) (o : ℕ) (g : S16.Idx → (⟨1, ![n]⟩ : Shape).Idx)
    (hg : ∀ x, (g x 0).val = o + (x 0).val) : (fun x => f (g x)) = words f o := by
  funext x
  unfold words
  congr 1
  funext a
  obtain ⟨v, hv⟩ := a
  obtain rfl : v = 0 := Nat.lt_one_iff.1 hv
  refine Fin.ext ?_
  have h1 := hg x
  have h2 : (g x 0).val < n := (g x 0).isLt
  show (g x 0).val = (o + (x 0).val) % n
  rw [← h1, Nat.mod_eq_of_lt h2]

theorem WP.loadWords {sc' : Fin τ.nSC} {j : Fin τ.nSub} {n : ℕ} [NeZero n] {e : EltTy} {m : Memref sig .scVector .vmem ⟨1, ![n]⟩ e} (l : Lens (F := F) d sc' j m)
    {off : Fin 1 → ℕ} {inb : ∀ a, off a + S16.size a ≤ (⟨1, ![n]⟩ : Shape).size a} {hl}
    {k : (S16.Idx → Elt F e) → TileProg F sc' j γ} {s : RowSt F} {Φ : γ → RowSt F → Prop}
    (h : WP d sc' j (k (words (m.view.read (Elt F) (l.get s)) (off 0))) s Φ) :
    WP d sc' j (Prog.lift (.load (cs := .vmem) m (Rect.unit (s := ⟨1, ![n]⟩) off S16.size inb).toLoadRect hl) >>= k) s Φ := by
  refine WP.load l ?_
  have e1 := read_words (m.view.read (Elt F) (l.get s)) (off 0) (fun x => (Rect.unit (s := ⟨1, ![n]⟩) off S16.size inb).idx x)
    (fun x => by simp [LoadRect.idx, Rect.unit])
  have e2 : m.view.readAt (Elt F) (Rect.unit (s := ⟨1, ![n]⟩) off S16.size inb).toLoadRect (l.get s)
      = words (m.view.read (Elt F) (l.get s)) (off 0) := e1
  rw [e2]
  exact h

theorem WP.loadD2 {sc' : Fin τ.nSC} {j : Fin τ.nSub} {off : Fin 1 → ℕ} {inb : ∀ a, off a + S16.size a ≤ S32768.size a} {hl}
    {k : FVec F S16 .f32 → TileProg F sc' j γ} {s : RowSt F} {Φ : γ → RowSt F → Prop}
    (h : WP d sc' j (k (words s.d2 (off 0))) s Φ) :
    WP d sc' j (Prog.lift (.load (cs := .vmem) mD2 (Rect.unit (s := S32768) off S16.size inb).toLoadRect hl) >>= k) s Φ :=
  WP.loadWords (lD2 d sc' j) h

variable {a2 : Memref sig .scVector .hbm S8x1024x1024 .f32} {h2 : a2.IsWhole} {a3 : Memref sig .scVector .hbm S131072 .f32} {h3 : a3.IsWhole}
  {a4 : Memref sig .scVector .hbm S245760 .i32} {h4 : a4.IsWhole} {a5 : Memref sig .scVector .hbm S6389760 .f32} {h5 : a5.IsWhole}
  {h6 : mD2.IsWhole} {h7 : mTab.IsWhole} {h8 : mCk.IsWhole} {h9 : mCv.IsWhole} {h10 : mEi.IsWhole} {h11 : mPl.IsWhole}
  {e1 e2 e3 e4 : DmaSems sig S_}

abbrev tc (i : grid1.Coords) : Fin τ.nSC := (i 0).castLE hcore1
abbrev ts (i : grid1.Coords) : Fin τ.nSub := (i 1).castLE hsub1

/-- The row's number within its batch entry, as the program computes it. -/
def nodeOf (v23 v28 : BitVec 32) (r : Fin k1_t2_loop.trips) : BitVec 32 :=
  Scalar.addi (Scalar.subi v28 (Scalar.muli v23 1024#32)) (Scf.iv 0#32 1#32 r)

def rowOff (r : Fin k1_t2_loop.trips) : BitVec 32 := Scalar.muli (Scf.iv 0#32 1#32 r) 1024#32

theorem part5_spec (v23 v28 : BitVec 32) (r : Fin k1_t2_loop.trips) (s : RowSt F) :
    WP d (tc i) (ts i) (k1_part5 i a2 h2 a3 h3 a4 h4 a5 h5 mD2 h6 mTab h7 mCk h8 mCv h9 mEi h10 mPl h11 e1 e2 e3 e4 v23 v28 0#32 1#32 r) s
      (fun a s' => s' = s ∧ a = ⟨Scf.iv 0#32 1#32 r, rowOff r, nodeOf v23 v28 r, gmin s.d2 r 0 9, chunk s.d2 r 10⟩) := by
  rw [k1_part5_eq_skeleton]
  unfold k1_part5_skel
  repeat refine WP.loadD2 ?_
  exact WP.pure ⟨rfl, rfl⟩

theorem part6_spec (v747 : BitVec 32) (r : Fin k1_t2_loop.trips) (s : RowSt F) :
    WP d (tc i) (ts i) (k1_part6 i a2 h2 a3 h3 a4 h4 a5 h5 mD2 h6 mTab h7 mCk h8 mCv h9 mEi h10 mPl h11 e1 e2 e3 e4 r v747 (gmin s.d2 r 0 9) (chunk s.d2 r 10)) s
      (fun a s' => s' = s ∧ a = ⟨gmin s.d2 r 0 15, gmin s.d2 r 1 6⟩) := by
  rw [k1_part6_eq_skeleton]
  unfold k1_part6_skel
  repeat refine WP.loadD2 ?_
  exact WP.pure ⟨rfl, rfl⟩

theorem part7_spec (v747 : BitVec 32) (r : Fin k1_t2_loop.trips) (s : RowSt F) :
    WP d (tc i) (ts i) (k1_part7 i a2 h2 a3 h3 a4 h4 a5 h5 mD2 h6 mTab h7 mCk h8 mCv h9 mEi h10 mPl h11 e1 e2 e3 e4 r v747 (gmin s.d2 r 1 6)) s
      (fun a s' => s' = s ∧ a = ⟨gmin s.d2 r 1 15, gmin s.d2 r 2 2, 560#32⟩) := by
  rw [k1_part7_eq_skeleton]
  unfold k1_part7_skel
  repeat refine WP.loadD2 ?_
  exact WP.pure ⟨rfl, rfl⟩

theorem part8_spec (v747 : BitVec 32) (r : Fin k1_t2_loop.trips) (s : RowSt F) :
    WP d (tc i) (ts i) (k1_part8 i a2 h2 a3 h3 a4 h4 a5 h5 mD2 h6 mTab h7 mCk h8 mCv h9 mEi h10 mPl h11 e1 e2 e3 e4 r v747 (gmin s.d2 r 2 2) 560#32) s
      (fun a s' => s' = s ∧ a = ⟨gmin s.d2 r 2 14, 752#32⟩) := by
  rw [k1_part8_eq_skeleton]
  unfold k1_part8_skel
  repeat refine WP.loadD2 ?_
  exact WP.pure ⟨rfl, rfl⟩

theorem part9_spec (v747 : BitVec 32) (r : Fin k1_t2_loop.trips) (s : RowSt F) :
    WP d (tc i) (ts i) (k1_part9 i a2 h2 a3 h3 a4 h4 a5 h5 mD2 h6 mTab h7 mCk h8 mCv h9 mEi h10 mPl h11 e1 e2 e3 e4 r v747 (gmin s.d2 r 2 14) 752#32) s
      (fun a s' => s' = s ∧ a = ⟨gmin s.d2 r 2 15, gmin s.d2 r 3 10, Scalar.addi v747 944#32⟩) := by
  rw [k1_part9_eq_skeleton]
  unfold k1_part9_skel
  repeat refine WP.loadD2 ?_
  exact WP.pure ⟨rfl, rfl⟩

theorem part10_spec (v747 v983 : BitVec 32) (r : Fin k1_t2_loop.trips) (s : RowSt F) (g0 g1 : FVec F S16 .f32) :
    WP d (tc i) (ts i) (k1_part10 i a2 h2 a3 h3 a4 h4 a5 h5 mD2 h6 mTab h7 mCk h8 mCv h9 mEi h10 mPl h11 e1 e2 e3 e4 r v747 g0 g1 (gmin s.d2 r 3 10) v983) s
      (fun a s' => s' = s ∧ a = ⟨gmin s.d2 r 3 15, sortK g0, sortK g1, lanes, lanes, 0#32⟩) := by
  rw [k1_part10_eq_skeleton]
  unfold k1_part10_skel
  repeat refine WP.loadD2 ?_
  refine WP.rank (by decide) (fun _ _ => rfl) fun _ _ => ?_
  refine WP.place (by decide) (fun _ _ => rfl) fun _ _ => ?_
  refine WP.rank (by decide) (fun _ _ => rfl) fun _ _ => ?_
  refine WP.place (by decide) (fun _ _ => rfl) fun _ _ => ?_
  exact WP.pure ⟨rfl, rfl⟩

theorem part11_spec (s : RowSt F) (g2 g3 s0 s1 : FVec F S16 .f32) :
    WP d (tc i) (ts i) (k1_part11 i a2 h2 a3 h3 a4 h4 a5 h5 mD2 h6 mTab h7 mCk h8 mCv h9 mEi h10 mPl h11 e1 e2 e3 e4 g2 g3 s0 s1 lanes lanes 0#32) s
      (fun a s' => s' = s ∧ a = ⟨sortK g2, sortK g3, minimumf s0 (rev s1), maximumf s0 (rev s1), lanes, rankOf (minimumf s0 (rev s1))⟩) := by
  rw [k1_part11_eq_skeleton]
  unfold k1_part11_skel
  refine WP.rank (by decide) (fun _ _ => rfl) fun _ _ => ?_
  refine WP.place (by decide) (fun _ _ => rfl) fun _ _ => ?_
  refine WP.rank (by decide) (fun _ _ => rfl) fun _ _ => ?_
  refine WP.place (by decide) (fun _ _ => rfl) fun _ _ => ?_
  refine WP.rank (key := minimumf s0 (rev s1)) (by decide) (fun _ _ => rfl) fun _ _ => ?_
  exact WP.pure ⟨rfl, rfl⟩

theorem part12_spec (s : RowSt F) (s2 s3 lo hi : FVec F S16 .f32) :
    WP d (tc i) (ts i) (k1_part12 i a2 h2 a3 h3 a4 h4 a5 h5 mD2 h6 mTab h7 mCk h8 mCv h9 mEi h10 mPl h11 e1 e2 e3 e4 s2 s3 lo hi lanes (rankOf lo)) s
      (fun a s' => s' = s ∧ a = ⟨sortK lo, sortK hi, maximumf s2 (rev s3), sortK (minimumf s2 (rev s3))⟩) := by
  rw [k1_part12_eq_skeleton]
  unfold k1_part12_skel
  refine WP.place (by decide) (fun _ _ => rfl) fun _ _ => ?_
  refine WP.rank (by decide) (fun _ _ => rfl) fun _ _ => ?_
  refine WP.place (by decide) (fun _ _ => rfl) fun _ _ => ?_
  refine WP.rank (key := minimumf s2 (rev s3)) (by decide) (fun _ _ => rfl) fun _ _ => ?_
  refine WP.place (key := minimumf s2 (rev s3)) (by decide) (fun _ _ => rfl) fun _ _ => ?_
  exact WP.pure ⟨rfl, rfl⟩

theorem part13_spec (s : RowSt F) (a0 a1 hi b0 : FVec F S16 .f32) :
    WP d (tc i) (ts i) (k1_part13 i a2 h2 a3 h3 a4 h4 a5 h5 mD2 h6 mTab h7 mCk h8 mCv h9 mEi h10 mPl h11 e1 e2 e3 e4 a0 a1 hi b0) s
      (fun a s' => s' = s ∧ a = ⟨minimumf (minimumf a0 (rev (sortK hi))) (minimumf a1 (rev b0)),
        maximumf (minimumf a0 (rev (sortK hi))) (minimumf a1 (rev b0)), lanes, lanes, zeros⟩) := by
  rw [k1_part13_eq_skeleton]
  unfold k1_part13_skel
  refine WP.rank (by decide) (fun _ _ => rfl) fun _ _ => ?_
  refine WP.place (by decide) (fun _ _ => rfl) fun _ _ => ?_
  exact WP.pure ⟨rfl, rfl⟩

end Parts

end Cert.Proof.Knn

end
-- ==== Proof.Flat.lean ====
/-
  Flat arrays: where a masked scatter and a store of 16 words leave an array, what a running sum of zeros and ones counts,
  and the rules of a tile's program for them.
-/
module

public import proofs.«01_k».proof.Proof.Keys

@[expose] public section

set_option maxRecDepth 8192

noncomputable section

namespace Cert.Proof.Knn

open Cert.KernelIdeal Cert.KernelIdeal.Gen
open Idealize.ShloMosaic Idealize.SL.Sem

variable {F : FTy → Type} [FloatOps F] {α : Type}

theorem idx1_ext {n : ℕ} {x y : (⟨1, ![n]⟩ : Shape).Idx} (h : (x 0).val = (y 0).val) : x = y := by
  funext a
  obtain ⟨v, hv⟩ := a
  obtain rfl : v = 0 := Nat.lt_one_iff.1 hv
  exact Fin.ext h

theorem cell_val {n : ℕ} [NeZero n] {i : ℕ} (h : i < n) : (cell n i 0).val = i := Nat.mod_eq_of_lt h

theorem cell_eq {n : ℕ} [NeZero n] (x : (⟨1, ![n]⟩ : Shape).Idx) : cell n (x 0).val = x := idx1_ext (cell_val (x 0).isLt)

/-- The lane `k`. -/
abbrev lane (k : ℕ) : S16.Idx := cell 16 k

theorem lt16 (x : S16.Idx) : (x 0).val < 16 := (x 0).isLt

theorem lanes_apply (x : S16.Idx) : lanes x = BitVec.ofNat 32 (x 0).val := by
  obtain ⟨k, hk⟩ : ∃ k, k < 16 ∧ x = lane k := ⟨(x 0).val, lt16 x, (cell_eq x).symm⟩
  obtain ⟨hk, rfl⟩ := hk
  rw [cell_val hk]
  interval_cases k <;> rfl

/-! ## A masked scatter -/

theorem foldl_scatter {κ : Type} (l : List κ) (hit : κ → Prop) [DecidablePred hit] (step : (κ → Prop)) (upd : ∀ (g : α) (k : κ), α)
    (v : κ → α) (hupd : ∀ g k, upd g k = if hit k then v k else g) (y f : α)
    (h : ∀ k ∈ l, hit k → v k = y) (h0 : f = y ∨ ∃ k ∈ l, hit k) : l.foldl upd f = y := by
  induction l generalizing f with
  | nil => rcases h0 with h0 | ⟨k, hk, _⟩
           · exact h0
           · exact absurd hk (List.not_mem_nil)
  | cons a l ih =>
    rw [List.foldl_cons]
    refine ih _ (fun k hk => h k (List.mem_cons_of_mem _ hk)) ?_
    rw [hupd]
    by_cases ha : hit a
    · left; rw [if_pos ha]; exact h a List.mem_cons_self ha
    · rw [if_neg ha]
      rcases h0 with h0 | ⟨k, hk, hh⟩
      · exact .inl h0
      · rcases List.mem_cons.1 hk with rfl | hk
        · exact absurd hh ha
        · exact .inr ⟨k, hk, hh⟩

theorem foldl_point {κ ι : Type} (l : List κ) (upd : (ι → α) → κ → (ι → α)) (upd1 : ι → α → κ → α)
    (h : ∀ g k j, upd g k j = upd1 j (g j) k) (f : ι → α) (j : ι) : l.foldl upd f j = l.foldl (upd1 j) (f j) := by
  induction l generalizing f with
  | nil => rfl
  | cons a l ih => rw [List.foldl_cons, List.foldl_cons, ih, h]

theorem storeIdx_eq {n : ℕ} {e : EltTy} (f : Vec F ⟨1, ![n]⟩ e) (p : IVec S16 32) (v : Vec F S16 e) (mask : IVec S16 1)
    (h : ∀ a x, ((![p] : Fin 1 → IVec S16 32) a x).toNat < (⟨1, ![n]⟩ : Shape).size a) (j : (⟨1, ![n]⟩ : Shape).Idx) (y : Elt F e)
    (hh : ∀ x : S16.Idx, mask x = 1 → (p x).toNat = (j 0).val → v x = y)
    (h0 : f j = y ∨ ∃ x : S16.Idx, mask x = 1 ∧ (p x).toNat = (j 0).val) :
    storeIdx f (![p] : Fin 1 → IVec S16 32) v mask false h j = y := by
  unfold storeIdx
  rw [foldl_point _ _ (fun j g k => if mask (Shape.ofLane k) = 1 ∧ (p (Shape.ofLane k)).toNat = (j 0).val then v (Shape.ofLane k) else g)]
  · refine foldl_scatter _ (fun k => mask (Shape.ofLane k) = 1 ∧ (p (Shape.ofLane k)).toNat = (j 0).val) (fun _ => True) _
      (fun k => v (Shape.ofLane k)) (fun g k => rfl) y _ (fun k _ hk => hh _ hk.1 hk.2) ?_
    rcases h0 with h0 | ⟨x, hx⟩
    · exact .inl h0
    · refine .inr ⟨x 0, List.mem_finRange _, ?_⟩
      have : (Shape.ofLane (d := ![16]) (x 0) : S16.Idx) = x := idx1_ext rfl
      rw [this]; exact hx
  · intro g k j
    have e1 : (∀ a, (j a).val = ((idxAt (![p] : Fin 1 → IVec S16 32) h (Shape.ofLane k)) a).val) ↔ (p (Shape.ofLane k)).toNat = (j 0).val := by
      refine ⟨fun hj => (hj 0).symm, fun hj a => ?_⟩
      obtain ⟨a, ha⟩ := a
      obtain rfl : a = 0 := Nat.lt_one_iff.1 ha
      exact hj.symm
    by_cases hm : mask (Shape.ofLane k) = 1
    · by_cases hp : (p (Shape.ofLane k)).toNat = (j 0).val
      · simp only [hm, hp, and_self, if_true]
        exact if_pos (e1.2 hp)
      · simp only [hm, hp, and_false, if_true, if_false]
        exact if_neg fun h' => hp (e1.1 h')
    · simp only [hm, false_and, if_false]

/-- The array after a masked scatter. -/
abbrev scat {n : ℕ} {e : EltTy} (f : Vec F ⟨1, ![n]⟩ e) (p : IVec S16 32) (v : Vec F S16 e) (mask : IVec S16 1)
    (h : ∀ a x, ((![p] : Fin 1 → IVec S16 32) a x).toNat < (⟨1, ![n]⟩ : Shape).size a) : Vec F ⟨1, ![n]⟩ e :=
  storeIdx f (![p] : Fin 1 → IVec S16 32) v mask false h

/-- A scatter leaves what no set lane names. -/
theorem storeIdx_miss {n : ℕ} {e : EltTy} (f : Vec F ⟨1, ![n]⟩ e) (p : IVec S16 32) (v : Vec F S16 e) (mask : IVec S16 1)
    (h : ∀ a x, ((![p] : Fin 1 → IVec S16 32) a x).toNat < (⟨1, ![n]⟩ : Shape).size a) (j : (⟨1, ![n]⟩ : Shape).Idx)
    (hh : ∀ x : S16.Idx, mask x = 1 → (p x).toNat ≠ (j 0).val) :
    storeIdx f (![p] : Fin 1 → IVec S16 32) v mask false h j = f j :=
  storeIdx_eq f p v mask h j _ (fun x h1 h2 => absurd h2 (hh x h1)) (.inl rfl)

/-- A scatter puts a set lane's word where that lane alone names. -/
theorem storeIdx_hit {n : ℕ} {e : EltTy} (f : Vec F ⟨1, ![n]⟩ e) (p : IVec S16 32) (v : Vec F S16 e) (mask : IVec S16 1)
    (h : ∀ a x, ((![p] : Fin 1 → IVec S16 32) a x).toNat < (⟨1, ![n]⟩ : Shape).size a) (j : (⟨1, ![n]⟩ : Shape).Idx) (x : S16.Idx)
    (hx : mask x = 1) (hj : (p x).toNat = (j 0).val)
    (hh : ∀ x' : S16.Idx, mask x' = 1 → (p x').toNat = (j 0).val → x' = x) :
    storeIdx f (![p] : Fin 1 → IVec S16 32) v mask false h j = v x :=
  storeIdx_eq f p v mask h j _ (fun x' h1 h2 => by rw [hh x' h1 h2]) (.inr ⟨x, hx, hj⟩)

/-! ## The running count -/

theorem scan_zero (v : IVec S16 32) : scan .sum v (lane 0) = v (lane 0) := rfl

theorem scan_succ (v : IVec S16 32) {k : ℕ} (hk : k < 15) : scan .sum v (lane (k + 1)) = scan .sum v (lane k) + v (lane (k + 1)) := by
  interval_cases k <;> rfl

theorem scan_count (M : ℕ → Prop) [DecidablePred M] (v : IVec S16 32) (hv : ∀ k < 16, v (lane k) = if M k then 1#32 else 0#32) {k : ℕ}
    (hk : k < 16) : scan .sum v (lane k) = BitVec.ofNat 32 (Nat.count M (k + 1)) := by
  induction k with
  | zero => rw [scan_zero, hv 0 hk, Nat.count_succ, Nat.count_zero]; split <;> rfl
  | succ k ih =>
    rw [scan_succ v (by omega), ih (by omega), hv (k + 1) hk, Nat.count_succ M (k + 1), BitVec.ofNat_add]
    split <;> rfl

/-! ## The rules -/

section Rules

variable {d : Dev nD} {sc' : Fin τ.nSC} {j : Fin τ.nSub} {γ : Type}

theorem WP.loadCk {off : Fin 1 → ℕ} {inb : ∀ a, off a + S16.size a ≤ S1024.size a} {hl}
    {k : FVec F S16 .f32 → TileProg F sc' j γ} {s : RowSt F} {Φ : γ → RowSt F → Prop}
    (h : WP d sc' j (k (words s.ck (off 0))) s Φ) :
    WP d sc' j (Prog.lift (.load (cs := .vmem) mCk (Rect.unit (s := S1024) off S16.size inb).toLoadRect hl) >>= k) s Φ :=
  WP.loadWords (lCk d sc' j) h

theorem WP.loadCv {off : Fin 1 → ℕ} {inb : ∀ a, off a + S16.size a ≤ S1024.size a} {hl}
    {k : IVec S16 32 → TileProg F sc' j γ} {s : RowSt F} {Φ : γ → RowSt F → Prop}
    (h : WP d sc' j (k (words s.cv (off 0))) s Φ) :
    WP d sc' j (Prog.lift (.load (cs := .vmem) mCv (Rect.unit (s := S1024) off S16.size inb).toLoadRect hl) >>= k) s Φ :=
  WP.loadWords (lCv d sc' j) h

theorem WP.loadTab {off : Fin 1 → ℕ} {inb : ∀ a, off a + S16.size a ≤ S16384.size a} {hl}
    {k : FVec F S16 .f32 → TileProg F sc' j γ} {s : RowSt F} {Φ : γ → RowSt F → Prop}
    (h : WP d sc' j (k (words s.tab (off 0))) s Φ) :
    WP d sc' j (Prog.lift (.load (cs := .vmem) mTab (Rect.unit (s := S16384) off S16.size inb).toLoadRect hl) >>= k) s Φ :=
  WP.loadWords (lTab d sc' j) h

/-- A load whose words are not used. -/
theorem WP.skipLoad {n : ℕ} [NeZero n] {e : EltTy} {m : Memref sig .scVector .vmem ⟨1, ![n]⟩ e} (l : Lens (F := F) d sc' j m)
    {r : LoadRect ⟨1, ![n]⟩} {hl} {k : (r.shape.Idx → Elt F e) → TileProg F sc' j γ} {s : RowSt F} {Φ : γ → RowSt F → Prop}
    (h : ∀ v, WP d sc' j (k v) s Φ) :
    WP d sc' j (Prog.lift (.load (cs := .vmem) m r hl) >>= k) s Φ := WP.load l (h _)

theorem WP.storeIdxTo {sh : Shape} {e : EltTy} {m : Memref sig .scVector .vmem sh e} {n : Fin 1 → Nat} (l : Lens (F := F) d sc' j m)
    {idxs : Fin sh.rank → IVec ⟨1, n⟩ 32} {v : Vec F ⟨1, n⟩ e} {mask : IVec ⟨1, n⟩ 1} {add : Bool} {hi : ∀ a x, (idxs a x).toNat < sh.size a} {hs}
    {k : PUnit → TileProg F sc' j γ} {s : RowSt F} {Φ : γ → RowSt F → Prop} (hw : (m.access (.whole sh)).set = Finset.univ)
    (g : Vec F sh e) (st : Vec F sh e → RowSt F) (hread : (m.access (.whole sh)).read (Elt F) (l.get s) = g)
    (hwrite : ∀ w, l.set s ((m.access (.whole sh)).write (Elt F) (l.get s) w Finset.univ) = st w)
    (h : WP d sc' j (k ⟨⟩) (st (Idealize.ShloMosaic.storeIdx g idxs v mask add hi)) Φ) :
    WP d sc' j (SparseCore.vectorStoreIdx (F := F) m idxs v mask add hi hs >>= k) s Φ := by
  refine WP.storeIdx l hw ?_
  rw [hread, hwrite]
  exact h

theorem WP.scatCk {p : IVec S16 32} {v : FVec F S16 .f32} {mask : IVec S16 1}
    {hi : ∀ a x, ((![p] : Fin 1 → IVec S16 32) a x).toNat < S1024.size a} {hs} {k : PUnit → TileProg F sc' j γ} {s : RowSt F}
    {Φ : γ → RowSt F → Prop} (h : WP d sc' j (k ⟨⟩) { s with ck := scat (e := .f32) s.ck p v mask hi } Φ) :
    WP d sc' j (SparseCore.vectorStoreIdx (F := F) mCk ![p] v mask false hi hs >>= k) s Φ := by
  exact WP.storeIdxTo (lCk d sc' j) (Memref.set_access_whole _) s.ck (fun x => { s with ck := x })
    (Memref.read_access_whole (Elt F) cc1_scratch2 s.ck)
    (fun w => congrArg (fun x => { s with ck := x }) (Memref.write_access_whole_univ (Elt F) cc1_scratch2 s.ck w)) h

theorem WP.scatCv {p : IVec S16 32} {v : IVec S16 32} {mask : IVec S16 1}
    {hi : ∀ a x, ((![p] : Fin 1 → IVec S16 32) a x).toNat < S1024.size a} {hs} {k : PUnit → TileProg F sc' j γ} {s : RowSt F}
    {Φ : γ → RowSt F → Prop} (h : WP d sc' j (k ⟨⟩) { s with cv := scat (e := .i32) s.cv p v mask hi } Φ) :
    WP d sc' j (SparseCore.vectorStoreIdx (F := F) mCv ![p] v mask false hi hs >>= k) s Φ := by
  exact WP.storeIdxTo (lCv d sc' j) (Memref.set_access_whole _) s.cv (fun x => { s with cv := x })
    (Memref.read_access_whole (Elt F) cc1_scratch3 s.cv)
    (fun w => congrArg (fun x => { s with cv := x }) (Memref.write_access_whole_univ (Elt F) cc1_scratch3 s.cv w)) h

theorem WP.scatEi {p : IVec S16 32} {v : IVec S16 32} {mask : IVec S16 1}
    {hi : ∀ a x, ((![p] : Fin 1 → IVec S16 32) a x).toNat < S976.size a} {hs} {k : PUnit → TileProg F sc' j γ} {s : RowSt F}
    {Φ : γ → RowSt F → Prop} (h : WP d sc' j (k ⟨⟩) { s with ei := scat (e := .i32) s.ei p v mask hi } Φ) :
    WP d sc' j (SparseCore.vectorStoreIdx (F := F) mEi ![p] v mask false hi hs >>= k) s Φ := by
  exact WP.storeIdxTo (lEi d sc' j) (Memref.set_access_whole _) s.ei (fun x => { s with ei := x })
    (Memref.read_access_whole (Elt F) cc1_scratch4 s.ei)
    (fun w => congrArg (fun x => { s with ei := x }) (Memref.write_access_whole_univ (Elt F) cc1_scratch4 s.ei w)) h

theorem WP.scatPl {p : IVec S16 32} {v : FVec F S16 .f32} {mask : IVec S16 1}
    {hi : ∀ a x, ((![p] : Fin 1 → IVec S16 32) a x).toNat < S24960.size a} {hs} {k : PUnit → TileProg F sc' j γ} {s : RowSt F}
    {Φ : γ → RowSt F → Prop} (h : WP d sc' j (k ⟨⟩) { s with pl := scat (e := .f32) s.pl p v mask hi } Φ) :
    WP d sc' j (SparseCore.vectorStoreIdx (F := F) mPl ![p] v mask false hi hs >>= k) s Φ := by
  exact WP.storeIdxTo (lPl d sc' j) (Memref.set_access_whole _) s.pl (fun x => { s with pl := x })
    (Memref.read_access_whole (Elt F) cc1_scratch5 s.pl)
    (fun w => congrArg (fun x => { s with pl := x }) (Memref.write_access_whole_univ (Elt F) cc1_scratch5 s.pl w)) h

end Rules

end Cert.Proof.Knn

end
-- ==== Proof.Keep.lean ====
/-
  The second pass over a row: every entry at most the threshold is appended, with its column, to the candidate buffers.
-/
module

public import proofs.«01_k».proof.Proof.Flat

@[expose] public section

set_option maxRecDepth 8192

noncomputable section

namespace Cert.Proof.Knn

open Cert.KernelIdeal Cert.KernelIdeal.Gen
open Idealize.ShloMosaic Idealize.SL.Sem

variable {F : FTy → Type} [FloatOps F]

/-- The entry of column `i` of the staged row `r`. -/
def rowAt (f : Vec F S32768 .f32) (r : ℕ) (i : ℕ) : F .f32 := f (cell 32768 (1024 * r + i))

/-- The entry `a` is at most the threshold `t`. -/
def keeps (t a : F .f32) : Prop := FloatOps.cmpf .ole a t = 1

instance (t a : F .f32) : Decidable (keeps t a) := inferInstanceAs (Decidable (_ = _))

/-- How many of the first `n` columns are kept. -/
abbrev kept (row : ℕ → F .f32) (t : F .f32) (n : ℕ) : ℕ := Nat.count (fun i => keeps t (row i)) n

/-- The candidate buffers after the first `n` columns: their number, and each kept column's entry and number at its place. -/
structure Kept (row : ℕ → F .f32) (t : F .f32) (n : ℕ) (off : BitVec 32) (ck : Vec F S1024 .f32) (cv : Vec F S1024 .i32) : Prop where
  off_eq : off = BitVec.ofNat 32 (kept row t n)
  key : ∀ i < n, keeps t (row i) → ck (cell 1024 (kept row t i)) = row i
  val : ∀ i < n, keeps t (row i) → cv (cell 1024 (kept row t i)) = BitVec.ofNat 32 i

theorem kept_le (row : ℕ → F .f32) (t : F .f32) (n : ℕ) : kept row t n ≤ n := Nat.count_le _

theorem kept_add (row : ℕ → F .f32) (t : F .f32) (a b : ℕ) : kept row t (a + b) = kept row t a + Nat.count (fun i => keeps t (row (a + i))) b :=
  Nat.count_add _ _ _

/-- One where the chunk's entry is kept. -/
def keepMask (t : F .f32) (v : FVec F S16 .f32) : IVec S16 1 := cmpf .ole v (broadcast S16 t)

def keepOne (t : F .f32) (v : FVec F S16 .f32) : IVec S16 32 := select (keepMask t v) (broadcast S16 1#32) (broadcast S16 0#32)

/-- The places of a chunk's kept entries. -/
def keepPos (t : F .f32) (off : BitVec 32) (v : FVec F S16 .f32) : IVec S16 32 :=
  addi (broadcast S16 off) (subi (scan .sum (keepOne t v)) (keepOne t v))

theorem keepMask_iff (t : F .f32) (v : FVec F S16 .f32) (x : S16.Idx) : keepMask t v x = 1 ↔ keeps t (v x) := Iff.rfl

theorem keepOne_apply (t : F .f32) (v : FVec F S16 .f32) (x : S16.Idx) : keepOne t v x = if keeps t (v x) then 1#32 else 0#32 := rfl

section Chunk

variable {row : ℕ → F .f32} {t : F .f32} {c : ℕ} {v : FVec F S16 .f32} (hv : ∀ k < 16, v (lane k) = row (16 * c + k))

include hv

theorem keepOne_lane {k : ℕ} (hk : k < 16) : keepOne t v (lane k) = if keeps t (row (16 * c + k)) then 1#32 else 0#32 := by
  rw [keepOne_apply, hv k hk]

theorem scan_keep {k : ℕ} (hk : k < 16) :
    scan .sum (keepOne t v) (lane k) = BitVec.ofNat 32 (Nat.count (fun i => keeps t (row (16 * c + i))) (k + 1)) :=
  scan_count _ _ (fun _ h => keepOne_lane hv h) hk

theorem keepPos_lane {k : ℕ} (hk : k < 16) : keepPos t (BitVec.ofNat 32 (kept row t (16 * c))) v (lane k) = BitVec.ofNat 32 (kept row t (16 * c + k)) := by
  show BitVec.ofNat 32 (kept row t (16 * c)) + (scan .sum (keepOne t v) (lane k) - keepOne t v (lane k)) = _
  rw [scan_keep hv hk, keepOne_lane hv hk, Nat.count_succ, kept_add, BitVec.ofNat_add, BitVec.ofNat_add]
  congr 1
  split
  · exact BitVec.add_sub_cancel _ _
  · simp

theorem keepPos_toNat (hc : c < 64) {k : ℕ} (hk : k < 16) :
    (keepPos t (BitVec.ofNat 32 (kept row t (16 * c))) v (lane k)).toNat = kept row t (16 * c + k) := by
  rw [keepPos_lane hv hk, BitVec.toNat_ofNat, Nat.mod_eq_of_lt]
  have := kept_le row t (16 * c + k)
  omega

end Chunk

theorem exists_lane (x : S16.Idx) : ∃ k, k < 16 ∧ x = lane k := ⟨(x 0).val, lt16 x, (cell_eq x).symm⟩

/-- A chunk's scatter keeps the invariant of one buffer. -/
theorem scat_kept {e : EltTy} {row : ℕ → F .f32} {t : F .f32} {c : ℕ} (hc : c < 64) {v : FVec F S16 .f32} (hv : ∀ k < 16, v (lane k) = row (16 * c + k))
    (f : Vec F S1024 e) (w : Vec F S16 e) (g : ℕ → Elt F e) (hw : ∀ k < 16, w (lane k) = g (16 * c + k))
    (hf : ∀ i < 16 * c, keeps t (row i) → f (cell 1024 (kept row t i)) = g i) (hi) :
    ∀ i < 16 * (c + 1), keeps t (row i) →
      scat f (keepPos t (BitVec.ofNat 32 (kept row t (16 * c))) v) w (keepMask t v) hi (cell 1024 (kept row t i)) = g i := by
  intro i hin hki
  have hle : kept row t i < 1024 := by have := kept_le row t i; omega
  by_cases hlt : i < 16 * c
  · refine (storeIdx_miss f _ w _ hi _ fun x hx hp => ?_).trans (hf i hlt hki)
    obtain ⟨k, hk, rfl⟩ := exists_lane x
    rw [keepPos_toNat hv hc hk, cell_val hle] at hp
    have h1 : kept row t i < kept row t (16 * c + k) := Nat.count_strict_mono hki (by omega)
    omega
  · obtain ⟨k, rfl⟩ : ∃ k, i = 16 * c + k := ⟨i - 16 * c, by omega⟩
    have hk : k < 16 := by omega
    refine (storeIdx_hit f _ w _ hi _ (lane k) ?_ ?_ fun x hx hp => ?_).trans (hw k hk)
    · rw [keepMask_iff, hv k hk]; exact hki
    · rw [keepPos_toNat hv hc hk, cell_val hle]
    · obtain ⟨k', hk', rfl⟩ := exists_lane x
      rw [keepPos_toNat hv hc hk', cell_val hle] at hp
      rw [keepMask_iff, hv k' hk'] at hx
      have := Nat.count_injective (p := fun i => keeps t (row i)) hx hki hp
      have : k' = k := by omega
      rw [this]

/-- What the keep loop adds to the number of candidates. -/
def keepAdd (t : F .f32) (off : BitVec 32) (v : FVec F S16 .f32) : BitVec 32 :=
  Scalar.addi off (extractAt ![0] (extractStridedSlice S1 ![15] (scan .sum (keepOne t v)) slices_S16_o15_S1) inpos_S1_p0)

theorem keepAdd_eq {row : ℕ → F .f32} {t : F .f32} {c : ℕ} {v : FVec F S16 .f32} (hv : ∀ k < 16, v (lane k) = row (16 * c + k)) :
    keepAdd t (BitVec.ofNat 32 (kept row t (16 * c))) v = BitVec.ofNat 32 (kept row t (16 * (c + 1))) := by
  have h1 : extractAt ![0] (extractStridedSlice S1 ![15] (scan .sum (keepOne t v)) slices_S16_o15_S1) inpos_S1_p0
      = scan .sum (keepOne t v) (lane 15) := by
    unfold extractAt extractStridedSlice
    exact congrArg _ (idx1_ext rfl)
  show BitVec.ofNat 32 _ + _ = _
  rw [h1, scan_keep hv (by omega), show 16 * (c + 1) = 16 * c + 16 by ring, kept_add row t (16 * c) 16, BitVec.ofNat_add]

section Loop

variable {d : Dev nD} {i : grid1.Coords} {γ : Type}
variable {a2 : Memref sig .scVector .hbm S8x1024x1024 .f32} {h2 : a2.IsWhole} {a3 : Memref sig .scVector .hbm S131072 .f32} {h3 : a3.IsWhole}
  {a4 : Memref sig .scVector .hbm S245760 .i32} {h4 : a4.IsWhole} {a5 : Memref sig .scVector .hbm S6389760 .f32} {h5 : a5.IsWhole}
  {h6 : mD2.IsWhole} {h7 : mTab.IsWhole} {h8 : mCk.IsWhole} {h9 : mCv.IsWhole} {h10 : mEi.IsWhole} {h11 : mPl.IsWhole}
  {e1 e2 e3 e4 : DmaSems sig S_}

/-- The threshold of a row: the 30th of its 64 minima. -/
def thr (lm : FVec F S16 .f32) : F .f32 := extractAt ![0] (extractStridedSlice S1 ![13] lm slices_S16_o13_S1) inpos_S1_p0

theorem keepIdx (r : Fin k1_t2_loop.trips) (k : ℕ) (hk : k < 16) (c : Fin k1_t23_loop.trips) (f : Vec F S32768 .f32) :
    words f (k1_off4 r c 0) (lane k) = rowAt f r.val (16 * c.val + k) := by
  rw [k1_off4_eq]
  show f (cell 32768 (1024 * r.val + 16 * c.val + (lane k 0).val)) = f (cell 32768 (1024 * r.val + (16 * c.val + k)))
  rw [cell_val hk, Nat.add_assoc]

theorem keep_loop (r : Fin k1_t2_loop.trips) (v747 : BitVec 32) (q1 q2 : FVec F S16 .f32) (q3 q4 q5 : IVec S16 32) (lm : FVec F S16 .f32) (s : RowSt F) :
    WP d (tc i) (ts i) (Scf.Loop.for k1_t23_loop k1_t23_ok 0#32 (k1_t23_body i a2 h2 a3 h3 a4 h4 a5 h5 mD2 h6 mTab h7 mCk h8 mCv h9 mEi h10 mPl h11 e1 e2 e3 e4 lanes r v747 q1 q2 q3 q4 q5 lm)) s
      (fun off s' => ∃ ck cv, s' = { s with ck := ck, cv := cv } ∧ Kept (rowAt s.d2 r.val) (thr lm) 1024 off ck cv) := by
  refine (WP.loop (fun c off s' => ∃ ck cv, s' = { s with ck := ck, cv := cv } ∧ Kept (rowAt s.d2 r.val) (thr lm) (16 * c) off ck cv)
    ⟨s.ck, s.cv, rfl, ⟨rfl, fun i hi => absurd hi (by omega), fun i hi => absurd hi (by omega)⟩⟩ ?_).mono fun off s' h => ?_
  · rintro c off s' ⟨ck, cv, rfl, hK⟩
    have hc : c.val < 64 := c.isLt
    have hv := fun k hk => keepIdx (F := F) r k hk c s.d2
    unfold k1_t23_body
    refine WP.loadD2 ?_
    have hpos : ∀ x : S16.Idx, (keepPos (thr lm) off (words s.d2 (k1_off4 r c 0)) x).toNat < 1024 := by
      intro x
      obtain ⟨k, hk, rfl⟩ := exists_lane x
      rw [hK.off_eq, keepPos_toNat hv hc hk]
      have := kept_le (rowAt s.d2 r.val) (thr lm) (16 * c.val + k)
      omega
    have hchk : k1_chk1 (keepPos (thr lm) off (words s.d2 (k1_off4 r c 0))) := by
      refine ⟨fun a x => ?_, fun a x => ?_⟩ <;>
      · obtain ⟨a, ha⟩ := a
        obtain rfl : a = 0 := Nat.lt_one_iff.1 ha
        exact hpos x
    refine WP.assume hchk ?_
    refine WP.scatCk ?_
    refine WP.scatCv ?_
    refine WP.pure ⟨_, _, rfl, ?_, ?_, ?_⟩
    · exact (congrArg (fun o => keepAdd (thr lm) o (words s.d2 (k1_off4 r c 0))) hK.off_eq).trans (keepAdd_eq hv)
    · have h := hK.off_eq
      subst h
      exact scat_kept hc hv ck (words s.d2 (k1_off4 r c 0)) (rowAt s.d2 r.val) hv hK.key _
    · have h := hK.off_eq
      subst h
      refine scat_kept (e := .i32) hc hv cv _ (fun i => BitVec.ofNat 32 i) (fun k hk => ?_) hK.val _
      show lanes (lane k) + Scf.iv 0#32 1#32 c.val * 16#32 = _
      rw [lanes_apply, cell_val hk]
      show BitVec.ofNat 32 k + (0#32 + BitVec.ofNat 32 c.val * 1#32) * 16#32 = _
      apply BitVec.eq_of_toNat_eq
      simp
      omega
  · exact h

end Loop

end Cert.Proof.Knn

end
-- ==== Proof.Merge.lean ====
/-
  The candidates of a row, sixteen at a time, merged into the 32 lowest.
-/
module

public import proofs.«01_k».proof.Proof.Keep

@[expose] public section

set_option maxRecDepth 8192

noncomputable section

namespace Cert.Proof.Knn

open Cert.KernelIdeal Cert.KernelIdeal.Gen
open Idealize.ShloMosaic Idealize.SL.Sem

variable {F : FTy → Type} [FloatOps F]

/-- A chunk of candidates' keys, those from the word `off` on (its first word being the candidate `w`) replaced by infinity. -/
def padK (off w : BitVec 32) (v : FVec F S16 .f32) : FVec F S16 .f32 :=
  select (cmpi .slt lanes (broadcast S16 (Scalar.subi off w))) v (broadcast S16 (Scalar.ofBits .f32 0x7F800000#32))

/-- The `c`th sixteen candidates. -/
def cand (ck : Vec F S1024 .f32) (cv : Vec F S1024 .i32) (off : BitVec 32) (c : ℕ) : KV F :=
  (padK off (BitVec.ofNat 32 (16 * c)) (words ck (16 * c)), words cv (16 * c))

/-- The 32 lowest after the first `n + 2` sixteens of candidates. -/
def lowest (ck : Vec F S1024 .f32) (cv : Vec F S1024 .i32) (off : BitVec 32) : ℕ → KV F × KV F
  | 0 => mergeKV (sortP (words ck 0, words cv 0)) (sortP (cand ck cv off 1))
  | n + 1 => takeIn (lowest ck cv off n) (cand ck cv off (n + 2))

/-! The two counted loops over further sixteens: the second makes no trip. -/

theorem trips_all : ∀ n : Fin 1025, (k1_t32_loop (BitVec.ofNat 32 n.val)).OK ∧ (k1_t32_loop (BitVec.ofNat 32 n.val)).trips = (n.val + 15) / 16 - 2
    ∧ (k1_t41_loop (BitVec.ofNat 32 n.val)).OK ∧ (k1_t41_loop (BitVec.ofNat 32 n.val)).trips = 0 := by
  decide +kernel

theorem off5_all : ∀ k : Fin 62, ((Scf.iv 2#32 1#32 k.val * 16#32).toInt.toNat = 16 * (k.val + 2)) ∧ Scf.iv 2#32 1#32 k.val * 16#32 = BitVec.ofNat 32 (16 * (k.val + 2)) := by
  decide +kernel

theorem off5_val (w : BitVec 32) (k : Fin (k1_t32_loop w).trips) (hk : k.val < 62) : k1_off5 w k 0 = 16 * (k.val + 2) := by
  have h := (off5_all ⟨k.val, hk⟩).2
  show ((Scf.iv 2#32 1#32 k.val * 16#32 : BitVec 32)).toNat = _
  rw [h, BitVec.toNat_ofNat, Nat.mod_eq_of_lt (by show 16 * (k.val + 2) < 2 ^ 32; omega)]

theorem chk2_of {n : ℕ} (hn : n ≤ 1024) : k1_chk2 (BitVec.ofNat 32 n) := by
  obtain ⟨h1, h2, h3, h4⟩ := trips_all ⟨n, by omega⟩
  refine ⟨h1, fun k a => ?_, h3, fun k => absurd (lt_of_lt_of_eq k.isLt h4) (Nat.not_lt_zero _)⟩
  obtain ⟨a, ha⟩ := a
  obtain rfl : a = 0 := Nat.lt_one_iff.1 ha
  have hk : k.val < (n + 15) / 16 - 2 := lt_of_lt_of_eq k.isLt h2
  have : k1_off5 (BitVec.ofNat 32 n) k 0 = 16 * (k.val + 2) := off5_val _ _ (by omega)
  show k1_off5 (BitVec.ofNat 32 n) k 0 + 16 ≤ 1024
  omega

section Parts

variable {d : Dev nD} {i : grid1.Coords} {γ : Type}
variable {a2 : Memref sig .scVector .hbm S8x1024x1024 .f32} {h2 : a2.IsWhole} {a3 : Memref sig .scVector .hbm S131072 .f32} {h3 : a3.IsWhole}
  {a4 : Memref sig .scVector .hbm S245760 .i32} {h4 : a4.IsWhole} {a5 : Memref sig .scVector .hbm S6389760 .f32} {h5 : a5.IsWhole}
  {h6 : mD2.IsWhole} {h7 : mTab.IsWhole} {h8 : mCk.IsWhole} {h9 : mCv.IsWhole} {h10 : mEi.IsWhole} {h11 : mPl.IsWhole}
  {e1 e2 e3 e4 : DmaSems sig S_}

/-- A row's second pass and the sort of its first sixteen candidates. -/
theorem part14_spec (r : Fin k1_t2_loop.trips) (v747 : BitVec 32) (lo hi : FVec F S16 .f32) (s : RowSt F) :
    WP d (tc i) (ts i) (k1_part14 i a2 h2 a3 h3 a4 h4 a5 h5 mD2 h6 mTab h7 mCk h8 mCv h9 mEi h10 mPl h11 e1 e2 e3 e4 lanes r v747 lo hi lanes lanes zeros) s
      (fun a s' => ∃ off h ck cv, s' = { s with ck := ck, cv := cv } ∧ Kept (rowAt s.d2 r.val) (thr (sortK hi)) 1024 off ck cv
        ∧ a = ⟨off, h, (sortP (words ck 0, words cv 0)).1, (sortP (words ck 0, words cv 0)).2⟩) := by
  rw [k1_part14_eq_skeleton]
  unfold k1_part14_skel
  refine WP.rank (by decide) (fun _ _ => rfl) fun _ _ => ?_
  refine WP.place (by decide) (fun _ _ => rfl) fun _ _ => ?_
  refine WP.rank (by decide) (fun _ _ => rfl) fun _ _ => ?_
  refine WP.place (by decide) (fun _ _ => rfl) fun _ _ => ?_
  refine WP.seq (keep_loop r v747 _ _ _ _ _ _ s) ?_
  rintro off s' ⟨ck, cv, rfl, hK⟩
  have hchk : k1_chk2 off := by rw [hK.off_eq]; exact chk2_of (kept_le _ _ _)
  refine WP.assume hchk ?_
  refine WP.loadCk ?_
  refine WP.loadCv ?_
  refine WP.rank (by decide) (fun _ _ => rfl) fun _ _ => ?_
  refine WP.place2 (by decide) (fun _ _ => rfl) fun _ _ _ => ?_
  exact WP.pure ⟨off, hchk, ck, cv, rfl, hK, rfl⟩

theorem part15_spec (off : BitVec 32) (s : RowSt F) :
    WP d (tc i) (ts i) (k1_part15 i a2 h2 a3 h3 a4 h4 a5 h5 mD2 h6 mTab h7 mCk h8 mCv h9 mEi h10 mPl h11 e1 e2 e3 e4 lanes off) s
      (fun a s' => s' = s ∧ ∃ c, c = sortP (cand s.ck s.cv off 1) ∧ a = ⟨c.2, k1_pay219 c.1, k1_pay220 (F := F) c.2, k1_pay221 (F := F) c.2, k1_pay222 (F := F) c.2, k1_pay223 (F := F) c.2, k1_pay224 (F := F) c.2, k1_pay225 (F := F) c.2, k1_pay226 (F := F) c.2, k1_pay227 (F := F) c.2, k1_pay228 (F := F) c.2, k1_pay229 (F := F) c.2, k1_pay230 (F := F) c.2, k1_pay231 (F := F) c.2, k1_pay232 (F := F) c.2, k1_pay233 (F := F) c.2, k1_pay234 (F := F) c.2⟩) := by
  rw [k1_part15_eq_skeleton]
  unfold k1_part15_skel
  refine WP.loadCk ?_
  refine WP.loadCv ?_
  refine WP.rank (key := padK off 16#32 (words s.ck 16)) (by decide) (fun _ _ => rfl) fun _ _ => ?_
  refine WP.place2 (key := padK off 16#32 (words s.ck 16)) (by decide) (fun _ _ => rfl) fun _ _ _ => ?_
  exact WP.pure ⟨rfl, _, rfl, rfl⟩

/-- The scalar the loop over further sixteens is bounded by, and its parts. -/
theorem part16_spec (off : BitVec 32) (a b : KV F) (s : RowSt F) :
    WP d (tc i) (ts i) (k1_part16 i a2 h2 a3 h3 a4 h4 a5 h5 mD2 h6 mTab h7 mCk h8 mCv h9 mEi h10 mPl h11 e1 e2 e3 e4 off a.1 a.2 b.2 (k1_pay219 b.1) (k1_pay220 (F := F) b.2) (k1_pay221 (F := F) b.2) (k1_pay222 (F := F) b.2) (k1_pay223 (F := F) b.2) (k1_pay224 (F := F) b.2) (k1_pay225 (F := F) b.2) (k1_pay226 (F := F) b.2) (k1_pay227 (F := F) b.2) (k1_pay228 (F := F) b.2) (k1_pay229 (F := F) b.2) (k1_pay230 (F := F) b.2) (k1_pay231 (F := F) b.2) (k1_pay232 (F := F) b.2) (k1_pay233 (F := F) b.2) (k1_pay234 (F := F) b.2)) s
      (fun x s' => s' = s ∧ ∃ m u w z y, m = mergeKV a b ∧ x = ⟨m.1.1, m.1.2, m.2.1, m.2.2, u, w, z, y⟩) := by
  rw [k1_part16_eq_skeleton]
  unfold k1_part16_skel
  refine WP.rank (key := (lowKV a (revKV b)).1) (by decide) (fun _ _ => rfl) fun _ _ => ?_
  refine WP.place2 (key := (lowKV a (revKV b)).1) (val := (lowKV a (revKV b)).2) (by decide) (fun _ _ => rfl) fun _ _ _ => ?_
  refine WP.rank (key := (highKV a (revKV b)).1) (by decide) (fun _ _ => rfl) fun _ _ => ?_
  refine WP.place2 (key := (highKV a (revKV b)).1) (val := (highKV a (revKV b)).2) (by decide) (fun _ _ => rfl) fun _ _ _ => ?_
  exact WP.pure ⟨rfl, mergeKV a b, _, _, _, _, rfl, rfl⟩

theorem part1_spec (off : BitVec 32) (hw : k1_chk2 off) (k : Fin (k1_t32_loop off).trips) (hk : k.val < 62) (s : RowSt F) :
    WP d (tc i) (ts i) (k1_part1 i a2 h2 a3 h3 a4 h4 a5 h5 mD2 h6 mTab h7 mCk h8 mCv h9 mEi h10 mPl h11 e1 e2 e3 e4 lanes off hw 2#32 1#32 k) s
      (fun a s' => s' = s ∧ ∃ c, c = sortP (cand s.ck s.cv off (k.val + 2)) ∧ a = ⟨c.2, k1_pay14 c.1, k1_pay15 (F := F) c.2, k1_pay16 (F := F) c.2, k1_pay17 (F := F) c.2, k1_pay18 (F := F) c.2, k1_pay19 (F := F) c.2, k1_pay20 (F := F) c.2, k1_pay21 (F := F) c.2, k1_pay22 (F := F) c.2, k1_pay23 (F := F) c.2⟩) := by
  have ho : k1_off5 off k 0 = 16 * (k.val + 2) := off5_val off k hk
  rw [k1_part1_eq_skeleton]
  unfold k1_part1_skel
  refine WP.loadCk ?_
  refine WP.loadCv ?_
  rw [ho]
  have hp : k1_pay3 lanes off 2#32 1#32 k (words s.ck (16 * (k.val + 2))) = padK off (BitVec.ofNat 32 (16 * (k.val + 2))) (words s.ck (16 * (k.val + 2))) :=
    congrArg (fun w => padK off w (words s.ck (16 * (k.val + 2)))) (off5_all ⟨k.val, hk⟩).2
  refine WP.rank (key := k1_pay3 lanes off 2#32 1#32 k (words s.ck (16 * (k.val + 2)))) (by decide) (fun _ _ => rfl) fun _ _ => ?_
  refine WP.place2 (key := k1_pay3 lanes off 2#32 1#32 k (words s.ck (16 * (k.val + 2)))) (by decide) (fun _ _ => rfl) fun _ _ _ => ?_
  refine WP.pure ⟨rfl, _, ?_, rfl⟩
  rw [cand, ← hp]
  rfl

theorem part2_spec (a c : KV F) (s : RowSt F) :
    WP d (tc i) (ts i) (k1_part2 i a2 h2 a3 h3 a4 h4 a5 h5 mD2 h6 mTab h7 mCk h8 mCv h9 mEi h10 mPl h11 e1 e2 e3 e4 a.1 a.2 c.2 (k1_pay14 c.1) (k1_pay15 (F := F) c.2) (k1_pay16 (F := F) c.2) (k1_pay17 (F := F) c.2) (k1_pay18 (F := F) c.2) (k1_pay19 (F := F) c.2) (k1_pay20 (F := F) c.2) (k1_pay21 (F := F) c.2) (k1_pay22 (F := F) c.2) (k1_pay23 (F := F) c.2)) s
      (fun x s' => s' = s ∧ ∃ e, e = sortP (lowKV a (revKV c)) ∧ x = ⟨e.2, k1_pay37 e.1, k1_pay38 e.2, k1_pay39 e.2, k1_pay40 e.2, k1_pay41 e.2, k1_pay42 e.2, k1_pay43 e.2, k1_pay44 e.2, k1_pay45 e.2, k1_pay46 e.2, k1_pay47 e.2, k1_pay48 e.2, k1_pay49 e.2, k1_pay50 e.2, k1_pay51 e.2, k1_pay52 e.2⟩) := by
  rw [k1_part2_eq_skeleton]
  unfold k1_part2_skel
  refine WP.rank (key := (lowKV a (revKV c)).1) (by decide) (fun _ _ => rfl) fun _ _ => ?_
  refine WP.place2 (key := (lowKV a (revKV c)).1) (val := (lowKV a (revKV c)).2) (by decide) (fun _ _ => rfl) fun _ _ _ => ?_
  exact WP.pure ⟨rfl, _, rfl, rfl⟩

/-- One trip of the loop over further sixteens takes them in. -/
theorem t32_step (v2 : IVec S16 1) (v4 : IVec S16 32) (r : Fin k1_t2_loop.trips) (arg15 v750 off : BitVec 32) (hw : k1_chk2 off)
    (p1 : FVec F S16 .f32) (p2 : IVec S16 32) (p3 : FVec F S16 .f32) (p4 : IVec S16 32) (q1 q2 q3 : BitVec 32) (q4 : BitVec 1)
    (k : Fin (k1_t32_loop off).trips) (hk : k.val < 62) (st : KV F × KV F) (s : RowSt F) :
    WP d (tc i) (ts i) (k1_t32_body i a2 h2 a3 h3 a4 h4 a5 h5 mD2 h6 mTab h7 mCk h8 mCv h9 mEi h10 mPl h11 e1 e2 e3 e4 lanes v2 v4 r arg15 v750 off hw p1 p2 p3 p4 q1 q2 q3 q4 k (st.1.1, st.1.2, st.2.1, st.2.2)) s
      (fun x s' => s' = s ∧ ∃ m, m = takeIn st (cand s.ck s.cv off (k.val + 2)) ∧ x = (m.1.1, m.1.2, m.2.1, m.2.2)) := by
  unfold k1_t32_body
  refine WP.seq (part1_spec off hw k hk s) ?_
  rintro _ _ ⟨rfl, c, hc, rfl⟩
  refine WP.seq (part2_spec st.2 c _) ?_
  rintro _ _ ⟨rfl, e, he, rfl⟩
  refine WP.rank (key := (lowKV st.1 (revKV e)).1) (by decide) (fun _ _ => rfl) fun _ _ => ?_
  refine WP.place2 (key := (lowKV st.1 (revKV e)).1) (val := (lowKV st.1 (revKV e)).2) (by decide) (fun _ _ => rfl) fun _ _ _ => ?_
  refine WP.rank (key := (highKV st.1 (revKV e)).1) (by decide) (fun _ _ => rfl) fun _ _ => ?_
  refine WP.place2 (key := (highKV st.1 (revKV e)).1) (val := (highKV st.1 (revKV e)).2) (by decide) (fun _ _ => rfl) fun _ _ _ => ?_
  refine WP.pure ⟨rfl, mergeKV st.1 e, ?_, rfl⟩
  rw [he, hc]
  rfl

end Parts

end Cert.Proof.Knn

end
-- ==== Proof.Puts.lean ====
module

public import proofs.«01_k».proof.Proof.Merge
public import Idealize.ShloMosaic.Lib.Pipeline.Value

/-!
# What a row writes to the staging buffers

A row stores its 30 results of one kind as 16 words and a scatter of 14. Twenty-six planes are written so, and the
list of neighbours.
-/

@[expose] public section

set_option maxRecDepth 8192

noncomputable section

namespace Cert.Proof.Knn

open Cert.KernelIdeal Cert.KernelIdeal.Gen
open Idealize.ShloMosaic Idealize.SL.Sem

variable {F : FTy → Type} [FloatOps F]

/-! ## Arrays with part of a row written -/

/-- The array with 16 words written from `o`. -/
def sto {n : ℕ} {α : Type} (f : (⟨1, ![n]⟩ : Shape).Idx → α) (o : ℕ) (w : S16.Idx → α) : (⟨1, ![n]⟩ : Shape).Idx → α :=
  fun j => if o ≤ (j 0).val ∧ (j 0).val < o + 16 then w (lane ((j 0).val - o)) else f j

/-- The array with 14 words written from `o + 16`. -/
def sct {n : ℕ} {α : Type} (f : (⟨1, ![n]⟩ : Shape).Idx → α) (o : ℕ) (v : S16.Idx → α) : (⟨1, ![n]⟩ : Shape).Idx → α :=
  fun j => if o + 16 ≤ (j 0).val ∧ (j 0).val < o + 30 then v (lane ((j 0).val - (o + 16))) else f j

/-- The array with 30 words written from `o`: 16 of one register, 14 of another. -/
def putW {n : ℕ} {α : Type} (f : (⟨1, ![n]⟩ : Shape).Idx → α) (o : ℕ) (w : (S16.Idx → α) × (S16.Idx → α)) : (⟨1, ![n]⟩ : Shape).Idx → α :=
  sct (sto f o w.1) o w.2

/-- The first `m` planes of row `r` written. -/
def puts {n : ℕ} {α : Type} (r : ℕ) (V : ℕ → (S16.Idx → α) × (S16.Idx → α)) (f : (⟨1, ![n]⟩ : Shape).Idx → α) : ℕ → (⟨1, ![n]⟩ : Shape).Idx → α
  | 0 => f
  | m + 1 => putW (puts r V f m) (30 * r + 960 * m) (V m)

/-- Word `k` of 30 held in two registers. -/
def word30 {α : Type} (w : (S16.Idx → α) × (S16.Idx → α)) (k : ℕ) : α := if k < 16 then w.1 (lane k) else w.2 (lane (k - 16))

theorem putW_apply {n : ℕ} {α : Type} (f : (⟨1, ![n]⟩ : Shape).Idx → α) (o : ℕ) (w : (S16.Idx → α) × (S16.Idx → α)) (j : (⟨1, ![n]⟩ : Shape).Idx) :
    putW f o w j = if o ≤ (j 0).val ∧ (j 0).val < o + 30 then word30 w ((j 0).val - o) else f j := by
  unfold putW sct sto word30
  by_cases h1 : o ≤ (j 0).val
  · by_cases h2 : (j 0).val < o + 16
    · rw [if_neg (by omega), if_pos ⟨h1, h2⟩, if_pos ⟨h1, by omega⟩, if_pos (by omega)]
    · by_cases h3 : (j 0).val < o + 30
      · rw [if_pos ⟨by omega, h3⟩, if_pos ⟨h1, h3⟩, if_neg (by omega), Nat.sub_sub]
      · rw [if_neg (by omega), if_neg (by omega), if_neg (by omega)]
  · rw [if_neg (by omega), if_neg (by omega), if_neg (by omega)]

/-- Where an index lies in the planes of row `r`, and what is there. -/
theorem puts_apply {n : ℕ} {α : Type} (r : ℕ) (V : ℕ → (S16.Idx → α) × (S16.Idx → α)) (f : (⟨1, ![n]⟩ : Shape).Idx → α) (m : ℕ) (j : (⟨1, ![n]⟩ : Shape).Idx)
    (hr : r < 32) :
    puts r V f m j = if (j 0).val / 960 < m ∧ (j 0).val % 960 / 30 = r then word30 (V ((j 0).val / 960)) ((j 0).val % 30) else f j := by
  induction m with
  | zero => rw [if_neg (by omega)]; rfl
  | succ m ih =>
    rw [puts, putW_apply, ih]
    by_cases h : 30 * r + 960 * m ≤ (j 0).val ∧ (j 0).val < 30 * r + 960 * m + 30
    · have h1 : (j 0).val / 960 = m := by omega
      rw [if_pos h, if_pos ⟨by omega, by omega⟩, h1]
      congr 1
      omega
    · rw [if_neg h]
      refine if_congr ?_ rfl rfl
      omega

/-! ## The steps -/

/-- The positions a scatter of 14 writes, as the program computes them. -/
def putIdx (r : Fin k1_t2_loop.trips) (m : ℕ) : IVec S16 32 :=
  addi (broadcast S16 (Scalar.addi (Scalar.addi (BitVec.ofNat 32 (960 * m)) (Scalar.muli (Scf.iv 0#32 1#32 r) 30#32)) 16#32)) k1_pay2

theorem putBase : ∀ (r : Fin 32) (m : Fin 26),
    (Scalar.addi (Scalar.addi (BitVec.ofNat 32 (960 * m.val)) (Scalar.muli (Scf.iv 0#32 1#32 r) 30#32)) 16#32).toNat = 30 * r.val + 960 * m.val + 16 := by
  decide +kernel

theorem pay2_lane : ∀ k : Fin 16, (k1_pay2 (lane k.val)).toNat = min k.val 13 := by decide +kernel
theorem pay1_lane : ∀ k : Fin 16, k1_pay1 (lane k.val) = 1 ↔ k.val < 14 := by decide +kernel

theorem lane_of (x : S16.Idx) : ∃ k : Fin 16, x = lane k.val :=
  let ⟨k, hk, e⟩ := exists_lane x
  ⟨⟨k, hk⟩, e⟩

theorem putIdx_val (r : Fin k1_t2_loop.trips) (m : ℕ) (hm : m < 26) (k : Fin 16) : (putIdx r m (lane k.val)).toNat = 30 * r.val + 960 * m + 16 + min k.val 13 := by
  have h1 := putBase r ⟨m, hm⟩
  have h2 := pay2_lane k
  have hr : r.val < 32 := r.isLt
  show (_ + _ : BitVec 32).toNat = _
  rw [BitVec.toNat_add]
  refine (congrArg₂ (fun a b => (a + b) % 2 ^ 32) h1 h2).trans ?_
  show (30 * r.val + 960 * m + 16 + min k.val 13) % 2 ^ 32 = _
  omega

theorem scat_put {n : ℕ} {e : EltTy} (f : Vec F ⟨1, ![n]⟩ e) (r : Fin k1_t2_loop.trips) (m : ℕ) (hm : m < 26) (v : Vec F S16 e)
    (h : ∀ a x, ((![putIdx r m] : Fin 1 → IVec S16 32) a x).toNat < (⟨1, ![n]⟩ : Shape).size a) :
    scat f (putIdx r m) v k1_pay1 h = sct f (30 * r.val + 960 * m) v := by
  funext j
  unfold sct
  split
  · rename_i hj
    have hk14 : (j 0).val - (30 * r.val + 960 * m + 16) < 14 := by omega
    have hk : (j 0).val - (30 * r.val + 960 * m + 16) < 16 := by omega
    refine storeIdx_hit f _ v _ h j (lane ((j 0).val - (30 * r.val + 960 * m + 16))) ((pay1_lane ⟨_, hk⟩).2 hk14) ?_ ?_
    · rw [putIdx_val r m hm ⟨_, hk⟩]
      show _ + min ((j 0).val - (30 * r.val + 960 * m + 16)) 13 = _
      omega
    · intro x hx hxj
      obtain ⟨k, rfl⟩ := lane_of x
      have hk14 := (pay1_lane k).1 hx
      rw [putIdx_val r m hm k] at hxj
      congr 1
      omega
  · rename_i hj
    refine storeIdx_miss f _ v _ h j fun x hx hxj => hj ?_
    obtain ⟨k, rfl⟩ := lane_of x
    have hk14 := (pay1_lane k).1 hx
    rw [putIdx_val r m hm k] at hxj
    omega

theorem put_fits (r : Fin k1_t2_loop.trips) (m : ℕ) (hm : m < 26) (n : ℕ) (hn : 30 * r.val + 960 * m + 30 ≤ n) (x : S16.Idx) :
    (putIdx r m x).toNat < n := by
  obtain ⟨k, rfl⟩ := lane_of x
  rw [putIdx_val r m hm k]
  omega

theorem updateSlice_sto {n : ℕ} {α : Type} (f : (⟨1, ![n]⟩ : Shape).Idx → α) (w : S16.Idx → α) (off : Fin 1 → ℕ)
    (h : (⟨1, ![n]⟩ : Shape).Slices off S16) : updateSlice f w off h = sto f (off 0) w := by
  funext j
  unfold updateSlice sto
  split
  · rename_i hj
    have h0 := hj 0
    rw [if_pos ⟨h0.1, h0.2⟩]
    refine congrArg w (idx1_ext ?_)
    have : (j 0).val - off 0 < 16 := by have := h0.2; simp [S16] at this; omega
    exact (Nat.mod_eq_of_lt this).symm
  · rename_i hj
    rw [if_neg fun h' => hj fun a => ?_]
    obtain rfl : a = 0 := Subsingleton.elim _ _
    exact h'

section Rules

variable {d : Dev nD} {sc' : Fin τ.nSC} {j : Fin τ.nSub} {γ : Type}

theorem write_pl (s : RowSt F) (off : Fin 1 → ℕ) (inb : ∀ a, off a + S16.size a ≤ S24960.size a) (w : FVec F S16 .f32) :
    (mPl.access (Rect.unit (s := S24960) off S16.size inb)).write (Elt F) s.pl w Finset.univ = sto (n := 24960) s.pl (off 0) w :=
  (View.write_whole_slice_unit cc1_scratch5 off S16.size inb s.pl w).trans (updateSlice_sto _ _ _ _)

theorem write_ei (s : RowSt F) (off : Fin 1 → ℕ) (inb : ∀ a, off a + S16.size a ≤ S976.size a) (w : IVec S16 32) :
    (mEi.access (Rect.unit (s := S976) off S16.size inb)).write (Elt F) s.ei w Finset.univ = sto (n := 976) s.ei (off 0) w :=
  (View.write_whole_slice_unit cc1_scratch4 off S16.size inb s.ei w).trans (updateSlice_sto _ _ _ _)

/-- The state with the first `m` planes of row `r` written. -/
def atP (s : RowSt F) (r : ℕ) (V : ℕ → FVec F S16 .f32 × FVec F S16 .f32) (m : ℕ) : RowSt F := { s with pl := puts (n := 24960) r V s.pl m }

/-- The state with, besides, the 16 words of plane `m` written. -/
def midP (s : RowSt F) (r : ℕ) (V : ℕ → FVec F S16 .f32 × FVec F S16 .f32) (m : ℕ) : RowSt F :=
  { s with pl := sto (n := 24960) (puts (n := 24960) r V s.pl m) (30 * r + 960 * m) (V m).1 }

theorem WP.sto (m : ℕ) {off : Fin 1 → ℕ} {inb : ∀ a, off a + S16.size a ≤ S24960.size a} {w : FVec F S16 .f32} {hx} {hm}
    {k : PUnit → TileProg F sc' j γ} {s : RowSt F} {r : ℕ} {V : ℕ → FVec F S16 .f32 × FVec F S16 .f32} {Φ : γ → RowSt F → Prop}
    (ho : off = ![30 * r + 960 * m]) (hw : (V m).1 = w) (h : WP d sc' j (k ⟨⟩) (midP s r V m) Φ) :
    WP d sc' j (Prog.lift (.store (cs := .vmem) mPl (Rect.unit (s := S24960) off S16.size inb) w Finset.univ hx hm) >>= k) (atP s r V m) Φ := by
  refine WP.store (lPl d sc' j) ?_
  have e := write_pl (atP s r V m) off inb w
  subst hw
  rw [show off 0 = 30 * r + 960 * m by rw [ho]; rfl] at e
  exact (congrArg (fun x => WP d sc' j (k ⟨⟩) { s with pl := x } Φ) e).mpr h

theorem WP.sct (m : ℕ) {p : IVec S16 32} {v : FVec F S16 .f32} {P : Prop} {dec : Decidable P} {hi : PLift P → ∀ a x, ((![p] : Fin 1 → IVec S16 32) a x).toNat < S24960.size a} {hs}
    {k : PUnit → TileProg F sc' j γ} {s : RowSt F} {r : Fin k1_t2_loop.trips} {V : ℕ → FVec F S16 .f32 × FVec F S16 .f32} {Φ : γ → RowSt F → Prop}
    (hm : m < 26) (hp : p = putIdx r m) (hP : (∀ a x, ((![p] : Fin 1 → IVec S16 32) a x).toNat < S24960.size a) → P) (hv : (V m).2 = v)
    (h : WP d sc' j (k ⟨⟩) (atP s r V (m + 1)) Φ) :
    WP d sc' j (Prog.lift (.assume P dec) >>= fun hw => SparseCore.vectorStoreIdx (F := F) mPl ![p] v k1_pay1 false (hi hw) hs >>= k) (midP s r V m) Φ := by
  subst hp hv
  have hr : r.val < 32 := r.isLt
  refine WP.assume (hP fun a x => ?_) ?_
  · obtain rfl : a = 0 := Subsingleton.elim _ _
    exact put_fits r m hm 24960 (by omega) x
  refine WP.scatPl ?_
  rw [scat_put (e := .f32) _ r m hm]
  exact h

/-- The entries of row `q` of the table at the given columns. -/
def gath (tab : Vec F S16384 .f32) (q : ℕ) (x : IVec S16 32) : FVec F S16 .f32 := fun l => tab (cell 16384 (1024 * q + (x l).toNat))

theorem WP.gath (q : ℕ) {p x : IVec S16 32} {P : Prop} {dec : Decidable P} {hi : PLift P → ∀ a x, ((![p] : Fin 1 → IVec S16 32) a x).toNat < S16384.size a} {hl}
    {k : FVec F S16 .f32 → TileProg F sc' j γ} {s : RowSt F} {Φ : γ → RowSt F → Prop}
    (hq : q < 12) (hp : p = addi x (broadcast S16 (BitVec.ofNat 32 (1024 * q)))) (hx : ∀ l, (x l).toNat < 1024)
    (hP : (∀ a x, ((![p] : Fin 1 → IVec S16 32) a x).toNat < S16384.size a) → P)
    (h : WP d sc' j (k (gath s.tab q x)) s Φ) :
    WP d sc' j (Prog.lift (.assume P dec) >>= fun hw => SparseCore.vectorLoadIdx (F := F) mTab ![p] (hi hw) hl >>= k) s Φ := by
  subst hp
  have hv : ∀ l, (addi x (broadcast S16 (BitVec.ofNat 32 (1024 * q))) l).toNat = 1024 * q + (x l).toNat := by
    intro l
    have := hx l
    show (_ + _ : BitVec 32).toNat = _
    rw [BitVec.toNat_add]
    show ((x l).toNat + (BitVec.ofNat 32 (1024 * q)).toNat) % 2 ^ 32 = _
    rw [BitVec.toNat_ofNat]
    omega
  have hb : ∀ a l, ((![addi x (broadcast S16 (BitVec.ofNat 32 (1024 * q)))] : Fin 1 → IVec S16 32) a l).toNat < S16384.size a := by
    intro a l
    obtain rfl : a = 0 := Subsingleton.elim _ _
    show (addi x (broadcast S16 (BitVec.ofNat 32 (1024 * q))) l).toNat < 16384
    have := hx l
    rw [hv]; omega
  refine WP.assume (hP hb) ?_
  refine WP.loadIdx (lTab d sc' j) ?_
  have e : (mTab.access (.whole S16384)).read (Elt F) ((lTab d sc' j).get s) = s.tab := Memref.read_access_whole (Elt F) cc1_scratch1 s.tab
  rw [e]
  have e2 : Idealize.ShloMosaic.loadIdx s.tab (![addi x (broadcast S16 (BitVec.ofNat 32 (1024 * q)))] : Fin 1 → IVec S16 32) (hi ⟨hP hb⟩) = Knn.gath s.tab q x := by
    funext l
    refine congrArg s.tab (idx1_ext ?_)
    show (addi x (broadcast S16 (BitVec.ofNat 32 (1024 * q))) l).toNat = (1024 * q + (x l).toNat) % 16384
    have := hx l
    rw [hv, Nat.mod_eq_of_lt (by omega)]
  exact (congrArg (fun z => WP d sc' j (k z) s Φ) e2).mpr h

end Rules

end Cert.Proof.Knn

end
-- ==== Proof.Row.lean ====
module

public import proofs.«01_k».proof.Proof.Puts

/-!
# One row

The whole body of the loop over rows: which scratch words it changes, and to what.
-/

@[expose] public section

set_option maxRecDepth 8192

noncomputable section

namespace Cert.Proof.Knn

open Cert.KernelIdeal Cert.KernelIdeal.Gen
open Idealize.ShloMosaic Idealize.SL.Sem

variable {F : FTy → Type} [FloatOps F]

/-- The tile's number, as the program computes it. -/
def widOf (i : grid1.Coords) : BitVec 32 := Scalar.addi (Scalar.muli (BitVec.ofNat 32 (i 1).val) 2#32) (BitVec.ofNat 32 (i 0).val)

/-- The tile's batch entry, as the program computes it: a quarter of its number. -/
def batchOf (i : grid1.Coords) : BitVec 32 :=
  Scalar.select
    (Scalar.andi
      (Scalar.cmpi .ne (Scalar.subi (Scalar.extui (Scalar.cmpi .sgt (widOf i) 0#32)) (Scalar.extui (Scalar.cmpi .slt (widOf i) 0#32)))
        (Scalar.subi (Scalar.extui (Scalar.cmpi .sgt 4#32 0#32)) (Scalar.extui (Scalar.cmpi .slt 4#32 0#32))))
      (Scalar.cmpi .ne (Scalar.remsi (widOf i) 4#32) 0#32))
    (Scalar.subi (Scalar.divsi (widOf i) 4#32) 1#32) (Scalar.divsi (widOf i) 4#32)

/-- The first row of a step, counted through all batch entries. -/
def rowBase (i : grid1.Coords) (t : Fin k1_t1_loop.trips) : BitVec 32 :=
  Scalar.addi (Scalar.muli (widOf i) 256#32) (Scalar.muli (Scf.iv 0#32 1#32 t) 32#32)

/-- The number of a row's node within its batch entry. -/
def nodeAt (i : grid1.Coords) (t : Fin k1_t1_loop.trips) (r : Fin k1_t2_loop.trips) : BitVec 32 := nodeOf (batchOf i) (rowBase i t) r

/-- One word of the table on every lane. -/
def spread (tab : Vec F S16384 .f32) (o : ℕ) : FVec F S16 .f32 := k1_pay330 (words tab o)

/-- What a row writes to each of the 26 planes, from the 32 lowest candidates. -/
def rowVal (tab : Vec F S16384 .f32) (nd : BitVec 32) (m : KV F × KV F) (p : ℕ) : FVec F S16 .f32 × FVec F S16 .f32 :=
  bif Nat.blt p 1 then (m.1.1, m.2.1)
  else bif Nat.blt p 2 then (k1_pay318 nd m.1.2, k1_pay319 nd m.2.2)
  else bif Nat.blt p 5 then (gath tab (p + 7) (k1_pay313 (F := F) m.1.2), gath tab (p + 7) (k1_pay314 m.2.2))
  else bif Nat.blt p 8 then
    (spread tab (Scalar.addi (BitVec.ofNat 32 (1024 * (p + 4))) nd).toNat, spread tab (Scalar.addi (BitVec.ofNat 32 (1024 * (p + 4))) nd).toNat)
  else bif Nat.blt p 17 then (gath tab (p - 8) (k1_pay313 (F := F) m.1.2), gath tab (p - 8) (k1_pay314 m.2.2))
  else (spread tab (Scalar.addi (BitVec.ofNat 32 (1024 * (p - 17))) nd).toNat, spread tab (Scalar.addi (BitVec.ofNat 32 (1024 * (p - 17))) nd).toNat)

/-- The row's list of neighbours written. -/
def withEi (s : RowSt F) (r : ℕ) (m : KV F × KV F) : RowSt F :=
  { s with ei := putW (n := 976) s.ei (30 * r) (k1_pay313 (F := F) m.1.2, k1_pay314 m.2.2) }

theorem low10_lo (v : Vec F S16 .i32) (l : S16.Idx) : (k1_pay313 (F := F) v l).toNat < 1024 := by
  show (_ &&& (1023#32 : BitVec 32) : BitVec 32).toNat < 1024
  rw [BitVec.toNat_and]
  exact Nat.lt_of_le_of_lt Nat.and_le_right (by decide)

theorem low10_hi (v : IVec S16 32) (l : S16.Idx) : (k1_pay314 v l).toNat < 1024 := by
  show (_ &&& (1023#32 : BitVec 32) : BitVec 32).toNat < 1024
  rw [BitVec.toNat_and]
  exact Nat.lt_of_le_of_lt Nat.and_le_right (by decide)

theorem putIdx_zero (r : Fin k1_t2_loop.trips) : k1_pay315 k1_pay2 (Scf.iv 0#32 1#32 r) = putIdx r 0 := by
  show addi (broadcast S16 (Scalar.addi _ 16#32)) k1_pay2 = addi (broadcast S16 (Scalar.addi (0#32 + _) 16#32)) k1_pay2
  rw [BitVec.zero_add]

section Parts

variable {d : Dev nD} {i : grid1.Coords} {γ : Type}
variable {a2 : Memref sig .scVector .hbm S8x1024x1024 .f32} {h2 : a2.IsWhole} {a3 : Memref sig .scVector .hbm S131072 .f32} {h3 : a3.IsWhole}
  {a4 : Memref sig .scVector .hbm S245760 .i32} {h4 : a4.IsWhole} {a5 : Memref sig .scVector .hbm S6389760 .f32} {h5 : a5.IsWhole}
  {h6 : mD2.IsWhole} {h7 : mTab.IsWhole} {h8 : mCk.IsWhole} {h9 : mCv.IsWhole} {h10 : mEi.IsWhole} {h11 : mPl.IsWhole}
  {e1 e2 e3 e4 : DmaSems sig S_}

theorem part17_spec (t : Fin k1_t1_loop.trips) (r : Fin k1_t2_loop.trips) (off : BitVec 32) (hw : k1_chk2 off) (n : ℕ) (hn : n ≤ 1024) (ho : off = BitVec.ofNat 32 n)
    (q1 q2 q3 : BitVec 32) (q4 : BitVec 1) (s : RowSt F) (st : KV F × KV F) (hst : st = lowest s.ck s.cv off 0) :
    WP d (tc i) (ts i) (k1_part17 i a2 h2 a3 h3 a4 h4 a5 h5 mD2 h6 mTab h7 mCk h8 mCv h9 mEi h10 mPl h11 e1 e2 e3 e4 lanes k1_pay1 k1_pay2 r (Scf.iv 0#32 1#32 r) (nodeAt i t r) off hw st.1.1 st.1.2 st.2.1 st.2.2 q1 q2 q3 q4) s
      (fun a s' => ∃ m, m = lowest s.ck s.cv off ((n + 15) / 16 - 2) ∧ s' = midP (withEi s r m) r (rowVal s.tab (nodeAt i t r) m) 1
        ∧ a = ⟨k1_pay313 (F := F) m.1.2, k1_pay314 m.2.2, Scalar.muli (Scf.iv 0#32 1#32 r) 30#32, (rowVal s.tab (nodeAt i t r) m 1).2,
            Scalar.addi (Scalar.addi 960#32 (Scalar.muli (Scf.iv 0#32 1#32 r) 30#32)) 16#32⟩) := by
  obtain ⟨-, ht, -, ht'⟩ := trips_all ⟨n, by omega⟩
  rw [← ho] at ht ht'
  have hr : r.val < 32 := r.isLt
  rw [k1_part17_eq_skeleton]
  unfold k1_part17_skel
  refine WP.seq (WP.loop (fun k b s' => s' = s ∧ ∃ m, m = lowest s.ck s.cv off k ∧ b = (m.1.1, m.1.2, m.2.1, m.2.2)) ⟨rfl, st, hst, rfl⟩ ?_) ?_
  · rintro k _ _ ⟨rfl, m, hm, rfl⟩
    refine (t32_step _ _ r _ _ off hw _ _ _ _ _ _ _ _ k (by have h := lt_of_lt_of_eq k.isLt ht; dsimp only at h; omega) m _).mono ?_
    rintro _ _ ⟨rfl, m', hm', rfl⟩
    exact ⟨rfl, m', by rw [hm', hm]; rfl, rfl⟩
  rintro _ _ ⟨rfl, m, hm, rfl⟩
  rename_i s
  refine WP.seq (WP.loop (fun _ b s' => s' = s ∧ b = (m.1.1, m.1.2, m.2.1, m.2.2)) ⟨rfl, rfl⟩ ?_) ?_
  · intro k
    exact absurd (lt_of_lt_of_eq k.isLt ht') (Nat.not_lt_zero _)
  rintro _ _ ⟨rfl, rfl⟩
  rename_i s
  refine WP.skipLoad (lEi d (tc i) (ts i)) fun _ => ?_
  refine WP.store (lEi d (tc i) (ts i)) ?_
  have e := write_ei s (k1_off7 r) (k1_off7_inb r) (k1_pay313 (F := F) m.1.2)
  rw [show k1_off7 r 0 = 30 * r.val by rw [k1_off7_eq]; rfl] at e
  refine (congrArg (fun x => WP d (tc i) (ts i) _ { s with ei := x } _) e).mpr ?_
  refine WP.assume (fun a x => ?_) ?_
  · obtain rfl : a = 0 := Subsingleton.elim _ _
    show (k1_pay315 k1_pay2 (Scf.iv 0#32 1#32 r) x).toNat < 976
    rw [putIdx_zero]
    exact put_fits r 0 (by decide) 976 (by omega) x
  refine WP.scatEi ?_
  have e2 : ∀ h, scat (e := .i32) (sto (n := 976) s.ei (30 * r.val) (k1_pay313 (F := F) m.1.2)) (k1_pay315 k1_pay2 (Scf.iv 0#32 1#32 r)) (k1_pay314 m.2.2) k1_pay1 h
      = putW (n := 976) s.ei (30 * r.val) (k1_pay313 (F := F) m.1.2, k1_pay314 m.2.2) := by
    rw [putIdx_zero]
    exact fun h => scat_put (e := .i32) _ r 0 (by decide) _ h
  refine (congrArg (fun x => WP d (tc i) (ts i) _ { s with ei := x } _) (e2 _)).mpr ?_
  refine WP.skipLoad (lPl d (tc i) (ts i)) fun _ => ?_
  refine WP.sto 0 (s := withEi s r m) (V := rowVal s.tab (nodeAt i t r) m) (k1_off8_eq r) rfl ?_
  refine WP.sct 0 (by decide) rfl (fun h => h) rfl ?_
  refine WP.skipLoad (lPl d (tc i) (ts i)) fun _ => ?_
  refine WP.sto 1 (k1_off9_eq r) rfl ?_
  exact WP.pure ⟨m, by rw [hm, ht], rfl, rfl⟩

/-- The column numbers of a row's lowest, in the order the program holds them. -/
abbrev lo10 (m : KV F × KV F) : IVec S16 32 := k1_pay313 (F := F) m.1.2
abbrev hi10 (m : KV F × KV F) : IVec S16 32 := k1_pay314 m.2.2

/-- A row's first word in the list of neighbours. -/
abbrev pos30 (r : Fin k1_t2_loop.trips) : BitVec 32 := Scalar.muli (Scf.iv 0#32 1#32 r) 30#32

theorem part18_spec (nd : BitVec 32) (r : Fin k1_t2_loop.trips) (m : KV F × KV F) (s : RowSt F) :
    WP d (tc i) (ts i) (k1_part18 i a2 h2 a3 h3 a4 h4 a5 h5 mD2 h6 mTab h7 mCk h8 mCv h9 mEi h10 mPl h11 e1 e2 e3 e4 k1_pay1 k1_pay2 r (lo10 m) (hi10 m) (pos30 r) (rowVal s.tab nd m 1).2 (Scalar.addi (Scalar.addi 960#32 (pos30 r)) 16#32))
      (midP s r (rowVal s.tab nd m) 1)
      (fun a s' => s' = atP s r (rowVal s.tab nd m) 4 ∧ a = ⟨(rowVal s.tab nd m 4).1, (rowVal s.tab nd m 4).2, Scalar.addi 3840#32 (pos30 r)⟩) := by
  rw [k1_part18_eq_skeleton]
  unfold k1_part18_skel
  refine WP.sct 1 (by decide) rfl (fun h => h) rfl ?_
  refine WP.gath 9 (x := lo10 m) (by decide) rfl (low10_lo _) (fun h => h) ?_
  refine WP.gath 9 (x := hi10 m) (by decide) rfl (low10_hi _) (fun h => h) ?_
  refine WP.skipLoad (lPl d (tc i) (ts i)) fun _ => ?_
  refine WP.sto 2 (k1_off10_eq r) rfl ?_
  refine WP.sct 2 (by decide) rfl (fun h => h) rfl ?_
  refine WP.gath 10 (x := lo10 m) (by decide) rfl (low10_lo _) (fun h => h) ?_
  refine WP.gath 10 (x := hi10 m) (by decide) rfl (low10_hi _) (fun h => h) ?_
  refine WP.skipLoad (lPl d (tc i) (ts i)) fun _ => ?_
  refine WP.sto 3 (k1_off11_eq r) rfl ?_
  refine WP.sct 3 (by decide) rfl (fun h => h) rfl ?_
  refine WP.gath 11 (x := lo10 m) (by decide) rfl (low10_lo _) (fun h => h) ?_
  refine WP.gath 11 (x := hi10 m) (by decide) rfl (low10_hi _) (fun h => h) ?_
  refine WP.skipLoad (lPl d (tc i) (ts i)) fun _ => ?_
  exact WP.pure ⟨rfl, rfl⟩

theorem part19_spec (t : Fin k1_t1_loop.trips) (r : Fin k1_t2_loop.trips) (m : KV F × KV F) (s : RowSt F) :
    WP d (tc i) (ts i) (k1_part19 i a2 h2 a3 h3 a4 h4 a5 h5 mD2 h6 mTab h7 mCk h8 mCv h9 mEi h10 mPl h11 e1 e2 e3 e4 k1_pay1 k1_pay2 t r (nodeAt i t r) (pos30 r) (rowVal s.tab (nodeAt i t r) m 4).1 (rowVal s.tab (nodeAt i t r) m 4).2 (Scalar.addi 3840#32 (pos30 r)))
      (atP s r (rowVal s.tab (nodeAt i t r) m) 4)
      (fun a s' => s' = midP s r (rowVal s.tab (nodeAt i t r) m) 7 ∧ ∃ h, a = ⟨(rowVal s.tab (nodeAt i t r) m 7).2, putIdx r 7, h⟩) := by
  rw [k1_part19_eq_skeleton]
  unfold k1_part19_skel
  refine WP.sto 4 (k1_off12_eq r) rfl ?_
  refine WP.sct 4 (by decide) rfl (fun h => h) rfl ?_
  refine WP.loadTab ?_
  refine WP.skipLoad (lPl d (tc i) (ts i)) fun _ => ?_
  refine WP.sto 5 (k1_off14_eq r) rfl ?_
  refine WP.sct 5 (by decide) rfl (fun h => h) rfl ?_
  refine WP.loadTab ?_
  refine WP.skipLoad (lPl d (tc i) (ts i)) fun _ => ?_
  refine WP.sto 6 (k1_off16_eq r) rfl ?_
  refine WP.sct 6 (by decide) rfl (fun h => h) rfl ?_
  refine WP.loadTab ?_
  refine WP.skipLoad (lPl d (tc i) (ts i)) fun _ => ?_
  refine WP.sto 7 (k1_off18_eq r) rfl ?_
  refine WP.assume (fun a x => ?_) ?_
  · obtain rfl : a = 0 := Subsingleton.elim _ _
    exact put_fits r 7 (by decide) 24960 (by have : r.val < 32 := r.isLt; omega) x
  exact WP.pure ⟨rfl, _, rfl⟩

theorem part20_spec (t : Fin k1_t1_loop.trips) (r : Fin k1_t2_loop.trips) (m : KV F × KV F) (s : RowSt F) (hw : k1_chk17 (putIdx r 7)) :
    WP d (tc i) (ts i) (k1_part20 i a2 h2 a3 h3 a4 h4 a5 h5 mD2 h6 mTab h7 mCk h8 mCv h9 mEi h10 mPl h11 e1 e2 e3 e4 k1_pay1 k1_pay2 r (lo10 m) (hi10 m) (pos30 r) (rowVal s.tab (nodeAt i t r) m 7).2 (putIdx r 7) hw)
      (midP s r (rowVal s.tab (nodeAt i t r) m) 7)
      (fun a s' => s' = midP s r (rowVal s.tab (nodeAt i t r) m) 10 ∧ a = ⟨(rowVal s.tab (nodeAt i t r) m 10).2, Scalar.addi (Scalar.addi 9600#32 (pos30 r)) 16#32⟩) := by
  rw [k1_part20_eq_skeleton]
  unfold k1_part20_skel
  refine WP.scatPl ?_
  refine (congrArg (fun x => WP d (tc i) (ts i) _ { s with pl := x } _) (scat_put (e := .f32) _ r 7 (by decide) _ _)).mpr ?_
  change WP d (tc i) (ts i) _ (atP s r (rowVal s.tab (nodeAt i t r) m) 8) _
  refine WP.gath 0 (x := lo10 m) (by decide) rfl (low10_lo _) (fun h => h) ?_
  refine WP.gath 0 (x := hi10 m) (by decide) rfl (low10_hi _) (fun h => h) ?_
  refine WP.skipLoad (lPl d (tc i) (ts i)) fun _ => ?_
  refine WP.sto 8 (k1_off19_eq r) rfl ?_
  refine WP.sct 8 (by decide) rfl (fun h => h) rfl ?_
  refine WP.gath 1 (x := lo10 m) (by decide) rfl (low10_lo _) (fun h => h) ?_
  refine WP.gath 1 (x := hi10 m) (by decide) rfl (low10_hi _) (fun h => h) ?_
  refine WP.skipLoad (lPl d (tc i) (ts i)) fun _ => ?_
  refine WP.sto 9 (k1_off20_eq r) rfl ?_
  refine WP.sct 9 (by decide) rfl (fun h => h) rfl ?_
  refine WP.gath 2 (x := lo10 m) (by decide) rfl (low10_lo _) (fun h => h) ?_
  refine WP.gath 2 (x := hi10 m) (by decide) rfl (low10_hi _) (fun h => h) ?_
  refine WP.skipLoad (lPl d (tc i) (ts i)) fun _ => ?_
  refine WP.sto 10 (k1_off21_eq r) rfl ?_
  exact WP.pure ⟨rfl, rfl⟩

theorem part21_spec (t : Fin k1_t1_loop.trips) (r : Fin k1_t2_loop.trips) (m : KV F × KV F) (s : RowSt F) :
    WP d (tc i) (ts i) (k1_part21 i a2 h2 a3 h3 a4 h4 a5 h5 mD2 h6 mTab h7 mCk h8 mCv h9 mEi h10 mPl h11 e1 e2 e3 e4 k1_pay1 k1_pay2 r (lo10 m) (hi10 m) (pos30 r) (rowVal s.tab (nodeAt i t r) m 10).2 (Scalar.addi (Scalar.addi 9600#32 (pos30 r)) 16#32))
      (midP s r (rowVal s.tab (nodeAt i t r) m) 10)
      (fun a s' => s' = atP s r (rowVal s.tab (nodeAt i t r) m) 13 ∧ a = ⟨(rowVal s.tab (nodeAt i t r) m 13).1, (rowVal s.tab (nodeAt i t r) m 13).2, Scalar.addi 12480#32 (pos30 r)⟩) := by
  rw [k1_part21_eq_skeleton]
  unfold k1_part21_skel
  refine WP.sct 10 (by decide) rfl (fun h => h) rfl ?_
  refine WP.gath 3 (x := lo10 m) (by decide) rfl (low10_lo _) (fun h => h) ?_
  refine WP.gath 3 (x := hi10 m) (by decide) rfl (low10_hi _) (fun h => h) ?_
  refine WP.skipLoad (lPl d (tc i) (ts i)) fun _ => ?_
  refine WP.sto 11 (k1_off22_eq r) rfl ?_
  refine WP.sct 11 (by decide) rfl (fun h => h) rfl ?_
  refine WP.gath 4 (x := lo10 m) (by decide) rfl (low10_lo _) (fun h => h) ?_
  refine WP.gath 4 (x := hi10 m) (by decide) rfl (low10_hi _) (fun h => h) ?_
  refine WP.skipLoad (lPl d (tc i) (ts i)) fun _ => ?_
  refine WP.sto 12 (k1_off23_eq r) rfl ?_
  refine WP.sct 12 (by decide) rfl (fun h => h) rfl ?_
  refine WP.gath 5 (x := lo10 m) (by decide) rfl (low10_lo _) (fun h => h) ?_
  refine WP.gath 5 (x := hi10 m) (by decide) rfl (low10_hi _) (fun h => h) ?_
  refine WP.skipLoad (lPl d (tc i) (ts i)) fun _ => ?_
  exact WP.pure ⟨rfl, rfl⟩

theorem part22_spec (t : Fin k1_t1_loop.trips) (r : Fin k1_t2_loop.trips) (m : KV F × KV F) (s : RowSt F) :
    WP d (tc i) (ts i) (k1_part22 i a2 h2 a3 h3 a4 h4 a5 h5 mD2 h6 mTab h7 mCk h8 mCv h9 mEi h10 mPl h11 e1 e2 e3 e4 k1_pay1 k1_pay2 r (lo10 m) (hi10 m) (pos30 r) (rowVal s.tab (nodeAt i t r) m 13).1 (rowVal s.tab (nodeAt i t r) m 13).2 (Scalar.addi 12480#32 (pos30 r)))
      (atP s r (rowVal s.tab (nodeAt i t r) m) 13)
      (fun a s' => s' = atP s r (rowVal s.tab (nodeAt i t r) m) 16 ∧ a = ⟨(rowVal s.tab (nodeAt i t r) m 16).1, (rowVal s.tab (nodeAt i t r) m 16).2, 15360#32⟩) := by
  rw [k1_part22_eq_skeleton]
  unfold k1_part22_skel
  refine WP.sto 13 (k1_off24_eq r) rfl ?_
  refine WP.sct 13 (by decide) rfl (fun h => h) rfl ?_
  refine WP.gath 6 (x := lo10 m) (by decide) rfl (low10_lo _) (fun h => h) ?_
  refine WP.gath 6 (x := hi10 m) (by decide) rfl (low10_hi _) (fun h => h) ?_
  refine WP.skipLoad (lPl d (tc i) (ts i)) fun _ => ?_
  refine WP.sto 14 (k1_off25_eq r) rfl ?_
  refine WP.sct 14 (by decide) rfl (fun h => h) rfl ?_
  refine WP.gath 7 (x := lo10 m) (by decide) rfl (low10_lo _) (fun h => h) ?_
  refine WP.gath 7 (x := hi10 m) (by decide) rfl (low10_hi _) (fun h => h) ?_
  refine WP.skipLoad (lPl d (tc i) (ts i)) fun _ => ?_
  refine WP.sto 15 (k1_off26_eq r) rfl ?_
  refine WP.sct 15 (by decide) rfl (fun h => h) rfl ?_
  refine WP.gath 8 (x := lo10 m) (by decide) rfl (low10_lo _) (fun h => h) ?_
  refine WP.gath 8 (x := hi10 m) (by decide) rfl (low10_hi _) (fun h => h) ?_
  exact WP.pure ⟨rfl, rfl⟩

theorem part23_spec (t : Fin k1_t1_loop.trips) (r : Fin k1_t2_loop.trips) (m : KV F × KV F) (s : RowSt F) :
    WP d (tc i) (ts i) (k1_part23 i a2 h2 a3 h3 a4 h4 a5 h5 mD2 h6 mTab h7 mCk h8 mCv h9 mEi h10 mPl h11 e1 e2 e3 e4 k1_pay1 k1_pay2 t r (nodeAt i t r) (pos30 r) (rowVal s.tab (nodeAt i t r) m 16).1 (rowVal s.tab (nodeAt i t r) m 16).2 15360#32)
      (atP s r (rowVal s.tab (nodeAt i t r) m) 16)
      (fun a s' => s' = midP s r (rowVal s.tab (nodeAt i t r) m) 19 ∧ a = ⟨(rowVal s.tab (nodeAt i t r) m 19).2, Scalar.addi (Scalar.addi 18240#32 (pos30 r)) 16#32⟩) := by
  rw [k1_part23_eq_skeleton]
  unfold k1_part23_skel
  refine WP.skipLoad (lPl d (tc i) (ts i)) fun _ => ?_
  refine WP.sto 16 (k1_off27_eq r) rfl ?_
  refine WP.sct 16 (by decide) rfl (fun h => h) rfl ?_
  refine WP.loadTab ?_
  refine WP.skipLoad (lPl d (tc i) (ts i)) fun _ => ?_
  refine WP.sto 17 (k1_off29_eq r) rfl ?_
  refine WP.sct 17 (by decide) rfl (fun h => h) rfl ?_
  refine WP.loadTab ?_
  refine WP.skipLoad (lPl d (tc i) (ts i)) fun _ => ?_
  refine WP.sto 18 (k1_off31_eq r) rfl ?_
  refine WP.sct 18 (by decide) rfl (fun h => h) rfl ?_
  refine WP.loadTab ?_
  refine WP.skipLoad (lPl d (tc i) (ts i)) fun _ => ?_
  refine WP.sto 19 (k1_off33_eq r) rfl ?_
  exact WP.pure ⟨rfl, rfl⟩

theorem part24_spec (t : Fin k1_t1_loop.trips) (r : Fin k1_t2_loop.trips) (m : KV F × KV F) (s : RowSt F) :
    WP d (tc i) (ts i) (k1_part24 i a2 h2 a3 h3 a4 h4 a5 h5 mD2 h6 mTab h7 mCk h8 mCv h9 mEi h10 mPl h11 e1 e2 e3 e4 k1_pay1 k1_pay2 t r (nodeAt i t r) (pos30 r) (rowVal s.tab (nodeAt i t r) m 19).2 (Scalar.addi (Scalar.addi 18240#32 (pos30 r)) 16#32))
      (midP s r (rowVal s.tab (nodeAt i t r) m) 19)
      (fun a s' => s' = atP s r (rowVal s.tab (nodeAt i t r) m) 23 ∧ a = Scalar.addi 6144#32 (nodeAt i t r)) := by
  rw [k1_part24_eq_skeleton]
  unfold k1_part24_skel
  refine WP.sct 19 (by decide) rfl (fun h => h) rfl ?_
  refine WP.loadTab ?_
  refine WP.skipLoad (lPl d (tc i) (ts i)) fun _ => ?_
  refine WP.sto 20 (k1_off35_eq r) rfl ?_
  refine WP.sct 20 (by decide) rfl (fun h => h) rfl ?_
  refine WP.loadTab ?_
  refine WP.skipLoad (lPl d (tc i) (ts i)) fun _ => ?_
  refine WP.sto 21 (k1_off37_eq r) rfl ?_
  refine WP.sct 21 (by decide) rfl (fun h => h) rfl ?_
  refine WP.loadTab ?_
  refine WP.skipLoad (lPl d (tc i) (ts i)) fun _ => ?_
  refine WP.sto 22 (k1_off39_eq r) rfl ?_
  refine WP.sct 22 (by decide) rfl (fun h => h) rfl ?_
  exact WP.pure ⟨rfl, rfl⟩

/-- The threshold of the row: the 30th lowest of its 64 minima. -/
def rowThr (f : Vec F S32768 .f32) (r : Fin k1_t2_loop.trips) : F .f32 :=
  let a := sortK (gmin f r 0 15)
  let b := sortK (gmin f r 1 15)
  let c := sortK (gmin f r 2 15)
  let e := sortK (gmin f r 3 15)
  let ac := minimumf (sortK (minimumf a (rev b))) (rev (sortK (maximumf c (rev e))))
  let bd := minimumf (sortK (maximumf a (rev b))) (rev (sortK (minimumf c (rev e))))
  thr (sortK (maximumf ac bd))

/-- `m` is what the row's candidates merge to. -/
def RowLow (f : Vec F S32768 .f32) (r : Fin k1_t2_loop.trips) (m : KV F × KV F) : Prop :=
  ∃ off ck cv, Kept (rowAt f r.val) (rowThr f r) 1024 off ck cv ∧ m = lowest ck cv off ((kept (rowAt f r.val) (rowThr f r) 1024 + 15) / 16 - 2)

/-- The scratch after a row. -/
def RowDone (i : grid1.Coords) (t : Fin k1_t1_loop.trips) (r : Fin k1_t2_loop.trips) (s s' : RowSt F) : Prop :=
  s'.d2 = s.d2 ∧ s'.tab = s.tab ∧ ∃ m, RowLow s.d2 r m
    ∧ s'.ei = putW (n := 976) s.ei (30 * r.val) (lo10 m, hi10 m)
    ∧ s'.pl = puts (n := 24960) r.val (rowVal s.tab (nodeAt i t r) m) s.pl 26

theorem part25_spec (t : Fin k1_t1_loop.trips) (r : Fin k1_t2_loop.trips) (s : RowSt F) :
    WP d (tc i) (ts i) (k1_part25 i a2 h2 a3 h3 a4 h4 a5 h5 mD2 h6 mTab h7 mCk h8 mCv h9 mEi h10 mPl h11 e1 e2 e3 e4 lanes k1_pay1 k1_pay2 (batchOf i) t (rowBase i t) 0#32 1#32 r) s
      (fun a s' => ∃ ck cv m, RowLow s.d2 r m ∧ s' = atP (withEi { s with ck := ck, cv := cv } r m) r (rowVal s.tab (nodeAt i t r) m) 25
        ∧ a = ⟨pos30 r, k1_pay379 (words s.tab (Scalar.addi 8192#32 (nodeAt i t r)).toNat)⟩) := by
  rw [k1_part25_eq_skeleton]
  unfold k1_part25_skel
  refine WP.seq (part5_spec _ _ r s) ?_
  rintro _ _ ⟨rfl, rfl⟩
  refine WP.seq (part6_spec _ r _) ?_
  rintro _ _ ⟨rfl, rfl⟩
  refine WP.seq (part7_spec _ r _) ?_
  rintro _ _ ⟨rfl, rfl⟩
  refine WP.seq (part8_spec _ r _) ?_
  rintro _ _ ⟨rfl, rfl⟩
  refine WP.seq (part9_spec _ r _) ?_
  rintro _ _ ⟨rfl, rfl⟩
  refine WP.seq (part10_spec _ _ r _ _ _) ?_
  rintro _ _ ⟨rfl, rfl⟩
  refine WP.seq (part11_spec _ _ _ _ _) ?_
  rintro _ _ ⟨rfl, rfl⟩
  refine WP.seq (part12_spec _ _ _ _ _) ?_
  rintro _ _ ⟨rfl, rfl⟩
  refine WP.seq (part13_spec _ _ _ _ _) ?_
  rintro _ _ ⟨rfl, rfl⟩
  rename_i s
  refine WP.seq (part14_spec r _ _ _ s) ?_
  rintro _ _ ⟨off, hw, ck, cv, rfl, hk, rfl⟩
  refine WP.seq (part15_spec off _) ?_
  rintro _ _ ⟨rfl, c, hc, rfl⟩
  refine WP.seq (part16_spec off _ c _) ?_
  rintro _ _ ⟨rfl, m0, u, w, z, y, hm0, rfl⟩
  refine WP.seq (part17_spec t r off hw (kept (rowAt s.d2 r.val) (rowThr s.d2 r) 1024) (kept_le _ _ _) hk.off_eq _ _ _ _ _ m0 (by rw [hm0, hc]; rfl)) ?_
  rintro _ _ ⟨m, hm, rfl, rfl⟩
  refine WP.seq (part18_spec (nodeAt i t r) r m (withEi { s with ck := ck, cv := cv } r m)) ?_
  rintro _ _ ⟨rfl, rfl⟩
  refine WP.seq (part19_spec t r m (withEi { s with ck := ck, cv := cv } r m)) ?_
  rintro _ _ ⟨rfl, h17, rfl⟩
  refine WP.seq (part20_spec t r m (withEi { s with ck := ck, cv := cv } r m) h17) ?_
  rintro _ _ ⟨rfl, rfl⟩
  refine WP.seq (part21_spec t r m (withEi { s with ck := ck, cv := cv } r m)) ?_
  rintro _ _ ⟨rfl, rfl⟩
  refine WP.seq (part22_spec t r m (withEi { s with ck := ck, cv := cv } r m)) ?_
  rintro _ _ ⟨rfl, rfl⟩
  refine WP.seq (part23_spec t r m (withEi { s with ck := ck, cv := cv } r m)) ?_
  rintro _ _ ⟨rfl, rfl⟩
  refine WP.seq (part24_spec t r m (withEi { s with ck := ck, cv := cv } r m)) ?_
  rintro _ _ ⟨rfl, rfl⟩
  refine WP.loadTab ?_
  refine WP.skipLoad (lPl d (tc i) (ts i)) fun _ => ?_
  refine WP.sto 23 (k1_off41_eq r) rfl ?_
  refine WP.sct 23 (by decide) rfl (fun h => h) rfl ?_
  refine WP.loadTab ?_
  refine WP.skipLoad (lPl d (tc i) (ts i)) fun _ => ?_
  refine WP.sto 24 (k1_off43_eq r) rfl ?_
  refine WP.sct 24 (by decide) rfl (fun h => h) rfl ?_
  refine WP.loadTab ?_
  exact WP.pure ⟨ck, cv, m, ⟨off, ck, cv, hk, hm⟩, rfl, rfl⟩

/-- The body of the loop over rows. -/
theorem row_spec (v6 : BitVec 32) (v14 : BitVec 32) (t : Fin k1_t1_loop.trips) (r : Fin k1_t2_loop.trips) (u : PUnit) (s : RowSt F) :
    WP d (tc i) (ts i) (k1_t2_body i a2 h2 a3 h3 a4 h4 a5 h5 mD2 h6 mTab h7 mCk h8 mCv h9 mEi h10 mPl h11 e1 e2 e3 e4 lanes k1_pay1 k1_pay2 v6 (batchOf i) t v14 (rowBase i t) r u) s
      (fun _ s' => RowDone i t r s s') := by
  unfold k1_t2_body
  refine WP.seq (part25_spec t r s) ?_
  rintro _ _ ⟨ck, cv, m, hm, rfl, rfl⟩
  refine WP.skipLoad (lPl d (tc i) (ts i)) fun _ => ?_
  refine WP.sto 25 (k1_off45_eq r) rfl ?_
  refine WP.sct 25 (by decide) rfl (fun h => h) rfl ?_
  exact WP.pure ⟨rfl, rfl, m, hm, rfl, rfl⟩

end Parts

end Cert.Proof.Knn

end
-- ==== Proof.Dma.lean ====
/-
  Copies of a tile in counted batches. `TW P p Φ` says that from the resources `P` the tile program `p` ends with a value
  `a` and the resources `Φ a`. A `Copies` is a family of `n` equal copies put on one semaphore: where each reads and
  writes, and what each leaves. `Iss C sm j X`: the first `j` of them are issued and the windows of the rest are held;
  `Wt C sm m X`: all are issued and `m` of the `n` waits are done. The last wait hands every window back, written.
-/
module

public import proofs.«01_k».proof.Proof.Row

@[expose] public section

set_option maxRecDepth 8192

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

/-- The resources of the run. -/
abbrev Res (G : FTy → Type) := sProp (MT nD τ sig (HIx 1) (Elt G) ℕ UU ℕ)

/-- The transfers' counters in the ghost state. -/
abbrev EC : UEmb Counters 𝕄 := countersEmb

variable {d : Dev nD} {sc' : Fin τ.nSC} {j : Fin τ.nSub}

/-! ## Programs over resources -/

section TW

variable [FloatOps F] {α β : Type}

/-- From the resources `P` the program `p` ends with a value `a` and the resources `Φ a`. -/
def TW (d : Dev nD) (P : sProp 𝕄) (p : TileProg F sc' j α) (Φ : α → sProp 𝕄) : Prop :=
  P ⊢ wp frame (wpE (defs₀ (F := F)) 𝒱₀ (V d sc' j) none) Set.univ p Φ

theorem TW.ret {P : sProp 𝕄} {a : α} {Φ : α → sProp 𝕄} (h : P ⊢ Φ a) : TW (sc' := sc') (j := j) d P (Pure.pure a) Φ :=
  BIBase.Entails.trans h (le_wp_ret _ _ _ _ _)

theorem TW.pre {P P' : sProp 𝕄} {p : TileProg F sc' j α} {Φ : α → sProp 𝕄} (h : P ⊢ P') (hp : TW d P' p Φ) : TW d P p Φ :=
  BIBase.Entails.trans h hp

theorem TW.post {P : sProp 𝕄} {p : TileProg F sc' j α} {Φ Ψ : α → sProp 𝕄} (hp : TW d P p Φ) (h : ∀ a, Φ a ⊢ Ψ a) : TW d P p Ψ :=
  BIBase.Entails.trans hp (wp_mono _ _ _ h)

theorem TW.seq {P : sProp 𝕄} {p : TileProg F sc' j α} {k : α → TileProg F sc' j β} {Φ : α → sProp 𝕄} {Ψ : β → sProp 𝕄}
    (hp : TW d P p Φ) (hk : ∀ a, TW d (Φ a) (k a) Ψ) : TW d P (p >>= k) Ψ := by
  unfold TW
  rw [wp_bind]
  exact BIBase.Entails.trans hp (wp_mono _ _ _ hk)

theorem TW.seq' {P : sProp 𝕄} {p : TileProg F sc' j α} {k : α → TileProg F sc' j β} {v : α} {R : sProp 𝕄} {Ψ : β → sProp 𝕄}
    (hp : TW d P p (fun a => iprop(⌜a = v⌝ ∗ R))) (hk : TW d R (k v) Ψ) : TW d P (p >>= k) Ψ := by
  refine hp.seq fun a => ?_
  unfold TW at hk ⊢
  iintro ⟨%h, H⟩
  subst h
  iapply hk $$ H

theorem TW.seq1 {P : sProp 𝕄} {p : TileProg F sc' j PUnit} {k : PUnit → TileProg F sc' j β} {R : sProp 𝕄} {Ψ : β → sProp 𝕄}
    (hp : TW d P p (fun _ => R)) (hk : TW d R (k ⟨⟩) Ψ) : TW d P (p >>= k) Ψ :=
  hp.seq fun _ => hk

theorem TW.upd {P P' : sProp 𝕄} {p : TileProg F sc' j α} {Φ : α → sProp 𝕄} (h : P ⊢ |={Set.univ}=> P') (hp : TW d P' p Φ) : TW d P p Φ := by
  unfold TW at hp ⊢
  iintro H
  imod h $$ H with H
  iapply hp $$ H

theorem TW.ex {ι : Type} {P : ι → sProp 𝕄} {p : TileProg F sc' j α} {Φ : α → sProp 𝕄} (h : ∀ x, TW d (P x) p Φ) :
    TW d iprop(∃ x, P x) p Φ := by
  unfold TW
  iintro ⟨%x, H⟩
  have h1 := h x
  unfold TW at h1
  iapply h1 $$ H

theorem TW.fact {φ : Prop} {P : sProp 𝕄} {p : TileProg F sc' j α} {Φ : α → sProp 𝕄} (h : φ → TW d P p Φ) :
    TW d iprop(⌜φ⌝ ∗ P) p Φ := by
  unfold TW
  iintro ⟨%x, H⟩
  have h1 := h x
  unfold TW at h1
  iapply h1 $$ H

/-- A program over the scratch state, beside further resources. -/
theorem WP.tw {p : TileProg F sc' j α} {s : RowSt F} {Φ : α → RowSt F → Prop} (h : WP d sc' j p s Φ) (X : sProp 𝕄) :
    TW d iprop(own d sc' j s ∗ X) p (fun a => iprop(∃ s', ⌜Φ a s'⌝ ∗ own d sc' j s' ∗ X)) := by
  unfold TW
  have h1 := h.elim
  refine BIBase.Entails.trans (Q := iprop(wp frame (wpE (defs₀ (F := F)) 𝒱₀ (V d sc' j) none) Set.univ p
    (fun a => iprop(∃ s', ⌜Φ a s'⌝ ∗ own d sc' j s')) ∗ X)) ?_ (BIBase.Entails.trans (wp_frame_r _ _ _) (wp_mono _ _ _ fun a => ?_))
  · iintro ⟨H, HX⟩
    isplitl [H]
    · iapply h1 $$ H
    iexact HX
  iintro ⟨⟨%s', %hs, H⟩, HX⟩
  iexists s'
  isplitr
  · ipureintro; exact hs
  isplitl [H] <;> iassumption

/-- A counted loop with nothing carried, by an invariant on the trips done. -/
theorem TW.loop {w : Nat} {lp : Scf.Loop w} {hok : lp.OK} {body : Fin lp.trips → PUnit → TileProg F sc' j PUnit}
    (I : ℕ → sProp 𝕄) (hstep : ∀ (k : Fin lp.trips), TW d (I k.val) (body k ⟨⟩) (fun _ => I (k.val + 1))) :
    TW d (I 0) (Scf.Loop.for lp hok ⟨⟩ body) (fun _ => I lp.trips) := by
  unfold TW
  refine BIBase.Entails.trans ?_ (Scf.wp_for frame (wpE (defs₀ (F := F)) 𝒱₀ (V d sc' j) none) Set.univ lp.lb lp.ub lp.st hok ⟨⟩ body
    (fun k _ => I k) (fun k _ => hstep k))
  iintro H
  isplitl [H]
  · iexact H
  iintro %acc H
  iexact H

end TW

/-! ## Batches of copies -/

/-- `n` copies of one shape: where each reads (`src`, holding `fs`) and writes (`dst`, holding `fd` before and `g` after). -/
structure Copies (F : FTy → Type) (c : Thread nD τ) (n : ℕ) (sp sp' : Space) (sh : Shape) (e : EltTy) where
  src : Fin n → Memref sig c.2.kind sp sh e
  dst : Fin n → Memref sig c.2.kind sp' sh e
  N : ℕ
  q : PosShare TreeShare
  fs : ∀ t, Buf (Elt F) ((src t).view.loc c)
  fd : ∀ t, Buf (Elt F) ((dst t).view.loc c)
  g : ∀ t, Buf (Elt F) ((dst t).view.loc c)
  credit : ∀ t, (dst t).view.dmaCredit = N
  numel : 0 < sh.numel
  lands : ∀ t, ∀ x ∈ (dst t).view.set, (dst t).view.write (Elt F) (fd t) ((src t).view.read (Elt F) (fs t)) Finset.univ x = g t x

namespace Copies

variable {c : Thread nD τ} {n : ℕ} {sp sp' : Space} {sh : Shape} {e : EltTy}

/-- What copy `t` takes. -/
def res (C : Copies F c n sp sp' sh e) (t : Fin n) : sProp 𝕄 :=
  iprop(((C.src t).view.loc c ↦[(C.src t).view.set]{C.q} C.fs t) ∗ ((C.dst t).view.loc c ↦[(C.dst t).view.set]{fullShare} C.fd t))

/-- What copy `t` leaves. -/
def done (C : Copies F c n sp sp' sh e) (t : Fin n) : sProp 𝕄 :=
  iprop(((C.src t).view.loc c ↦[(C.src t).view.set]{C.q} C.fs t) ∗ ((C.dst t).view.loc c ↦[(C.dst t).view.set]{fullShare} C.g t))

instance (C : Copies F c n sp sp' sh e) (t : Fin n) : Storable (upEmb : UEmb _ 𝕄) (C.done t) := by
  unfold done; infer_instance

end Copies

section Rules

variable [FloatOps F] {α : Type} {n : ℕ} {sp sp' : Space} {sh : Shape} {e : EltTy}

/-- What the tile owes at the end, and that its waits are allowed. -/
def ows (c : Thread nD τ) (O : CellTallies nD τ sig (HIx 1)) (W : Waits sig (HIx 1)) : sProp 𝕄 :=
  iprop(MayWaits c (default : HIx 1) O ∗ ∃ W', ⌜∀ p ∈ W', p ∈ W ∨ p.2 = none⌝ ∗ owes c O W')

/-- The first `k` copies are issued; the windows of the others are held. -/
def Iss (C : Copies F (V d sc' j) n sp sp' sh e) (sm : DmaSem sig) (k : ℕ) (X : sProp 𝕄) : sProp 𝕄 :=
  iprop(Batch (EC (F := F)) (V d sc' j) (.dma sm) (default : HIx 1) C.N C.done k 0 ∗ bigSep (pending k) C.res ∗ X)

/-- All copies are issued and `m` waits are done. -/
def Wt (C : Copies F (V d sc' j) n sp sp' sh e) (sm : DmaSem sig) (O : CellTallies nD τ sig (HIx 1)) (W : Waits sig (HIx 1)) (m : ℕ)
    (X : sProp 𝕄) : sProp 𝕄 :=
  iprop(Batch (EC (F := F)) (V d sc' j) (.dma sm) (default : HIx 1) C.N C.done n (m * C.N) ∗ ows (V d sc' j) O W ∗ X)

variable {C : Copies F (V d sc' j) n sp sp' sh e} {sm : DmaSem sig} {O : CellTallies nD τ sig (HIx 1)} {W : Waits sig (HIx 1)}
  {X : Res F} {Φ : α → Res F}

/-- The batch begins, from the semaphore at zero. -/
theorem Iss.begin : iprop(semVal (V d sc' j, SemLoc.dma sm) 0 ∗ bigSep Finset.univ C.res ∗ X) ⊢ |={Set.univ}=> Iss C sm 0 X := by
  iintro ⟨Hv, HR, HX⟩
  imod (batch_alloc' (EC (F := F)) (c := V d sc' j) (sm := .dma sm) (default : HIx 1) C.N C.done (E := Set.univ)) $$ Hv with HB
  imodintro
  unfold Iss
  rw [pending_zero]
  isplitl [HB]; · iexact HB
  isplitl [HR] <;> iassumption

/-- The next copy is issued. -/
theorem TW.issue {k : ℕ} (hk : k < n) {hsrc : (C.src ⟨k, hk⟩).view.WordExact} {hdst : (C.dst ⟨k, hk⟩).view.WordExact}
    {hsem : DmaTarget.Typed (nD := nD) sp (.dma sm) (.here (C.dst ⟨k, hk⟩))} {p : PUnit → TileProg F sc' j α}
    (h : TW d (Iss C sm (k + 1) X) (p ⟨⟩) Φ) :
    TW d (Iss C sm k X) (Prog.lift (.enqueueDma (C.src ⟨k, hk⟩) (.here (C.dst ⟨k, hk⟩)) (.dma sm) hsrc hdst hsem) >>= p) Φ := by
  unfold TW Iss at h ⊢
  rw [Prog.bind_lift]
  have hD : iprop(((C.dst ⟨k, hk⟩).view.loc (V d sc' j) ↦[(C.dst ⟨k, hk⟩).view.set]{fullShare}
        ((C.dst ⟨k, hk⟩).view.write (Elt F) (C.fd ⟨k, hk⟩) (ReadAs.same.apply ((C.src ⟨k, hk⟩).view.read (Elt F) (C.fs ⟨k, hk⟩))) Finset.univ))
      ∗ ((C.src ⟨k, hk⟩).view.loc (V d sc' j) ↦[(C.src ⟨k, hk⟩).view.set]{C.q} C.fs ⟨k, hk⟩)) ⊢ C.done ⟨k, hk⟩ := by
    unfold Copies.done
    rw [pointsTo_congr (C.lands ⟨k, hk⟩)]
    iintro ⟨H1, H2⟩
    isplitl [H2] <;> iassumption
  have hp : bigSep (pending k) C.res = iprop(C.res ⟨k, hk⟩ ∗ bigSep (pending (k + 1)) C.res) := by
    rw [pending_succ hk, bigSep_insert (not_mem_pending_succ hk)]; rfl
  rw [hp]
  unfold Copies.res at h ⊢
  iintro ⟨HB, ⟨⟨Hs, Hd⟩, HR⟩, HX⟩
  iapply (wp_dmaBatch (EC (F := F)) 𝒱₀ (V d sc' j) none (defs := defs₀ (F := F)) (sm := .dma sm) (via := .same) (hsrc := hsrc) (hdst := hdst)
    (hsem := hsem) (k := p) (default : HIx 1) C.N (C.credit ⟨k, hk⟩) (Finset.Subset.refl _) hk (Nat.zero_le _) hD) $$ [HB Hs Hd]
  · isplitl [Hs]; · iexact Hs
    isplitl [Hd] <;> iassumption
  iintro HB
  iapply h
  isplitl [HB]; · iexact HB
  isplitl [HR] <;> iassumption

/-- Every copy is issued: the waits begin. -/
theorem Iss.waits : Iss C sm n iprop(ows (V d sc' j) O W ∗ X) ⊢ Wt C sm O W 0 X := by
  unfold Iss Wt
  rw [Nat.zero_mul]
  iintro ⟨HB, -, HO, HX⟩
  isplitl [HB]; · iexact HB
  isplitl [HO] <;> iassumption

variable {sp₁ sp₂ : Space} {sh₁ sh₂ : Shape} {e₁ e₂ : EltTy} {srcw : Memref sig .scVector sp₁ sh₁ e₁} {dstw : Memref sig .scVector sp₂ sh₂ e₂}
  {hsrc : srcw.view.WordExact} {hdst : dstw.view.WordExact} {p : PUnit → TileProg F sc' j α}

/-- A wait that is not the last. -/
theorem TW.wait {m : ℕ} (hm : m + 1 < n) (hN : dstw.view.dmaCredit = C.N) (h : TW d (Wt C sm O W (m + 1) X) (p ⟨⟩) Φ) :
    TW d (Wt C sm O W m X) (Prog.lift (.waitDma2 sm srcw dstw hsrc hdst) >>= p) Φ := by
  have h0 : 0 < C.N := by
    have := (C.dst ⟨0, by omega⟩).view.dmaCredit_pos C.numel
    rwa [C.credit] at this
  have hu : m * C.N + C.N < C.N * n := by
    rw [Nat.mul_comm C.N n, ← Nat.succ_mul]; exact Nat.mul_lt_mul_of_pos_right hm h0
  unfold TW Wt ows at h ⊢
  rw [Prog.bind_lift]
  rw [Nat.succ_mul] at h
  iintro ⟨HB, ⟨#Hmw, %W', %hW, HO⟩, HX⟩
  ihave HM := (MayWaits.elim (c := V d sc' j) (ι := (default : HIx 1)) (O := O) (SemLoc.dma sm)) $$ Hmw
  iapply (wp_waitBatchO (EC (F := F)) 𝒱₀ (V d sc' j) none (defs := defs₀ (F := F)) (sem := sm) (hsrc := hsrc) (hdst := hdst) (k := p) (default : HIx 1) hN
    (D := C.done) hu) $$ [HB HO HM]
  · isplitl [HB]; · iexact HB
    isplitl [HO] <;> iassumption
  iintro ⟨HB, HO⟩
  iapply h
  isplitl [HB]; · iexact HB
  isplitl [HO]
  · isplitr; · iexact Hmw
    iexists _
    isplitr
    swap; · iexact HO
    ipureintro
    intro x hx
    rcases Finset.mem_insert.mp hx with rfl | hx
    · exact Or.inr rfl
    · exact hW x hx
  iexact HX

/-- The last wait: every copy has landed. -/
theorem TW.waitLast {m : ℕ} (hm : m + 1 = n) (hN : dstw.view.dmaCredit = C.N)
    (h : TW d iprop(bigSep Finset.univ C.done ∗ semVal (V d sc' j, SemLoc.dma sm) 0 ∗ ows (V d sc' j) O W ∗ X) (p ⟨⟩) Φ) :
    TW d (Wt C sm O W m X) (Prog.lift (.waitDma2 sm srcw dstw hsrc hdst) >>= p) Φ := by
  have h0 : 0 < C.N := by
    have := (C.dst ⟨0, by omega⟩).view.dmaCredit_pos C.numel
    rwa [C.credit] at this
  have hu : m * C.N + C.N = C.N * n := by
    rw [Nat.mul_comm C.N n, ← Nat.succ_mul]; exact congrArg (· * C.N) hm
  unfold TW Wt ows at *
  rw [Prog.bind_lift]
  iintro ⟨HB, ⟨#Hmw, %W', %hW, HO⟩, HX⟩
  ihave HM := (MayWaits.elim (c := V d sc' j) (ι := (default : HIx 1)) (O := O) (SemLoc.dma sm)) $$ Hmw
  iapply (wp_waitBatchLastO (EC (F := F)) 𝒱₀ (V d sc' j) none (defs := defs₀ (F := F)) (sem := sm) (hsrc := hsrc) (hdst := hdst) (k := p) (default : HIx 1) hN h0
    (D := C.done) hu) $$ [HB HO HM]
  · isplitl [HB]; · iexact HB
    isplitl [HO] <;> iassumption
  iintro ⟨HD, Hv, HO⟩
  iapply h
  isplitl [HD]; · iexact HD
  isplitl [Hv]; · iexact Hv
  isplitl [HO]
  · isplitr; · iexact Hmw
    iexists _
    isplitr
    swap; · iexact HO
    ipureintro
    intro x hx
    rcases Finset.mem_insert.mp hx with rfl | hx
    · exact Or.inr rfl
    · exact hW x hx
  iexact HX

end Rules

/-! ## Windows of an array -/

section Carve

variable {ℓ : Loc nD τ sig} {n : ℕ} {q : PosShare TreeShare}

/-- Disjoint windows of a set taken out of it. -/
theorem carve (S : Finset (Idx ℓ)) (K : Fin n → Finset (Idx ℓ)) (hd : ∀ t t', t ≠ t' → Disjoint (K t) (K t')) (hS : ∀ t, K t ⊆ S)
    (f : Buf (Elt F) ℓ) :
    (ℓ ↦[S]{q} f : sProp 𝕄) ⊢ iprop(bigSep Finset.univ (fun t => (ℓ ↦[K t]{q} f)) ∗ (ℓ ↦[S \ Finset.univ.biUnion K]{q} f)) := by
  rw [← pointsTo_biUnion Finset.univ K (fun t _ t' _ h => hd t t' h)]
  exact (pointsTo_split_subset (Finset.biUnion_subset.mpr fun t _ => hS t)).1

/-- Disjoint windows put back, holding `g` now. -/
theorem uncarve (S : Finset (Idx ℓ)) (K : Fin n → Finset (Idx ℓ)) (hd : ∀ t t', t ≠ t' → Disjoint (K t) (K t')) (hS : ∀ t, K t ⊆ S)
    (f g : Buf (Elt F) ℓ) :
    iprop(bigSep Finset.univ (fun t => (ℓ ↦[K t]{q} g)) ∗ (ℓ ↦[S \ Finset.univ.biUnion K]{q} f))
      ⊢ (ℓ ↦[S]{q} ((Finset.univ.biUnion K).piecewise g f) : sProp 𝕄) := by
  rw [← pointsTo_biUnion Finset.univ K (fun t _ t' _ h => hd t t' h)]
  exact pointsTo_join_subset (Finset.biUnion_subset.mpr fun t _ => hS t)

end Carve

end Cert.Proof.Knn

end
-- ==== Proof.Win.lean ====
/-
  The windows of a tile's copies. In the sub-chunk `t` of its eight, a tile reads 32 rows of 1024 distances of its batch
  entry into its buffer, and writes a block of 960 words into the array of indices and one such block into each of the 26
  planes. The sets of these windows, the copies as `Copies`, and what each leaves.
-/
module

public import proofs.«01_k».proof.Proof.Dma

@[expose] public section

set_option maxRecDepth 8192

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

/-! ## The arrays and the places in them -/

abbrev m2 : Memref sig .scVector .hbm S8x1024x1024 .f32 := Memref.whole main_v1_0_scv
abbrev m3 : Memref sig .scVector .hbm S131072 .f32 := Memref.whole main_v2_scv
abbrev m4 : Memref sig .scVector .hbm S245760 .i32 := Memref.whole main_v3_0_scv
abbrev m5 : Memref sig .scVector .hbm S6389760 .f32 := Memref.whole main_v3_1_scv

/-- The number of a tile, of the batch entry it works for, of the first row of its sub-chunk `t` within the entry, and of
    the block of 960 words this sub-chunk writes. -/
def wid (i : grid1.Coords) : ℕ := 2 * (i 1).val + (i 0).val
def bat (i : grid1.Coords) : ℕ := wid i / 4
def row0 (i : grid1.Coords) (t : ℕ) : ℕ := wid i % 4 * 256 + 32 * t
def blk (i : grid1.Coords) (t : ℕ) : ℕ := 8 * wid i + t

theorem wid_lt (i : grid1.Coords) : wid i < 32 := by
  have h0 : (i 0).val < 2 := (i 0).isLt
  have h1 : (i 1).val < 16 := (i 1).isLt
  unfold wid; omega

/-- The place `(b, n, c)` of the array of distances. -/
def at3 (b n c : ℕ) : S8x1024x1024.Idx := fun a => match a with
  | ⟨0, _⟩ => ⟨b % 8, Nat.mod_lt _ (by decide)⟩
  | ⟨1, _⟩ => ⟨n % 1024, Nat.mod_lt _ (by decide)⟩
  | ⟨2, _⟩ => ⟨c % 1024, Nat.mod_lt _ (by decide)⟩

/-- The 32 rows of the sub-chunk `t`. -/
def rowsOf (x2 : Vec F S8x1024x1024 .f32) (i : grid1.Coords) (t : ℕ) : Vec F S32768 .f32 :=
  fun x => x2 (at3 (bat i) (row0 i t + (x 0).val / 1024) ((x 0).val % 1024))

/-- The table of the tile's batch entry. -/
def tabOf (x3 : Vec F S131072 .f32) (i : grid1.Coords) : Vec F S16384 .f32 := fun x => x3 (cell 131072 (16384 * bat i + (x 0).val))

/-- The staged planes, as they lie in the array of planes; the staged indices, as they lie in the array of indices. -/
def spl (pl : Vec F S24960 .f32) : Vec F S6389760 .f32 := fun x => pl (cell 24960 (960 * ((x 0).val / 245760) + (x 0).val % 960))
def sei (ei : Vec F S976 .i32) : Vec F S245760 .i32 := fun x => ei (cell 976 ((x 0).val % 960))

theorem off1_eq : ∀ i : grid1.Coords, k1_off1 i = ![16384 * bat i] := by decide +kernel
theorem off2_eq : ∀ (i : grid1.Coords) (t : Fin k1_t1_loop.trips) (r : Fin 32),
    k1_off2 i t (BitVec.ofNat 32 r.val) = ![bat i, row0 i t.val + r.val, 0] := by decide +kernel
theorem off46_eq (i : grid1.Coords) (t : Fin k1_t1_loop.trips) (p : Fin 26) :
    k1_off46 i t (BitVec.ofNat 32 (245760 * p.val)) = ![245760 * p.val + 960 * blk i t.val] := by
  rw [k1_off46_eq]
  unfold blk wid
  congr 1; omega
theorem off47_eq (i : grid1.Coords) (t : Fin k1_t1_loop.trips) : k1_off47 i t = ![960 * blk i t.val] := by
  rw [k1_off47_eq]
  unfold blk wid
  congr 1; omega

theorem t1_lt (t : Fin k1_t1_loop.trips) : t.val < 8 := lt_of_lt_of_le t.isLt k1_t1_abs.2.1

theorem blk_lt (i : grid1.Coords) (t : Fin k1_t1_loop.trips) : blk i t.val < 256 := by
  have := wid_lt i; have := t1_lt t; unfold blk; omega
theorem bat_lt (i : grid1.Coords) : bat i < 8 := by have := wid_lt i; unfold bat; omega
theorem row_lt (i : grid1.Coords) (t : Fin k1_t1_loop.trips) (r : Fin 32) : row0 i t.val + r.val < 1024 := by
  have := wid_lt i; have := t1_lt t; unfold row0; omega

/-! ## The copies -/

variable (d : Dev nD) (i : grid1.Coords) (t : Fin k1_t1_loop.trips)

theorem inb_row (r : Fin 32) : ∀ a, (![1024 * r.val] : Fin 1 → ℕ) a + S1024.size a ≤ S32768.size a := by
  intro a; fin_cases a; show 1024 * r.val + 1024 ≤ 32768; omega
theorem inb_plane (p : Fin 26) : ∀ a, (![960 * p.val] : Fin 1 → ℕ) a + S960.size a ≤ S24960.size a := by
  intro a; fin_cases a; show 960 * p.val + 960 ≤ 24960; omega

abbrev srcIn (r : Fin 32) : Memref sig .scVector .hbm S1024 .f32 :=
  (m2.slice (Rect.unit (s := S8x1024x1024) (k1_off2 i t (BitVec.ofNat 32 r.val)) S1x1x1024.size (k1_off2_inb i t r)) (fun _ => rfl)).squeeze S1024
    squeezes_S1x1x1024_S1024
abbrev dstIn (r : Fin 32) : Memref sig .scVector .vmem S1024 .f32 :=
  mD2.slice (Rect.unit (s := S32768) ![1024 * r.val] S1024.size (inb_row r)) (fun _ => rfl)
abbrev srcOut (p : Fin 26) : Memref sig .scVector .vmem S960 .f32 :=
  mPl.slice (Rect.unit (s := S24960) ![960 * p.val] S960.size (inb_plane p)) (fun _ => rfl)
abbrev dstOut (p : Fin 26) : Memref sig .scVector .hbm S960 .f32 :=
  m5.slice (Rect.unit (s := S6389760) (k1_off46 i t (BitVec.ofNat 32 (245760 * p.val))) S960.size (k1_off46_inb i t p)) (fun _ => rfl)
abbrev srcEi : Memref sig .scVector .vmem S960 .i32 := mEi.slice (Rect.unit (s := S976) ![0] S960.size inb_S976_S960_0) (fun _ => rfl)
abbrev dstEi : Memref sig .scVector .hbm S960 .i32 := m4.slice (Rect.unit (s := S245760) (k1_off47 i t) S960.size (k1_off47_inb i t)) (fun _ => rfl)
abbrev srcTab : Memref sig .scVector .hbm S16384 .f32 := m3.slice (Rect.unit (s := S131072) (k1_off1 i) S16384.size (k1_off1_inb i)) (fun _ => rfl)

theorem mem_dstIn (r : Fin 32) (x : S32768.Idx) : x ∈ (dstIn r).view.set ↔ (x 0).val / 1024 = r.val := by
  refine Iff.trans (iff_of_eq (congrArg (x ∈ ·) (View.set_slice_whole cc1_scratch0 _))) (Iff.trans Rect.mem_set_unit ?_)
  have hx : (x 0).val < 32768 := (x 0).isLt
  constructor
  · intro h; have h0 := h 0
    simp only [Matrix.cons_val_zero] at h0
    change 1024 * r.val ≤ (x 0).val ∧ (x 0).val < 1024 * r.val + 1024 at h0
    omega
  · intro h a; obtain rfl : a = (0 : Fin 1) := Subsingleton.elim (α := Fin 1) _ _
    change 1024 * r.val ≤ (x 0).val ∧ (x 0).val < 1024 * r.val + 1024
    omega

theorem mem_srcOut (p : Fin 26) (x : S24960.Idx) : x ∈ (srcOut p).view.set ↔ (x 0).val / 960 = p.val := by
  refine Iff.trans (iff_of_eq (congrArg (x ∈ ·) (View.set_slice_whole cc1_scratch5 _))) (Iff.trans Rect.mem_set_unit ?_)
  have hx : (x 0).val < 24960 := (x 0).isLt
  constructor
  · intro h; have h0 := h 0
    change 960 * p.val ≤ (x 0).val ∧ (x 0).val < 960 * p.val + 960 at h0
    omega
  · intro h a; obtain rfl : a = (0 : Fin 1) := Subsingleton.elim (α := Fin 1) _ _
    change 960 * p.val ≤ (x 0).val ∧ (x 0).val < 960 * p.val + 960
    omega

theorem mem_dstOut (p : Fin 26) (x : S6389760.Idx) :
    x ∈ (dstOut i t p).view.set ↔ (x 0).val / 245760 = p.val ∧ (x 0).val % 245760 / 960 = blk i t.val := by
  refine Iff.trans (iff_of_eq (congrArg (x ∈ ·) (View.set_slice_whole main_v3_1_scv _))) (Iff.trans Rect.mem_set_unit ?_)
  rw [off46_eq]
  have hx : (x 0).val < 6389760 := (x 0).isLt
  have hb := blk_lt i t
  constructor
  · intro h; have h0 := h 0
    change 245760 * p.val + 960 * blk i t.val ≤ (x 0).val ∧ (x 0).val < 245760 * p.val + 960 * blk i t.val + 960 at h0
    omega
  · intro h a; obtain rfl : a = (0 : Fin 1) := Subsingleton.elim (α := Fin 1) _ _
    change 245760 * p.val + 960 * blk i t.val ≤ (x 0).val ∧ (x 0).val < 245760 * p.val + 960 * blk i t.val + 960
    omega

theorem mem_dstEi (x : S245760.Idx) : x ∈ (dstEi i t).view.set ↔ (x 0).val / 960 = blk i t.val := by
  refine Iff.trans (iff_of_eq (congrArg (x ∈ ·) (View.set_slice_whole main_v3_0_scv _))) (Iff.trans Rect.mem_set_unit ?_)
  rw [off47_eq]
  constructor
  · intro h; have h0 := h 0
    change 960 * blk i t.val ≤ (x 0).val ∧ (x 0).val < 960 * blk i t.val + 960 at h0
    omega
  · intro h a; obtain rfl : a = (0 : Fin 1) := Subsingleton.elim (α := Fin 1) _ _
    change 960 * blk i t.val ≤ (x 0).val ∧ (x 0).val < 960 * blk i t.val + 960
    omega

theorem mem_srcIn (r : Fin 32) (x : S8x1024x1024.Idx) :
    x ∈ (srcIn i t r).view.set ↔ (x 0).val = bat i ∧ (x 1).val = row0 i t.val + r.val := by
  refine Iff.trans (iff_of_eq (congrArg (x ∈ ·) ((View.set_reshape _ _).trans (View.set_slice_whole main_v1_0_scv _)))) (Iff.trans Rect.mem_set_unit ?_)
  rw [off2_eq]
  constructor
  · intro h; have h0 := h 0; have h1 := h 1
    change bat i ≤ (x 0).val ∧ (x 0).val < bat i + 1 at h0
    change row0 i t.val + r.val ≤ (x 1).val ∧ (x 1).val < row0 i t.val + r.val + 1 at h1
    omega
  · intro h a
    have h2 : (x 2).val < 1024 := (x 2).isLt
    fin_cases a
    · change bat i ≤ (x 0).val ∧ (x 0).val < bat i + 1; omega
    · change row0 i t.val + r.val ≤ (x 1).val ∧ (x 1).val < row0 i t.val + r.val + 1; omega
    · change 0 ≤ (x 2).val ∧ (x 2).val < 0 + 1024; omega

/-- A copy into a window, of which every read place agrees with a contents, leaves that contents on the window. -/
theorem lands_of {sp sp' : Space} {sh : Shape} {e : EltTy} {src : Memref sig .scVector sp sh e} {dst : Memref sig .scVector sp' sh e}
    {c : Thread nD τ} (fs : src.view.ty.Contents (Elt F)) (fd g : dst.view.ty.Contents (Elt F))
    (h : ∀ y, _root_.cast (congrArg (Elt F) src.view.elt_eq) (fs (src.view.emb y)) = _root_.cast (congrArg (Elt F) dst.view.elt_eq) (g (dst.view.emb y))) :
    ∀ x ∈ dst.view.set, dst.view.write (Elt F) fd (src.view.read (Elt F) fs) Finset.univ x = g x := by
  intro x hx
  obtain ⟨y, -, rfl⟩ := Finset.mem_map.mp hx
  rw [View.write_emb_of_mem _ _ (Finset.mem_univ y), View.read_apply, h y, cast_cast, cast_eq]

theorem emb_srcIn (r : Fin 32) (y : S1024.Idx) : (srcIn i t r).view.emb y = at3 (bat i) (row0 i t.val + r.val) (y 0).val := by
  have hr := row_lt i t r
  have hb := bat_lt i
  have hy : (y 0).val < 1024 := (y 0).isLt
  show (Rect.unit (s := S8x1024x1024) (k1_off2 i t (BitVec.ofNat 32 r.val)) S1x1x1024.size (k1_off2_inb i t r)).emb
    (Shape.reshapeEquiv _ y) = _
  have hre : Shape.reshapeEquiv (s := S1x1x1024) (s' := S1024) squeezes_S1x1x1024_S1024.numel_eq y = Fin.cons ⟨0, Nat.one_pos⟩ (Fin.cons ⟨0, Nat.one_pos⟩ y) :=
    Shape.reshapeEquiv_eq_of_rowMajor _ (by
      show ((Shape.rowMajorPi (Matrix.vecCons 1 (Matrix.vecCons 1 ![1024])) (Fin.cons ⟨0, Nat.one_pos⟩ (Fin.cons ⟨0, Nat.one_pos⟩ y)) : Fin _) : Nat)
        = (Shape.rowMajorPi ![1024] y : Nat)
      rw [Shape.rowMajorPi_succ_val]
      show 0 * _ + ((Shape.rowMajorPi (Matrix.vecCons 1 ![1024]) (Fin.cons ⟨0, Nat.one_pos⟩ y) : Fin _) : Nat) = _
      rw [Nat.zero_mul, Nat.zero_add, Shape.rowMajorPi_succ_val]
      show 0 * _ + (Shape.rowMajorPi ![1024] y : Nat) = _
      rw [Nat.zero_mul, Nat.zero_add])
  refine (congrArg _ hre).trans ?_
  have ho := off2_eq i t r
  funext a
  apply Fin.ext
  fin_cases a
  · show k1_off2 i t (BitVec.ofNat 32 r.val) 0 + 1 * 0 = bat i % 8
    rw [ho]; show bat i + 1 * 0 = _; omega
  · show k1_off2 i t (BitVec.ofNat 32 r.val) 1 + 1 * 0 = (row0 i t.val + r.val) % 1024
    rw [ho]; show row0 i t.val + r.val + 1 * 0 = _; omega
  · show k1_off2 i t (BitVec.ofNat 32 r.val) 2 + 1 * (y 0).val = (y 0).val % 1024
    rw [ho]; show 0 + 1 * (y 0).val = _; omega

variable [FloatOps F]

/-- The 32 rows of distances fetched. -/
def inC (q : PosShare TreeShare) (x2 : Vec F S8x1024x1024 .f32) (f0 : Vec F S32768 .f32) :
    Copies F (V d (tc i) (ts i)) 32 .hbm .vmem S1024 .f32 where
  src := srcIn i t
  dst := dstIn
  N := (dstIn 0).view.dmaCredit
  q := q
  fs := fun _ => x2
  fd := fun _ => f0
  g := fun _ => rowsOf x2 i t.val
  credit := fun _ => rfl
  numel := by decide
  lands := fun r => lands_of (c := V d (tc i) (ts i)) (src := srcIn i t r) (dst := dstIn r) x2 f0 (rowsOf x2 i t.val) fun y => by
    have hy : (y 0).val < 1024 := (y 0).isLt
    show x2 ((srcIn i t r).view.emb y) = rowsOf x2 i t.val ((dstIn r).view.emb y)
    rw [emb_srcIn]
    unfold rowsOf
    have hv : ((dstIn r).view.emb y 0).val = 1024 * r.val + (y 0).val := by
      show 1024 * r.val + 1 * (y 0).val = _; omega
    rw [hv]
    congr 2 <;> omega

/-- The 26 blocks of the planes written. -/
def outC (pl : Vec F S24960 .f32) (fp : Vec F S6389760 .f32) : Copies F (V d (tc i) (ts i)) 26 .vmem .hbm S960 .f32 where
  src := srcOut
  dst := dstOut i t
  N := (dstOut i t 0).view.dmaCredit
  q := fullShare
  fs := fun _ => pl
  fd := fun _ => fp
  g := fun _ => spl pl
  credit := fun _ => rfl
  numel := by decide
  lands := fun p => lands_of (c := V d (tc i) (ts i)) (src := srcOut p) (dst := dstOut i t p) pl fp (spl pl) fun y => by
    have hy : (y 0).val < 960 := (y 0).isLt
    have hb := blk_lt i t
    show pl ((srcOut p).view.emb y) = spl pl ((dstOut i t p).view.emb y)
    have hv : ((dstOut i t p).view.emb y 0).val = 245760 * p.val + 960 * blk i t.val + (y 0).val := by
      show k1_off46 i t (BitVec.ofNat 32 (245760 * p.val)) 0 + 1 * (y 0).val = _
      rw [off46_eq]; show 245760 * p.val + 960 * blk i t.val + 1 * (y 0).val = _; omega
    unfold spl
    rw [hv]
    congr 1
    refine idx1_ext ?_
    rw [cell_val (by omega)]
    show 960 * p.val + 1 * (y 0).val = _
    omega

/-- The block of indices written. -/
def eiC (ei : Vec F S976 .i32) (fe : Vec F S245760 .i32) : Copies F (V d (tc i) (ts i)) 1 .vmem .hbm S960 .i32 where
  src := fun _ => srcEi
  dst := fun _ => dstEi i t
  N := (dstEi i t).view.dmaCredit
  q := fullShare
  fs := fun _ => ei
  fd := fun _ => fe
  g := fun _ => sei ei
  credit := fun _ => rfl
  numel := by decide
  lands := fun _ => lands_of (c := V d (tc i) (ts i)) (src := srcEi) (dst := dstEi i t) ei fe (sei ei) fun y => by
    have hy : (y 0).val < 960 := (y 0).isLt
    show ei (srcEi.view.emb y) = sei ei ((dstEi i t).view.emb y)
    have hv : ((dstEi i t).view.emb y 0).val = 960 * blk i t.val + (y 0).val := by
      show k1_off47 i t 0 + 1 * (y 0).val = _
      rw [off47_eq]; show 960 * blk i t.val + 1 * (y 0).val = _; omega
    unfold sei
    rw [hv]
    congr 1
    refine idx1_ext ?_
    rw [cell_val (by omega)]
    show 0 + 1 * (y 0).val = _
    omega

/-- The table fetched. -/
def tabC (q : PosShare TreeShare) (x3 : Vec F S131072 .f32) (f0 : Vec F S16384 .f32) : Copies F (V d (tc i) (ts i)) 1 .hbm .vmem S16384 .f32 where
  src := fun _ => srcTab i
  dst := fun _ => mTab
  N := mTab.view.dmaCredit
  q := q
  fs := fun _ => x3
  fd := fun _ => f0
  g := fun _ => tabOf x3 i
  credit := fun _ => rfl
  numel := by decide
  lands := fun _ => lands_of (c := V d (tc i) (ts i)) (src := srcTab i) (dst := mTab) x3 f0 (tabOf x3 i) fun y => by
    have hy : (y 0).val < 16384 := (y 0).isLt
    have hb := bat_lt i
    show x3 ((srcTab i).view.emb y) = tabOf x3 i y
    unfold tabOf
    congr 1
    refine idx1_ext ?_
    rw [cell_val (by omega)]
    show k1_off1 i 0 + 1 * (y 0).val = _
    rw [off1_eq]; show 16384 * bat i + 1 * (y 0).val = _; omega

end Cert.Proof.Knn

end
-- ==== Proof.Rows.lean ====
/-
  The loop over the 32 rows of a sub-chunk, and what a sub-chunk leaves in the two result arrays. `Staged i t x tab r ei pl`:
  the staging buffers hold the 30 words of row `r` in every plane. `RowOut`: the result arrays hold them.
-/
module

public import proofs.«01_k».proof.Proof.Win

@[expose] public section

set_option maxRecDepth 8192

noncomputable section

namespace Cert.Proof.Knn

open Cert.KernelIdeal Cert.KernelIdeal.Gen

open Idealize.ShloMosaic Idealize.SL.Sem

variable {F : FTy → Type} [FloatOps F]

theorem r_lt (r : Fin k1_t2_loop.trips) : r.val < 32 := lt_of_lt_of_le r.isLt k1_t2_abs.2.1

/-- The staging buffers hold row `r`'s words: the 30 indices and, in each of the 26 planes, 30 values, of the 32 lowest pairs
    of the row of distances. -/
def Staged (i : grid1.Coords) (t : Fin k1_t1_loop.trips) (x : Vec F S32768 .f32) (tab : Vec F S16384 .f32) (r : Fin k1_t2_loop.trips)
    (ei : Vec F S976 .i32) (pl : Vec F S24960 .f32) : Prop :=
  ∃ m, RowLow x r m
    ∧ (∀ k < 30, ei (cell 976 (30 * r.val + k)) = word30 (lo10 m, hi10 m) k)
    ∧ ∀ p < 26, ∀ k < 30, pl (cell 24960 (960 * p + 30 * r.val + k)) = word30 (rowVal tab (nodeAt i t r) m p) k

/-- The result arrays hold row `r` of the sub-chunk `t` of tile `i`. -/
def RowOut (x2 : Vec F S8x1024x1024 .f32) (x3 : Vec F S131072 .f32) (i : grid1.Coords) (t : Fin k1_t1_loop.trips) (r : Fin k1_t2_loop.trips)
    (fe : Vec F S245760 .i32) (fp : Vec F S6389760 .f32) : Prop :=
  ∃ m, RowLow (rowsOf x2 i t.val) r m
    ∧ (∀ k < 30, fe (cell 245760 (960 * blk i t.val + 30 * r.val + k)) = word30 (lo10 m, hi10 m) k)
    ∧ ∀ p < 26, ∀ k < 30, fp (cell 6389760 (245760 * p + 960 * blk i t.val + 30 * r.val + k))
        = word30 (rowVal (tabOf x3 i) (nodeAt i t r) m p) k

theorem staged_keep {i : grid1.Coords} {t : Fin k1_t1_loop.trips} {x : Vec F S32768 .f32} {tab : Vec F S16384 .f32} {r r' : Fin k1_t2_loop.trips}
    {ei ei' : Vec F S976 .i32} {pl pl' : Vec F S24960 .f32} {w : (S16.Idx → BitVec 32) × (S16.Idx → BitVec 32)}
    {V : ℕ → (S16.Idx → F .f32) × (S16.Idx → F .f32)}
    (h : Staged i t x tab r ei pl) (hne : r.val ≠ r'.val) (he : ei' = putW (n := 976) ei (30 * r'.val) w)
    (hp : pl' = puts (n := 24960) r'.val V pl 26) : Staged i t x tab r ei' pl' := by
  obtain ⟨m, hm, h1, h2⟩ := h
  have hr := r_lt r
  have hr' := r_lt r'
  subst he hp
  refine ⟨m, hm, fun k hk => ?_, fun p hp k hk => ?_⟩
  · rw [← h1 k hk, putW_apply, cell_val (by omega), if_neg (by omega)]
  · rw [← h2 p hp k hk, puts_apply _ _ _ _ _ hr', cell_val (by omega), if_neg (by omega)]

theorem staged_new {i : grid1.Coords} {t : Fin k1_t1_loop.trips} {s s' : RowSt F} {r : Fin k1_t2_loop.trips} (h : RowDone i t r s s') :
    Staged i t s.d2 s.tab r s'.ei s'.pl := by
  obtain ⟨-, -, m, hm, he, hp⟩ := h
  have hr := r_lt r
  rw [he, hp]
  refine ⟨m, hm, fun k hk => ?_, fun p hp k hk => ?_⟩
  · rw [putW_apply, cell_val (by omega), if_pos (by omega)]
    congr 1; omega
  · rw [puts_apply _ _ _ _ _ hr, cell_val (by omega), if_pos (by omega)]
    have e1 : (960 * p + 30 * r.val + k) / 960 = p := by omega
    have e2 : (960 * p + 30 * r.val + k) % 30 = k := by omega
    rw [e1, e2]

variable {d : Dev nD} {i : grid1.Coords} {γ : Type}
variable {a2 : Memref sig .scVector .hbm S8x1024x1024 .f32} {h2 : a2.IsWhole} {a3 : Memref sig .scVector .hbm S131072 .f32} {h3 : a3.IsWhole}
  {a4 : Memref sig .scVector .hbm S245760 .i32} {h4 : a4.IsWhole} {a5 : Memref sig .scVector .hbm S6389760 .f32} {h5 : a5.IsWhole}
  {h6 : mD2.IsWhole} {h7 : mTab.IsWhole} {h8 : mCk.IsWhole} {h9 : mCv.IsWhole} {h10 : mEi.IsWhole} {h11 : mPl.IsWhole}
  {e1 e2 e3 e4 : DmaSems sig S_}

/-- The 32 rows: every row is staged, the distances and the table are kept. -/
theorem rows_spec (v6 v14 : BitVec 32) (t : Fin k1_t1_loop.trips) (s : RowSt F) :
    WP d (tc i) (ts i) (Scf.Loop.for k1_t2_loop k1_t2_ok ⟨⟩
        (k1_t2_body i a2 h2 a3 h3 a4 h4 a5 h5 mD2 h6 mTab h7 mCk h8 mCv h9 mEi h10 mPl h11 e1 e2 e3 e4 lanes k1_pay1 k1_pay2 v6 (batchOf i) t v14 (rowBase i t))) s
      (fun _ s' => s'.d2 = s.d2 ∧ s'.tab = s.tab ∧ ∀ r, Staged i t s.d2 s.tab r s'.ei s'.pl) := by
  refine (WP.loop (fun k _ s' => s'.d2 = s.d2 ∧ s'.tab = s.tab ∧ ∀ r : Fin k1_t2_loop.trips, r.val < k → Staged i t s.d2 s.tab r s'.ei s'.pl)
    ⟨rfl, rfl, fun r h => absurd h (Nat.not_lt_zero _)⟩ ?_).mono fun _ s' h => ⟨h.1, h.2.1, fun r => h.2.2 r r.isLt⟩
  intro k b s' ⟨hd, ht, hr⟩
  refine (row_spec v6 v14 t k b s').mono fun _ s'' h => ?_
  refine ⟨h.1.trans hd, h.2.1.trans ht, fun r hrk => ?_⟩
  rcases Nat.lt_succ_iff_lt_or_eq.mp hrk with h' | h'
  · obtain ⟨-, -, m, -, he, hp⟩ := h
    exact staged_keep (hr r h') (by omega) he hp
  · obtain rfl : r = k := Fin.ext h'
    rw [← hd, ← ht]
    exact staged_new h

/-! ## What a sub-chunk leaves in the result arrays -/

/-- The array of indices with the block of sub-chunk `t` written; the array of planes with its 26 blocks written. -/
def newE (i : grid1.Coords) (t : Fin k1_t1_loop.trips) (ei : Vec F S976 .i32) (fe : Vec F S245760 .i32) : Vec F S245760 .i32 :=
  (Finset.univ.biUnion fun _ : Fin 1 => (dstEi i t).view.set).piecewise (sei ei) fe
def newP (i : grid1.Coords) (t : Fin k1_t1_loop.trips) (pl : Vec F S24960 .f32) (fp : Vec F S6389760 .f32) : Vec F S6389760 .f32 :=
  (Finset.univ.biUnion fun p : Fin 26 => (dstOut i t p).view.set).piecewise (spl pl) fp

theorem newE_apply (i : grid1.Coords) (t : Fin k1_t1_loop.trips) (ei : Vec F S976 .i32) (fe : Vec F S245760 .i32) (x : S245760.Idx) :
    newE i t ei fe x = if (x 0).val / 960 = blk i t.val then sei ei x else fe x := by
  unfold newE
  by_cases h : (x 0).val / 960 = blk i t.val
  · rw [if_pos h]
    exact Finset.piecewise_eq_of_mem _ _ _ (Finset.mem_biUnion.mpr ⟨0, Finset.mem_univ _, (mem_dstEi i t x).mpr h⟩)
  · rw [if_neg h]
    refine Finset.piecewise_eq_of_notMem _ _ _ fun hm => ?_
    obtain ⟨_, -, hm⟩ := Finset.mem_biUnion.mp hm
    exact h ((mem_dstEi i t x).mp hm)

theorem newP_apply (i : grid1.Coords) (t : Fin k1_t1_loop.trips) (pl : Vec F S24960 .f32) (fp : Vec F S6389760 .f32) (x : S6389760.Idx) :
    newP i t pl fp x = if (x 0).val % 245760 / 960 = blk i t.val then spl pl x else fp x := by
  unfold newP
  have hx : (x 0).val < 6389760 := (x 0).isLt
  by_cases h : (x 0).val % 245760 / 960 = blk i t.val
  · rw [if_pos h]
    exact Finset.piecewise_eq_of_mem _ _ _ (Finset.mem_biUnion.mpr ⟨⟨(x 0).val / 245760, by omega⟩, Finset.mem_univ _, (mem_dstOut i t _ x).mpr ⟨rfl, h⟩⟩)
  · rw [if_neg h]
    refine Finset.piecewise_eq_of_notMem _ _ _ fun hm => ?_
    obtain ⟨p, -, hm⟩ := Finset.mem_biUnion.mp hm
    exact h ((mem_dstOut i t p x).mp hm).2

theorem rowOut_new {x2 : Vec F S8x1024x1024 .f32} {x3 : Vec F S131072 .f32} {i : grid1.Coords} {t : Fin k1_t1_loop.trips} {r : Fin k1_t2_loop.trips}
    {ei : Vec F S976 .i32} {pl : Vec F S24960 .f32} (fe : Vec F S245760 .i32) (fp : Vec F S6389760 .f32)
    (h : Staged i t (rowsOf x2 i t.val) (tabOf x3 i) r ei pl) : RowOut x2 x3 i t r (newE i t ei fe) (newP i t pl fp) := by
  obtain ⟨m, hm, h1, h2⟩ := h
  have hr := r_lt r
  have hb := blk_lt i t
  refine ⟨m, hm, fun k hk => ?_, fun p hp k hk => ?_⟩
  · rw [newE_apply, cell_val (by omega), if_pos (by omega), ← h1 k hk]
    unfold sei
    rw [cell_val (by omega)]
    congr 2; omega
  · rw [newP_apply, cell_val (by omega), if_pos (by omega), ← h2 p hp k hk]
    unfold spl
    rw [cell_val (by omega)]
    congr 2; omega

theorem rowOut_keep {x2 : Vec F S8x1024x1024 .f32} {x3 : Vec F S131072 .f32} {i : grid1.Coords} {t t' : Fin k1_t1_loop.trips} {r : Fin k1_t2_loop.trips}
    (ei : Vec F S976 .i32) (pl : Vec F S24960 .f32) {fe : Vec F S245760 .i32} {fp : Vec F S6389760 .f32} (hne : t.val ≠ t'.val)
    (h : RowOut x2 x3 i t r fe fp) : RowOut x2 x3 i t r (newE i t' ei fe) (newP i t' pl fp) := by
  obtain ⟨m, hm, h1, h2⟩ := h
  have hr := r_lt r
  have hb := blk_lt i t
  have hb' := blk_lt i t'
  have hbb : blk i t.val ≠ blk i t'.val := by unfold blk; omega
  refine ⟨m, hm, fun k hk => ?_, fun p hp k hk => ?_⟩
  · rw [newE_apply, cell_val (by omega), if_neg (by omega), h1 k hk]
  · rw [newP_apply, cell_val (by omega), if_neg (by omega), h2 p hp k hk]

end Cert.Proof.Knn

end
-- ==== Proof.Tile.lean ====
/-
  One sub-chunk of a tile: the 32 rows are fetched by copies in one batch, worked through, and the staged words written
  out by 26 copies in one batch with the block of indices between. `St`: what the tile holds between sub-chunks.
-/
module

public import proofs.«01_k».proof.Proof.Rows

@[expose] public section

set_option maxRecDepth 8192

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MT nD τ sig (HIx 1) (Elt F) ℕ UU ℕ

theorem TW.frame {d : Dev nD} {sc' : Fin τ.nSC} {j : Fin τ.nSub} {α : Type} {P X : sProp 𝕄} {p : TileProg F sc' j α} {Φ : α → sProp 𝕄}
    (h : TW d P p Φ) : TW d iprop(P ∗ X) p (fun a => iprop(Φ a ∗ X)) := by
  unfold TW at h ⊢
  exact BIBase.Entails.trans (sep_mono h BIBase.Entails.rfl) (wp_frame_r _ _ _)

/-! ## The windows taken and given back -/

/-- The tile's part of the array of indices and of the array of planes. -/
def R4 (i : grid1.Coords) : Finset S245760.Idx := Finset.univ.filter fun x => (x 0).val / 7680 = wid i
def R5 (i : grid1.Coords) : Finset S6389760.Idx := Finset.univ.filter fun x => (x 0).val % 245760 / 7680 = wid i

theorem dstEi_sub (i : grid1.Coords) (t : Fin k1_t1_loop.trips) : (dstEi i t).view.set ⊆ R4 i := fun x hx => by
  have h := (mem_dstEi i t x).mp hx
  have ht := t1_lt t
  refine Finset.mem_filter.mpr ⟨Finset.mem_univ _, ?_⟩
  unfold blk at h; omega
theorem dstOut_sub (i : grid1.Coords) (t : Fin k1_t1_loop.trips) (p : Fin 26) : (dstOut i t p).view.set ⊆ R5 i := fun x hx => by
  have h := (mem_dstOut i t p x).mp hx
  have ht := t1_lt t
  refine Finset.mem_filter.mpr ⟨Finset.mem_univ _, ?_⟩
  unfold blk at h; omega

theorem dstIn_disj (r r' : Fin 32) (h : r ≠ r') : Disjoint (dstIn r).view.set (dstIn r').view.set :=
  Finset.disjoint_left.mpr fun x hx hx' => h (Fin.ext (((mem_dstIn r x).mp hx).symm.trans ((mem_dstIn r' x).mp hx')))
theorem srcOut_disj (r r' : Fin 26) (h : r ≠ r') : Disjoint (srcOut r).view.set (srcOut r').view.set :=
  Finset.disjoint_left.mpr fun x hx hx' => h (Fin.ext (((mem_srcOut r x).mp hx).symm.trans ((mem_srcOut r' x).mp hx')))
theorem dstOut_disj (i : grid1.Coords) (t : Fin k1_t1_loop.trips) (r r' : Fin 26) (h : r ≠ r') :
    Disjoint (dstOut i t r).view.set (dstOut i t r').view.set :=
  Finset.disjoint_left.mpr fun x hx hx' => h (Fin.ext (((mem_dstOut i t r x).mp hx).1.symm.trans ((mem_dstOut i t r' x).mp hx').1))
theorem srcIn_disj (i : grid1.Coords) (t : Fin k1_t1_loop.trips) (r r' : Fin 32) (h : r ≠ r') :
    Disjoint (srcIn i t r).view.set (srcIn i t r').view.set :=
  Finset.disjoint_left.mpr fun x hx hx' => by
    have h1 := ((mem_srcIn i t r x).mp hx).2
    have h2 := ((mem_srcIn i t r' x).mp hx').2
    exact h (Fin.ext (by omega))

theorem piecewise_same {α β : Type} [DecidableEq α] (S : Finset α) (f : α → β) : S.piecewise f f = f :=
  funext fun x => by by_cases h : x ∈ S <;> simp [h]

theorem piecewise_all {α β : Type} [DecidableEq α] (S : Finset α) (f g : α → β) (h : ∀ x, x ∈ S) : S.piecewise f g = f :=
  funext fun x => Finset.piecewise_eq_of_mem _ _ _ (h x)

variable (d : Dev nD) (i : grid1.Coords) (t : Fin k1_t1_loop.trips)

local notation "𝕔" => V d (tc i) (ts i)

section Rests

variable (q : PosShare TreeShare) (x2 : Vec F S8x1024x1024 .f32) (f0 : Vec F S32768 .f32) (x3 : Vec F S131072 .f32) (g0 : Vec F S16384 .f32)
  (pl : Vec F S24960 .f32) (fp : Vec F S6389760 .f32) (ei : Vec F S976 .i32) (fe : Vec F S245760 .i32)

/-- What is left of the arrays beside the windows. -/
def inRest : Res F :=
  iprop((mD2.view.loc 𝕔 ↦[Finset.univ \ Finset.univ.biUnion fun r : Fin 32 => (dstIn r).view.set]{fullShare} f0)
    ∗ (m2.view.loc 𝕔 ↦[Finset.univ \ Finset.univ.biUnion fun r : Fin 32 => (srcIn i t r).view.set]{q} x2))
def outRest : Res F :=
  iprop((mPl.view.loc 𝕔 ↦[Finset.univ \ Finset.univ.biUnion fun r : Fin 26 => (srcOut r).view.set]{fullShare} pl)
    ∗ (m5.view.loc 𝕔 ↦[R5 i \ Finset.univ.biUnion fun r : Fin 26 => (dstOut i t r).view.set]{fullShare} fp))
def eiRest : Res F :=
  iprop((mEi.view.loc 𝕔 ↦[Finset.univ \ Finset.univ.biUnion fun _ : Fin 1 => srcEi.view.set]{fullShare} ei)
    ∗ (m4.view.loc 𝕔 ↦[R4 i \ Finset.univ.biUnion fun _ : Fin 1 => (dstEi i t).view.set]{fullShare} fe))
def tabRest : Res F :=
  iprop((mTab.view.loc 𝕔 ↦[Finset.univ \ Finset.univ.biUnion fun _ : Fin 1 => mTab.view.set]{fullShare} g0)
    ∗ (m3.view.loc 𝕔 ↦[Finset.univ \ Finset.univ.biUnion fun _ : Fin 1 => (srcTab i).view.set]{q} x3))

theorem bigSep_split {n : ℕ} (s : Finset (Fin n)) (A B : Fin n → sProp 𝕄) :
    bigSep s (fun t => iprop(A t ∗ B t)) ⊢ (iprop(bigSep s A ∗ bigSep s B) : Res F) := Entails.of_eq (bigSep_sep s A B)
theorem bigSep_join {n : ℕ} (s : Finset (Fin n)) (A B : Fin n → sProp 𝕄) :
    iprop(bigSep s A ∗ bigSep s B) ⊢ (bigSep s (fun t => iprop(A t ∗ B t)) : Res F) := Entails.of_eq (bigSep_sep s A B).symm

theorem two_begin {ℓ ℓ' : Loc nD τ sig} {n : ℕ} {q q' : PosShare TreeShare} (S : Finset (Idx ℓ)) (S' : Finset (Idx ℓ'))
    (A : Fin n → Finset (Idx ℓ)) (B : Fin n → Finset (Idx ℓ')) (hA : ∀ t t', t ≠ t' → Disjoint (A t) (A t')) (hAS : ∀ t, A t ⊆ S)
    (hB : ∀ t t', t ≠ t' → Disjoint (B t) (B t')) (hBS : ∀ t, B t ⊆ S') (f : Buf (Elt F) ℓ) (f' : Buf (Elt F) ℓ') :
    iprop((ℓ ↦[S]{q} f) ∗ (ℓ' ↦[S']{q'} f'))
      ⊢ (iprop(bigSep Finset.univ (fun t => iprop((ℓ' ↦[B t]{q'} f') ∗ (ℓ ↦[A t]{q} f)))
          ∗ (ℓ ↦[S \ Finset.univ.biUnion A]{q} f) ∗ (ℓ' ↦[S' \ Finset.univ.biUnion B]{q'} f')) : Res F) := by
  iintro ⟨H, H'⟩
  ihave HA := (carve S A hA hAS f) $$ H
  ihave HB := (carve S' B hB hBS f') $$ H'
  icases HA with ⟨HA, HA'⟩
  icases HB with ⟨HB, HB'⟩
  isplitl [HA HB]
  · iapply (bigSep_join (F := F) Finset.univ (fun t => iprop(ℓ' ↦[B t]{q'} f')) (fun t => iprop(ℓ ↦[A t]{q} f)))
    isplitl [HB] <;> iassumption
  isplitl [HA'] <;> iassumption

theorem two_end {ℓ ℓ' : Loc nD τ sig} {n : ℕ} {q q' : PosShare TreeShare} (S : Finset (Idx ℓ)) (S' : Finset (Idx ℓ'))
    (A : Fin n → Finset (Idx ℓ)) (B : Fin n → Finset (Idx ℓ')) (hA : ∀ t t', t ≠ t' → Disjoint (A t) (A t')) (hAS : ∀ t, A t ⊆ S)
    (hB : ∀ t t', t ≠ t' → Disjoint (B t) (B t')) (hBS : ∀ t, B t ⊆ S') (f g : Buf (Elt F) ℓ) (f' : Buf (Elt F) ℓ') :
    iprop(bigSep Finset.univ (fun t => iprop((ℓ' ↦[B t]{q'} f') ∗ (ℓ ↦[A t]{q} g)))
          ∗ (ℓ ↦[S \ Finset.univ.biUnion A]{q} f) ∗ (ℓ' ↦[S' \ Finset.univ.biUnion B]{q'} f'))
      ⊢ (iprop((ℓ ↦[S]{q} (Finset.univ.biUnion A).piecewise g f) ∗ (ℓ' ↦[S']{q'} f')) : Res F) := by
  iintro ⟨H, HA', HB'⟩
  ihave H := (bigSep_split (F := F) Finset.univ (fun t => iprop(ℓ' ↦[B t]{q'} f')) (fun t => iprop(ℓ ↦[A t]{q} g))) $$ H
  icases H with ⟨HB, HA⟩
  isplitl [HA HA']
  · iapply (uncarve S A hA hAS f g)
    isplitl [HA] <;> iassumption
  have hB' := uncarve (F := F) (q := q') S' B hB hBS f' f'
  rw [piecewise_same] at hB'
  iapply hB'
  isplitl [HB] <;> iassumption

theorem dstIn_cover (x : S32768.Idx) : x ∈ Finset.univ.biUnion fun r : Fin 32 => (dstIn r).view.set := by
  have hx : (x 0).val < 32768 := (x 0).isLt
  exact Finset.mem_biUnion.mpr ⟨⟨(x 0).val / 1024, Nat.div_lt_of_lt_mul hx⟩, Finset.mem_univ _, (mem_dstIn _ x).mpr rfl⟩

theorem in_begin : iprop((mD2.view.loc 𝕔 ↦{fullShare} f0) ∗ (m2.view.loc 𝕔 ↦{q} x2))
    ⊢ iprop(bigSep Finset.univ (inC d i t q x2 f0).res ∗ inRest d i t q x2 f0) :=
  two_begin (F := F) (ℓ := mD2.view.loc 𝕔) (ℓ' := m2.view.loc 𝕔) (q := fullShare) (q' := q) Finset.univ Finset.univ
    (fun r : Fin 32 => (dstIn r).view.set) (fun r : Fin 32 => (srcIn i t r).view.set)
    dstIn_disj (fun _ => Finset.subset_univ _) (srcIn_disj i t) (fun _ => Finset.subset_univ _) f0 x2

theorem in_end : iprop(bigSep Finset.univ (inC d i t q x2 f0).done ∗ inRest d i t q x2 f0)
    ⊢ iprop((mD2.view.loc 𝕔 ↦{fullShare} rowsOf x2 i t.val) ∗ (m2.view.loc 𝕔 ↦{q} x2)) := by
  have h := two_end (F := F) (ℓ := mD2.view.loc 𝕔) (ℓ' := m2.view.loc 𝕔) (q := fullShare) (q' := q) Finset.univ Finset.univ
    (fun r : Fin 32 => (dstIn r).view.set) (fun r : Fin 32 => (srcIn i t r).view.set)
    dstIn_disj (fun _ => Finset.subset_univ _) (srcIn_disj i t) (fun _ => Finset.subset_univ _) f0 (rowsOf x2 i t.val) x2
  rw [piecewise_all] at h
  · exact h
  exact dstIn_cover

theorem out_begin : iprop((m5.view.loc 𝕔 ↦[R5 i]{fullShare} fp) ∗ (mPl.view.loc 𝕔 ↦{fullShare} pl))
    ⊢ iprop(bigSep Finset.univ (outC d i t pl fp).res ∗ outRest d i t pl fp) := by
  have h := two_begin (F := F) (ℓ := m5.view.loc 𝕔) (ℓ' := mPl.view.loc 𝕔) (q := fullShare) (q' := fullShare) (R5 i) Finset.univ
    (fun r : Fin 26 => (dstOut i t r).view.set) (fun r : Fin 26 => (srcOut r).view.set)
    (dstOut_disj i t) (dstOut_sub i t) srcOut_disj (fun _ => Finset.subset_univ _) fp pl
  refine BIBase.Entails.trans h ?_
  unfold outRest
  iintro ⟨H, H1, H2⟩
  isplitl [H]; · iexact H
  isplitl [H2] <;> iassumption

theorem out_end : iprop(bigSep Finset.univ (outC d i t pl fp).done ∗ outRest d i t pl fp)
    ⊢ iprop((m5.view.loc 𝕔 ↦[R5 i]{fullShare} newP i t pl fp) ∗ (mPl.view.loc 𝕔 ↦{fullShare} pl)) := by
  have h := two_end (F := F) (ℓ := m5.view.loc 𝕔) (ℓ' := mPl.view.loc 𝕔) (q := fullShare) (q' := fullShare) (R5 i) Finset.univ
    (fun r : Fin 26 => (dstOut i t r).view.set) (fun r : Fin 26 => (srcOut r).view.set)
    (dstOut_disj i t) (dstOut_sub i t) srcOut_disj (fun _ => Finset.subset_univ _) fp (spl pl) pl
  refine BIBase.Entails.trans ?_ h
  unfold outRest
  iintro ⟨H, H1, H2⟩
  isplitl [H]; · iexact H
  isplitl [H2] <;> iassumption

theorem one_disj {α : Type} (A : Fin 1 → Finset α) (t t' : Fin 1) (h : t ≠ t') : Disjoint (A t) (A t') :=
  absurd (Subsingleton.elim t t') h

theorem ei_begin : iprop((m4.view.loc 𝕔 ↦[R4 i]{fullShare} fe) ∗ (mEi.view.loc 𝕔 ↦{fullShare} ei))
    ⊢ iprop(bigSep Finset.univ (eiC d i t ei fe).res ∗ eiRest d i t ei fe) := by
  have h := two_begin (F := F) (ℓ := m4.view.loc 𝕔) (ℓ' := mEi.view.loc 𝕔) (q := fullShare) (q' := fullShare) (R4 i) Finset.univ
    (fun _ : Fin 1 => (dstEi i t).view.set) (fun _ => srcEi.view.set)
    (one_disj _) (fun _ => dstEi_sub i t) (one_disj _) (fun _ => Finset.subset_univ _) fe ei
  refine BIBase.Entails.trans h ?_
  unfold eiRest
  iintro ⟨H, H1, H2⟩
  isplitl [H]; · iexact H
  isplitl [H2] <;> iassumption

theorem ei_end : iprop(bigSep Finset.univ (eiC d i t ei fe).done ∗ eiRest d i t ei fe)
    ⊢ iprop((m4.view.loc 𝕔 ↦[R4 i]{fullShare} newE i t ei fe) ∗ (mEi.view.loc 𝕔 ↦{fullShare} ei)) := by
  have h := two_end (F := F) (ℓ := m4.view.loc 𝕔) (ℓ' := mEi.view.loc 𝕔) (q := fullShare) (q' := fullShare) (R4 i) Finset.univ
    (fun _ : Fin 1 => (dstEi i t).view.set) (fun _ => srcEi.view.set)
    (one_disj _) (fun _ => dstEi_sub i t) (one_disj _) (fun _ => Finset.subset_univ _) fe (sei ei) ei
  refine BIBase.Entails.trans ?_ h
  unfold eiRest
  iintro ⟨H, H1, H2⟩
  isplitl [H]; · iexact H
  isplitl [H2] <;> iassumption

theorem tab_begin : iprop((mTab.view.loc 𝕔 ↦{fullShare} g0) ∗ (m3.view.loc 𝕔 ↦{q} x3))
    ⊢ iprop(bigSep Finset.univ (tabC d i q x3 g0).res ∗ tabRest d i q x3 g0) :=
  two_begin (F := F) (ℓ := mTab.view.loc 𝕔) (ℓ' := m3.view.loc 𝕔) (q := fullShare) (q' := q) Finset.univ Finset.univ
    (fun _ : Fin 1 => mTab.view.set) (fun _ => (srcTab i).view.set)
    (one_disj _) (fun _ => Finset.subset_univ _) (one_disj _) (fun _ => Finset.subset_univ _) g0 x3

theorem tab_end : iprop(bigSep Finset.univ (tabC d i q x3 g0).done ∗ tabRest d i q x3 g0)
    ⊢ iprop((mTab.view.loc 𝕔 ↦{fullShare} tabOf x3 i) ∗ (m3.view.loc 𝕔 ↦{q} x3)) := by
  have h := two_end (F := F) (ℓ := mTab.view.loc 𝕔) (ℓ' := m3.view.loc 𝕔) (q := fullShare) (q' := q) Finset.univ Finset.univ
    (fun _ : Fin 1 => mTab.view.set) (fun _ => (srcTab i).view.set)
    (one_disj _) (fun _ => Finset.subset_univ _) (one_disj _) (fun _ => Finset.subset_univ _) g0 (tabOf x3 i) x3
  rw [piecewise_all] at h
  · exact h
  intro x
  refine Finset.mem_biUnion.mpr ⟨0, Finset.mem_univ _, ?_⟩
  show x ∈ (View.whole cc1_scratch1).set
  rw [View.set_whole]; exact Finset.mem_univ _

end Rests

/-! ## The parts of a sub-chunk -/

/-- The scratch beside the distances, and beside the planes. -/
def oth (s : RowSt F) : Res F :=
  iprop((mTab.view.loc 𝕔 ↦{fullShare} s.tab)
    ∗ (mCk.view.loc 𝕔 ↦{fullShare} s.ck) ∗ (mCv.view.loc 𝕔 ↦{fullShare} s.cv)
    ∗ (mEi.view.loc 𝕔 ↦{fullShare} s.ei) ∗ (mPl.view.loc 𝕔 ↦{fullShare} s.pl))
def four (s : RowSt F) : Res F :=
  iprop((mD2.view.loc 𝕔 ↦{fullShare} s.d2) ∗ (mTab.view.loc 𝕔 ↦{fullShare} s.tab)
    ∗ (mCk.view.loc 𝕔 ↦{fullShare} s.ck) ∗ (mCv.view.loc 𝕔 ↦{fullShare} s.cv))

section Parts

variable {h2 : m2.IsWhole} {h3 : m3.IsWhole} {h4 : m4.IsWhole} {h5 : m5.IsWhole}
  {h6 : mD2.IsWhole} {h7 : mTab.IsWhole} {h8 : mCk.IsWhole} {h9 : mCv.IsWhole} {h10 : mEi.IsWhole} {h11 : mPl.IsWhole}
  {e1 e2 e3 e4 : DmaSems sig S_}
variable {q : PosShare TreeShare} {x2 : Vec F S8x1024x1024 .f32} {x3 : Vec F S131072 .f32} {f0 : Vec F S32768 .f32}
  {pl : Vec F S24960 .f32} {fp : Vec F S6389760 .f32} {ei : Vec F S976 .i32} {fe : Vec F S245760 .i32}
  {O : CellTallies nD τ sig (HIx 1)} {W : Waits sig (HIx 1)} {X : Res F}

theorem p26 : TW d (Iss (inC d i t q x2 f0) e1.sem 0 X) (k1_part26 i m2 h2 m3 h3 m4 h4 m5 h5 mD2 h6 mTab h7 mCk h8 mCv h9 mEi h10 mPl h11 e1 e2 e3 e4 (widOf i) (batchOf i) 0#32 1#32 t)
    (fun a => iprop(⌜a = ⟨Scf.iv 0#32 1#32 t, rowBase i t⟩⌝ ∗ Iss (inC d i t q x2 f0) e1.sem 3 X)) := by
  rw [k1_part26_eq_skeleton]; unfold k1_part26_skel
  iterate 3 refine TW.issue (by decide) ?_
  refine TW.ret ?_
  iintro H
  isplitr
  · ipureintro; rfl
  iexact H

theorem p27 (v : BitVec 32) : TW d (Iss (inC d i t q x2 f0) e1.sem 3 X) (k1_part27 i m2 h2 m3 h3 m4 h4 m5 h5 mD2 h6 mTab h7 mCk h8 mCv h9 mEi h10 mPl h11 e1 e2 e3 e4 (batchOf i) t v)
    (fun _ => Iss (inC d i t q x2 f0) e1.sem 7 X) := by
  rw [k1_part27_eq_skeleton]; unfold k1_part27_skel
  iterate 4 refine TW.issue (by decide) ?_
  exact TW.ret BIBase.Entails.rfl

theorem p28 (v w : BitVec 32) : TW d (Iss (inC d i t q x2 f0) e1.sem 7 X) (k1_part28 i m2 h2 m3 h3 m4 h4 m5 h5 mD2 h6 mTab h7 mCk h8 mCv h9 mEi h10 mPl h11 e1 e2 e3 e4 (batchOf i) t v w)
    (fun _ => Iss (inC d i t q x2 f0) e1.sem 10 X) := by
  rw [k1_part28_eq_skeleton]; unfold k1_part28_skel
  iterate 3 refine TW.issue (by decide) ?_
  exact TW.ret BIBase.Entails.rfl

theorem p29 (v : BitVec 32) : TW d (Iss (inC d i t q x2 f0) e1.sem 10 X) (k1_part29 i m2 h2 m3 h3 m4 h4 m5 h5 mD2 h6 mTab h7 mCk h8 mCv h9 mEi h10 mPl h11 e1 e2 e3 e4 (batchOf i) t v)
    (fun _ => Iss (inC d i t q x2 f0) e1.sem 14 X) := by
  rw [k1_part29_eq_skeleton]; unfold k1_part29_skel
  iterate 4 refine TW.issue (by decide) ?_
  exact TW.ret BIBase.Entails.rfl

theorem p30 (v : BitVec 32) : TW d (Iss (inC d i t q x2 f0) e1.sem 14 X) (k1_part30 i m2 h2 m3 h3 m4 h4 m5 h5 mD2 h6 mTab h7 mCk h8 mCv h9 mEi h10 mPl h11 e1 e2 e3 e4 (batchOf i) t v)
    (fun _ => Iss (inC d i t q x2 f0) e1.sem 18 X) := by
  rw [k1_part30_eq_skeleton]; unfold k1_part30_skel
  iterate 4 refine TW.issue (by decide) ?_
  exact TW.ret BIBase.Entails.rfl

theorem p31 (v : BitVec 32) : TW d (Iss (inC d i t q x2 f0) e1.sem 18 X) (k1_part31 i m2 h2 m3 h3 m4 h4 m5 h5 mD2 h6 mTab h7 mCk h8 mCv h9 mEi h10 mPl h11 e1 e2 e3 e4 (batchOf i) t v)
    (fun _ => Iss (inC d i t q x2 f0) e1.sem 22 X) := by
  rw [k1_part31_eq_skeleton]; unfold k1_part31_skel
  iterate 4 refine TW.issue (by decide) ?_
  exact TW.ret BIBase.Entails.rfl

theorem p32 (v w : BitVec 32) : TW d (Iss (inC d i t q x2 f0) e1.sem 22 X) (k1_part32 i m2 h2 m3 h3 m4 h4 m5 h5 mD2 h6 mTab h7 mCk h8 mCv h9 mEi h10 mPl h11 e1 e2 e3 e4 (batchOf i) t v w)
    (fun _ => Iss (inC d i t q x2 f0) e1.sem 25 X) := by
  rw [k1_part32_eq_skeleton]; unfold k1_part32_skel
  iterate 3 refine TW.issue (by decide) ?_
  exact TW.ret BIBase.Entails.rfl

theorem p33 (v : BitVec 32) : TW d (Iss (inC d i t q x2 f0) e1.sem 25 X) (k1_part33 i m2 h2 m3 h3 m4 h4 m5 h5 mD2 h6 mTab h7 mCk h8 mCv h9 mEi h10 mPl h11 e1 e2 e3 e4 (batchOf i) t v)
    (fun _ => Iss (inC d i t q x2 f0) e1.sem 29 X) := by
  rw [k1_part33_eq_skeleton]; unfold k1_part33_skel
  iterate 4 refine TW.issue (by decide) ?_
  exact TW.ret BIBase.Entails.rfl

theorem p34 (v : BitVec 32) : TW d (Iss (inC d i t q x2 f0) e1.sem 29 iprop(ows 𝕔 O W ∗ X)) (k1_part34 i m2 h2 m3 h3 m4 h4 m5 h5 mD2 h6 mTab h7 mCk h8 mCv h9 mEi h10 mPl h11 e1 e2 e3 e4 (batchOf i) t v)
    (fun _ => Wt (inC d i t q x2 f0) e1.sem O W 2 X) := by
  rw [k1_part34_eq_skeleton]; unfold k1_part34_skel
  iterate 3 refine TW.issue (by decide) ?_
  refine TW.pre Iss.waits ?_
  iterate 2 refine TW.wait (by decide) rfl ?_
  exact TW.ret BIBase.Entails.rfl

theorem p35 : TW d (Wt (inC d i t q x2 f0) e1.sem O W 2 X) (k1_part35 i m2 h2 m3 h3 m4 h4 m5 h5 mD2 h6 mTab h7 mCk h8 mCv h9 mEi h10 mPl h11 e1 e2 e3 e4 t) (fun _ => Wt (inC d i t q x2 f0) e1.sem O W 7 X) := by
  rw [k1_part35_eq_skeleton]; unfold k1_part35_skel
  iterate 5 refine TW.wait (by decide) rfl ?_
  exact TW.ret BIBase.Entails.rfl

theorem p36 : TW d (Wt (inC d i t q x2 f0) e1.sem O W 7 X) (k1_part36 i m2 h2 m3 h3 m4 h4 m5 h5 mD2 h6 mTab h7 mCk h8 mCv h9 mEi h10 mPl h11 e1 e2 e3 e4 t) (fun _ => Wt (inC d i t q x2 f0) e1.sem O W 12 X) := by
  rw [k1_part36_eq_skeleton]; unfold k1_part36_skel
  iterate 5 refine TW.wait (by decide) rfl ?_
  exact TW.ret BIBase.Entails.rfl

theorem p37 : TW d (Wt (inC d i t q x2 f0) e1.sem O W 12 X) (k1_part37 i m2 h2 m3 h3 m4 h4 m5 h5 mD2 h6 mTab h7 mCk h8 mCv h9 mEi h10 mPl h11 e1 e2 e3 e4 t) (fun _ => Wt (inC d i t q x2 f0) e1.sem O W 18 X) := by
  rw [k1_part37_eq_skeleton]; unfold k1_part37_skel
  iterate 6 refine TW.wait (by decide) rfl ?_
  exact TW.ret BIBase.Entails.rfl

theorem p38 : TW d (Wt (inC d i t q x2 f0) e1.sem O W 18 X) (k1_part38 i m2 h2 m3 h3 m4 h4 m5 h5 mD2 h6 mTab h7 mCk h8 mCv h9 mEi h10 mPl h11 e1 e2 e3 e4 t) (fun _ => Wt (inC d i t q x2 f0) e1.sem O W 23 X) := by
  rw [k1_part38_eq_skeleton]; unfold k1_part38_skel
  iterate 5 refine TW.wait (by decide) rfl ?_
  exact TW.ret BIBase.Entails.rfl

theorem p39 : TW d (Wt (inC d i t q x2 f0) e1.sem O W 23 X) (k1_part39 i m2 h2 m3 h3 m4 h4 m5 h5 mD2 h6 mTab h7 mCk h8 mCv h9 mEi h10 mPl h11 e1 e2 e3 e4 t) (fun _ => Wt (inC d i t q x2 f0) e1.sem O W 29 X) := by
  rw [k1_part39_eq_skeleton]; unfold k1_part39_skel
  iterate 6 refine TW.wait (by decide) rfl ?_
  exact TW.ret BIBase.Entails.rfl

/-- The rows have landed: they are worked through. -/
theorem p40 (v6 v14 : BitVec 32) (s : RowSt F) (G : Res F) :
    TW d (Wt (inC d i t q x2 s.d2) e1.sem O W 29 iprop(inRest d i t q x2 s.d2 ∗ oth d i s ∗ semVal (𝕔, SemLoc.dma e2.sem) 0
        ∗ (m5.view.loc 𝕔 ↦[R5 i]{fullShare} fp) ∗ G))
      (k1_part40 i m2 h2 m3 h3 m4 h4 m5 h5 mD2 h6 mTab h7 mCk h8 mCv h9 mEi h10 mPl h11 e1 e2 e3 e4 lanes k1_pay1 k1_pay2 v6 (batchOf i) t v14 (rowBase i t))
      (fun _ => iprop(∃ s', ⌜s'.tab = s.tab ∧ ∀ r, Staged i t (rowsOf x2 i t.val) s.tab r s'.ei s'.pl⌝
        ∗ Iss (outC d i t s'.pl fp) e2.sem 2 iprop(ows 𝕔 O W ∗ outRest d i t s'.pl fp ∗ four d i s' ∗ (mEi.view.loc 𝕔 ↦{fullShare} s'.ei)
          ∗ (m2.view.loc 𝕔 ↦{q} x2) ∗ semVal (𝕔, SemLoc.dma e1.sem) 0 ∗ G))) := by
  rw [k1_part40_eq_skeleton]; unfold k1_part40_skel
  iterate 2 refine TW.wait (by decide) rfl ?_
  refine TW.waitLast (by decide) rfl ?_
  refine TW.pre (P' := iprop(own d (tc i) (ts i) { s with d2 := rowsOf x2 i t.val } ∗ ((m2.view.loc 𝕔 ↦{q} x2) ∗ semVal (𝕔, SemLoc.dma e1.sem) 0 ∗ ows 𝕔 O W
      ∗ semVal (𝕔, SemLoc.dma e2.sem) 0 ∗ (m5.view.loc 𝕔 ↦[R5 i]{fullShare} fp) ∗ G))) ?_ ?_
  · unfold own oth
    iintro ⟨HD, H1, HO, HR, ⟨HT, HK, HV, HE, HP⟩, H2, H5, HG⟩
    ihave HD := (in_end d i t q x2 s.d2) $$ [HD HR]
    · isplitl [HD] <;> iassumption
    icases HD with ⟨HD, HX⟩
    isplitl [HD HT HK HV HE HP]
    · isplitl [HD]; · iexact HD
      isplitl [HT]; · iexact HT
      isplitl [HK]; · iexact HK
      isplitl [HV]; · iexact HV
      isplitl [HE] <;> iassumption
    isplitl [HX]; · iexact HX
    isplitl [H1]; · iexact H1
    isplitl [HO]; · iexact HO
    isplitl [H2]; · iexact H2
    isplitl [H5] <;> iassumption
  refine TW.seq ((rows_spec v6 v14 t _).tw _) fun _ => ?_
  refine TW.ex fun s' => TW.fact fun hs => ?_
  refine TW.upd (P' := Iss (outC d i t s'.pl fp) e2.sem 0 iprop(ows 𝕔 O W ∗ outRest d i t s'.pl fp ∗ four d i s' ∗ (mEi.view.loc 𝕔 ↦{fullShare} s'.ei)
          ∗ (m2.view.loc 𝕔 ↦{q} x2) ∗ semVal (𝕔, SemLoc.dma e1.sem) 0 ∗ G)) ?_ ?_
  · unfold own four
    iintro ⟨⟨HD, HT, HK, HV, HE, HP⟩, HX, H1, HO, H2, H5, HG⟩
    ihave HB := (out_begin d i t s'.pl fp) $$ [H5 HP]
    · isplitl [H5] <;> iassumption
    icases HB with ⟨HB, HR⟩
    iapply Iss.begin
    isplitl [H2]; · iexact H2
    isplitl [HB]; · iexact HB
    isplitl [HO]; · iexact HO
    isplitl [HR]; · iexact HR
    isplitl [HD HT HK HV]
    · isplitl [HD]; · iexact HD
      isplitl [HT]; · iexact HT
      isplitl [HK] <;> iassumption
    isplitl [HE]; · iexact HE
    isplitl [HX]; · iexact HX
    isplitl [H1] <;> iassumption
  iterate 2 refine TW.issue (by decide) ?_
  refine TW.ret ?_
  iintro H
  iexists s'
  isplitr
  · ipureintro; exact hs.2
  iexact H

theorem p41 (v : BitVec 32) : TW d (Iss (outC d i t pl fp) e2.sem 2 X) (k1_part41 i m2 h2 m3 h3 m4 h4 m5 h5 mD2 h6 mTab h7 mCk h8 mCv h9 mEi h10 mPl h11 e1 e2 e3 e4 t v) (fun _ => Iss (outC d i t pl fp) e2.sem 8 X) := by
  rw [k1_part41_eq_skeleton]; unfold k1_part41_skel
  iterate 6 refine TW.issue (by decide) ?_
  exact TW.ret BIBase.Entails.rfl

theorem p42 (v : BitVec 32) : TW d (Iss (outC d i t pl fp) e2.sem 8 X) (k1_part42 i m2 h2 m3 h3 m4 h4 m5 h5 mD2 h6 mTab h7 mCk h8 mCv h9 mEi h10 mPl h11 e1 e2 e3 e4 t v) (fun _ => Iss (outC d i t pl fp) e2.sem 15 X) := by
  rw [k1_part42_eq_skeleton]; unfold k1_part42_skel
  iterate 7 refine TW.issue (by decide) ?_
  exact TW.ret BIBase.Entails.rfl

theorem p43 (v : BitVec 32) : TW d (Iss (outC d i t pl fp) e2.sem 15 X) (k1_part43 i m2 h2 m3 h3 m4 h4 m5 h5 mD2 h6 mTab h7 mCk h8 mCv h9 mEi h10 mPl h11 e1 e2 e3 e4 t v) (fun _ => Iss (outC d i t pl fp) e2.sem 22 X) := by
  rw [k1_part43_eq_skeleton]; unfold k1_part43_skel
  iterate 7 refine TW.issue (by decide) ?_
  exact TW.ret BIBase.Entails.rfl

/-- The last blocks of the planes are issued; the block of indices is written while they fly. -/
theorem p44 (v : BitVec 32) :
    TW d (Iss (outC d i t pl fp) e2.sem 22 iprop(ows 𝕔 O W ∗ X ∗ (mEi.view.loc 𝕔 ↦{fullShare} ei) ∗ (m4.view.loc 𝕔 ↦[R4 i]{fullShare} fe)
        ∗ semVal (𝕔, SemLoc.dma e4.sem) 0)) (k1_part44 i m2 h2 m3 h3 m4 h4 m5 h5 mD2 h6 mTab h7 mCk h8 mCv h9 mEi h10 mPl h11 e1 e2 e3 e4 t v)
      (fun _ => Wt (outC d i t pl fp) e2.sem O W 1 iprop(X ∗ (mEi.view.loc 𝕔 ↦{fullShare} ei) ∗ (m4.view.loc 𝕔 ↦[R4 i]{fullShare} newE i t ei fe)
        ∗ semVal (𝕔, SemLoc.dma e4.sem) 0)) := by
  rw [k1_part44_eq_skeleton]; unfold k1_part44_skel
  iterate 4 refine TW.issue (by decide) ?_
  refine TW.pre Iss.waits ?_
  refine TW.upd (P' := Iss (eiC d i t ei fe) e4.sem 0 iprop(ows 𝕔 O W ∗ eiRest d i t ei fe
    ∗ Batch (EC (F := F)) 𝕔 (.dma e2.sem) (default : HIx 1) (outC d i t pl fp).N (outC d i t pl fp).done 26 (0 * (outC d i t pl fp).N) ∗ X)) ?_ ?_
  · unfold Wt
    iintro ⟨HB, HO, HX, HE, H4, Hv⟩
    ihave HC := (ei_begin d i t ei fe) $$ [H4 HE]
    · isplitl [H4] <;> iassumption
    icases HC with ⟨HC, HR⟩
    iapply Iss.begin
    isplitl [Hv]; · iexact Hv
    isplitl [HC]; · iexact HC
    isplitl [HO]; · iexact HO
    isplitl [HR]; · iexact HR
    isplitl [HB] <;> iassumption
  refine TW.issue (by decide) ?_
  refine TW.pre Iss.waits ?_
  refine TW.waitLast (by decide) rfl ?_
  refine TW.pre (P' := Wt (outC d i t pl fp) e2.sem O W 0 iprop(X ∗ (mEi.view.loc 𝕔 ↦{fullShare} ei) ∗ (m4.view.loc 𝕔 ↦[R4 i]{fullShare} newE i t ei fe)
        ∗ semVal (𝕔, SemLoc.dma e4.sem) 0)) ?_ ?_
  · unfold Wt
    iintro ⟨HC, Hv, HO, HR, HB, HX⟩
    ihave HC := (ei_end d i t ei fe) $$ [HC HR]
    · isplitl [HC] <;> iassumption
    icases HC with ⟨H4, HE⟩
    isplitl [HB]; · iexact HB
    isplitl [HO]; · iexact HO
    isplitl [HX]; · iexact HX
    isplitl [HE]; · iexact HE
    isplitl [H4] <;> iassumption
  refine TW.wait (by decide) rfl ?_
  exact TW.ret BIBase.Entails.rfl

theorem p45 : TW d (Wt (outC d i t pl fp) e2.sem O W 1 X) (k1_part45 i m2 h2 m3 h3 m4 h4 m5 h5 mD2 h6 mTab h7 mCk h8 mCv h9 mEi h10 mPl h11 e1 e2 e3 e4 t) (fun _ => Wt (outC d i t pl fp) e2.sem O W 10 X) := by
  rw [k1_part45_eq_skeleton]; unfold k1_part45_skel
  iterate 9 refine TW.wait (by decide) rfl ?_
  exact TW.ret BIBase.Entails.rfl

theorem p46 : TW d (Wt (outC d i t pl fp) e2.sem O W 10 X) (k1_part46 i m2 h2 m3 h3 m4 h4 m5 h5 mD2 h6 mTab h7 mCk h8 mCv h9 mEi h10 mPl h11 e1 e2 e3 e4 t) (fun _ => Wt (outC d i t pl fp) e2.sem O W 18 X) := by
  rw [k1_part46_eq_skeleton]; unfold k1_part46_skel
  iterate 8 refine TW.wait (by decide) rfl ?_
  exact TW.ret BIBase.Entails.rfl

theorem p47 (s : RowSt F) :
    TW d (Iss (inC d i t q x2 s.d2) e1.sem 0 iprop(ows 𝕔 O W ∗ inRest d i t q x2 s.d2 ∗ oth d i s ∗ semVal (𝕔, SemLoc.dma e2.sem) 0
        ∗ (m5.view.loc 𝕔 ↦[R5 i]{fullShare} fp) ∗ (m4.view.loc 𝕔 ↦[R4 i]{fullShare} fe) ∗ semVal (𝕔, SemLoc.dma e4.sem) 0))
      (k1_part47 i m2 h2 m3 h3 m4 h4 m5 h5 mD2 h6 mTab h7 mCk h8 mCv h9 mEi h10 mPl h11 e1 e2 e3 e4 lanes k1_pay1 k1_pay2 (widOf i) (batchOf i) 0#32 1#32 t)
      (fun _ => iprop(∃ s', ⌜s'.tab = s.tab ∧ ∀ r, Staged i t (rowsOf x2 i t.val) s.tab r s'.ei s'.pl⌝
        ∗ Wt (outC d i t s'.pl fp) e2.sem O W 24 iprop((outRest d i t s'.pl fp ∗ four d i s' ∗ (m2.view.loc 𝕔 ↦{q} x2) ∗ semVal (𝕔, SemLoc.dma e1.sem) 0)
          ∗ (mEi.view.loc 𝕔 ↦{fullShare} s'.ei) ∗ (m4.view.loc 𝕔 ↦[R4 i]{fullShare} newE i t s'.ei fe) ∗ semVal (𝕔, SemLoc.dma e4.sem) 0))) := by
  rw [k1_part47_eq_skeleton]; unfold k1_part47_skel
  refine TW.seq' (p26 d i t) ?_
  dsimp only
  refine TW.seq (p27 d i t _) fun v => ?_
  refine TW.seq (p28 d i t _ _) fun _ => ?_
  refine TW.seq (p29 d i t _) fun _ => ?_
  refine TW.seq (p30 d i t _) fun _ => ?_
  refine TW.seq (p31 d i t _) fun w => ?_
  refine TW.seq (p32 d i t _ _) fun _ => ?_
  refine TW.seq (p33 d i t _) fun _ => ?_
  refine TW.seq (p34 d i t _) fun _ => ?_
  refine TW.seq (p35 d i t) fun _ => ?_
  refine TW.seq (p36 d i t) fun _ => ?_
  refine TW.seq (p37 d i t) fun _ => ?_
  refine TW.seq (p38 d i t) fun _ => ?_
  refine TW.seq (p39 d i t) fun _ => ?_
  refine TW.seq (p40 d i t _ _ s _) fun u => ?_
  refine TW.ex fun s' => TW.fact fun hs => ?_
  refine TW.pre (P' := Iss (outC d i t s'.pl fp) e2.sem 2 iprop(ows 𝕔 O W
    ∗ (outRest d i t s'.pl fp ∗ four d i s' ∗ (m2.view.loc 𝕔 ↦{q} x2) ∗ semVal (𝕔, SemLoc.dma e1.sem) 0)
    ∗ (mEi.view.loc 𝕔 ↦{fullShare} s'.ei) ∗ (m4.view.loc 𝕔 ↦[R4 i]{fullShare} fe) ∗ semVal (𝕔, SemLoc.dma e4.sem) 0)) ?_ ?_
  · unfold Iss
    iintro ⟨HB, HC, HO, HR, HF, HE, HX, H1, H4, Hv⟩
    isplitl [HB]; · iexact HB
    isplitl [HC]; · iexact HC
    isplitl [HO]; · iexact HO
    isplitl [HR HF HX H1]
    · isplitl [HR]; · iexact HR
      isplitl [HF]; · iexact HF
      isplitl [HX] <;> iassumption
    isplitl [HE]; · iexact HE
    isplitl [H4] <;> iassumption
  refine TW.seq (p41 d i t _) fun _ => ?_
  refine TW.seq (p42 d i t _) fun _ => ?_
  refine TW.seq (p43 d i t _) fun _ => ?_
  refine TW.seq (p44 d i t _) fun _ => ?_
  refine TW.seq (p45 d i t) fun _ => ?_
  refine TW.seq (p46 d i t) fun _ => ?_
  iterate 6 refine TW.wait (by decide) rfl ?_
  refine TW.ret ?_
  iintro H
  iexists s'
  isplitr
  · ipureintro; exact hs
  iexact H

end Parts

/-! ## The sub-chunks one after another -/

/-- The rows of the first `n` sub-chunks are out. -/
def Done (x2 : Vec F S8x1024x1024 .f32) (x3 : Vec F S131072 .f32) (i : grid1.Coords) (n : ℕ) (fe : Vec F S245760 .i32) (fp : Vec F S6389760 .f32) : Prop :=
  ∀ t : Fin k1_t1_loop.trips, t.val < n → ∀ r, RowOut x2 x3 i t r fe fp

section Whole

variable {h2 : m2.IsWhole} {h3 : m3.IsWhole} {h4 : m4.IsWhole} {h5 : m5.IsWhole}
  {h6 : mD2.IsWhole} {h7 : mTab.IsWhole} {h8 : mCk.IsWhole} {h9 : mCv.IsWhole} {h10 : mEi.IsWhole} {h11 : mPl.IsWhole}
  {e1 e2 e3 e4 : DmaSems sig S_}
variable {q : PosShare TreeShare} {x2 : Vec F S8x1024x1024 .f32} {x3 : Vec F S131072 .f32}
  {O : CellTallies nD τ sig (HIx 1)} {W : Waits sig (HIx 1)}

/-- What the tile holds when `n` sub-chunks are done. -/
def St (q : PosShare TreeShare) (x2 : Vec F S8x1024x1024 .f32) (x3 : Vec F S131072 .f32) (e1 e2 e4 : DmaSems sig S_)
    (O : CellTallies nD τ sig (HIx 1)) (W : Waits sig (HIx 1)) (n : ℕ) : sProp 𝕄 :=
  iprop(∃ s : RowSt F, ∃ fe : Vec F S245760 .i32, ∃ fp : Vec F S6389760 .f32, ⌜s.tab = tabOf x3 i ∧ Done x2 x3 i n fe fp⌝
    ∗ own d (tc i) (ts i) s ∗ (m2.view.loc 𝕔 ↦{q} x2) ∗ (m4.view.loc 𝕔 ↦[R4 i]{fullShare} fe) ∗ (m5.view.loc 𝕔 ↦[R5 i]{fullShare} fp)
    ∗ semVal (𝕔, SemLoc.dma e1.sem) 0 ∗ semVal (𝕔, SemLoc.dma e2.sem) 0 ∗ semVal (𝕔, SemLoc.dma e4.sem) 0 ∗ ows 𝕔 O W)

/-- One sub-chunk. -/
theorem trip : TW d (St d i q x2 x3 e1 e2 e4 O W t.val) (k1_t1_body i m2 h2 m3 h3 m4 h4 m5 h5 mD2 h6 mTab h7 mCk h8 mCv h9 mEi h10 mPl h11 e1 e2 e3 e4 lanes (widOf i) (batchOf i) t ⟨⟩)
    (fun _ => St d i q x2 x3 e1 e2 e4 O W (t.val + 1)) := by
  unfold St
  refine TW.ex fun s => TW.ex fun fe => TW.ex fun fp => TW.fact fun hs => ?_
  unfold k1_t1_body
  refine TW.upd (P' := Iss (inC d i t q x2 s.d2) e1.sem 0 iprop(ows 𝕔 O W ∗ inRest d i t q x2 s.d2 ∗ oth d i s ∗ semVal (𝕔, SemLoc.dma e2.sem) 0
        ∗ (m5.view.loc 𝕔 ↦[R5 i]{fullShare} fp) ∗ (m4.view.loc 𝕔 ↦[R4 i]{fullShare} fe) ∗ semVal (𝕔, SemLoc.dma e4.sem) 0)) ?_ ?_
  · unfold own oth
    iintro ⟨⟨HD, HT, HK, HV, HE, HP⟩, HX, H4, H5, Hv1, Hv2, Hv4, HO⟩
    ihave HC := (in_begin d i t q x2 s.d2) $$ [HD HX]
    · isplitl [HD] <;> iassumption
    icases HC with ⟨HC, HR⟩
    iapply Iss.begin
    isplitl [Hv1]; · iexact Hv1
    isplitl [HC]; · iexact HC
    isplitl [HO]; · iexact HO
    isplitl [HR]; · iexact HR
    isplitl [HT HK HV HE HP]
    · isplitl [HT]; · iexact HT
      isplitl [HK]; · iexact HK
      isplitl [HV]; · iexact HV
      isplitl [HE] <;> iassumption
    isplitl [Hv2]; · iexact Hv2
    isplitl [H5]; · iexact H5
    isplitl [H4] <;> iassumption
  refine TW.seq (p47 d i t s) fun _ => ?_
  refine TW.ex fun s' => TW.fact fun hs' => ?_
  refine TW.wait (by decide) rfl ?_
  refine TW.waitLast (by decide) rfl ?_
  refine TW.ret ?_
  unfold own four
  iintro ⟨HC, Hv2, HO, ⟨HR, ⟨HD, HT, HK, HV⟩, HX, Hv1⟩, HE, H4, Hv4⟩
  ihave HC := (out_end d i t s'.pl fp) $$ [HC HR]
  · isplitl [HC] <;> iassumption
  icases HC with ⟨H5, HP⟩
  iexists s'
  iexists (newE i t s'.ei fe)
  iexists (newP i t s'.pl fp)
  isplitr
  · ipureintro
    refine ⟨hs'.1.trans hs.1, fun t' ht' r => ?_⟩
    by_cases h : t'.val = t.val
    · obtain rfl : t' = t := Fin.ext h
      have h2 := hs'.2 r
      rw [hs.1] at h2
      exact rowOut_new fe fp h2
    · exact rowOut_keep s'.ei s'.pl h (hs.2 t' (by omega) r)
  isplitl [HD HT HK HV HE HP]
  · isplitl [HD]; · iexact HD
    isplitl [HT]; · iexact HT
    isplitl [HK]; · iexact HK
    isplitl [HV]; · iexact HV
    isplitl [HE] <;> iassumption
  isplitl [HX]; · iexact HX
  isplitl [H4]; · iexact H4
  isplitl [H5]; · iexact H5
  isplitl [Hv1]; · iexact Hv1
  isplitl [Hv2]; · iexact Hv2
  isplitl [Hv4] <;> iassumption

/-- The tile's whole task. -/
theorem tile_run (s : RowSt F) (fe : Vec F S245760 .i32) (fp : Vec F S6389760 .f32) :
    TW d iprop(own d (tc i) (ts i) s ∗ (m2.view.loc 𝕔 ↦{q} x2) ∗ (m3.view.loc 𝕔 ↦{q} x3)
        ∗ (m4.view.loc 𝕔 ↦[R4 i]{fullShare} fe) ∗ (m5.view.loc 𝕔 ↦[R5 i]{fullShare} fp)
        ∗ semVal (𝕔, SemLoc.dma e1.sem) 0 ∗ semVal (𝕔, SemLoc.dma e2.sem) 0 ∗ semVal (𝕔, SemLoc.dma e3.sem) 0 ∗ semVal (𝕔, SemLoc.dma e4.sem) 0
        ∗ ows 𝕔 O W)
      (cc1_k i m2 h2 m3 h3 m4 h4 m5 h5 mD2 h6 mTab h7 mCk h8 mCv h9 mEi h10 mPl h11 e1 e2 e3 e4)
      (fun _ => iprop(∃ s : RowSt F, ∃ fe : Vec F S245760 .i32, ∃ fp : Vec F S6389760 .f32, ⌜Done x2 x3 i k1_t1_loop.trips fe fp⌝
        ∗ own d (tc i) (ts i) s ∗ (m2.view.loc 𝕔 ↦{q} x2) ∗ (m3.view.loc 𝕔 ↦{q} x3)
        ∗ (m4.view.loc 𝕔 ↦[R4 i]{fullShare} fe) ∗ (m5.view.loc 𝕔 ↦[R5 i]{fullShare} fp)
        ∗ semVal (𝕔, SemLoc.dma e1.sem) 0 ∗ semVal (𝕔, SemLoc.dma e2.sem) 0 ∗ semVal (𝕔, SemLoc.dma e3.sem) 0 ∗ semVal (𝕔, SemLoc.dma e4.sem) 0
        ∗ ows 𝕔 O W)) := by
  rw [cc1_k_eq_skeleton]; unfold cc1_k_skel
  refine TW.upd (P' := Iss (tabC d i q x3 s.tab) e3.sem 0 iprop(ows 𝕔 O W ∗ tabRest d i q x3 s.tab
    ∗ (mD2.view.loc 𝕔 ↦{fullShare} s.d2) ∗ (mCk.view.loc 𝕔 ↦{fullShare} s.ck) ∗ (mCv.view.loc 𝕔 ↦{fullShare} s.cv)
    ∗ (mEi.view.loc 𝕔 ↦{fullShare} s.ei) ∗ (mPl.view.loc 𝕔 ↦{fullShare} s.pl)
    ∗ (m2.view.loc 𝕔 ↦{q} x2) ∗ (m4.view.loc 𝕔 ↦[R4 i]{fullShare} fe) ∗ (m5.view.loc 𝕔 ↦[R5 i]{fullShare} fp)
    ∗ semVal (𝕔, SemLoc.dma e1.sem) 0 ∗ semVal (𝕔, SemLoc.dma e2.sem) 0 ∗ semVal (𝕔, SemLoc.dma e4.sem) 0)) ?_ ?_
  · unfold own
    iintro ⟨⟨HD, HT, HK, HV, HE, HP⟩, HX, H3, H4, H5, Hv1, Hv2, Hv3, Hv4, HO⟩
    ihave HC := (tab_begin d i q x3 s.tab) $$ [HT H3]
    · isplitl [HT] <;> iassumption
    icases HC with ⟨HC, HR⟩
    iapply Iss.begin
    isplitl [Hv3]; · iexact Hv3
    isplitl [HC]; · iexact HC
    isplitl [HO]; · iexact HO
    isplitl [HR]; · iexact HR
    isplitl [HD]; · iexact HD
    isplitl [HK]; · iexact HK
    isplitl [HV]; · iexact HV
    isplitl [HE]; · iexact HE
    isplitl [HP]; · iexact HP
    isplitl [HX]; · iexact HX
    isplitl [H4]; · iexact H4
    isplitl [H5]; · iexact H5
    isplitl [Hv1]; · iexact Hv1
    isplitl [Hv2] <;> iassumption
  refine TW.issue (by decide) ?_
  refine TW.pre Iss.waits ?_
  refine TW.waitLast (by decide) rfl ?_
  refine TW.pre (P' := iprop(St d i q x2 x3 e1 e2 e4 O W 0 ∗ ((m3.view.loc 𝕔 ↦{q} x3) ∗ semVal (𝕔, SemLoc.dma e3.sem) 0))) ?_ ?_
  · unfold St own
    iintro ⟨HC, Hv3, HO, HR, HD, HK, HV, HE, HP, HX, H4, H5, Hv1, Hv2, Hv4⟩
    ihave HC := (tab_end d i q x3 s.tab) $$ [HC HR]
    · isplitl [HC] <;> iassumption
    icases HC with ⟨HT, H3⟩
    isplitr [H3 Hv3]
    · iexists { s with tab := tabOf x3 i }
      iexists fe
      iexists fp
      isplitr
      · ipureintro; exact ⟨rfl, fun t' h => absurd h (Nat.not_lt_zero _)⟩
      isplitl [HD HT HK HV HE HP]
      · isplitl [HD]; · iexact HD
        isplitl [HT]; · iexact HT
        isplitl [HK]; · iexact HK
        isplitl [HV]; · iexact HV
        isplitl [HE] <;> iassumption
      isplitl [HX]; · iexact HX
      isplitl [H4]; · iexact H4
      isplitl [H5]; · iexact H5
      isplitl [Hv1]; · iexact Hv1
      isplitl [Hv2]; · iexact Hv2
      isplitl [Hv4] <;> iassumption
    isplitl [H3] <;> iassumption
  refine TW.seq (TW.loop (fun n => iprop(St d i q x2 x3 e1 e2 e4 O W n ∗ ((m3.view.loc 𝕔 ↦{q} x3) ∗ semVal (𝕔, SemLoc.dma e3.sem) 0)))
    fun t => TW.frame (trip d i t)) fun _ => ?_
  refine TW.ret ?_
  unfold St
  iintro ⟨⟨%s, %fe, %fp, %h, HS, HX, H4, H5, Hv1, Hv2, Hv4, HO⟩, H3, Hv3⟩
  iexists s
  iexists fe
  iexists fp
  isplitr
  · ipureintro; exact h.2
  isplitl [HS]; · iexact HS
  isplitl [HX]; · iexact HX
  isplitl [H3]; · iexact H3
  isplitl [H4]; · iexact H4
  isplitl [H5]; · iexact H5
  isplitl [Hv1]; · iexact Hv1
  isplitl [Hv2]; · iexact Hv2
  isplitl [Hv3]; · iexact Hv3
  isplitl [Hv4] <;> iassumption

end Whole

end Cert.Proof.Knn

end
-- ==== Proof.Launch.lean ====
/-
  What the SparseCore call hands each tile and takes back, the tile's obligation, and the tiles' parts put together:
  every row of the two results as `RowOut` says.
-/
module

public import Idealize.ShloMosaic.Lib.SparseCore.Quiescent
public import Idealize.ShloMosaic.Lib.SparseCore.Stream
public import Idealize.ShloMosaic.Lib.Pipeline.Kit
public import proofs.«01_k».proof.Proof.Tile

@[expose] public section

set_option maxRecDepth 8192

noncomputable section

namespace Cert.Proof.Knn

open Cert.KernelIdeal Cert.KernelIdeal.Gen

open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' part of the ghost state, and the pipeline's. -/
abbrev EH : Emb UH (MT nD τ sig (HIx 1) (Elt F) ℕ UU ℕ) := (Emb.inl).trans embL
abbrev EP : Emb (UR sig nD τ) (MT nD τ sig (HIx 1) (Elt F) ℕ UU ℕ) := (Emb.inr).trans embL

/-! ## The arrays and their parts -/

abbrev aLoc (d : Dev nD) : Loc nD τ sig := (SparseCore.T d).loc main_v1_0
abbrev bLoc (d : Dev nD) : Loc nD τ sig := (SparseCore.T d).loc main_v2
abbrev eLoc (d : Dev nD) : Loc nD τ sig := (SparseCore.T d).loc main_v3_0
abbrev pLoc (d : Dev nD) : Loc nD τ sig := (SparseCore.T d).loc main_v3_1

/-- The coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))
abbrev crd (p : Fin 2 × Fin 16) : grid1.Coords := coordsV p.1 p.2

theorem wid_crd (p : Fin 2 × Fin 16) : wid (crd p) = 2 * p.2.val + p.1.val := rfl

theorem crd_surj (i : grid1.Coords) : ∃ p, crd p = i :=
  ⟨(i 0, i 1), funext fun a => match a with | 0 => rfl | 1 => rfl⟩

/-- The share in which a tile reads the two arguments. -/
def rq (p : Fin 2 × Fin 16) : PosShare TreeShare := pieceOf fullShare 32 (by decide) (finProdFinEquiv p)

theorem shares {ℓ : Loc nD τ sig} (f : Buf (Elt F) ℓ) :
    (ℓ ↦{fullShare} f : sProp 𝕄) = bigSep Finset.univ fun p : Fin 2 × Fin 16 => ℓ ↦{rq p} f := by
  rw [pointsTo_piecesOf Finset.univ f (o := 32) (by decide) fullShare]
  exact bigSep_univ_equiv (finProdFinEquiv : Fin 2 × Fin 16 ≃ Fin (2 * 16)) _

theorem pair_ext {p p' : Fin 2 × Fin 16} (h : wid (crd p) = wid (crd p')) : p = p' := by
  rw [wid_crd, wid_crd] at h
  have h1 := p.1.isLt; have h2 := p'.1.isLt
  exact Prod.ext (Fin.ext (by omega)) (Fin.ext (by omega))

theorem pair_of (w : ℕ) (h : w < 32) : ∃ p : Fin 2 × Fin 16, wid (crd p) = w :=
  ⟨(⟨w % 2, by omega⟩, ⟨w / 2, by omega⟩), by rw [wid_crd]; show 2 * (w / 2) + w % 2 = w; omega⟩

theorem R4_disj (p p' : Fin 2 × Fin 16) (h : p ≠ p') : Disjoint (R4 (crd p)) (R4 (crd p')) :=
  Finset.disjoint_left.mpr fun x hx hx' =>
    h (pair_ext (((Finset.mem_filter.mp hx).2).symm.trans (Finset.mem_filter.mp hx').2))
theorem R5_disj (p p' : Fin 2 × Fin 16) (h : p ≠ p') : Disjoint (R5 (crd p)) (R5 (crd p')) :=
  Finset.disjoint_left.mpr fun x hx hx' =>
    h (pair_ext (((Finset.mem_filter.mp hx).2).symm.trans (Finset.mem_filter.mp hx').2))
theorem R4_cover : (Finset.univ.biUnion fun p => R4 (crd p)) = Finset.univ := by
  refine Finset.eq_univ_iff_forall.mpr fun x => ?_
  have hx : (x 0).val < 245760 := (x 0).isLt
  obtain ⟨p, hp⟩ := pair_of ((x 0).val / 7680) (by omega)
  exact Finset.mem_biUnion.mpr ⟨p, Finset.mem_univ _, Finset.mem_filter.mpr ⟨Finset.mem_univ _, hp.symm⟩⟩
theorem R5_cover : (Finset.univ.biUnion fun p => R5 (crd p)) = Finset.univ := by
  refine Finset.eq_univ_iff_forall.mpr fun x => ?_
  have hx : (x 0).val % 245760 < 245760 := Nat.mod_lt _ (by decide)
  obtain ⟨p, hp⟩ := pair_of ((x 0).val % 245760 / 7680) (by omega)
  exact Finset.mem_biUnion.mpr ⟨p, Finset.mem_univ _, Finset.mem_filter.mpr ⟨Finset.mem_univ _, hp.symm⟩⟩

variable (m : (ℓ : Loc nD τ sig) → Buf (Elt F) ℓ) (ρ : Dev nD → PrngReg)

variable [FloatOps F]

/-- What a tile is handed. -/
def goP (d : Dev nD) (p : Fin 2 × Fin 16) : sProp 𝕄 :=
  iprop((aLoc d ↦{rq p} m (aLoc d)) ∗ (bLoc d ↦{rq p} m (bLoc d))
    ∗ (eLoc d ↦[R4 (crd p)]{fullShare} m (eLoc d)) ∗ (pLoc d ↦[R5 (crd p)]{fullShare} m (pLoc d)))

/-- What a tile brings back: its rows written. -/
def tdP (d : Dev nD) (p : Fin 2 × Fin 16) : sProp 𝕄 :=
  iprop(∃ y : Vec F S245760 .i32 × Vec F S6389760 .f32, ⌜Done (F := F) (m (aLoc d)) (m (bLoc d)) (crd p) k1_t1_loop.trips y.1 y.2⌝
    ∗ (aLoc d ↦{rq p} m (aLoc d)) ∗ (bLoc d ↦{rq p} m (bLoc d))
    ∗ (eLoc d ↦[R4 (crd p)]{fullShare} y.1) ∗ (pLoc d ↦[R5 (crd p)]{fullShare} y.2))

instance goP_storable (d : Dev nD) (p : Fin 2 × Fin 16) : BI.Storable (upEmb : UEmb _ 𝕄) (goP m d p) := by
  unfold goP; infer_instance
instance tdP_storable (d : Dev nD) (p : Fin 2 × Fin 16) : BI.Storable (upEmb : UEmb _ 𝕄) (tdP m d p) := by
  unfold tdP; infer_instance

theorem nCore_zero : (K (F := F)).nCore 0 = 2 := rfl

/-- What the handshakes carry. -/
def P : (K (F := F)).Pay (nD := nD) (Val := Elt F) (Name := ℕ) (U := UU) where
  st := fun q d c => match q with | 0 => bigSep Finset.univ fun s : Fin 16 => goP m d (Fin.cast nCore_zero c, s)
  dn := fun q d c => match q with | 0 => bigSep Finset.univ fun s : Fin 16 => tdP m d (Fin.cast nCore_zero c, s)
  go := fun q d c s => match q with | 0 => goP m d (Fin.cast nCore_zero c, Fin.cast nSub_zero s)
  td := fun q d c s => match q with | 0 => tdP m d (Fin.cast nCore_zero c, Fin.cast nSub_zero s)
  x := fun _ _ => iprop(emp)

instance P_storable : (P (F := F) m).IsStorable where
  st q d c := match q with
    | 0 => (inferInstance : BI.Storable (upEmb : UEmb _ 𝕄) (bigSep Finset.univ fun s : Fin 16 => goP m d (Fin.cast nCore_zero c, s)))
  dn q d c := match q with
    | 0 => (inferInstance : BI.Storable (upEmb : UEmb _ 𝕄) (bigSep Finset.univ fun s : Fin 16 => tdP m d (Fin.cast nCore_zero c, s)))
  go q d c s := match q with | 0 => goP_storable m d (Fin.cast nCore_zero c, Fin.cast nSub_zero s)
  td q d c s := match q with | 0 => tdP_storable m d (Fin.cast nCore_zero c, Fin.cast nSub_zero s)

/-! ## The task -/

section Task

variable (d : Dev nD) (i : grid1.Coords)

omit [FloatOps F] in
theorem sne {a b : Ref sig .scVector} (h : a ≠ b) : (Proc.scVector (tc i) (ts i)).devRef a ≠ (Proc.scVector (tc i) (ts i)).devRef b :=
  fun e => h (Proc.devRef_injective _ e)
omit [FloatOps F] in
theorem cne {c : Thread nD τ} {a b : SemLoc sig} (h : a ≠ b) : (c, a) ≠ (c, b) := fun e => h (Prod.ext_iff.mp e).2

theorem ownBufs_V : (ownBufs (V d (tc i) (ts i)) : sProp 𝕄)
    = iprop((∃ f, (V d (tc i) (ts i)).loc cc1_scratch0 ↦{fullShare} f) ∗ (∃ f, (V d (tc i) (ts i)).loc cc1_scratch1 ↦{fullShare} f) ∗ (∃ f, (V d (tc i) (ts i)).loc cc1_scratch2 ↦{fullShare} f) ∗ (∃ f, (V d (tc i) (ts i)).loc cc1_scratch3 ↦{fullShare} f) ∗ (∃ f, (V d (tc i) (ts i)).loc cc1_scratch4 ↦{fullShare} f) ∗ (∃ f, (V d (tc i) (ts i)).loc cc1_scratch5 ↦{fullShare} f)
      ∗ bigSep (((((((ownRefs (τ := τ) (.scVector (tc i) (ts i))).erase ((Proc.scVector (tc i) (ts i)).devRef cc1_scratch0)).erase ((Proc.scVector (tc i) (ts i)).devRef cc1_scratch1)).erase ((Proc.scVector (tc i) (ts i)).devRef cc1_scratch2)).erase ((Proc.scVector (tc i) (ts i)).devRef cc1_scratch3)).erase ((Proc.scVector (tc i) (ts i)).devRef cc1_scratch4)).erase ((Proc.scVector (tc i) (ts i)).devRef cc1_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (tc i) (ts i)) (b := (Proc.scVector (tc i) (ts i)).devRef cc1_scratch0) rfl)).trans ?_
  rw [SparseCore.bigSep_erase' (Finset.mem_erase.mpr ⟨sne i (show cc1_scratch1 ≠ cc1_scratch0 by decide), (SparseCore.Cfg.mem_ownRefs_of_owner (p := Proc.scVector (tc i) (ts i)) (b := (Proc.scVector (tc i) (ts i)).devRef cc1_scratch1) rfl)⟩),
    SparseCore.bigSep_erase' (Finset.mem_erase.mpr ⟨sne i (show cc1_scratch2 ≠ cc1_scratch1 by decide), (Finset.mem_erase.mpr ⟨sne i (show cc1_scratch2 ≠ cc1_scratch0 by decide), (SparseCore.Cfg.mem_ownRefs_of_owner (p := Proc.scVector (tc i) (ts i)) (b := (Proc.scVector (tc i) (ts i)).devRef cc1_scratch2) rfl)⟩)⟩),
    SparseCore.bigSep_erase' (Finset.mem_erase.mpr ⟨sne i (show cc1_scratch3 ≠ cc1_scratch2 by decide), (Finset.mem_erase.mpr ⟨sne i (show cc1_scratch3 ≠ cc1_scratch1 by decide), (Finset.mem_erase.mpr ⟨sne i (show cc1_scratch3 ≠ cc1_scratch0 by decide), (SparseCore.Cfg.mem_ownRefs_of_owner (p := Proc.scVector (tc i) (ts i)) (b := (Proc.scVector (tc i) (ts i)).devRef cc1_scratch3) rfl)⟩)⟩)⟩),
    SparseCore.bigSep_erase' (Finset.mem_erase.mpr ⟨sne i (show cc1_scratch4 ≠ cc1_scratch3 by decide), (Finset.mem_erase.mpr ⟨sne i (show cc1_scratch4 ≠ cc1_scratch2 by decide), (Finset.mem_erase.mpr ⟨sne i (show cc1_scratch4 ≠ cc1_scratch1 by decide), (Finset.mem_erase.mpr ⟨sne i (show cc1_scratch4 ≠ cc1_scratch0 by decide), (SparseCore.Cfg.mem_ownRefs_of_owner (p := Proc.scVector (tc i) (ts i)) (b := (Proc.scVector (tc i) (ts i)).devRef cc1_scratch4) rfl)⟩)⟩)⟩)⟩),
    SparseCore.bigSep_erase' (Finset.mem_erase.mpr ⟨sne i (show cc1_scratch5 ≠ cc1_scratch4 by decide), (Finset.mem_erase.mpr ⟨sne i (show cc1_scratch5 ≠ cc1_scratch3 by decide), (Finset.mem_erase.mpr ⟨sne i (show cc1_scratch5 ≠ cc1_scratch2 by decide), (Finset.mem_erase.mpr ⟨sne i (show cc1_scratch5 ≠ cc1_scratch1 by decide), (Finset.mem_erase.mpr ⟨sne i (show cc1_scratch5 ≠ cc1_scratch0 by decide), (SparseCore.Cfg.mem_ownRefs_of_owner (p := Proc.scVector (tc i) (ts i)) (b := (Proc.scVector (tc i) (ts i)).devRef cc1_scratch5) rfl)⟩)⟩)⟩)⟩)⟩)]

theorem ownSems0_V : (ownSems0 (V d (tc i) (ts i)) : sProp 𝕄)
    = iprop(semVal (V d (tc i) (ts i), SemLoc.dma cc1_scratch6.sem) 0 ∗ semVal (V d (tc i) (ts i), SemLoc.dma cc1_scratch7.sem) 0 ∗ semVal (V d (tc i) (ts i), SemLoc.dma cc1_scoped0.sem) 0 ∗ semVal (V d (tc i) (ts i), SemLoc.dma cc1_scoped1.sem) 0
      ∗ bigSep (((((ownCells (V d (tc i) (ts i))).erase (V d (tc i) (ts i), SemLoc.dma cc1_scratch6.sem)).erase (V d (tc i) (ts i), SemLoc.dma cc1_scratch7.sem)).erase (V d (tc i) (ts i), SemLoc.dma cc1_scoped0.sem)).erase (V d (tc i) (ts i), SemLoc.dma cc1_scoped1.sem)) fun g => semVal g 0) := by
  unfold SparseCore.Cfg.ownSems0
  rw [SparseCore.bigSep_erase' ((mem_ownCells (g := (V d (tc i) (ts i), SemLoc.dma cc1_scratch6.sem))).mpr ⟨rfl, show (SemLoc.dma cc1_scratch6.sem : SemLoc sig).isScoped .scVector = true by decide⟩),
    SparseCore.bigSep_erase' (Finset.mem_erase.mpr ⟨cne (show (SemLoc.dma cc1_scratch7.sem : SemLoc sig) ≠ SemLoc.dma cc1_scratch6.sem by decide), ((mem_ownCells (g := (V d (tc i) (ts i), SemLoc.dma cc1_scratch7.sem))).mpr ⟨rfl, show (SemLoc.dma cc1_scratch7.sem : SemLoc sig).isScoped .scVector = true by decide⟩)⟩),
    SparseCore.bigSep_erase' (Finset.mem_erase.mpr ⟨cne (show (SemLoc.dma cc1_scoped0.sem : SemLoc sig) ≠ SemLoc.dma cc1_scratch7.sem by decide), (Finset.mem_erase.mpr ⟨cne (show (SemLoc.dma cc1_scoped0.sem : SemLoc sig) ≠ SemLoc.dma cc1_scratch6.sem by decide), ((mem_ownCells (g := (V d (tc i) (ts i), SemLoc.dma cc1_scoped0.sem))).mpr ⟨rfl, show (SemLoc.dma cc1_scoped0.sem : SemLoc sig).isScoped .scVector = true by decide⟩)⟩)⟩),
    SparseCore.bigSep_erase' (Finset.mem_erase.mpr ⟨cne (show (SemLoc.dma cc1_scoped1.sem : SemLoc sig) ≠ SemLoc.dma cc1_scoped0.sem by decide), (Finset.mem_erase.mpr ⟨cne (show (SemLoc.dma cc1_scoped1.sem : SemLoc sig) ≠ SemLoc.dma cc1_scratch7.sem by decide), (Finset.mem_erase.mpr ⟨cne (show (SemLoc.dma cc1_scoped1.sem : SemLoc sig) ≠ SemLoc.dma cc1_scratch6.sem by decide), ((mem_ownCells (g := (V d (tc i) (ts i), SemLoc.dma cc1_scoped1.sem))).mpr ⟨rfl, show (SemLoc.dma cc1_scoped1.sem : SemLoc sig).isScoped .scVector = true by decide⟩)⟩)⟩)⟩)]

/-- The task of tile `i`. -/
theorem tile_body (p : Fin 2 × Fin 16) (hi : crd p = i) (O : CellTallies nD τ sig (HIx 1)) (W : Waits sig (HIx 1)) (hO : ∀ g, O g none = 0) :
    iprop(levAts (K (F := F)).L (K (F := F)).lev ∗ emp ∗ goP m d p
        ∗ scopedBufs (V d (tc i) (ts i)) ∗ scopedSems0 (V d (tc i) (ts i)) ∗ owes (V d (tc i) (ts i)) O W)
      ⊢ wp frame (wpE (defs₀ (F := F)) 𝒱₀ (V d (tc i) (ts i)) none) Set.univ
          (cc1_k i m2 (Memref.isWhole_whole _) m3 (Memref.isWhole_whole _) m4 (Memref.isWhole_whole _) m5 (Memref.isWhole_whole _)
            mD2 (Memref.isWhole_whole _) mTab (Memref.isWhole_whole _) mCk (Memref.isWhole_whole _) mCv (Memref.isWhole_whole _)
            mEi (Memref.isWhole_whole _) mPl (Memref.isWhole_whole _) cc1_scratch6 cc1_scratch7 cc1_scoped0 cc1_scoped1)
          fun _ => iprop(tdP m d p ∗ scopedBufs (V d (tc i) (ts i)) ∗ scopedSems0 (V d (tc i) (ts i))
            ∗ ∃ W', ⌜∀ p ∈ W', p ∈ W ∨ p.2 = none⌝ ∗ owes (V d (tc i) (ts i)) O W') := by
  subst hi
  rw [(K (F := F)).scopedBufs_V facts d (tc (crd p)) (ts (crd p)), SparseCore.Cfg.scopedSems0_V (Val := Elt F) d (tc (crd p)) (ts (crd p)), ownSems0_V, ownBufs_V]
  iintro ⟨#Hlv, -, Hgo, ⟨⟨%f0, H0⟩, ⟨%f1, H1⟩, ⟨%f2, H2⟩, ⟨%f3, H3⟩, ⟨%f4, H4⟩, ⟨%f5, H5⟩, Hbufs⟩, ⟨Hs1, Hs2, Hs3, Hs4, Hsems⟩, HO⟩
  ihave Hmw := (show levAts (K (F := F)).L (K (F := F)).lev ⊢ Transfers.MayWaits (V d (tc (crd p)) (ts (crd p))) (default : HIx 1) O from
    (K (F := F)).mayWaits_none (thr := V d (tc (crd p)) (ts (crd p))) hO) $$ Hlv
  have hrun := (tile_run (F := F) d (crd p) (h2 := Memref.isWhole_whole _) (h3 := Memref.isWhole_whole _) (h4 := Memref.isWhole_whole _) (h5 := Memref.isWhole_whole _)
    (h6 := Memref.isWhole_whole _) (h7 := Memref.isWhole_whole _) (h8 := Memref.isWhole_whole _) (h9 := Memref.isWhole_whole _)
    (h10 := Memref.isWhole_whole _) (h11 := Memref.isWhole_whole _) (e1 := cc1_scratch6) (e2 := cc1_scratch7) (e3 := cc1_scoped0) (e4 := cc1_scoped1)
    (q := rq p) (x2 := m (aLoc d)) (x3 := m (bLoc d)) (O := O) (W := W) ⟨f0, f1, f2, f3, f4, f5⟩ (m (eLoc d)) (m (pLoc d))).frame
      (X := iprop((bigSep (((((((ownRefs (τ := τ) (.scVector (tc (crd p)) (ts (crd p)))).erase ((Proc.scVector (tc (crd p)) (ts (crd p))).devRef cc1_scratch0)).erase ((Proc.scVector (tc (crd p)) (ts (crd p))).devRef cc1_scratch1)).erase ((Proc.scVector (tc (crd p)) (ts (crd p))).devRef cc1_scratch2)).erase ((Proc.scVector (tc (crd p)) (ts (crd p))).devRef cc1_scratch3)).erase ((Proc.scVector (tc (crd p)) (ts (crd p))).devRef cc1_scratch4)).erase ((Proc.scVector (tc (crd p)) (ts (crd p))).devRef cc1_scratch5)) fun b => iprop(∃ f, ((d, b) : Loc nD τ sig) ↦{fullShare} f)) ∗ bigSep (((((ownCells (V d (tc (crd p)) (ts (crd p)))).erase (V d (tc (crd p)) (ts (crd p)), SemLoc.dma cc1_scratch6.sem)).erase (V d (tc (crd p)) (ts (crd p)), SemLoc.dma cc1_scratch7.sem)).erase (V d (tc (crd p)) (ts (crd p)), SemLoc.dma cc1_scoped0.sem)).erase (V d (tc (crd p)) (ts (crd p)), SemLoc.dma cc1_scoped1.sem)) fun g => semVal g 0))
  unfold TW at hrun
  iapply (BIBase.Entails.trans hrun (wp_mono frame _ _ fun a => ?_)) $$ [Hgo H0 H1 H2 H3 H4 H5 Hbufs Hs1 Hs2 Hs3 Hs4 Hsems HO Hmw]
  · unfold tdP own ows
    iintro ⟨⟨%s, %fe, %fp, %hd, ⟨H0, H1, H2, H3, H4, H5⟩, HA, HB, HE, HP, Hs1, Hs2, Hs3, Hs4, -, HO⟩, Hbufs, Hsems⟩
    isplitl [HA HB HE HP]
    · iexists (fe, fp)
      isplitr
      · ipureintro; exact hd
      isplitl [HA]; · iexact HA
      isplitl [HB]; · iexact HB
      isplitl [HE] <;> iassumption
    isplitl [H0 H1 H2 H3 H4 H5 Hbufs]
    · isplitl [H0]; · iexists s.d2; iexact H0
      isplitl [H1]; · iexists s.tab; iexact H1
      isplitl [H2]; · iexists s.ck; iexact H2
      isplitl [H3]; · iexists s.cv; iexact H3
      isplitl [H4]; · iexists s.ei; iexact H4
      isplitl [H5]; · iexists s.pl; iexact H5
      iexact Hbufs
    isplitl [Hs1 Hs2 Hs3 Hs4 Hsems]
    · isplitl [Hs1]; · iexact Hs1
      isplitl [Hs2]; · iexact Hs2
      isplitl [Hs3]; · iexact Hs3
      isplitl [Hs4]; · iexact Hs4
      iexact Hsems
    iexact HO
  unfold goP own ows
  icases Hgo with ⟨HA, HB, HE, HP⟩
  isplitr [Hbufs Hsems]
  · isplitl [H0 H1 H2 H3 H4 H5]
    · isplitl [H0]; · iexact H0
      isplitl [H1]; · iexact H1
      isplitl [H2]; · iexact H2
      isplitl [H3]; · iexact H3
      isplitl [H4]; · iexact H4
      iexact H5
    isplitl [HA]; · iexact HA
    isplitl [HB]; · iexact HB
    isplitl [HE]; · iexact HE
    isplitl [HP]; · iexact HP
    isplitl [Hs1]; · iexact Hs1
    isplitl [Hs2]; · iexact Hs2
    isplitl [Hs3]; · iexact Hs3
    isplitl [Hs4]; · iexact Hs4
    isplitl [Hmw]; · iexact Hmw
    iexists W
    isplitr
    · ipureintro; exact fun p hp => .inl hp
    iexact HO
  isplitl [Hbufs] <;> iassumption

end Task

/-! ## The obligation -/

theorem defs₀_vector (c : Fin τ.nSC) (s : Fin τ.nSub) :
    defs₀ (F := F) (.scVector c s) 1 ()
      = SparseCore.onTile hcore1 hsub1 (fun c s => cc1_k (coordsV c s)
          m2 (Memref.isWhole_whole _) m3 (Memref.isWhole_whole _) m4 (Memref.isWhole_whole _) m5 (Memref.isWhole_whole _)
            mD2 (Memref.isWhole_whole _) mTab (Memref.isWhole_whole _) mCk (Memref.isWhole_whole _) mCv (Memref.isWhole_whole _)
            mEi (Memref.isWhole_whole _) mPl (Memref.isWhole_whole _) cc1_scratch6 cc1_scratch7 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c s O W hO _ _
  simp only [show (P m).ox = fun _ _ => 0 from rfl, add_zero]
  have hci : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) (Fin.cast nCore_zero c, Fin.cast nSub_zero s) rfl O W hO).trans (wp_mono frame _ _ fun _ => obl_post)

theorem vecSplit : (K (F := F)).VecSplit' (P m) 0 := by
  intro d c
  show (bigSep Finset.univ fun s : Fin 16 => goP m d (Fin.cast nCore_zero c, s)) ⊢ |={Set.univ}=> iprop(
      (bigSep Finset.univ fun s : Fin 16 => goP m d (Fin.cast nCore_zero c, s))
      ∗ ((bigSep Finset.univ fun s : Fin 16 => tdP m d (Fin.cast nCore_zero c, s))
          -∗ (bigSep Finset.univ fun s : Fin 16 => tdP m d (Fin.cast nCore_zero c, s))))
  iintro H; imodintro
  isplitl [H]; · iexact H
  iintro H; iexact H

/-! ## The parts put together -/

/-- Every row of the two results is as it should be. -/
def AllRows (d : Dev nD) (fe : Vec F S245760 .i32) (fp : Vec F S6389760 .f32) : Prop :=
  ∀ i t r, RowOut (F := F) (m (aLoc d)) (m (bLoc d)) i t r fe fp

/-- A row reads the tile's part alone. -/
theorem rowOut_local {x2 : Vec F S8x1024x1024 .f32} {x3 : Vec F S131072 .f32} {i : grid1.Coords} {t : Fin k1_t1_loop.trips} {r : Fin k1_t2_loop.trips}
    {fe fe' : Vec F S245760 .i32} {fp fp' : Vec F S6389760 .f32} (he : ∀ x ∈ R4 i, fe' x = fe x) (hp : ∀ x ∈ R5 i, fp' x = fp x)
    (h : RowOut x2 x3 i t r fe fp) : RowOut x2 x3 i t r fe' fp' := by
  obtain ⟨mm, h1, h2, h3⟩ := h
  have ht := t1_lt t
  have hr := r_lt r
  have hw := wid_lt i
  refine ⟨mm, h1, fun k hk => ?_, fun p hp' k hk => ?_⟩
  · rw [he _ (Finset.mem_filter.mpr ⟨Finset.mem_univ _, ?_⟩)]
    · exact h2 k hk
    · rw [cell_val (by unfold blk; omega)]; unfold blk; omega
  · rw [hp _ (Finset.mem_filter.mpr ⟨Finset.mem_univ _, ?_⟩)]
    · exact h3 p hp' k hk
    · rw [cell_val (by unfold blk; omega)]; unfold blk; omega

/-- The call's four arrays when it has returned. -/
abbrev OUT (d : Dev nD) : sProp 𝕄 :=
  iprop((aLoc d ↦{fullShare} m (aLoc d)) ∗ (bLoc d ↦{fullShare} m (bLoc d))
    ∗ ∃ fe, ∃ fp, ⌜AllRows m d fe fp⌝ ∗ (eLoc d ↦{fullShare} fe) ∗ (pLoc d ↦{fullShare} fp))

omit [FloatOps F] in
theorem ePts (d : Dev nD) (f : Buf (Elt F) (eLoc d)) :
    (eLoc d ↦{fullShare} f : sProp 𝕄) = bigSep Finset.univ fun p : Fin 2 × Fin 16 => eLoc d ↦[R4 (crd p)]{fullShare} f := by
  rw [← pointsTo_biUnion Finset.univ (ℓ := eLoc d) (fun p => R4 (crd p)) (fun p _ p' _ h => R4_disj p p' h)]
  exact congrArg (fun S => (eLoc d ↦[S]{fullShare} f : sProp 𝕄)) R4_cover.symm
omit [FloatOps F] in
theorem pPts (d : Dev nD) (f : Buf (Elt F) (pLoc d)) :
    (pLoc d ↦{fullShare} f : sProp 𝕄) = bigSep Finset.univ fun p : Fin 2 × Fin 16 => pLoc d ↦[R5 (crd p)]{fullShare} f := by
  rw [← pointsTo_biUnion Finset.univ (ℓ := pLoc d) (fun p => R5 (crd p)) (fun p _ p' _ h => R5_disj p p' h)]
  exact congrArg (fun S => (pLoc d ↦[S]{fullShare} f : sProp 𝕄)) R5_cover.symm

theorem deal (d : Dev nD) :
    iprop((aLoc d ↦{fullShare} m (aLoc d)) ∗ (bLoc d ↦{fullShare} m (bLoc d)) ∗ (eLoc d ↦{fullShare} m (eLoc d)) ∗ (pLoc d ↦{fullShare} m (pLoc d)))
      ⊢ (bigSep Finset.univ (goP m d) : sProp 𝕄) := by
  rw [shares (F := F) (m (aLoc d)), shares (F := F) (m (bLoc d)), ePts, pPts]
  unfold goP
  rw [bigSep_sep', bigSep_sep', bigSep_sep']

theorem gather (d : Dev nD) : (bigSep Finset.univ (tdP m d) : sProp 𝕄) ⊢ OUT m d := by
  unfold tdP
  have : Nonempty (Vec F S245760 .i32 × Vec F S6389760 .f32) := ⟨(m (eLoc d), m (pLoc d))⟩
  refine BIBase.Entails.trans (bigSep_exists_pi Finset.univ (fun p (y : Vec F S245760 .i32 × Vec F S6389760 .f32) => iprop(
    ⌜Done (F := F) (m (aLoc d)) (m (bLoc d)) (crd p) k1_t1_loop.trips y.1 y.2⌝
    ∗ (aLoc d ↦{rq p} m (aLoc d)) ∗ (bLoc d ↦{rq p} m (bLoc d))
    ∗ (eLoc d ↦[R4 (crd p)]{fullShare} y.1) ∗ (pLoc d ↦[R5 (crd p)]{fullShare} y.2)))) ?_
  iintro ⟨%y, H⟩
  ihave H := (bigSep_pure_sep Finset.univ (fun p => Done (F := F) (m (aLoc d)) (m (bLoc d)) (crd p) k1_t1_loop.trips (y p).1 (y p).2)
    (fun p => iprop((aLoc d ↦{rq p} m (aLoc d)) ∗ (bLoc d ↦{rq p} m (bLoc d))
      ∗ (eLoc d ↦[R4 (crd p)]{fullShare} (y p).1) ∗ (pLoc d ↦[R5 (crd p)]{fullShare} (y p).2)))) $$ H
  rw [bigSep_sep', bigSep_sep', bigSep_sep', ← shares (F := F) (m (aLoc d)), ← shares (F := F) (m (bLoc d))]
  icases H with ⟨%hy, HA, HB, HE, HP⟩
  ihave HE := (pointsTo_biUnion_join (ℓ := eLoc d) (q := fullShare) (Val := Elt F) Finset.univ (fun p => R4 (crd p)) (fun p => (y p).1) (m (eLoc d))
    (fun p _ p' _ h => R4_disj p p' h)) $$ HE
  ihave HP := (pointsTo_biUnion_join (ℓ := pLoc d) (q := fullShare) (Val := Elt F) Finset.univ (fun p => R5 (crd p)) (fun p => (y p).2) (m (pLoc d))
    (fun p _ p' _ h => R5_disj p p' h)) $$ HP
  icases HE with ⟨%fe, %he, HE⟩
  icases HP with ⟨%fp, %hp, HP⟩
  isplitl [HA]; · iexact HA
  isplitl [HB]; · iexact HB
  iexists fe
  iexists fp
  isplitr
  · ipureintro
    intro i t r
    obtain ⟨p, rfl⟩ := crd_surj i
    exact rowOut_local (he p (Finset.mem_univ _)) (hp p (Finset.mem_univ _)) (hy p (Finset.mem_univ _) t t.isLt r)
  isplitl [HE]
  · iapply (Entails.of_eq (congrArg (fun S => (eLoc d ↦[S]{fullShare} fe : sProp 𝕄)) R4_cover)) $$ HE
  · iapply (Entails.of_eq (congrArg (fun S => (pLoc d ↦[S]{fullShare} fp : sProp 𝕄)) R5_cover)) $$ HP

end Cert.Proof.Knn

end
-- ==== Proof.TcBody.lean ====
/-
  The body of the TensorCore call that makes the squared distances and the table of one batch entry: what it leaves in
  its two output blocks. At each grid point it stores a block of squared distances; at the first of the four points of
  a batch entry it also stores the entry's table, thirteen stores of which the first covers the whole block.
-/
module

public import proofs.«01_k».proof.Proof.Base
public import Idealize.ShloMosaic.Lib.Pipeline.FrameBody
public import Idealize.ShloMosaic.Lib.Pipeline.Value

@[expose] public section

set_option maxRecDepth 16384

noncomputable section

namespace Cert.Proof.Knn

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The contents of a table block after the stores of one batch entry whose coordinates are `v` (three rows). -/
def tabPieces (v : Vec F S1x3x1024 .f32) : List (View.Piece (Elt F) S1x16x1024 .f32) :=
  let v3 := k0_pay1 v
  let n := k0_pay31 v3
  [⟨Rect.unit ![0, 11, 0] S1x1x1024.size inb_S1x16x1024_S1x1x1024_0_11_0, k0_pay10 (k0_pay14 v3)⟩,
   ⟨Rect.unit ![0, 10, 0] S1x1x1024.size inb_S1x16x1024_S1x1x1024_0_10_0, k0_pay9 (k0_pay13 v3)⟩,
   ⟨Rect.unit ![0, 9, 0] S1x1x1024.size inb_S1x16x1024_S1x1x1024_0_9_0, k0_pay8 (k0_pay12 v3)⟩,
   ⟨Rect.unit ![0, 8, 1] S1x1x1021.size inb_S1x16x1024_S1x1x1021_0_8_1, k0_pay7 (k0_pay45 (k0_pay22 v3) (k0_pay23 v3) (k0_pay24 v3) (k0_pay25 v3) (k0_pay26 v3) (k0_pay27 v3) (k0_pay28 v3) (k0_pay29 v3) n)⟩,
   ⟨Rect.unit ![0, 7, 1] S1x1x1021.size inb_S1x16x1024_S1x1x1021_0_7_1, k0_pay6 (k0_pay44 (k0_pay22 v3) (k0_pay23 v3) (k0_pay24 v3) (k0_pay25 v3) (k0_pay26 v3) (k0_pay27 v3) (k0_pay28 v3) (k0_pay30 v3) n)⟩,
   ⟨Rect.unit ![0, 6, 1] S1x1x1021.size inb_S1x16x1024_S1x1x1021_0_6_1, k0_pay5 (k0_pay43 (k0_pay22 v3) (k0_pay23 v3) (k0_pay24 v3) (k0_pay25 v3) (k0_pay26 v3) (k0_pay27 v3) (k0_pay29 v3) (k0_pay30 v3) n)⟩,
   ⟨Rect.unit ![0, 5, 1] S1x1x1021.size inb_S1x16x1024_S1x1x1021_0_5_1, k0_pay4 (k0_pay35 (k0_pay30 v3) n)⟩,
   ⟨Rect.unit ![0, 4, 1] S1x1x1021.size inb_S1x16x1024_S1x1x1021_0_4_1, k0_pay3 (k0_pay34 (k0_pay29 v3) n)⟩,
   ⟨Rect.unit ![0, 3, 1] S1x1x1021.size inb_S1x16x1024_S1x1x1021_0_3_1, k0_pay49 (k0_pay28 v3) n⟩,
   ⟨Rect.unit ![0, 2, 1] S1x1x1021.size inb_S1x16x1024_S1x1x1021_0_2_1, k0_pay48 (k0_pay22 v3) (k0_pay23 v3) (k0_pay24 v3) (k0_pay25 v3) (k0_pay26 v3) (k0_pay27 v3)⟩,
   ⟨Rect.unit ![0, 1, 1] S1x1x1021.size inb_S1x16x1024_S1x1x1021_0_1_1, k0_pay47 (k0_pay22 v3) (k0_pay23 v3) (k0_pay24 v3) (k0_pay25 v3) (k0_pay26 v3) (k0_pay27 v3)⟩,
   ⟨Rect.unit ![0, 0, 1] S1x1x1021.size inb_S1x16x1024_S1x1x1021_0_0_1, k0_pay46 (k0_pay22 v3) (k0_pay23 v3) (k0_pay24 v3) (k0_pay25 v3) (k0_pay26 v3) (k0_pay27 v3)⟩,
   ⟨Rect.unit ![0, 0, 0] S1x16x1024.size inb_S1x16x1024_S1x16x1024_0_0_0, k0_pay11 (F := F)⟩]

/-- The table of one batch entry. -/
def tabBlk (v : Vec F S1x3x1024 .f32) : Vec F S1x16x1024 .f32 := View.canon (tabPieces v)

theorem zero3 : (![0, 0, 0] : Fin 3 → Nat) = fun _ => 0 := funext fun a => by fin_cases a <;> rfl

/-- The first of the stores covers the whole block. -/
theorem tabPieces_cover (v : Vec F S1x3x1024 .f32) (y : S1x16x1024.Idx) : ∃ p ∈ tabPieces v, y ∈ p.1.set := by
  refine ⟨⟨Rect.unit ![0, 0, 0] S1x16x1024.size inb_S1x16x1024_S1x16x1024_0_0_0, k0_pay11 (F := F)⟩, ?_, ?_⟩
  · unfold tabPieces; simp only [List.mem_cons, true_or, or_true]
  · exact View.mem_set_unit_zero zero3 inb_S1x16x1024_S1x16x1024_0_0_0 y

/-- At the first point of a batch entry the body leaves the squared distances and the table. -/
theorem body_first (c : Dev nD) (i : grid0.Coords) (hc : k0_cond1 i = 1#1)
    (M0 : Memref sig .tc .vmem S1x256x3 .f32) (h0 : M0.IsWhole) (M1 : Memref sig .tc .vmem S1x3x1024 .f32) (h1 : M1.IsWhole)
    (M2 : Memref sig .tc .vmem S1x256x1024 .f32) (h2 : M2.IsWhole) (M3 : Memref sig .tc .vmem S1x16x1024 .f32) (h3 : M3.IsWhole)
    (x0 : Vec F S1x256x3 .f32) (x1 : Vec F S1x3x1024 .f32) (E : Set ℕ) (Q : PUnit → sProp 𝕄) :
    iprop(owns (c : Thread nD τ) M0 fullShare x0 ∗ owns (c : Thread nD τ) M1 fullShare x1
        ∗ (∃ d, owns (c : Thread nD τ) M2 fullShare d) ∗ (∃ d, owns (c : Thread nD τ) M3 fullShare d)
        ∗ (iprop(owns (c : Thread nD τ) M0 fullShare x0 ∗ owns (c : Thread nD τ) M1 fullShare x1
            ∗ owns (c : Thread nD τ) M2 fullShare (k0_pay2 x0 x1) ∗ owns (c : Thread nD τ) M3 fullShare (tabBlk x1)) -∗ Q ⟨⟩))
      ⊢ wp frame (wpE (defs₀ (F := F)) 𝒱₀ c none) E (cc0__d2_body i M0 h0 M1 h1 M2 h2 M3 h3) Q := by
  unfold owns
  iintro ⟨⟨%f0, %hf0, H0⟩, ⟨%f1, %hf1, H1⟩, ⟨%d2, %f2, -, H2⟩, ⟨%d3, %f3, -, H3⟩, Hk⟩
  obtain rfl := h0.eq_unread hf0; obtain rfl := h1.eq_unread hf1
  sl_exec!
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; swap; · iexact H2
    ipureintro
    rw [View.read_writes_junk_eq_canon]
    sl_unfold_words
    rw [View.canon_unit_zero zero3, View.readAt_eq_ld, View.readAt_eq_ld, h0.read_unread, h1.read_unread, View.ld_unit_zero zero3, View.ld_unit_zero zero3]
  iexists _; isplitr; swap; · iexact H3
  ipureintro
  rw [View.read_writes_junk_eq_canon]
  sl_unfold_words
  rw [View.readAt_eq_ld, h1.read_unread, View.ld_unit_zero zero3]
  rfl

/-- At the other points it leaves the squared distances and does not touch the table. -/
theorem body_later (c : Dev nD) (i : grid0.Coords) (hc : ¬ k0_cond1 i = 1#1)
    (M0 : Memref sig .tc .vmem S1x256x3 .f32) (h0 : M0.IsWhole) (M1 : Memref sig .tc .vmem S1x3x1024 .f32) (h1 : M1.IsWhole)
    (M2 : Memref sig .tc .vmem S1x256x1024 .f32) (h2 : M2.IsWhole) (M3 : Memref sig .tc .vmem S1x16x1024 .f32) (h3 : M3.IsWhole)
    (x0 : Vec F S1x256x3 .f32) (x1 : Vec F S1x3x1024 .f32) (E : Set ℕ) (Q : PUnit → sProp 𝕄) :
    iprop(owns (c : Thread nD τ) M0 fullShare x0 ∗ owns (c : Thread nD τ) M1 fullShare x1
        ∗ (∃ d, owns (c : Thread nD τ) M2 fullShare d)
        ∗ (iprop(owns (c : Thread nD τ) M0 fullShare x0 ∗ owns (c : Thread nD τ) M1 fullShare x1
            ∗ owns (c : Thread nD τ) M2 fullShare (k0_pay2 x0 x1)) -∗ Q ⟨⟩))
      ⊢ wp frame (wpE (defs₀ (F := F)) 𝒱₀ c none) E (cc0__d2_body i M0 h0 M1 h1 M2 h2 M3 h3) Q := by
  unfold owns
  iintro ⟨⟨%f0, %hf0, H0⟩, ⟨%f1, %hf1, H1⟩, ⟨%d2, %f2, -, H2⟩, Hk⟩
  obtain rfl := h0.eq_unread hf0; obtain rfl := h1.eq_unread hf1
  sl_exec!
  sl_step
  iapply Hk
  isplitl [H0]
  · iexists _; isplitr; · ipureintro; exact h0.read_unread _
    iexact H0
  isplitl [H1]
  · iexists _; isplitr; · ipureintro; exact h1.read_unread _
    iexact H1
  iexists _; isplitr; swap; · iexact H2
  ipureintro
  rw [View.read_writes_junk_eq_canon]
  sl_unfold_words
  rw [View.canon_unit_zero zero3, View.readAt_eq_ld, View.readAt_eq_ld, h0.read_unread, h1.read_unread, View.ld_unit_zero zero3, View.ld_unit_zero zero3]

end Cert.Proof.Knn
-- ==== Proof.Region.lean ====
/-
  The TensorCore call as one step of @main: entered from every unscoped buffer of the TensorCore at a valuation, left
  with the squared distances and the table in their arrays and the rest as before, the debts of the SparseCore call to
  come carried along untouched.
-/
module

public import proofs.«01_k».proof.Proof.TcBody
public import Idealize.ShloMosaic.Lib.Pipeline.RegionsLoop
public import Idealize.ShloMosaic.Lib.Pipeline.FrameSuffix
public import Idealize.ShloMosaic.Lib.SparseCore.Threads

@[expose] public section

set_option maxRecDepth 16384

noncomputable section

namespace Cert.Proof.Knn

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The facts of the launch -/

/-- The table of the pipeline's semaphore cells has no cell twice. -/
theorem cellOf_inj : Function.Injective (cellOf (nD := nD) (τ := τ) cfgs) :=
  Pipeline.cellOf_injective_of_table cfgs
    (fun | 0 => Pipeline.specSems spec0 | ⟨_ + 1, h⟩ => absurd h (Nat.not_lt.2 (Nat.le_add_left _ _)))
    (fun | 0 => rfl | ⟨_ + 1, h⟩ => absurd h (Nat.not_lt.2 (Nat.le_add_left _ _))) (by decide) (by decide)

theorem winFacts0 : Pipeline.WinFacts spec0 := by
  decide
theorem block_pos0 : ∀ w : Fin 4, 0 < (spec0 w).block.numel := by decide
theorem arr_whole0 (w : Fin 4) : (spec0 w).arr.IsWhole :=
  match w with
  | 0 => Memref.isWhole_whole _
  | 1 => Memref.isWhole_whole _
  | 2 => Memref.isWhole_whole _
  | 3 => Memref.isWhole_whole _
theorem stage_whole0 (w : Fin 4) : ∀ s : Fin (spec0 w).nbuf, ((spec0 w).stage s).IsWhole :=
  match w with
  | 0 => fun s => hstage0_0 (s.cast nbuf0_0)
  | 1 => fun s => hstage0_1 (s.cast nbuf0_1)
  | 2 => fun s => hstage0_2 (s.cast nbuf0_2)
  | 3 => fun s => hstage0_3 (s.cast nbuf0_3)
theorem launch0 : Pipeline.LaunchFacts (nD := nD) (τ := τ) cfgs 0 :=
  ⟨cellOf_inj, winFacts0, block_pos0, arr_whole0, stage_whole0⟩

/-- There are 32 grid points. -/
theorem N_0 : grid0.N = 32 := by decide

/-- The separating conjunction over the four windows, taken apart. -/
theorem bigSep_W0 {M : Type} [URA M] (Φ : Fin 4 → sProp M) : (BI.bigSep Finset.univ Φ : sProp M) = iprop(Φ 0 ∗ Φ 1 ∗ Φ 2 ∗ Φ 3) := by
  rw [BI.bigSep_univ_eq_bigSepL [0, 1, 2, 3] (by decide) (by decide) Φ]
  rfl

/-- The second block index is fetched at the first point of a batch entry alone, and so on for the others. -/
theorem flush0_3 (t : Fin grid0.N) : win0_3.flush t = true ↔ t.val % 4 = 3 :=
  Pipeline.Window.flush_reads win0_3 rfl 0 (by decide) (by decide) (Pipeline.Window.sep_of_coord cc0_transform_3 0 0 (fun _ => rfl) (by decide)) (P := 4) (m := 3) (by decide) rfl t
theorem flush0_2 (t : Fin grid0.N) : win0_2.flush t = true :=
  (Pipeline.Window.flush_reads win0_2 rfl 1 (by decide) (by decide) (Pipeline.Window.sep_of_coord cc0_transform_2 1 1 (fun _ => rfl) (by decide)) (P := 1) (m := 0) (by decide) rfl t).mpr (Nat.mod_one _)

/-- The table is written at the first of the four points of a batch entry. -/
theorem cond1_iff : ∀ t : Fin grid0.N, (k0_cond1 (grid0.coords t) = 1#1 ↔ t.val % 4 = 0) := by decide +kernel

/-- The block indices of the four windows. -/
theorem index0 : ∀ t : Fin grid0.N, win0_0.index t (0 : Fin 3) = t.val / 4 ∧ win0_0.index t (1 : Fin 3) = t.val % 4 ∧ win0_0.index t (2 : Fin 3) = 0 := by
  decide +kernel
theorem index1 : ∀ t : Fin grid0.N, win0_1.index t (0 : Fin 3) = t.val / 4 ∧ win0_1.index t (1 : Fin 3) = 0 ∧ win0_1.index t (2 : Fin 3) = 0 := by
  decide +kernel
theorem index2 : ∀ t : Fin grid0.N, win0_2.index t (0 : Fin 3) = t.val / 4 ∧ win0_2.index t (1 : Fin 3) = t.val % 4 ∧ win0_2.index t (2 : Fin 3) = 0 := by
  decide +kernel
theorem index3 : ∀ t : Fin grid0.N, win0_3.index t (0 : Fin 3) = t.val / 4 ∧ win0_3.index t (1 : Fin 3) = 0 ∧ win0_3.index t (2 : Fin 3) = 0 := by
  decide +kernel

/-! ## The blocks of the two fetched arrays -/

variable (V : (c : Dev nD) → (b : Ref sig .tc) → Buf (Elt F) ((c : Thread nD τ).loc b))

/-- The block of coordinates and the block of transposed coordinates that point `t` is handed. -/
def xBlk (c : Dev nD) (t : Fin cfg0.N) : Vec F S1x256x3 .f32 := ((cfg0.win 0).blk t).view.read (Elt F) (V c main_arg0)
def yBlk (c : Dev nD) (t : Fin cfg0.N) : Vec F S1x3x1024 .f32 := ((cfg0.win 1).blk t).view.read (Elt F) (V c main_v0)

/-- Places of the four arrays. -/
def ix0 (b : Fin 8) (i : Fin 1024) (k : Fin 3) : S8x1024x3.Idx := fun a => match a with | ⟨0, _⟩ => b | ⟨1, _⟩ => i | ⟨2, _⟩ => k
def ix1 (b : Fin 8) (k : Fin 3) (i : Fin 1024) : S8x3x1024.Idx := fun a => match a with | ⟨0, _⟩ => b | ⟨1, _⟩ => k | ⟨2, _⟩ => i

/-- A place of the transposed coordinates' block: its row and column. -/
theorem yBlk_apply (c : Dev nD) (t : Fin cfg0.N) (j : S1x3x1024.Idx) :
    yBlk V c t j = V c main_v0 (ix1 ⟨t.val / 4, by have := t.isLt; have : cfg0.N = 32 := N_0; omega⟩ (j 1) (j 2)) := by
  obtain ⟨e0, e1, e2⟩ := index1 t
  show V c main_v0 (((cfg0.win 1).blk t).view.emb j) = _
  refine congrArg (V c main_v0) (funext fun a => Fin.ext ?_)
  have h0 : (j 0).val < 1 := (j 0).isLt
  match a with
  | ⟨0, _⟩ => show win0_1.index t (0 : Fin 3) * 1 + 1 * (j 0).val = t.val / 4; omega
  | ⟨1, _⟩ => show win0_1.index t (1 : Fin 3) * 3 + 1 * (j 1).val = (j 1).val; omega
  | ⟨2, _⟩ => show win0_1.index t (2 : Fin 3) * 1024 + 1 * (j 2).val = (j 2).val; omega

/-- So within a batch entry it is the same block. -/
theorem yBlk_congr (c : Dev nD) (t t' : Fin cfg0.N) (h : t.val / 4 = t'.val / 4) : yBlk V c t = yBlk V c t' := by
  funext j; rw [yBlk_apply, yBlk_apply]; exact congrArg (fun b => V c main_v0 (ix1 b (j 1) (j 2))) (Fin.ext h)

/-- The invariant between the ends of the call: the scoped buffers it does not stage. -/
abbrev Φc (c : Dev nD) : sProp 𝕄 := Pipeline.scopedRest (Ix := HIx 1) (Name := ℕ) (U := UU) (Lvl := ℕ) (Val := Elt F) spec0 c

/-- The call's proof data at the valuation it is entered at. -/
def dat (c : Dev nD) : Dat τ (Elt F) (HIx 1) ℕ UU ℕ cfg0 c where
  A w := V c (Pipeline.arrRef spec0 w)
  after w t := match w with
    | ⟨0, _⟩ => xBlk V c t
    | ⟨1, _⟩ => yBlk V c t
    | ⟨2, _⟩ => k0_pay2 (xBlk V c t) (yBlk V c t)
    | ⟨3, _⟩ => tabBlk (yBlk V c t)
  Φ _ := Φc c
  q _ := fullShare
  owed _ := (K (F := F)).Otc c 0
  recorded _ := {p | p.2 = none}

theorem after_0 (c : Dev nD) (t : Fin cfg0.N) : (dat V c).after 0 t = xBlk V c t := by dsimp only [dat]
theorem after_1 (c : Dev nD) (t : Fin cfg0.N) : (dat V c).after 1 t = yBlk V c t := by dsimp only [dat]
theorem after_2 (c : Dev nD) (t : Fin cfg0.N) : (dat V c).after 2 t = k0_pay2 (xBlk V c t) (yBlk V c t) := by dsimp only [dat]
theorem after_3 (c : Dev nD) (t : Fin cfg0.N) : (dat V c).after 3 t = tabBlk (yBlk V c t) := by dsimp only [dat]

/-- The fetched windows hold their blocks when the body runs. -/
theorem before_0 (c : Dev nD) (t : Fin cfg0.N) (d) : (dat V c).before 0 t d = xBlk V c t :=
  ((dat V c).before_in_eq_fetched 0 rfl (fun _ => rfl) (fun _ _ _ => rfl) (fun t => by rw [after_0]; rfl) t d).trans rfl
theorem before_1 (c : Dev nD) (t : Fin cfg0.N) (d) : (dat V c).before 1 t d = yBlk V c t :=
  ((dat V c).before_in_eq_fetched 1 rfl (fun _ => rfl) (fun _ _ _ => rfl) (fun t => by rw [after_1]; rfl) t d).trans rfl

theorem fetch0_3 (t : Fin cfg0.N) : (cfg0.win 3).fetch t = false := rfl

/-- The table's window is idle but at the first point of a batch entry. -/
theorem idle_3 (t : Fin cfg0.N) : cfg0.idle 3 (cfg0.grid.coords t) = !(k0_cond1 (grid0.coords t) == 1#1) := rfl

/-- What the table's window holds before point `n` of the grid, not the first of a batch entry: the entry's table. -/
theorem before_3_aux (c : Dev nD) (d) : ∀ (n : ℕ) (h : n < cfg0.N), n % 4 ≠ 0 → (dat V c).before 3 ⟨n, h⟩ d = tabBlk (yBlk V c ⟨n, h⟩)
  | 0, _, h0 => absurd rfl h0
  | n + 1, h, h0 => by
    have hn : n < cfg0.N := Nat.lt_of_succ_lt h
    have hf : (cfg0.win 3).flush ⟨n, hn⟩ = false := by
      rw [Bool.eq_false_iff]; intro hc; have := (flush0_3 ⟨n, hn⟩).mp hc; dsimp only at this; omega
    have hy : yBlk V c ⟨n, hn⟩ = yBlk V c ⟨n + 1, h⟩ := yBlk_congr V c _ _ (by dsimp only; omega)
    rw [(dat V c).before_of_pos 3 ⟨n + 1, h⟩ (Nat.succ_ne_zero n) (fetch0_3 _) d]
    show (if (cfg0.win 3).flush ⟨n, hn⟩ then d else (dat V c).left 3 ⟨n, hn⟩ d) = _
    rw [hf, if_neg Bool.false_ne_true]
    unfold Dat.left
    rw [idle_3]
    by_cases hm : n % 4 = 0
    · rw [(cond1_iff ⟨n, hn⟩).mpr hm]
      show (dat V c).kept 3 ⟨n, hn⟩ d = _
      rw [← hy]
      exact after_3 V c ⟨n, hn⟩
    · have : (k0_cond1 (grid0.coords ⟨n, hn⟩) == 1#1) = false := by
        rw [beq_eq_false_iff_ne]; exact fun hc => hm ((cond1_iff ⟨n, hn⟩).mp hc)
      rw [this]
      show (dat V c).before 3 ⟨n, hn⟩ d = _
      rw [before_3_aux c d n hn hm, hy]

theorem before_3 (c : Dev nD) (t : Fin cfg0.N) (h : t.val % 4 ≠ 0) (d) : (dat V c).before 3 t d = tabBlk (yBlk V c t) :=
  before_3_aux V c d t.val t.isLt h

/-- The body at every point: the two fetched blocks stay, the distances' block is written, and the table's block is
    written at the first point of a batch entry and found written at the others. -/
theorem body_obligation (c : Dev nD) : BodyObligation (dat V c) (defs₀ (F := F)) 𝒱₀ none Set.univ := fun t => by
  rw [bigSep_W0, bigSep_W0]
  sl_whnfR [defs₀, Defs.onTc]
  simp only [before_0, before_1]
  rw [show (dat V c).Φ t.succ = (dat V c).Φ t.castSucc from rfl,
    show (dat V c).owesAt none t.succ = (dat V c).owesAt none t.castSucc from rfl, after_0, after_1, after_2]
  by_cases hm : t.val % 4 = 0
  · have hc : k0_cond1 (grid0.coords t) = 1#1 := (cond1_iff t).mpr hm
    have hi : idle0 3 (grid0.coords t) = false := (idle_3 t).trans (by rw [hc]; rfl)
    rw [hi]
    dsimp only
    rw [after_3]
    iintro ⟨HΦ, Ho, ⟨%d0, H0⟩, ⟨%d1, H1⟩, ⟨%d2, H2⟩, ⟨%d3, H3⟩⟩
    iapply (body_first c (grid0.coords t) hc _ _ _ _ _ _ _ _ (xBlk V c t) (yBlk V c t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hc : ¬ k0_cond1 (grid0.coords t) = 1#1 := fun h => hm ((cond1_iff t).mp h)
    have hi : idle0 3 (grid0.coords t) = true := (idle_3 t).trans (by rw [beq_eq_false_iff_ne.mpr hc]; rfl)
    rw [hi]
    dsimp only
    iintro ⟨HΦ, Ho, ⟨%d0, H0⟩, ⟨%d1, H1⟩, ⟨%d2, H2⟩, ⟨%d3, H3⟩⟩
    iapply (body_later c (grid0.coords t) hc _ _ _ _ _ _ _ _ (xBlk V c t) (yBlk V c t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    cases hfl : (win0 3).flush t with
    | false => iexists d3; iexact H3
    | true => dsimp only; rw [after_3, ← before_3 V c t hm d3]; iexact H3

/-! ## The call as a step of @main -/

variable (adm : (p : Fin 1) → (pcfgs (F := F) p).Adm)

/-- The proof data of the program's one pipeline. -/
def pdats : (p : Fin 1) → (c : Dev nD) → Dat τ (Elt F) (HIx 1) ℕ UU ℕ (Pipeline.pin (pcfgs (F := F)) adm p) c
  | ⟨0, _⟩ => fun c => dat V c

/-- The two written arrays after the call. -/
def dAfter (c : Dev nD) : Buf (Elt F) ((c : Thread nD τ).loc main_v1_0) := (dat V c).arrAt 2 cfg0.N
def tAfter (c : Dev nD) : Buf (Elt F) ((c : Thread nD τ).loc main_v1_1) := (dat V c).arrAt 3 cfg0.N

variable (Vp : (c : Dev nD) → (b : Ref sig .tc) → Buf (Elt F) ((c : Thread nD τ).loc b))

/-- What the core owes the SparseCore while the call runs, with every wait so far at the lowest level. -/
abbrev debts (c : Dev nD) : sProp 𝕄 := iprop(∃ W, ⌜(K (F := F)).WBelow (SparseCore.T c) W 0⌝ ∗ owes (SparseCore.T c) ((K (F := F)).Otc c 0) W)

theorem Otc_none (c : Dev nD) (g : GSem nD τ sig) : (K (F := F)).Otc c 0 g none = 0 := by
  by_contra h
  exact absurd (SparseCore.Cfg.lev_of_Otc_pos (K := K (F := F)) (Nat.pos_of_ne_zero h)) (by show ¬ _ ≤ 0; omega)

/-- A pair of waits at level 0 is recorded at no handshake. -/
theorem none_of_WBelow (c : Dev nD) (W : Finset (SemLoc sig × HIx 1)) (h : (K (F := F)).WBelow (SparseCore.T c) W 0)
    (p : SemLoc sig × HIx 1) (hp : p ∈ W) : p.2 = none := by
  have := h p hp
  match hq : p.2 with
  | none => rfl
  | some q => rw [hq] at this; exact absurd this (Nat.not_le.mpr ((K (F := F)).lev_some_pos _ q))

set_option backward.isDefEq.respectTransparency.types false in
/-- The call, from every unscoped buffer at `V` and the debts, to every unscoped buffer at `Vp` and the debts. -/
def reg (hd : ∀ c, Vp c main_v1_0 = dAfter V c) (ht : ∀ c, Vp c main_v1_1 = tAfter V c)
    (hne : ∀ c (b : Ref sig .tc), b ≠ main_v1_0 → b ≠ main_v1_1 → Vp c b = V c b) :
    Pipeline.RegionSeg (pcfgs (F := F)) adm (pdats V adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c)
  pre c := iprop(unscopedBufs c (V c) ∗ debts (F := F) c)
  post c := iprop(unscopedBufs c (Vp c) ∗ debts (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (none_of_WBelow c W hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hne c main_arg0 (by decide) (by decide)).symm
        · exact ((pdats V adm 0 c).arrAt_in 1 rfl _).trans (hne c main_v0 (by decide) (by decide)).symm
        · exact (hd c).symm
        · exact (ht c).symm)
      (fun b hb => hne c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      have : p.2 = none := by
        rcases hW hp with h | ⟨w, s, h⟩
        · exact h
        · rw [h]
      rw [this]; exact le_rfl
    iexact HO

end Cert.Proof.Knn
-- ==== Proof.Main.lean ====
/-
  @main and the run of the whole program: the transpose, the TensorCore call, the table laid flat, the SparseCore call,
  the indices reshaped. It ends without fault, the arguments unchanged, every counter at zero, and every row of the
  SparseCore call's results as `RowOut` says of the arrays that the TensorCore call left.
-/
module

public import proofs.«01_k».proof.Proof.Launch
public import proofs.«01_k».proof.Proof.Region

@[expose] public section

set_option maxRecDepth 8192

noncomputable section

namespace Cert.Proof.Knn

open Cert.KernelIdeal Cert.KernelIdeal.Gen

open Idealize.ShloMosaic Idealize.ShloMosaic.TcCoe
open Idealize.ShloMosaic.SparseCore (S V T)
open Idealize.ShloMosaic.SparseCore.Cfg
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays of @main -/

abbrev dx : DevRef τ sig := Proc.devRef .tc (main_arg0 : Ref sig .tc)
abbrev dm : DevRef τ sig := Proc.devRef .tc (main_arg1 : Ref sig .tc)
abbrev dy : DevRef τ sig := Proc.devRef .tc (main_v0 : Ref sig .tc)
abbrev da : DevRef τ sig := Proc.devRef .tc (main_v1_0 : Ref sig .tc)
abbrev dt : DevRef τ sig := Proc.devRef .tc (main_v1_1 : Ref sig .tc)
abbrev db : DevRef τ sig := Proc.devRef .tc (main_v2 : Ref sig .tc)
abbrev de : DevRef τ sig := Proc.devRef .tc (main_v3_0 : Ref sig .tc)
abbrev dp : DevRef τ sig := Proc.devRef .tc (main_v3_1 : Ref sig .tc)
abbrev dr : DevRef τ sig := Proc.devRef .tc (main_v4 : Ref sig .tc)

abbrev xLoc (d : Dev nD) : Loc nD τ sig := (SparseCore.T d).loc main_arg0
abbrev mLoc (d : Dev nD) : Loc nD τ sig := (SparseCore.T d).loc main_arg1
abbrev rLoc (d : Dev nD) : Loc nD τ sig := (SparseCore.T d).loc main_v4

abbrev opT : HloOp τ sig (Elt F) :=
  StableHlo.unary main_arg0 main_v0 ((transpose S8x3x1024 [0, 2, 1] · transposes_S8x1024x3_S8x3x1024_0_2_1) : (⟨S8x1024x3, .f32⟩ : BufTy).Contents (Elt F) → (⟨S8x3x1024, .f32⟩ : BufTy).Contents (Elt F))
abbrev opF : HloOp τ sig (Elt F) := StableHlo.reshape main_v1_1 main_v2 (rfl : (.f32 : EltTy) = .f32) shapeCasts_S8x16x1024_S131072
abbrev opE : HloOp τ sig (Elt F) := StableHlo.reshape main_v3_0 main_v4 (rfl : (.i32 : EltTy) = .i32) shapeCasts_S245760_S8x1024x30

/-- The TensorCore's unscoped arrays. -/
abbrev S9 : Finset (DevRef τ sig) := {dx, dm, dy, dt, dr, da, db, de, dp}

theorem ucRefs_eq : Pipeline.ucRefs τ sig = S9 := by decide

theorem hT : (opT (F := F)).bufs ⊆ S9 := show ({dx, dy} : Finset (DevRef τ sig)) ⊆ S9 by decide
theorem hF : (opF (F := F)).bufs ⊆ S9 := show ({dt, db} : Finset (DevRef τ sig)) ⊆ S9 by decide
theorem hE : (opE (F := F)).bufs ⊆ S9 := show ({de, dr} : Finset (DevRef τ sig)) ⊆ S9 by decide

theorem held_S9 (d : Dev nD) (W : Valuation τ sig (Elt F)) :
    (held (T d) S9 W : sProp 𝕄)
      = iprop((xLoc d ↦{fullShare} W dx) ∗ (mLoc d ↦{fullShare} W dm) ∗ ((SparseCore.T d).loc main_v0 ↦{fullShare} W dy)
          ∗ ((SparseCore.T d).loc main_v1_1 ↦{fullShare} W dt) ∗ (rLoc d ↦{fullShare} W dr)
          ∗ (aLoc d ↦{fullShare} W da) ∗ (bLoc d ↦{fullShare} W db) ∗ (eLoc d ↦{fullShare} W de) ∗ pLoc d ↦{fullShare} W dp) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) (W : Valuation τ sig (Elt F)) :
    (unscopedBufs d (fun b => W (Proc.devRef .tc b)) : sProp 𝕄) = held (T d) S9 W := by
  rw [← ucRefs_eq]; exact Pipeline.unscopedBufs_held d W

/-! ## The contents along @main -/

variable [FloatOps F]

/-- At the launch; with the argument transposed; after the TensorCore call; with the table laid flat. -/
def V0 (d : Dev nD) : Valuation τ sig (Elt F) := fun b => m (d, b)
def V1 (d : Dev nD) : Valuation τ sig (Elt F) := (opT (F := F)).result (V0 m d)
/-- The same as the TensorCore call reads it. -/
def VR (d : Dev nD) (b : Ref sig .tc) : Buf (Elt F) ((d : Thread nD τ).loc b) := V1 m d (Proc.devRef .tc b)
def V2 (d : Dev nD) : Valuation τ sig (Elt F) :=
  Function.update (Function.update (V1 m d) da (dAfter (VR m) d)) dt (tAfter (VR m) d)
def VRp (d : Dev nD) (b : Ref sig .tc) : Buf (Elt F) ((d : Thread nD τ).loc b) := V2 m d (Proc.devRef .tc b)
def V3 (d : Dev nD) : Valuation τ sig (Elt F) := (opF (F := F)).result (V2 m d)
/-- The memory that the SparseCore call meets. -/
def mm : (ℓ : Loc nD τ sig) → Buf (Elt F) ℓ := fun ℓ => V3 m ℓ.1 ℓ.2
/-- After the SparseCore call. -/
def V4 (d : Dev nD) (fe : Vec F S245760 .i32) (fp : Vec F S6389760 .f32) : Valuation τ sig (Elt F) :=
  Function.update (Function.update (V3 m d) de fe) dp fp

theorem V1_x (d : Dev nD) : V1 m d dx = m (xLoc d) := by
  unfold V1; rw [(opT (F := F)).result_of_not_mem _ (show dx ∉ ({dy} : Finset (DevRef τ sig)) by decide)]; rfl
theorem V1_m (d : Dev nD) : V1 m d dm = m (mLoc d) := by
  unfold V1; rw [(opT (F := F)).result_of_not_mem _ (show dm ∉ ({dy} : Finset (DevRef τ sig)) by decide)]; rfl
theorem V1_y (d : Dev nD) : V1 m d dy = transpose S8x3x1024 [0, 2, 1] (m (xLoc d)) transposes_S8x1024x3_S8x3x1024_0_2_1 := by
  unfold V1; exact StableHlo.unary_result _ _ _ _ _ _
theorem V2_of_ne (d : Dev nD) {b : DevRef τ sig} (h : b ≠ da) (h' : b ≠ dt) : V2 m d b = V1 m d b := by
  unfold V2; rw [Function.update_of_ne h', Function.update_of_ne h]
theorem V2_a (d : Dev nD) : V2 m d da = dAfter (VR m) d := by
  unfold V2; rw [Function.update_of_ne (show da ≠ dt by decide)]; exact Function.update_self _ _ _
theorem V2_t (d : Dev nD) : V2 m d dt = tAfter (VR m) d := by
  unfold V2; exact Function.update_self _ _ _
theorem V3_of_ne (d : Dev nD) {b : DevRef τ sig} (h : b ∉ ({db} : Finset (DevRef τ sig))) : V3 m d b = V2 m d b := by
  unfold V3; exact (opF (F := F)).result_of_not_mem _ h
theorem V3_x (d : Dev nD) : V3 m d dx = m (xLoc d) := by
  rw [V3_of_ne m d (by decide), V2_of_ne m d (by decide) (by decide), V1_x]
theorem V3_m (d : Dev nD) : V3 m d dm = m (mLoc d) := by
  rw [V3_of_ne m d (by decide), V2_of_ne m d (by decide) (by decide), V1_m]
/-- The SparseCore call's two arguments. -/
theorem V3_a (d : Dev nD) : mm m (aLoc d) = dAfter (VR m) d :=
  (V3_of_ne m d (b := da) (by decide)).trans (V2_a m d)
theorem V3_b (d : Dev nD) : mm m (bLoc d) = shapeCast (α := Elt F .f32) S131072 (tAfter (VR m) d) shapeCasts_S8x16x1024_S131072 := by
  refine (show V3 m d db = _ from ?_)
  unfold V3
  rw [← V2_t]
  exact StableHlo.reshape_result _ _ _ _ _ _ _

theorem V4_of_ne (d : Dev nD) (fe : Vec F S245760 .i32) (fp : Vec F S6389760 .f32) {b : DevRef τ sig} (h : b ≠ de) (h' : b ≠ dp) :
    V4 m d fe fp b = V3 m d b := by
  unfold V4; rw [Function.update_of_ne h', Function.update_of_ne h]
theorem V4_e (d : Dev nD) (fe : Vec F S245760 .i32) (fp : Vec F S6389760 .f32) : V4 m d fe fp de = fe := by
  unfold V4; rw [Function.update_of_ne (show de ≠ dp by decide)]; exact Function.update_self _ _ _
theorem V4_p (d : Dev nD) (fe : Vec F S245760 .i32) (fp : Vec F S6389760 .f32) : V4 m d fe fp dp = fp := by
  unfold V4; exact Function.update_self _ _ _

/-- The first result: the indices in the shape of the reference. -/
abbrev eRes (fe : Vec F S245760 .i32) : Vec F S8x1024x30 .i32 := shapeCast (α := Elt F .i32) S8x1024x30 fe shapeCasts_S245760_S8x1024x30

/-- What @main leaves the claims. -/
abbrev FIN (d : Dev nD) : sProp 𝕄 :=
  iprop((xLoc d ↦{fullShare} m (xLoc d)) ∗ (mLoc d ↦{fullShare} m (mLoc d))
    ∗ ∃ fe, ∃ fp, ⌜AllRows (mm m) d fe fp⌝ ∗ (rLoc d ↦{fullShare} eRes (F := F) fe) ∗ (pLoc d ↦{fullShare} fp))

theorem held_V5 (d : Dev nD) (fe : Vec F S245760 .i32) (fp : Vec F S6389760 .f32) :
    (held (T d) S9 ((opE (F := F)).result (V4 m d fe fp)) : sProp 𝕄)
      ⊢ iprop((xLoc d ↦{fullShare} m (xLoc d)) ∗ (mLoc d ↦{fullShare} m (mLoc d))
          ∗ (rLoc d ↦{fullShare} eRes (F := F) fe) ∗ (pLoc d ↦{fullShare} fp)) := by
  rw [held_S9, (opE (F := F)).result_of_not_mem (V4 m d fe fp) (b := dx) (show dx ∉ ({dr} : Finset (DevRef τ sig)) by decide),
    (opE (F := F)).result_of_not_mem (V4 m d fe fp) (b := dm) (show dm ∉ ({dr} : Finset (DevRef τ sig)) by decide),
    (opE (F := F)).result_of_not_mem (V4 m d fe fp) (b := dp) (show dp ∉ ({dr} : Finset (DevRef τ sig)) by decide),
    V4_of_ne m d fe fp (b := dx) (by decide) (by decide), V4_of_ne m d fe fp (b := dm) (by decide) (by decide), V3_x, V3_m, V4_p,
    show (opE (F := F)).result (V4 m d fe fp) dr = eRes (F := F) fe from
      (StableHlo.reshape_result _ _ _ _ _ _ _).trans (by rw [V4_e]; rfl)]
  iintro ⟨Hx, Hm, -, -, Hr, -, -, -, Hp⟩
  isplitl [Hx]; · iexact Hx
  isplitl [Hm]; · iexact Hm
  isplitl [Hr]; · iexact Hr
  iexact Hp

/-! ## The launch element of the ghost state -/

/-- No table is prefetched. -/
abbrev adm0 : (p : Fin 1) → (pcfgs (F := F) p).Adm := fun p => (cfgs p).toPCfg_adm

/-- The pipeline's ghost state on core `d`. -/
abbrev G (d : Dev nD) : sProp 𝕄 :=
  iprop(Pipeline.cellsGhost (Pipeline.pin (pcfgs (F := F)) adm0) EP 0 d ∗ Pipeline.toksInit (Pipeline.pin (pcfgs (F := F)) adm0) EP 0 d)

def u₀ : UU := ((initOf (K (F := F)).hsCells (K (F := F)).hsToks,
  initOf (Pipeline.cells cfgs cellOf_inj) (Pipeline.launchToks cfgs cellOf_inj)), 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (mm m)).x q thr) := by
  unfold u₀
  iintro Hu
  ihave H := (ownU_pair (initOf (K (F := F)).hsCells (K (F := F)).hsToks, initOf (Pipeline.cells cfgs cellOf_inj) (Pipeline.launchToks cfgs cellOf_inj))
    (1 : Counters)) $$ Hu
  icases H with ⟨HH, -⟩
  ihave H := (own_pair_emb embL (initOf (K (F := F)).hsCells (K (F := F)).hsToks)
    (initOf (Pipeline.cells cfgs cellOf_inj) (Pipeline.launchToks cfgs cellOf_inj))) $$ HH
  icases H with ⟨HH, HP⟩
  imod (Pipeline.fund_ghost cfgs (EP (F := F)) cellOf_inj) $$ HP with ⟨Hc, Ht⟩
  imodintro
  isplitl [HH]; · iexact HH
  isplitl [Hc Ht]
  · rw [bigSep_sep']
    isplitl [Hc]
    · iapply (Entails.of_eq (bigSep_congr fun _ _ => bigSep_univ_of_subsingleton (0 : Fin 1))) $$ Hc
    · iapply (Entails.of_eq (bigSep_congr fun _ _ => bigSep_univ_of_subsingleton (0 : Fin 1))) $$ Ht
  rw [show (bigSep Finset.univ fun thr : Thread nD τ => bigSep Finset.univ fun q : Fin 1 => (P (F := F) (mm m)).x q thr) = bigSep Finset.univ fun _ => iprop(emp) from
    bigSep_congr fun _ _ => bigSep_univ_of_subsingleton (0 : Fin 1), bigSep_emp']
  iempintro

/-! ## @main -/

theorem st0_eq (d : Dev nD) : (bigSep Finset.univ fun c : Fin ((K (F := F)).nCore 0) => (P m).st 0 d c) = bigSep Finset.univ (goP m d) :=
  (bigSep_univ_prod (goP m d)).symm
theorem dn0_eq (d : Dev nD) : (bigSep Finset.univ fun c : Fin ((K (F := F)).nCore 0) => (P m).dn 0 d c) = bigSep Finset.univ (tdP m d) :=
  (bigSep_univ_prod (tdP m d)).symm

/-- The TensorCore call as a step of @main. -/
abbrev seg := reg (F := F) (VR m) adm0 (VRp m) (V2_a m) (V2_t m)
  (fun c _ h h' => V2_of_ne m c (fun e => h (Proc.devRef_injective _ e)) (fun e => h' (Proc.devRef_injective _ e)))

theorem adm_inj : Function.Injective (Pipeline.cellOf (nD := nD) (τ := τ) (Pipeline.pin (pcfgs (F := F)) adm0)) := cellOf_inj

/-- The call's step, in the program the region is stated for. -/
theorem call_in [∀ e, Nonempty (Elt F e)] (d : Dev nD) (Q : PUnit → sProp 𝕄) :
    iprop((iprop(boundary (d.tc : Thread nD τ) ∗ (seg m).post d) -∗ wp frame (wpE (D (F := F)) 𝒱 (d.tc : Thread nD τ) none) Set.univ (.ret ⟨⟩) Q)
        ∗ boundary (d.tc : Thread nD τ) ∗ (seg m).pre d ∗ levAts (K (F := F)).L (K (F := F)).lev ∗ G (F := F) d)
      ⊢ wp frame (wpE (D (F := F)) 𝒱 (d.tc : Thread nD τ) none) Set.univ (.op (.customCall (Pipeline.entry 0) ()) fun x => .ret x) Q :=
  Pipeline.RegionSeg.wp (pcfgs (F := F)) adm0 (pdats (VR m) adm0) none adm_inj EP defs₀ 𝒱₀ (K (F := F)).L (K (F := F)).lev (seg m) d none
    (fun u hu => nomatch hu) (fun x => .ret x) Q

/-- The call's program, lifted. -/
theorem lift_eq : (SparseCore.liftProg (Q := 1) (.op (.customCall (Pipeline.entry 0) ()) fun x => .ret x) :
      Prog (TpuEff nD τ sig (Elt F) (SparseCore.Sig (ΛP (F := F)) 1) .tc) PUnit)
    = Prog.lift (.customCall (SparseCore.inner (Pipeline.entry 0)) ()) := rfl

theorem call_lift (d : Dev nD) (Q : PUnit → sProp 𝕄) :
    wp frame (wpE (D (F := F)) 𝒱 (d.tc : Thread nD τ) none) Set.univ (.op (.customCall (Pipeline.entry 0) ()) fun x => .ret x) Q
      ⊢ wp frame (wpE ((K (F := F)).defs (D (F := F))) 𝒱 (SparseCore.T d) none) Set.univ
          (Prog.lift (.customCall (SparseCore.inner (Pipeline.entry 0)) ())) Q := by
  rw [← lift_eq]
  exact (K (F := F)).wp_liftProg (D (F := F)) 𝒱 (SparseCore.T d) Set.univ none (.op (.customCall (Pipeline.entry 0) ()) fun x => .ret x) Q

theorem seg_post (d : Dev nD) : (seg m).post d ⊢ iprop(unscopedBufs d (fun b => V2 m d (Proc.devRef .tc b)) ∗ debts (F := F) d) := Entails.of_eq rfl
theorem seg_pre (d : Dev nD) : iprop(unscopedBufs d (fun b => V1 m d (Proc.devRef .tc b)) ∗ debts (F := F) d) ⊢ (seg m).pre d := Entails.of_eq rfl

theorem call_tc [∀ e, Nonempty (Elt F e)] (d : Dev nD) (Q : PUnit → sProp 𝕄) :
    iprop((iprop(boundary (d.tc : Thread nD τ) ∗ held (T d) S9 (V2 m d) ∗ debts (F := F) d) -∗ Q ⟨⟩)
        ∗ boundary (d.tc : Thread nD τ) ∗ (held (T d) S9 (V1 m d) ∗ debts (F := F) d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  refine BIBase.Entails.trans ?_ (call_lift d Q)
  refine BIBase.Entails.trans ?_ (call_in m d Q)
  rw [← unscoped_held, ← unscoped_held]
  iintro ⟨Hk, Hb, Hpre, Hl, Hc, Ht⟩
  isplitl [Hk]
  · iintro ⟨Hb, Hu⟩
    rw [wp_ret]
    imodintro
    iapply Hk
    isplitl [Hb]; · iexact Hb
    iapply (seg_post m d) $$ Hu
  isplitl [Hb]; · iexact Hb
  isplitl [Hpre]; · iapply (seg_pre m d) $$ Hpre
  isplitl [Hl]; · iexact Hl
  isplitl [Hc]; · iexact Hc
  iexact Ht

/-- The debts of the SparseCore call, out of the thread's state and back. -/
theorem tcSt_zero (d : Dev nD) : ((K (F := F)).tcSt EH d 0 : sProp 𝕄) ⊢ iprop(debts (F := F) d ∗ (debts (F := F) d -∗ (K (F := F)).tcSt EH d 0)) := by
  unfold SparseCore.Cfg.tcSt
  iintro ⟨HO, H⟩
  isplitl [HO]; · iexact HO
  iintro HO
  isplitl [HO]; · iexact HO
  iexact H

theorem deal3 (d : Dev nD) :
    iprop((aLoc d ↦{fullShare} V3 m d da) ∗ (bLoc d ↦{fullShare} V3 m d db) ∗ (eLoc d ↦{fullShare} V3 m d de) ∗ (pLoc d ↦{fullShare} V3 m d dp))
      ⊢ (bigSep Finset.univ (goP (mm m) d) : sProp 𝕄) := deal (mm m) d

theorem hmain [∀ e, Nonempty (Elt F e)] (κ : GSem nD τ sig → ℕ) (d : Dev nD) :
    iprop((K (F := F)).ctx EH (P (mm m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) S9 (V0 m d) from unscoped_held d (V0 m d)]
  simp only [main, wp_bind, wp_pure]
  iintro ⟨#Hctx, Hst, ⟨Hb, Hheld, Hts, -⟩, HG⟩
  iapply (wp_hlo_within 𝒱 (SparseCore.T d) none Set.univ (op := opT) (S := S9) hT (V := V0 m d)) $$ [Hb Hheld]
  · isplitl [Hb] <;> iassumption
  iintro ⟨Hb, Hheld⟩
  rw [wp_ret]; imodintro
  -- the TensorCore call, the debts taken out of the thread's state and put back
  ihave Hst := (tcSt_zero d) $$ Hst
  icases Hst with ⟨HO, Hst⟩
  ihave Hlev := ((K (F := F)).ctx_levAts κ) $$ Hctx
  iapply (call_tc m d) $$ [Hb Hheld HO HG Hts Hst Hlev]
  isplitr [Hb Hheld HO HG Hlev]
  rotate_left
  · isplitl [Hb]; · iexact Hb
    isplitl [Hheld HO]
    · isplitl [Hheld]; · iexact Hheld
      iexact HO
    isplitl [Hlev]; · iexact Hlev
    iexact HG
  iintro ⟨Hb, Hheld, HO⟩
  ihave Hst := Hst $$ HO
  iapply (wp_hlo_within 𝒱 (SparseCore.T d) none Set.univ (op := opF) (S := S9) hF (V := V2 m d)) $$ [Hb Hheld]
  · isplitl [Hb] <;> iassumption
  iintro ⟨Hb, Hheld⟩
  rw [wp_ret]; imodintro
  ihave Hh := (Entails.of_eq (show held (T d) S9 ((opF (F := F)).result (V2 m d)) = _ from held_S9 (F := F) d (V3 m d))) $$ Hheld
  icases Hh with ⟨Hx, Hm, Hy, Ht, Hr, HU⟩
  iapply ((K (F := F)).wp_run (D (F := F)) 𝒱 (EH := EH) (P := P (mm m)) κ d 0) $$ [Hst HU Hb Hts Hx Hm Hy Ht Hr]
  isplitr; · iexact Hctx
  isplitl [Hst]; · iexact Hst
  isplitl [HU]
  · rw [st0_eq]
    iapply (deal3 m d) $$ HU
  iintro ⟨Hst, Hdn⟩
  ihave Hdn' := (Entails.of_eq (dn0_eq (mm m) d)) $$ Hdn
  ihave HF := (gather (mm m) d) $$ Hdn'
  icases HF with ⟨HA, HB, %fe, %fp, %hall, HE, HP⟩
  iapply (wp_hlo_within 𝒱 (SparseCore.T d) none Set.univ (op := opE) (S := S9) hE (V := V4 m d fe fp)) $$ [Hb Hx Hm Hy Ht Hr HA HB HE HP]
  · isplitl [Hb]; · iexact Hb
    rw [held_S9, V4_e, V4_p, V4_of_ne m d fe fp (b := dx) (by decide) (by decide), V4_of_ne m d fe fp (b := dm) (by decide) (by decide),
      V4_of_ne m d fe fp (b := dy) (by decide) (by decide), V4_of_ne m d fe fp (b := dt) (by decide) (by decide),
      V4_of_ne m d fe fp (b := dr) (by decide) (by decide), V4_of_ne m d fe fp (b := da) (by decide) (by decide),
      V4_of_ne m d fe fp (b := db) (by decide) (by decide)]
    isplitl [Hx]; · iexact Hx
    isplitl [Hm]; · iexact Hm
    isplitl [Hy]; · iexact Hy
    isplitl [Ht]; · iexact Ht
    isplitl [Hr]; · iexact Hr
    isplitl [HA]; · iexact HA
    isplitl [HB]; · iexact HB
    isplitl [HE]; · iexact HE
    iexact HP
  iintro ⟨Hb, Hheld⟩
  ihave Hh := (held_V5 (F := F) m d fe fp) $$ Hheld
  icases Hh with ⟨Hx, Hm, Hr, Hp⟩
  rw [wp_ret]; imodintro; imodintro
  isplitl [Hst]; · iexact Hst
  isplitr [Hb Hts]
  · isplitl [Hx]; · iexact Hx
    isplitl [Hm]; · iexact Hm
    iexists fe
    iexists fp
    isplitr; · ipureintro; exact hall
    isplitl [Hr]; · iexact Hr
    iexact Hp
  isplitl [Hb] <;> iassumption

/-- What the claims read of device `d`'s final state. -/
def fq (d : Dev nD) (s' : Phys nD τ sig (Elt F)) : Prop :=
  s'.mem.mem (xLoc d) = m (xLoc d) ∧ s'.mem.mem (mLoc d) = m (mLoc d)
    ∧ ∃ fe, s'.mem.mem (rLoc d) = eRes (F := F) fe ∧ AllRows (mm m) d fe (s'.mem.mem (pLoc d))

omit [FloatOps F] in
theorem agree {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h1, HSI, -⟩
  isplitr
  · ipureintro; exact funext fun i => h1 i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨HA, HB, %fe, %fp, %hr, HE, HP⟩, HSI⟩
  ihave H := (agree (F := F) (m (xLoc d)) s') $$ [HSI HA]
  · isplitl [HSI] <;> iassumption
  icases H with ⟨%h1, HSI⟩
  ihave H := (agree (F := F) (m (mLoc d)) s') $$ [HSI HB]
  · isplitl [HSI] <;> iassumption
  icases H with ⟨%h2, HSI⟩
  ihave H := (agree (F := F) (ℓ := rLoc d) (eRes (F := F) fe) s') $$ [HSI HE]
  · isplitl [HSI] <;> iassumption
  icases H with ⟨%h3, HSI⟩
  ihave H := (agree (F := F) (ℓ := pLoc d) fp s') $$ [HSI HP]
  · isplitl [HSI] <;> iassumption
  icases H with ⟨%h4, -⟩
  ipureintro
  refine ⟨h1, h2, fe, h3, ?_⟩
  rw [h4]
  exact hr

/-! ## The run -/

def QC : PUnit × MemSt nD τ sig (Elt F) → Prop := fun r =>
  (∀ d : Dev nD, r.2.mem (xLoc d) = m (xLoc d) ∧ r.2.mem (mLoc d) = m (mLoc d)
      ∧ ∃ fe, r.2.mem (rLoc d) = eRes (F := F) fe ∧ AllRows (mm m) d fe (r.2.mem (pLoc d)))
    ∧ r.2.sem = fun _ => 0

/-- The program's run, over any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (mm m)) (A := ∅) facts v₀
    (fun q hq => match q with | 0 => nomatch hq)
    (fun q _ => match q with | 0 => tileObl (mm m))
    (fun q _ => match q with | 0 => SparseCore.Cfg.VecSplit.of_plain (vecSplit (mm m)))
    m ρ main (G (F := F)) (FIN m) (u₀ (F := F)) (sep_elim_left.trans (hu₀ m)) (hmain m ρ) (fq m) (hfin m) (QC m) (fun _ h hz => ⟨h, hz⟩)

end Cert.Proof.Knn

end
-- ==== Proof.Frames.lean ====
/-
  The frames: each program ends, its arguments unchanged and every counter at zero, read off the one run.
-/
module

public import proofs.«01_k».proof.Defs
public import proofs.«01_k».proof.Proof.Gen.Kernel
public import proofs.«01_k».proof.Proof.Main

@[expose] public section

noncomputable section

namespace Cert.Proof.Knn

open Idealize.ShloMosaic Idealize.SL.Sem

/-- The two printings of the kernel have the same bodies. -/
theorem defs₀_eq {F : FTy → Type} [FloatOps F] : Cert.KernelIdeal.defs₀ (F := F) = Cert.Kernel.defs₀ (F := F) := by
  funext p l a
  match p, l, a with
  | .tc, ⟨0, _⟩, (_, _) => rfl
  | .tc, ⟨1, _⟩, _ => rfl
  | .scScalar _, ⟨0, _⟩, _ => rfl
  | .scScalar _, ⟨1, _⟩, _ => rfl
  | .scVector _ _, ⟨0, _⟩, _ => rfl
  | .scVector _ _, ⟨1, _⟩, _ => rfl

theorem defs_eq {F : FTy → Type} [FloatOps F] : Cert.KernelIdeal.defs (F := F) = Cert.Kernel.defs (F := F) :=
  congrArg (fun d => Cert.KernelIdeal.sc.defs (Pipeline.defs Cert.KernelIdeal.pcfgs d)) defs₀_eq

/-- The kernel over the machine's floats. -/
theorem frame_kernel : Cert.quiescent_Kernel := by
  intro m ρ _
  have h := run_main (F := Bits) m ρ
  rw [defs_eq] at h
  exact (θ_run Cert.Kernel.defs _ _).mono (fun _ h => ⟨fun c => ⟨(h.1 c).1, (h.1 c).2.1⟩, h.2⟩) h

/-- The kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

end Cert.Proof.Knn

end
-- ==== Proof.Rank.lean ====
/-
  What sorting a register does on the extended reals: the ranks are a permutation of the lanes, so the sorted register
  holds the same keys, in increasing order.
-/
module

public import proofs.«01_k».proof.Proof.Flat
public import Idealize.ShloMosaic.Lib.Pointwise.Select

@[expose] public section

set_option maxRecDepth 8192

noncomputable section

namespace Cert.Proof.Knn

open Cert.KernelIdeal Cert.KernelIdeal.Gen
open Idealize.ShloMosaic Idealize.SL.Sem

section Rotations

variable {α : Type}

theorem lane_mod (k : ℕ) : lane (k % 16) = lane k := idx1_ext (Nat.mod_mod k 16)

theorem rot_lane (v : S16.Idx → α) (k : ℕ) : rot v (lane k) = v (lane (k + 1)) := by
  rw [← lane_mod k, ← lane_mod (k + 1), Nat.add_mod]
  have hk := Nat.mod_lt k (by norm_num : 0 < 16)
  generalize k % 16 = m at hk
  interval_cases m <;> exact congrArg v (idx1_ext rfl)

theorem rev_lane (v : S16.Idx → α) {k : ℕ} (hk : k < 16) : rev v (lane k) = v (lane (15 - k)) := by
  interval_cases k <;> exact congrArg v (idx1_ext rfl)

theorem rot_iter (v : S16.Idx → α) (n k : ℕ) : (rot^[n] v) (lane k) = v (lane (k + n)) := by
  induction n generalizing k with
  | zero => rfl
  | succ n ih => rw [Function.iterate_succ_apply', rot_lane, ih]; congr 2; omega

end Rotations

/-! ## The ranks -/

/-- Lane `j`'s key comes before lane `k`'s, the earlier lane first among equal keys. -/
def Bef (key : ℕ → EReal) (j k : ℕ) : Prop := key j < key k ∨ (key j = key k ∧ j < k)

open Classical in
/-- How many of 16 lanes' keys come before lane `k`'s. -/
def rank16 (key : ℕ → EReal) (k : ℕ) : ℕ := ((Finset.range 16).filter (fun j => Bef key j k)).card

theorem Bef.irrefl (key : ℕ → EReal) (k : ℕ) : ¬Bef key k k := by
  rintro (h | h)
  · exact lt_irrefl _ h
  · exact absurd h.2 (Nat.lt_irrefl k)

theorem Bef.trans {key : ℕ → EReal} {i j k : ℕ} (h : Bef key i j) (h' : Bef key j k) : Bef key i k := by
  rcases h with h | ⟨h, hl⟩ <;> rcases h' with h' | ⟨h', hl'⟩
  · exact .inl (h.trans h')
  · exact .inl (h' ▸ h)
  · exact .inl (h ▸ h')
  · exact .inr ⟨h.trans h', hl.trans hl'⟩

theorem Bef.total (key : ℕ → EReal) {j k : ℕ} (h : j ≠ k) : Bef key j k ∨ Bef key k j := by
  rcases lt_trichotomy (key j) (key k) with h1 | h1 | h1
  · exact .inl (.inl h1)
  · rcases Nat.lt_or_gt_of_ne h with h2 | h2
    · exact .inl (.inr ⟨h1, h2⟩)
    · exact .inr (.inr ⟨h1.symm, h2⟩)
  · exact .inr (.inl h1)

theorem rank16_lt (key : ℕ → EReal) {j k : ℕ} (hj : j < 16) (h : Bef key j k) : rank16 key j < rank16 key k := by
  classical
  refine Finset.card_lt_card ((Finset.ssubset_iff_of_subset fun i hi => ?_).2 ⟨j, ?_, ?_⟩)
  · rw [Finset.mem_filter] at hi ⊢
    exact ⟨hi.1, hi.2.trans h⟩
  · exact Finset.mem_filter.2 ⟨Finset.mem_range.2 hj, h⟩
  · exact fun hi => Bef.irrefl key j (Finset.mem_filter.1 hi).2

theorem rank16_bound (key : ℕ → EReal) {k : ℕ} (hk : k < 16) : rank16 key k < 16 := by
  classical
  have h : (Finset.range 16).filter (fun j => Bef key j k) ⊂ Finset.range 16 :=
    (Finset.ssubset_iff_of_subset (Finset.filter_subset _ _)).2
      ⟨k, Finset.mem_range.2 hk, fun hi => Bef.irrefl key k (Finset.mem_filter.1 hi).2⟩
  exact (Finset.card_lt_card h).trans_eq (Finset.card_range 16)

/-- The lane that each rank's key lies in. -/
theorem exists_order (key : ℕ → EReal) :
    ∃ σ : Equiv.Perm (Fin 16), (∀ x, rank16 key (σ x).val = x.val) ∧ ∀ x y : Fin 16, x ≤ y → key (σ x).val ≤ key (σ y).val := by
  let f : Fin 16 → Fin 16 := fun k => ⟨rank16 key k.val, rank16_bound key k.isLt⟩
  have hinj : Function.Injective f := by
    intro j k hjk
    by_contra hne
    have he : rank16 key j.val = rank16 key k.val := congrArg Fin.val hjk
    rcases Bef.total key (fun h => hne (Fin.ext h)) with h | h
    · exact absurd he (rank16_lt key j.isLt h).ne
    · exact absurd he (rank16_lt key k.isLt h).ne'
  let e : Equiv.Perm (Fin 16) := Equiv.ofBijective f (Finite.injective_iff_bijective.1 hinj)
  have hr : ∀ x, rank16 key (e.symm x).val = x.val := fun x => congrArg Fin.val (e.apply_symm_apply x)
  refine ⟨e.symm, hr, fun x y hxy => ?_⟩
  rcases eq_or_lt_of_le hxy with rfl | hlt
  · exact le_rfl
  · by_contra hc
    have := rank16_lt key (e.symm y).isLt (.inl (not_le.1 hc) : Bef key (e.symm y).val (e.symm x).val)
    rw [hr, hr] at this
    exact absurd hlt (not_lt.2 (Fin.le_iff_val_le_val.2 this.le))

/-! ## The program's ranks and places -/

theorem rankStep_iter (key : FVec Ideal S16 .f32) (n : ℕ) :
    ((rankStep key)^[n] (key, lanes, zeros)).1 = rot^[n] key ∧ ((rankStep key)^[n] (key, lanes, zeros)).2.1 = rot^[n] lanes := by
  induction n with
  | zero => exact ⟨rfl, rfl⟩
  | succ n ih =>
    simp only [Function.iterate_succ_apply']
    exact ⟨congrArg rot ih.1, congrArg rot ih.2⟩

theorem before_lane (key a : FVec Ideal S16 .f32) (b : IVec S16 32) {j k : ℕ} (hj : j < 16) (hk : k < 16) (ha : a (lane k) = key (lane j))
    (hb : b (lane k) = BitVec.ofNat 32 j) [Decidable (Bef (fun i => key (lane i)) j k)] :
    before key a b (lane k) = if Bef (fun i => key (lane i)) j k then 1#32 else 0#32 := by
  have hlt : BitVec.slt (BitVec.ofNat 32 j) (BitVec.ofNat 32 k) = decide (j < k) := by
    interval_cases j <;> interval_cases k <;> rfl
  have hl : cmpi .slt b lanes (lane k) = BitVec.ofBool (decide (j < k)) := by
    show BitVec.ofBool (BitVec.slt (b (lane k)) (lanes (lane k))) = _
    rw [hb, lanes_apply, cell_val hk, hlt]
  have h1 : before key a b (lane k)
      = if cmpi .slt b lanes (lane k) = 1 then (if Ideal.cmp .ole (a (lane k)) (key (lane k)) = 1 then 1#32 else 0#32)
        else (if Ideal.cmp .olt (a (lane k)) (key (lane k)) = 1 then 1#32 else 0#32) := rfl
  rw [h1, hl, ha]
  simp only [Ideal.cmp_ole_eq_one, Ideal.cmp_olt_eq_one]
  unfold Bef
  by_cases hjk : j < k
  · simp [hjk, le_iff_lt_or_eq]
  · simp [hjk]

theorem rankStep_count (key : FVec Ideal S16 .f32) {k : ℕ} (hk : k < 16) (n : ℕ) [DecidablePred fun t => Bef (fun i => key (lane i)) ((k + t) % 16) k] :
    ((rankStep key)^[n] (key, lanes, zeros)).2.2 (lane k)
      = BitVec.ofNat 32 (Nat.count (fun t => Bef (fun i => key (lane i)) ((k + t) % 16) k) n) := by
  induction n with
  | zero =>
    show IntOp.muli (lanes (lane k)) 0#32 = _
    exact BitVec.mul_zero
  | succ n ih =>
    rw [Function.iterate_succ_apply']
    show ((rankStep key)^[n] (key, lanes, zeros)).2.2 (lane k) + before key _ _ (lane k) = _
    rw [ih, (rankStep_iter key n).1, (rankStep_iter key n).2,
      before_lane key _ _ (Nat.mod_lt (k + n) (by norm_num : 0 < 16)) hk (by rw [rot_iter, lane_mod])
        (by rw [rot_iter, lanes_apply]; rfl), Nat.count_succ]
    split
    · exact (BitVec.ofNat_add _ _).symm
    · simp

/-- A lane's rank is its key's among the 16. -/
theorem rankOf_lane (key : FVec Ideal S16 .f32) {k : ℕ} (hk : k < 16) :
    rankOf key (lane k) = BitVec.ofNat 32 (rank16 (fun i => key (lane i)) k) := by
  classical
  unfold rankOf rank16
  rw [rankStep_count key hk, Nat.count_eq_card_filter_range]
  congr 1
  refine Finset.card_nbij' (fun t => (k + t) % 16) (fun j => (j + 16 - k) % 16) ?_ ?_ ?_ ?_
  · intro t ht
    simp only [Finset.coe_filter, Finset.mem_range, Set.mem_setOf_eq] at ht ⊢
    exact ⟨Nat.mod_lt _ (by norm_num), ht.2⟩
  · intro j hj
    simp only [Finset.coe_filter, Finset.mem_range, Set.mem_setOf_eq] at hj ⊢
    refine ⟨Nat.mod_lt _ (by norm_num), ?_⟩
    rw [show (k + (j + 16 - k) % 16) % 16 = j by omega]
    exact hj.2
  · intro t ht
    simp only [Finset.coe_filter, Finset.mem_range, Set.mem_setOf_eq] at ht
    show ((k + t) % 16 + 16 - k) % 16 = t
    omega
  · intro j hj
    simp only [Finset.coe_filter, Finset.mem_range, Set.mem_setOf_eq] at hj
    show (k + (j + 16 - k) % 16) % 16 = j
    omega

theorem sel_lane (key : FVec Ideal S16 .f32) {α : Type} (n : ℕ) (a b : S16.Idx → α) {x : ℕ} (hx : x < 16) :
    select (cmpi .eq (rot^[n] (rankOf key)) lanes) a b (lane x)
      = if rank16 (fun i => key (lane i)) ((x + n) % 16) = x then a (lane x) else b (lane x) := by
  have hr := rank16_bound (fun i => key (lane i)) (Nat.mod_lt (x + n) (by norm_num : 0 < 16))
  have h : (cmpi .eq (rot^[n] (rankOf key)) lanes (lane x) = 1) ↔ rank16 (fun i => key (lane i)) ((x + n) % 16) = x := by
    show BitVec.ofBool ((rot^[n] (rankOf key)) (lane x) == lanes (lane x)) = 1 ↔ _
    rw [rot_iter, ← lane_mod, rankOf_lane key (Nat.mod_lt _ (by norm_num)), lanes_apply, cell_val hx]
    generalize rank16 _ _ = r at hr
    interval_cases r <;> interval_cases x <;> decide
  show (if cmpi .eq (rot^[n] (rankOf key)) lanes (lane x) = 1 then a (lane x) else b (lane x)) = _
  simp only [h]

/-- After `n` steps of placing, a lane whose key turned up in them holds it. -/
theorem place_at (key : FVec Ideal S16 .f32) {α : Type} (v : S16.Idx → α) (out : ℕ → S16.Idx → α)
    (hout : ∀ n, out (n + 1) = select (cmpi .eq (rot^[n] (rankOf key)) lanes) (rot^[n] v) (out n)) {x j : ℕ} (hx : x < 16) (hj : j < 16)
    (hr : rank16 (fun i => key (lane i)) j = x) (n : ℕ) (hn : (j + 16 - x) % 16 < n) (hn' : n ≤ 16) : out n (lane x) = v (lane j) := by
  induction n with
  | zero => exact absurd hn (Nat.not_lt_zero _)
  | succ n ih =>
    rw [hout, sel_lane key n _ _ hx]
    by_cases he : (x + n) % 16 = j
    · rw [he, if_pos hr, rot_iter, ← lane_mod, he]
    · rw [if_neg, ih (by omega) (by omega)]
      intro h
      refine he ?_
      by_contra hne
      have hm := Nat.mod_lt (x + n) (by norm_num : 0 < 16)
      rcases Bef.total (fun i => key (lane i)) hne with h1 | h1
      · exact absurd (h.trans hr.symm) (rank16_lt _ hm h1).ne
      · exact absurd (h.trans hr.symm) (rank16_lt _ hj h1).ne'

theorem placeStep_iter (r : IVec S16 32) (k o : FVec Ideal S16 .f32) (n : ℕ) :
    (placeStep^[n] (r, k, o)).1 = rot^[n] r ∧ (placeStep^[n] (r, k, o)).2.1 = rot^[n] k := by
  induction n with
  | zero => exact ⟨rfl, rfl⟩
  | succ n ih =>
    simp only [Function.iterate_succ_apply']
    exact ⟨congrArg rot ih.1, congrArg rot ih.2⟩

theorem placeStep2_iter (r : IVec S16 32) (k : FVec Ideal S16 .f32) (w : IVec S16 32) (o : FVec Ideal S16 .f32) (p : IVec S16 32) (n : ℕ) :
    (placeStep2^[n] (r, k, w, o, p)).1 = rot^[n] r ∧ (placeStep2^[n] (r, k, w, o, p)).2.1 = rot^[n] k
      ∧ (placeStep2^[n] (r, k, w, o, p)).2.2.1 = rot^[n] w := by
  induction n with
  | zero => exact ⟨rfl, rfl, rfl⟩
  | succ n ih =>
    simp only [Function.iterate_succ_apply']
    exact ⟨congrArg rot ih.1, congrArg rot ih.2.1, congrArg rot ih.2.2⟩

/-- The sorted register is a permutation of the register, in increasing order; with values, they go along. -/
theorem sort_perm (key : FVec Ideal S16 .f32) :
    ∃ σ : Equiv.Perm (Fin 16), (∀ x : Fin 16, sortK key (lane x.val) = key (lane (σ x).val))
      ∧ (∀ (val : IVec S16 32) (x : Fin 16), (sortKV key val).1 (lane x.val) = key (lane (σ x).val)
          ∧ (sortKV key val).2 (lane x.val) = val (lane (σ x).val))
      ∧ ∀ x y : Fin 16, x ≤ y → (key (lane (σ x).val) : EReal) ≤ key (lane (σ y).val) := by
  obtain ⟨σ, h1, h2⟩ := exists_order (fun i => key (lane i))
  have hlast : ∀ x : Fin 16, ((σ x).val + 16 - x.val) % 16 < 16 := fun _ => Nat.mod_lt _ (by norm_num)
  refine ⟨σ, fun x => ?_, fun val x => ⟨?_, ?_⟩, h2⟩
  · refine place_at key key (fun n => (placeStep^[n] (rankOf key, key, key)).2.2) (fun n => ?_) x.isLt (σ x).isLt (h1 x) 16 (hlast x) le_rfl
    have e := placeStep_iter (rankOf key) key key n
    simp only [Function.iterate_succ_apply']
    rw [← e.1, ← e.2]
    rfl
  · refine place_at key key (fun n => (placeStep2^[n] (rankOf key, key, val, key, val)).2.2.2.1) (fun n => ?_) x.isLt (σ x).isLt (h1 x) 16
      (hlast x) le_rfl
    have e := placeStep2_iter (rankOf key) key val key val n
    simp only [Function.iterate_succ_apply']
    rw [← e.1, ← e.2.1]
    rfl
  · refine place_at key val (fun n => (placeStep2^[n] (rankOf key, key, val, key, val)).2.2.2.2) (fun n => ?_) x.isLt (σ x).isLt (h1 x) 16
      (hlast x) le_rfl
    have e := placeStep2_iter (rankOf key) key val key val n
    simp only [Function.iterate_succ_apply']
    rw [← e.1, ← e.2.2]
    rfl

end Cert.Proof.Knn

end
-- ==== Proof.Bags.lean ====
/-
  What the merging networks do on the extended reals: they keep the keys they are given, put the lower before the higher,
  and the running 32 are the lowest of all the candidates taken in so far.
-/
module

public import proofs.«01_k».proof.Proof.Rank
public import proofs.«01_k».proof.Proof.Merge

@[expose] public section

set_option maxRecDepth 8192

noncomputable section

namespace Cert.Proof.Knn

open Cert.KernelIdeal Cert.KernelIdeal.Gen
open Idealize.ShloMosaic Idealize.SL.Sem

/-! ## What a register holds -/

section Bag

variable {β : Type}

/-- What the 16 lanes hold, each as often as it occurs. -/
def bag (f : S16.Idx → β) : Multiset β := (Finset.univ : Finset (Fin 16)).val.map fun k => f (lane k.val)

theorem bag_perm {f g : S16.Idx → β} (σ : Equiv.Perm (Fin 16)) (h : ∀ x : Fin 16, g (lane x.val) = f (lane (σ x).val)) : bag g = bag f := by
  unfold bag
  rw [funext h]
  refine (Multiset.map_map (fun k : Fin 16 => f (lane k.val)) σ _).symm.trans ?_
  rw [Multiset.map_univ_val_equiv]

theorem mem_bag {f : S16.Idx → β} {y : β} : y ∈ bag f ↔ ∃ x : Fin 16, f (lane x.val) = y := by
  unfold bag
  rw [Multiset.mem_map]
  exact ⟨fun ⟨a, _, h⟩ => ⟨a, h⟩, fun ⟨a, h⟩ => ⟨a, Finset.mem_univ_val a, h⟩⟩

theorem bag_range (f : S16.Idx → β) : bag f = (Multiset.range 16).map fun k => f (lane k) := by
  unfold bag
  rw [show (Multiset.range 16) = (Finset.univ : Finset (Fin 16)).val.map Fin.val from rfl, Multiset.map_map]
  rfl

theorem map_swap {ι : Type} (s : Multiset ι) (f g f' g' : ι → β) (h : ∀ x, (f' x = f x ∧ g' x = g x) ∨ (f' x = g x ∧ g' x = f x)) :
    s.map f' + s.map g' = s.map f + s.map g := by
  induction s using Multiset.induction with
  | empty => rfl
  | cons a s ih =>
    simp only [Multiset.map_cons, Multiset.cons_add, Multiset.add_cons, ih]
    rcases h a with ⟨h1, h2⟩ | ⟨h1, h2⟩
    · rw [h1, h2]
    · rw [h1, h2, Multiset.cons_swap]

theorem bag_swap (f g f' g' : S16.Idx → β) (h : ∀ x, (f' x = f x ∧ g' x = g x) ∨ (f' x = g x ∧ g' x = f x)) :
    bag f' + bag g' = bag f + bag g := map_swap _ _ _ _ _ fun _ => h _

end Bag

/-- A reversal as a permutation of the lanes. -/
def flip16 : Equiv.Perm (Fin 16) := Fin.revPerm

theorem flip16_val (x : Fin 16) : (flip16 x).val = 15 - x.val := by
  show (Fin.rev x).val = _
  rw [Fin.val_rev]; omega

theorem rev_fin {α : Type} (v : S16.Idx → α) (x : Fin 16) : rev v (lane x.val) = v (lane (flip16 x).val) := by
  rw [flip16_val]; exact rev_lane v x.isLt

theorem bag_rev {α : Type} (v : S16.Idx → α) : bag (rev v) = bag v := bag_perm flip16 (rev_fin v)

/-- The keys increase over the lanes. -/
def Up (key : S16.Idx → EReal) : Prop := ∀ x y : Fin 16, x ≤ y → key (lane x.val) ≤ key (lane y.val)

theorem up_rev {key : S16.Idx → EReal} (h : Up key) (x y : Fin 16) (hxy : x ≤ y) : rev key (lane y.val) ≤ rev key (lane x.val) := by
  rw [rev_fin, rev_fin]
  exact h _ _ (Fin.rev_le_rev.2 hxy)

theorem bag_sortK (key : FVec Ideal S16 .f32) : bag (sortK key) = bag key := by
  obtain ⟨σ, h, -, -⟩ := sort_perm key
  exact bag_perm σ h

theorem up_sortK (key : FVec Ideal S16 .f32) : Up (sortK key) := by
  obtain ⟨σ, h, -, hm⟩ := sort_perm key
  intro x y hxy
  rw [h x, h y]
  exact hm x y hxy

/-- Between two increasing registers, one of them reversed, every lower key is at most every higher one. -/
theorem low_le_high {a b : S16.Idx → EReal} (ha : Up a) (hb : Up b) (p q : Fin 16) :
    min (a (lane p.val)) (rev b (lane p.val)) ≤ max (a (lane q.val)) (rev b (lane q.val)) := by
  rcases le_total p q with h | h
  · exact (min_le_left _ _).trans ((ha p q h).trans (le_max_left _ _))
  · exact (min_le_right _ _).trans ((up_rev hb q p h).trans (le_max_right _ _))

/-- A pair of registers that increases over its 32 lanes. -/
structure Up2 (a b : S16.Idx → EReal) : Prop where
  fst : Up a
  snd : Up b
  cross : ∀ p q : Fin 16, a (lane p.val) ≤ b (lane q.val)

theorem le_of_bag {a b a' b' : S16.Idx → EReal} (ha : bag a' = bag a) (hb : bag b' = bag b)
    (h : ∀ p q : Fin 16, a (lane p.val) ≤ b (lane q.val)) (p q : Fin 16) : a' (lane p.val) ≤ b' (lane q.val) := by
  obtain ⟨p', hp⟩ := mem_bag.1 (ha ▸ mem_bag.2 ⟨p, rfl⟩ : a' (lane p.val) ∈ bag a)
  obtain ⟨q', hq⟩ := mem_bag.1 (hb ▸ mem_bag.2 ⟨q, rfl⟩ : b' (lane q.val) ∈ bag b)
  rw [← hp, ← hq]
  exact h p' q'

theorem up2_sort {a b : FVec Ideal S16 .f32} (h : ∀ p q : Fin 16, (a (lane p.val) : EReal) ≤ b (lane q.val)) : Up2 (sortK a) (sortK b) :=
  ⟨up_sortK a, up_sortK b, le_of_bag (bag_sortK a) (bag_sortK b) h⟩

theorem bag_minmax (a b : FVec Ideal S16 .f32) : bag (minimumf a b) + bag (maximumf a b) = bag a + bag b := by
  refine bag_swap _ _ _ _ fun x => ?_
  show (min (a x : EReal) (b x) = a x ∧ max (a x : EReal) (b x) = b x) ∨ (min (a x : EReal) (b x) = b x ∧ max (a x : EReal) (b x) = a x)
  rcases le_total (a x : EReal) (b x) with h | h
  · exact .inl ⟨min_eq_left h, max_eq_right h⟩
  · exact .inr ⟨min_eq_right h, max_eq_left h⟩

theorem mergeK_up2 {a b : FVec Ideal S16 .f32} (ha : Up a) (hb : Up b) : Up2 (mergeK a b).1 (mergeK a b).2 :=
  up2_sort (low_le_high ha hb)

theorem mergeK_bag (a b : FVec Ideal S16 .f32) : bag (mergeK a b).1 + bag (mergeK a b).2 = bag a + bag b := by
  unfold mergeK
  rw [bag_sortK, bag_sortK, bag_minmax, bag_rev]

theorem mergeLow_up2 {a b : FVec Ideal S16 .f32 × FVec Ideal S16 .f32} (ha : Up2 a.1 a.2) (hb : Up2 b.1 b.2) :
    Up2 (mergeLow a b).1 (mergeLow a b).2 := by
  refine up2_sort fun p q => ?_
  show min (min (a.1 _ : EReal) (rev b.2 (lane p.val))) (min (a.2 _) (rev b.1 (lane p.val)))
    ≤ max (min (a.1 _ : EReal) (rev b.2 (lane q.val))) (min (a.2 _) (rev b.1 (lane q.val)))
  have hx : ∀ p q : Fin 16, (rev b.1 (lane p.val) : EReal) ≤ rev b.2 (lane q.val) := fun p q => by
    rw [rev_fin, rev_fin]; exact hb.cross _ _
  rcases le_total p q with h | h
  · refine le_trans (le_min ?_ ?_) (le_max_left _ _)
    · exact (min_le_left _ _).trans ((min_le_left _ _).trans (ha.fst p q h))
    · exact (min_le_right _ _).trans ((min_le_right _ _).trans (hx p q))
  · refine le_trans (le_min ?_ ?_) (le_max_right _ _)
    · exact (min_le_left _ _).trans ((min_le_left _ _).trans (ha.cross p q))
    · exact (min_le_right _ _).trans ((min_le_right _ _).trans (up_rev hb.fst q p h))

theorem mergeLow_bag (a b : FVec Ideal S16 .f32 × FVec Ideal S16 .f32) :
    bag (mergeLow a b).1 + bag (mergeLow a b).2 ≤ (bag a.1 + bag a.2) + (bag b.1 + bag b.2) := by
  unfold mergeLow
  rw [bag_sortK, bag_sortK, bag_minmax]
  have h1 := bag_minmax a.1 (rev b.2)
  have h2 := bag_minmax a.2 (rev b.1)
  rw [bag_rev] at h1 h2
  calc bag (minimumf a.1 (rev b.2)) + bag (minimumf a.2 (rev b.1))
      ≤ (bag (minimumf a.1 (rev b.2)) + bag (maximumf a.1 (rev b.2))) + (bag (minimumf a.2 (rev b.1)) + bag (maximumf a.2 (rev b.1))) :=
        add_le_add (Multiset.le_add_right _ _) (Multiset.le_add_right _ _)
    _ = (bag a.1 + bag b.2) + (bag a.2 + bag b.1) := by rw [h1, h2]
    _ = _ := by abel

/-! ## Keys with values -/

/-- A lane's key and value. -/
def pairs (a : KV Ideal) : S16.Idx → EReal × BitVec 32 := fun x => (a.1 x, a.2 x)

theorem bag_sortP (a : KV Ideal) : bag (pairs (sortP a)) = bag (pairs a) := by
  obtain ⟨σ, -, h, -⟩ := sort_perm a.1
  exact bag_perm σ fun x => Prod.ext (h a.2 x).1 (h a.2 x).2

theorem bag_keys (a : KV Ideal) : bag (a.1 : S16.Idx → EReal) = (bag (pairs a)).map Prod.fst := by
  unfold bag; rw [Multiset.map_map]; rfl

theorem bag_sortP_keys (a : KV Ideal) : bag ((sortP a).1 : S16.Idx → EReal) = bag a.1 := by
  rw [bag_keys, bag_sortP, ← bag_keys]

theorem up_sortP (a : KV Ideal) : Up (sortP a).1 := by
  obtain ⟨σ, -, h, hm⟩ := sort_perm a.1
  intro x y hxy
  show (sortKV a.1 a.2).1 _ ≤ (sortKV a.1 a.2).1 _
  rw [(h a.2 x).1, (h a.2 y).1]
  exact hm x y hxy

theorem bag_revKV (a : KV Ideal) : bag (pairs (revKV a)) = bag (pairs a) :=
  bag_perm flip16 fun x => Prod.ext (rev_fin a.1 x) (rev_fin a.2 x)

theorem lowKV_apply (a b : KV Ideal) (x : S16.Idx) : pairs (lowKV a b) x = if (a.1 x : EReal) ≤ b.1 x then pairs a x else pairs b x := by
  have h : pairs (lowKV a b) x = (if Ideal.cmp .ole (a.1 x) (b.1 x) = 1 then a.1 x else b.1 x, if Ideal.cmp .ole (a.1 x) (b.1 x) = 1 then a.2 x else b.2 x) := rfl
  rw [h]
  simp only [Ideal.cmp_ole_eq_one]
  split <;> rfl

theorem highKV_apply (a b : KV Ideal) (x : S16.Idx) : pairs (highKV a b) x = if (a.1 x : EReal) ≤ b.1 x then pairs b x else pairs a x := by
  have h : pairs (highKV a b) x = (if Ideal.cmp .ole (a.1 x) (b.1 x) = 1 then b.1 x else a.1 x, if Ideal.cmp .ole (a.1 x) (b.1 x) = 1 then b.2 x else a.2 x) := rfl
  rw [h]
  simp only [Ideal.cmp_ole_eq_one]
  split <;> rfl

theorem lowKV_key (a b : KV Ideal) (x : S16.Idx) : ((lowKV a b).1 x : EReal) = min (a.1 x : EReal) (b.1 x) := by
  have h := congrArg Prod.fst (lowKV_apply a b x)
  refine h.trans ?_
  split
  · next h => exact (min_eq_left h).symm
  · next h => exact (min_eq_right (not_le.1 h).le).symm

theorem highKV_key (a b : KV Ideal) (x : S16.Idx) : ((highKV a b).1 x : EReal) = max (a.1 x : EReal) (b.1 x) := by
  have h := congrArg Prod.fst (highKV_apply a b x)
  refine h.trans ?_
  split
  · next h => exact (max_eq_right h).symm
  · next h => exact (max_eq_left (not_le.1 h).le).symm

theorem bag_lowhigh (a b : KV Ideal) : bag (pairs (lowKV a b)) + bag (pairs (highKV a b)) = bag (pairs a) + bag (pairs b) := by
  refine bag_swap _ _ _ _ fun x => ?_
  rw [lowKV_apply, highKV_apply]
  by_cases h : (a.1 x : EReal) ≤ b.1 x
  · exact .inl ⟨if_pos h, if_pos h⟩
  · exact .inr ⟨if_neg h, if_neg h⟩

theorem lowKV_le_highKV {a b : KV Ideal} (ha : Up a.1) (hb : Up b.1) (p q : Fin 16) :
    ((lowKV a (revKV b)).1 (lane p.val) : EReal) ≤ (highKV a (revKV b)).1 (lane q.val) := by
  rw [lowKV_key, highKV_key]
  exact low_le_high ha hb p q

theorem mergeKV_up2 {a b : KV Ideal} (ha : Up a.1) (hb : Up b.1) : Up2 (mergeKV a b).1.1 (mergeKV a b).2.1 :=
  ⟨up_sortP _, up_sortP _, le_of_bag (bag_sortP_keys _) (bag_sortP_keys _) (lowKV_le_highKV ha hb)⟩

theorem mergeKV_bag (a b : KV Ideal) : bag (pairs (mergeKV a b).1) + bag (pairs (mergeKV a b).2) = bag (pairs a) + bag (pairs b) := by
  unfold mergeKV
  rw [bag_sortP, bag_sortP, bag_lowhigh, bag_revKV]

/-- The two registers increase and hold the 32 lowest of `C`. -/
structure Low32 (st : KV Ideal × KV Ideal) (C : Multiset (EReal × BitVec 32)) : Prop where
  up : Up2 st.1.1 st.2.1
  rest : ∃ R, C = (bag (pairs st.1) + bag (pairs st.2)) + R ∧ ∀ y ∈ R, ∀ x : Fin 16, st.2.1 (lane x.val) ≤ y.1

theorem low32_merge {a b : KV Ideal} (ha : Up a.1) (hb : Up b.1) : Low32 (mergeKV a b) (bag (pairs a) + bag (pairs b)) :=
  ⟨mergeKV_up2 ha hb, 0, by rw [mergeKV_bag, add_zero], fun y hy => absurd hy (Multiset.notMem_zero y)⟩

theorem low32_takeIn {st : KV Ideal × KV Ideal} {C : Multiset (EReal × BitVec 32)} (h : Low32 st C) (c : KV Ideal) :
    Low32 (takeIn st c) (C + bag (pairs c)) := by
  obtain ⟨⟨h1, h2, hx⟩, R, hC, hR⟩ := h
  have hL : bag (pairs (lowKV st.2 (revKV (sortP c)))) + bag (pairs (highKV st.2 (revKV (sortP c)))) = bag (pairs st.2) + bag (pairs c) := by
    rw [bag_lowhigh, bag_revKV, bag_sortP]
  have hB := mergeKV_bag st.1 (sortP (lowKV st.2 (revKV (sortP c))))
  rw [bag_sortP] at hB
  refine ⟨mergeKV_up2 h1 (up_sortP _), bag (pairs (highKV st.2 (revKV (sortP c)))) + R, ?_, fun y hy x => ?_⟩
  · show _ = bag (pairs (mergeKV _ _).1) + bag (pairs (mergeKV _ _).2) + _
    rw [hB, hC, show bag (pairs st.1) + bag (pairs (lowKV st.2 (revKV (sortP c)))) + (bag (pairs (highKV st.2 (revKV (sortP c)))) + R)
      = bag (pairs st.1) + (bag (pairs (lowKV st.2 (revKV (sortP c)))) + bag (pairs (highKV st.2 (revKV (sortP c))))) + R by abel, hL]
    abel
  · have hmem : pairs (mergeKV st.1 (sortP (lowKV st.2 (revKV (sortP c))))).2 (lane x.val)
        ∈ bag (pairs st.1) + bag (pairs (lowKV st.2 (revKV (sortP c)))) := by
      rw [← hB]
      exact Multiset.mem_add.2 (.inr (mem_bag.2 ⟨x, rfl⟩))
    show (pairs (mergeKV st.1 (sortP (lowKV st.2 (revKV (sortP c))))).2 (lane x.val)).1 ≤ y.1
    generalize pairs (mergeKV st.1 (sortP (lowKV st.2 (revKV (sortP c))))).2 (lane x.val) = z at hmem
    rcases Multiset.mem_add.1 hmem with hz | hz <;> obtain ⟨p, rfl⟩ := mem_bag.1 hz <;> rcases Multiset.mem_add.1 hy with hy | hy
    · obtain ⟨q, rfl⟩ := mem_bag.1 hy
      show st.1.1 (lane p.val) ≤ (highKV st.2 (revKV (sortP c))).1 (lane q.val)
      rw [highKV_key]
      exact (hx p q).trans (le_max_left _ _)
    · exact (hx p p).trans (hR y hy p)
    · obtain ⟨q, rfl⟩ := mem_bag.1 hy
      exact lowKV_le_highKV h2 (up_sortP c) p q
    · show (lowKV st.2 (revKV (sortP c))).1 (lane p.val) ≤ y.1
      rw [lowKV_key]
      exact (min_le_left _ _).trans (hR y hy p)

end Cert.Proof.Knn

end
-- ==== Proof.Lowest.lean ====
/-
  What a row's selection computes on the extended reals, for a row whose entries differ: its threshold is at least the
  row's 30th lowest entry, and the `k`th of the 30 it ends with is the entry that exactly `k` entries of the row are below.
-/
module

public import proofs.«01_k».proof.Proof.Bags
public import proofs.«01_k».proof.Proof.Row

@[expose] public section

set_option maxRecDepth 8192

noncomputable section

namespace Cert.Proof.Knn

open Cert.KernelIdeal Cert.KernelIdeal.Gen
open Idealize.ShloMosaic Idealize.SL.Sem

/-! ## The threshold -/

theorem off3_all : ∀ r : Fin 32, ∀ c : Fin 64, k1_off3 (⟨r.val, r.isLt⟩ : Fin k1_t2_loop.trips) (BitVec.ofNat 32 (16 * c.val)) 0 = 1024 * r.val + 16 * c.val := by
  decide +kernel

theorem chunk_lane (f : Vec Ideal S32768 .f32) (r : Fin k1_t2_loop.trips) {c k : ℕ} (hc : c < 64) (hk : k < 16) :
    chunk f r c (lane k) = rowAt f r.val (16 * c + k) := by
  have h := off3_all ⟨r.val, r.isLt⟩ ⟨c, hc⟩
  show f (cell 32768 (k1_off3 r (BitVec.ofNat 32 (16 * c)) 0 + (lane k 0).val)) = f (cell 32768 (1024 * r.val + (16 * c + k)))
  rw [cell_val hk, show k1_off3 r (BitVec.ofNat 32 (16 * c)) 0 = 1024 * r.val + 16 * c from h, Nat.add_assoc]

theorem accMin_mem (g : ℕ → FVec Ideal S16 .f32) (n : ℕ) (x : S16.Idx) : ∃ j ≤ n, accMin g n x = g j x := by
  induction n with
  | zero => exact ⟨0, le_rfl, rfl⟩
  | succ n ih =>
    obtain ⟨j, hj, he⟩ := ih
    have hm : accMin g (n + 1) x = min (accMin g n x : EReal) (g (n + 1) x) := rfl
    rcases min_choice (accMin g n x : EReal) (g (n + 1) x) with h | h
    · exact ⟨j, hj.trans (Nat.le_succ n), hm.trans (h.trans he)⟩
    · exact ⟨n + 1, le_rfl, hm.trans h⟩

theorem keeps_iff (t a : EReal) : keeps (F := Ideal) t a ↔ a ≤ t := Ideal.cmp_ole_eq_one a t

instance (t a : EReal) : Decidable (keeps (F := Ideal) t a) := instDecidableKeeps (F := Ideal) t a

theorem countP_bag {β : Type} (P : β → Prop) [DecidablePred P] (f : S16.Idx → β) :
    (bag f).countP P = ((Finset.univ : Finset (Fin 16)).filter fun x => P (f (lane x.val))).card := Multiset.countP_map _ _ _

/-- How many are at most `t`. -/
def upTo (t : EReal) (b : Multiset EReal) : ℕ := b.countP (· ≤ t)

/-- A quarter of the row has at least as many entries up to `t` as there are of its 16 minima. -/
theorem count_quarter (f : Vec Ideal S32768 .f32) (r : Fin k1_t2_loop.trips) (t : EReal) {q : ℕ} (hq : q < 4) :
    upTo t (bag (gmin f r q 15)) ≤ Nat.count (fun i => keeps (F := Ideal) t (rowAt f r.val (256 * q + i))) 256 := by
  have hj : ∀ x : Fin 16, ∃ j ≤ 15, gmin f r q 15 (lane x.val) = rowAt f r.val (256 * q + (16 * j + x.val)) := fun x => by
    obtain ⟨j, hj, he⟩ := accMin_mem (fun k => chunk f r (16 * q + k)) 15 (lane x.val)
    refine ⟨j, hj, he.trans ?_⟩
    rw [chunk_lane f r (by omega) x.isLt]
    congr 1; omega
  choose j hj he using hj
  rw [upTo, countP_bag, Nat.count_eq_card_filter_range]
  refine Finset.card_le_card_of_injOn (fun x => 16 * j x + x.val) (fun x hx => ?_) (fun x _ y _ hxy => ?_)
  · simp only [Finset.coe_filter, Finset.mem_univ, true_and, Set.mem_setOf_eq, Finset.mem_range] at hx ⊢
    have := hj x
    refine ⟨by omega, (keeps_iff _ _).2 ?_⟩
    rw [← he x]; exact hx
  · have h : 16 * j x + x.val = 16 * j y + y.val := hxy
    exact Fin.ext (by omega)

theorem rowThr_eq (f : Vec Ideal S32768 .f32) (r : Fin k1_t2_loop.trips) : rowThr f r = (lowMin f r).2 (lane 13) := by
  show thr (lowMin f r).2 = _
  unfold thr extractAt extractStridedSlice
  exact congrArg _ (idx1_ext rfl)

/-- At least 30 entries of a row are at most its threshold. -/
theorem thirty_kept (f : Vec Ideal S32768 .f32) (r : Fin k1_t2_loop.trips) : 30 ≤ kept (rowAt f r.val) (rowThr f r) 1024 := by
  rw [rowThr_eq]
  have hup : Up2 (lowMin f r).1 (lowMin f r).2 :=
    mergeLow_up2 (mergeK_up2 (up_sortK _) (up_sortK _)) (mergeK_up2 (up_sortK _) (up_sortK _))
  have hbag := mergeLow_bag (mergeK (sortK (gmin f r 0 15)) (sortK (gmin f r 1 15))) (mergeK (sortK (gmin f r 2 15)) (sortK (gmin f r 3 15)))
  rw [mergeK_bag, mergeK_bag, bag_sortK, bag_sortK, bag_sortK, bag_sortK] at hbag
  change bag (lowMin f r).1 + bag (lowMin f r).2 ≤ _ at hbag
  generalize hl : lowMin f r = low at hup hbag
  have hc : upTo (low.2 (lane 13)) (bag low.1) + upTo (low.2 (lane 13)) (bag low.2)
      ≤ (upTo (low.2 (lane 13)) (bag (gmin f r 0 15)) + upTo (low.2 (lane 13)) (bag (gmin f r 1 15)))
        + (upTo (low.2 (lane 13)) (bag (gmin f r 2 15)) + upTo (low.2 (lane 13)) (bag (gmin f r 3 15))) := by
    unfold upTo
    rw [← Multiset.countP_add, ← Multiset.countP_add, ← Multiset.countP_add, ← Multiset.countP_add]
    exact Multiset.countP_le_of_le _ hbag
  have h1 : upTo (low.2 (lane 13)) (bag low.1) = 16 := by
    rw [upTo, countP_bag, Finset.filter_true_of_mem fun x _ => (hup.cross x 13 : low.1 (lane x.val) ≤ low.2 (lane 13))]
    rfl
  have h2 : 14 ≤ upTo (low.2 (lane 13)) (bag low.2) := by
    rw [upTo, countP_bag]
    have : (Finset.univ.filter fun x : Fin 16 => x ≤ 13).card = 14 := by decide
    rw [← this]
    exact Finset.card_le_card fun x hx => Finset.mem_filter.2 ⟨Finset.mem_univ _, hup.snd x 13 (Finset.mem_filter.1 hx).2⟩
  have q0 := count_quarter f r (low.2 (lane 13)) (q := 0) (by norm_num)
  have q1 := count_quarter f r (low.2 (lane 13)) (q := 1) (by norm_num)
  have q2 := count_quarter f r (low.2 (lane 13)) (q := 2) (by norm_num)
  have q3 := count_quarter f r (low.2 (lane 13)) (q := 3) (by norm_num)
  have k0 := kept_add (rowAt f r.val) (low.2 (lane 13)) 0 256
  have k1 := kept_add (rowAt f r.val) (low.2 (lane 13)) 256 256
  have k2 := kept_add (rowAt f r.val) (low.2 (lane 13)) 512 256
  have k3 := kept_add (rowAt f r.val) (low.2 (lane 13)) 768 256
  norm_num only at q0 q1 q2 q3 k0 k1 k2 k3
  omega

/-! ## The candidates -/

/-- Candidate `j`'s key and value, past the end a key above all. -/
def item (ck : Vec Ideal S1024 .f32) (cv : Vec Ideal S1024 .i32) (n j : ℕ) : EReal × BitVec 32 :=
  (if j < n then ck (cell 1024 j) else ⊤, cv (cell 1024 j))

theorem infinity_top : (Scalar.ofBits (F := Ideal) .f32 0x7F800000#32 : EReal) = ⊤ := by
  show Ideal.ofBits .f32 0x7F800000#32 = ⊤
  simp [Ideal.ofBits, Ideal.ieee]

theorem bmod_small {z : ℤ} (h1 : -1000000 ≤ z) (h2 : z ≤ 1000000) : z.bmod (2 ^ 32) = z :=
  Int.bmod_eq_of_le (by norm_num; omega) (by norm_num; omega)

theorem slt_pad {n c x : ℕ} (hn : n ≤ 1024) (hc : c ≤ 64) (hx : x < 16) :
    BitVec.slt (BitVec.ofNat 32 x) (BitVec.ofNat 32 n - BitVec.ofNat 32 (16 * c)) = decide (16 * c + x < n) := by
  unfold BitVec.slt
  rw [BitVec.toInt_sub, BitVec.toInt_ofNat', BitVec.toInt_ofNat', BitVec.toInt_ofNat', bmod_small (by omega) (by omega),
    bmod_small (z := (n : ℤ)) (by omega) (by omega), bmod_small (z := ((16 * c : ℕ) : ℤ)) (by omega) (by omega), bmod_small (by omega) (by omega)]
  exact decide_eq_decide.2 (by omega)

theorem cand_lane (ck : Vec Ideal S1024 .f32) (cv : Vec Ideal S1024 .i32) {n c k : ℕ} (hn : n ≤ 1024) (hc : c ≤ 64) (hk : k < 16) :
    pairs (cand ck cv (BitVec.ofNat 32 n) c) (lane k) = item ck cv n (16 * c + k) := by
  have h : pairs (cand ck cv (BitVec.ofNat 32 n) c) (lane k)
      = (if BitVec.ofBool (BitVec.slt (lanes (lane k)) (BitVec.ofNat 32 n - BitVec.ofNat 32 (16 * c))) = 1 then words ck (16 * c) (lane k)
          else Scalar.ofBits (F := Ideal) .f32 0x7F800000#32, words cv (16 * c) (lane k)) := rfl
  rw [h, lanes_apply, cell_val hk, slt_pad hn hc hk, infinity_top]
  unfold item words
  rw [cell_val hk]
  by_cases hlt : 16 * c + k < n <;> simp [hlt]

theorem bag_cand (ck : Vec Ideal S1024 .f32) (cv : Vec Ideal S1024 .i32) {n c : ℕ} (hn : n ≤ 1024) (hc : c ≤ 64) :
    bag (pairs (cand ck cv (BitVec.ofNat 32 n) c)) = (Multiset.range 16).map fun k => item ck cv n (16 * c + k) := by
  rw [bag_range]
  exact Multiset.map_congr rfl fun k hk => cand_lane ck cv hn hc (Multiset.mem_range.1 hk)

theorem items_step (ck : Vec Ideal S1024 .f32) (cv : Vec Ideal S1024 .i32) {n c : ℕ} (hn : n ≤ 1024) (hc : c ≤ 64) :
    (Multiset.range (16 * (c + 1))).map (item ck cv n)
      = (Multiset.range (16 * c)).map (item ck cv n) + bag (pairs (cand ck cv (BitVec.ofNat 32 n) c)) := by
  rw [bag_cand ck cv hn hc, Nat.mul_succ, Multiset.range_add, Multiset.map_add, Multiset.map_map]
  rfl

/-- The first sixteen need no padding. -/
theorem cand_first (ck : Vec Ideal S1024 .f32) (cv : Vec Ideal S1024 .i32) {n : ℕ} (h16 : 16 ≤ n) (hn : n ≤ 1024) :
    pairs (words ck 0, words cv 0) = pairs (cand ck cv (BitVec.ofNat 32 n) 0) := by
  funext x
  obtain ⟨k, hk, rfl⟩ := exists_lane x
  rw [cand_lane ck cv hn (by norm_num) hk]
  show (ck (cell 1024 (0 + (lane k 0).val)), cv (cell 1024 (0 + (lane k 0).val))) = _
  unfold item
  rw [cell_val hk, if_pos (by omega), Nat.mul_zero]

/-- After `c + 2` sixteens the pair holds the 32 lowest of them. -/
theorem lowest_low (ck : Vec Ideal S1024 .f32) (cv : Vec Ideal S1024 .i32) {n : ℕ} (h16 : 16 ≤ n) (hn : n ≤ 1024) (c : ℕ) (hc : c ≤ 62) :
    Low32 (lowest ck cv (BitVec.ofNat 32 n) c) ((Multiset.range (16 * (c + 2))).map (item ck cv n)) := by
  induction c with
  | zero =>
    have h := low32_merge (up_sortP (words ck 0, words cv 0)) (up_sortP (cand ck cv (BitVec.ofNat 32 n) 1))
    rw [bag_sortP, bag_sortP, cand_first ck cv h16 hn] at h
    rw [items_step ck cv hn (by norm_num), items_step ck cv hn (by norm_num)]
    rw [show (Multiset.range (16 * 0)).map (item ck cv n) = 0 from rfl, zero_add]
    exact h
  | succ c ih =>
    rw [items_step ck cv hn (by omega)]
    exact low32_takeIn (ih (by omega)) _

/-- The candidates are the kept entries with their columns. -/
theorem items_kept {row : ℕ → EReal} {t : EReal} {off : BitVec 32} {ck : Vec Ideal S1024 .f32} {cv : Vec Ideal S1024 .i32}
    (h : Kept (F := Ideal) row t 1024 off ck cv) (n : ℕ) (hn : n ≤ 1024) :
    (Multiset.range (kept (F := Ideal) row t n)).map (item ck cv (kept (F := Ideal) row t 1024))
      = ((Multiset.range n).filter fun i => keeps (F := Ideal) t (row i)).map fun i => (row i, BitVec.ofNat 32 i) := by
  induction n with
  | zero => rfl
  | succ n ih =>
    have ih := ih (by omega)
    rw [Multiset.range_succ]
    by_cases hk : keeps (F := Ideal) t (row n)
    · have hs : kept (F := Ideal) row t (n + 1) = kept (F := Ideal) row t n + 1 := by
        unfold kept; rw [Nat.count_succ, if_pos hk]
      have hle : kept (F := Ideal) row t (n + 1) ≤ kept (F := Ideal) row t 1024 := Nat.count_monotone _ hn
      rw [hs, Multiset.range_succ, Multiset.map_cons, Multiset.filter_cons_of_pos (p := fun i => keeps (F := Ideal) t (row i)) _ hk, Multiset.map_cons, ih]
      congr 1
      unfold item
      rw [if_pos (by omega), h.key n (by omega) hk, h.val n (by omega) hk]
    · have hs : kept (F := Ideal) row t (n + 1) = kept (F := Ideal) row t n := by
        unfold kept; rw [Nat.count_succ, if_neg hk]; rfl
      rw [hs, Multiset.filter_cons_of_neg (p := fun i => keeps (F := Ideal) t (row i)) _ hk, ih]

/-! ## The 30 lowest -/

/-- Lane `p` of the pair of registers. -/
def at32 (m : KV Ideal × KV Ideal) (p : ℕ) : EReal × BitVec 32 := if p < 16 then pairs m.1 (lane p) else pairs m.2 (lane (p - 16))

theorem at32_range (m : KV Ideal × KV Ideal) : (Multiset.range 32).map (at32 m) = bag (pairs m.1) + bag (pairs m.2) := by
  rw [bag_range, bag_range]
  refine (congrArg (Multiset.map (at32 m)) (Multiset.range_add 16 16)).trans ?_
  rw [Multiset.map_add, Multiset.map_map]
  refine congrArg₂ (· + ·) ?_ ?_
  · refine Multiset.map_congr rfl fun k hk => ?_
    rw [Multiset.mem_range] at hk
    exact if_pos hk
  · refine Multiset.map_congr rfl fun k hk => ?_
    show at32 m (16 + k) = _
    unfold at32
    rw [if_neg (by omega), Nat.add_sub_cancel_left]

theorem at32_mono {m : KV Ideal × KV Ideal} (h : Up2 m.1.1 m.2.1) {p q : ℕ} (hpq : p ≤ q) (hq : q < 32) : (at32 m p).1 ≤ (at32 m q).1 := by
  unfold at32
  by_cases hp : p < 16
  · by_cases hq' : q < 16
    · rw [if_pos hp, if_pos hq']; exact h.fst ⟨p, hp⟩ ⟨q, hq'⟩ hpq
    · rw [if_pos hp, if_neg hq']; exact h.cross ⟨p, hp⟩ ⟨q - 16, by omega⟩
  · rw [if_neg hp, if_neg (by omega)]
    exact h.snd ⟨p - 16, by omega⟩ ⟨q - 16, by omega⟩ (Fin.le_iff_val_le_val.2 (by show p - 16 ≤ q - 16; omega))

theorem countP_range {β : Type} (P : β → Prop) [DecidablePred P] (g : ℕ → β) (n : ℕ) : ((Multiset.range n).map g).countP P = ((Finset.range n).filter fun p => P (g p)).card :=
  Multiset.countP_map _ _ _

theorem countP_kept (P : EReal → Prop) [DecidablePred P] (row : ℕ → EReal) (t : EReal) :
    ((((Multiset.range 1024).filter fun i => keeps (F := Ideal) t (row i)).map fun i => (row i, BitVec.ofNat 32 i)).countP fun y => P y.1)
      = ((Finset.range 1024).filter fun i => row i ≤ t ∧ P (row i)).card := by
  rw [Multiset.countP_map, Multiset.filter_filter]
  show _ = ((Multiset.range 1024).filter _).card
  congr 1
  refine Multiset.filter_congr fun i _ => ?_
  rw [keeps_iff, and_comm]

/-- Among the candidates, sorted, of a row whose entries differ: the `k`th is the entry that `k` entries are below, with its column. -/
theorem row_lowest {f : Vec Ideal S32768 .f32} {r : Fin k1_t2_loop.trips} {m : KV Ideal × KV Ideal} (h : RowLow f r m)
    (hinj : ∀ i < 1024, ∀ j < 1024, rowAt f r.val i = rowAt f r.val j → i = j) {k : ℕ} (hk : k < 30) :
    ∃ i < 1024, at32 m k = (rowAt f r.val i, BitVec.ofNat 32 i)
      ∧ ((Finset.range 1024).filter fun j => (rowAt f r.val j : EReal) < rowAt f r.val i).card = k := by
  obtain ⟨off, ck, cv, hK, hm⟩ := h
  have h30 := thirty_kept f r
  generalize rowThr f r = t at hK hm h30
  generalize hrow : rowAt f r.val = row at hK hm h30 hinj
  change ℕ → EReal at row
  change EReal at t
  have hle : kept (F := Ideal) row t 1024 ≤ 1024 := kept_le _ _ _
  have hoff := hK.off_eq
  have hitems := items_kept hK 1024 le_rfl
  subst hoff
  generalize hn : kept (F := Ideal) row t 1024 = n at hm h30 hle hitems
  have hlow := lowest_low ck cv (by omega) hle ((n + 15) / 16 - 2) (by omega)
  rw [← hm] at hlow
  obtain ⟨hup, R, hC, hR⟩ := hlow
  -- all the candidates: the kept entries, and padding above the threshold
  obtain ⟨pad, hpad, hpadt⟩ : ∃ pad : Multiset (EReal × BitVec 32),
      (Multiset.range (16 * ((n + 15) / 16 - 2 + 2))).map (item ck cv n) = (Multiset.range n).map (item ck cv n) + pad ∧ ∀ y ∈ pad, t < y.1 := by
    refine ⟨(Multiset.range (16 * ((n + 15) / 16 - 2 + 2) - n)).map fun j => item ck cv n (n + j), ?_, fun y hy => ?_⟩
    · conv_lhs => rw [show 16 * ((n + 15) / 16 - 2 + 2) = n + (16 * ((n + 15) / 16 - 2 + 2) - n) by omega]
      rw [Multiset.range_add, Multiset.map_add, Multiset.map_map]
      rfl
    · obtain ⟨j, hj, rfl⟩ := Multiset.mem_map.1 hy
      rw [Multiset.mem_range] at hj
      show t < (if n + j < n then _ else ⊤)
      rw [if_neg (by omega)]
      refine lt_top_iff_ne_top.2 fun ht => ?_
      have : kept (F := Ideal) row t 1024 = 1024 := (Nat.count_iff_forall).2 fun i _ => (keeps_iff _ _).2 (ht ▸ le_top)
      omega
  rw [hpad, hitems, ← at32_range] at hC
  have hRk : ∀ y ∈ R, ∀ p < 32, (at32 m p).1 ≤ y.1 := fun y hy p hp =>
    (at32_mono hup (show p ≤ 31 by omega) (by norm_num)).trans (hR y hy 15)
  -- counting those below a bound, both ways
  have hcount : ∀ (P : EReal → Prop) [DecidablePred P], ((Finset.range 1024).filter fun i => row i ≤ t ∧ P (row i)).card + pad.countP (fun y => P y.1)
      = ((Finset.range 32).filter fun p => P (at32 m p).1).card + R.countP (fun y => P y.1) := fun P _ => by
    rw [← countP_kept P row t, ← countP_range (fun y : EReal × BitVec 32 => P y.1), ← Multiset.countP_add, ← Multiset.countP_add, hC]
  have hkt : (at32 m k).1 ≤ t := by
    by_contra hlt
    rw [not_le] at hlt
    have h1 := hcount (· ≤ t)
    have h2 : R.countP (fun y => y.1 ≤ t) = 0 := Multiset.countP_eq_zero.2 fun y hy => not_le.2 (hlt.trans_le (hRk y hy k (by omega)))
    have h3 : ((Finset.range 32).filter fun p => (at32 m p).1 ≤ t).card ≤ k := by
      rw [← Finset.card_range k]
      refine Finset.card_le_card fun p hp => ?_
      rw [Finset.mem_filter, Finset.mem_range] at hp
      rw [Finset.mem_range]
      by_contra hc
      exact absurd (hlt.trans_le (at32_mono hup (not_lt.1 hc) hp.1)) (not_lt.2 hp.2)
    have h4 : ((Finset.range 1024).filter fun i => row i ≤ t ∧ row i ≤ t).card = n := by
      rw [← hn]
      unfold kept
      rw [Nat.count_eq_card_filter_range]
      congr 1
      refine Finset.filter_congr fun i _ => ?_
      rw [keeps_iff, and_self_iff]
    omega
  have hmem : at32 m k ∈ ((Multiset.range 1024).filter fun i => keeps (F := Ideal) t (row i)).map fun i => (row i, BitVec.ofNat 32 i) := by
    have h1 : at32 m k ∈ (Multiset.range 32).map (at32 m) + R :=
      Multiset.mem_add.2 (.inl (Multiset.mem_map.2 ⟨k, Multiset.mem_range.2 (by omega), rfl⟩))
    rw [← hC] at h1
    rcases Multiset.mem_add.1 h1 with h1 | h1
    · exact h1
    · exact absurd (hpadt _ h1) (not_lt.2 hkt)
  obtain ⟨i, hi, he⟩ := Multiset.mem_map.1 hmem
  have hi1 : i < 1024 := Multiset.mem_range.1 (Multiset.mem_filter.1 hi).1
  have hkey : (at32 m k).1 = row i := (congrArg Prod.fst he).symm
  refine ⟨i, hi1, he.symm, ?_⟩
  rw [hkey] at hkt
  -- no other lane holds the same key
  have huniq : ∀ p < 32, (at32 m p).1 = row i → p = k := by
    intro p hp hpe
    have h1 := hcount (· = row i)
    have h2 : pad.countP (fun y => y.1 = row i) = 0 := Multiset.countP_eq_zero.2 fun y hy => ((hkt.trans_lt (hpadt y hy)).ne')
    have h3 : ((Finset.range 1024).filter fun j => row j ≤ t ∧ row j = row i).card ≤ 1 := by
      refine Finset.card_le_one.2 fun a ha b hb => ?_
      rw [Finset.mem_filter, Finset.mem_range] at ha hb
      exact hinj a ha.1 b hb.1 (ha.2.2.trans hb.2.2.symm)
    by_contra hne
    have h4 : 2 ≤ ((Finset.range 32).filter fun p => (at32 m p).1 = row i).card := by
      rw [← Finset.card_pair hne]
      refine Finset.card_le_card fun z hz => ?_
      rw [Finset.mem_insert, Finset.mem_singleton] at hz
      rw [Finset.mem_filter, Finset.mem_range]
      rcases hz with rfl | rfl
      · exact ⟨hp, hpe⟩
      · exact ⟨by omega, hkey⟩
    omega
  have h1 := hcount (· < row i)
  have h2 : pad.countP (fun y => y.1 < row i) = 0 := Multiset.countP_eq_zero.2 fun y hy => not_lt.2 (hkt.trans (hpadt y hy).le)
  have h3 : R.countP (fun y => y.1 < row i) = 0 := Multiset.countP_eq_zero.2 fun y hy => not_lt.2 (hkey ▸ hRk y hy k (by omega))
  have h4 : ((Finset.range 32).filter fun p => (at32 m p).1 < row i) = Finset.range k := by
    ext p
    rw [Finset.mem_filter, Finset.mem_range, Finset.mem_range]
    constructor
    · rintro ⟨hp, hlt⟩
      by_contra hc
      exact absurd (hkey ▸ at32_mono hup (not_lt.1 hc) hp) (not_le.2 hlt)
    · intro hp
      refine ⟨by omega, lt_of_le_of_ne (hkey ▸ at32_mono hup hp.le (by omega)) fun hpe => ?_⟩
      exact absurd (huniq p (by omega) hpe) hp.ne
  have h5 : ((Finset.range 1024).filter fun j => row j ≤ t ∧ row j < row i) = (Finset.range 1024).filter fun j => row j < row i :=
    Finset.filter_congr fun j _ => ⟨fun h => h.2, fun h => ⟨(h.trans_le hkt).le, h⟩⟩
  rw [h2, h3, h4, h5, Finset.card_range] at h1
  omega

end Cert.Proof.Knn

end
-- ==== Proof.Lanes.lean ====
/-
  The 30 entries a row writes to each plane, entry by entry: what entry `k` of plane `p` is, from the `k`th of the 30
  pairs of a key and a position that the row's selection ends with.
-/
module

public import proofs.«01_k».proof.Proof.Lowest
public import proofs.«01_k».proof.Proof.Rows

@[expose] public section

set_option maxRecDepth 8192

noncomputable section

namespace Cert.Proof.Knn

open Cert.KernelIdeal Cert.KernelIdeal.Gen
open Idealize.ShloMosaic Idealize.SL.Sem

/-- What plane `p` holds for the node `nd` and the neighbour at key `a` and position `w`. -/
def oneVal (tab : Vec Ideal S16384 .f32) (nd : BitVec 32) (a : EReal) (w : BitVec 32) (p : ℕ) : EReal :=
  if p < 1 then a
  else if p < 2 then FloatOps.subf (F := Ideal) (φ := .f32) (FloatOps.sitofp .f32 w) (FloatOps.sitofp .f32 nd)
  else if p < 5 then tab (cell 16384 (1024 * (p + 7) + w.toNat))
  else if p < 8 then tab (cell 16384 (BitVec.ofNat 32 (1024 * (p + 4)) + nd).toNat)
  else if p < 17 then tab (cell 16384 (1024 * (p - 8) + w.toNat))
  else tab (cell 16384 (BitVec.ofNat 32 (1024 * (p - 17)) + nd).toNat)

/-- A word of the table on every lane, read on a lane. -/
theorem spread_at (tab : Vec Ideal S16384 .f32) (o : ℕ) (l : S16.Idx) : spread tab o l = tab (cell 16384 o) := rfl

/-- Entry `k` of what a row writes to plane `p`. -/
theorem rowVal_at (tab : Vec Ideal S16384 .f32) (nd : BitVec 32) (m : KV Ideal × KV Ideal) (p k : ℕ) :
    word30 (rowVal tab nd m p) k = oneVal tab nd (at32 m k).1 ((at32 m k).2 &&& 1023#32) p := by
  unfold rowVal oneVal
  simp only [Bool.cond_eq_ite, Nat.blt_eq]
  by_cases hk : k < 16
  · have e : at32 m k = (m.1.1 (lane k), m.1.2 (lane k)) := if_pos hk
    rw [e]
    unfold word30
    rw [if_pos hk]
    split_ifs <;> rfl
  · have e : at32 m k = (m.2.1 (lane (k - 16)), m.2.2 (lane (k - 16))) := if_neg hk
    rw [e]
    unfold word30
    rw [if_neg hk]
    split_ifs <;> rfl

/-- Entry `k` of the list of neighbours a row writes. -/
theorem low30_at (m : KV Ideal × KV Ideal) (k : ℕ) : word30 (lo10 m, hi10 m) k = (at32 m k).2 &&& 1023#32 := by
  by_cases hk : k < 16
  · have e : at32 m k = (m.1.1 (lane k), m.1.2 (lane k)) := if_pos hk
    rw [e]
    unfold word30
    rw [if_pos hk]
    rfl
  · have e : at32 m k = (m.2.1 (lane (k - 16)), m.2.2 (lane (k - 16))) := if_neg hk
    rw [e]
    unfold word30
    rw [if_neg hk]
    rfl

/-- The number of a row's node is its number in the array of distances. -/
theorem nodeAt_eq : ∀ (i : grid1.Coords) (t : Fin k1_t1_loop.trips) (r : Fin 32),
    nodeAt i t ⟨r.val, r.isLt⟩ = BitVec.ofNat 32 (row0 i t.val + r.val) := by decide +kernel

/-- A position in range is kept by the mask. -/
theorem low10_ofNat (i : ℕ) (h : i < 1024) : BitVec.ofNat 32 i &&& 1023#32 = BitVec.ofNat 32 i := by
  apply BitVec.eq_of_toNat_eq
  rw [BitVec.toNat_and, BitVec.toNat_ofNat]
  show i % 2 ^ 32 &&& (2 ^ 10 - 1) = _
  rw [Nat.and_two_pow_sub_one_eq_mod]
  omega

end Cert.Proof.Knn

end

end
-- ==== Proof.Math.lean ====
/-
  The arithmetic of a protein's nodes on the extended reals: unit vectors, cross products, the frame of three nodes in a
  row, squared distances; and the laws the two programs' ways of writing them differ by.
-/
module

public import Idealize.ShloMosaic.PureOps.Ideal
public import Idealize.ShloMosaic.Lib.Pointwise

@[expose] public section

noncomputable section

namespace Cert.Proof.Knn

open Idealize.ShloMosaic

/-- The least length a unit vector is divided by, as its bits name it. -/
def tiny : EReal := Ideal.ofBits .f32 0x2B8CBCCC#32

theorem tiny_pos : 0 < tiny := by
  unfold tiny
  simp [Ideal.ofBits, Ideal.ieee]
  norm_num
  exact EReal.mul_pos (EReal.coe_pos.2 (by norm_num)) (EReal.coe_pos.2 (by norm_num))

/-- Multiplying by a reciprocal is dividing, off zero. -/
theorem mul_recip (a b : EReal) (h : b ≠ 0) : a * Ideal.div 1 b = Ideal.div a b := by
  unfold Ideal.div
  rw [if_neg h, if_neg h, one_mul]

/-- A length, at least `tiny`, is not zero. -/
theorem max_tiny_ne (a : EReal) : max a tiny ≠ 0 := (lt_of_lt_of_le tiny_pos (le_max_right _ _)).ne'

/-- The square of a difference does not depend on its direction. -/
theorem sq_sub_comm (a b : EReal) : (a - b) * (a - b) = (b - a) * (b - a) := by
  induction a <;> induction b <;> first | rfl | skip
  all_goals first | (norm_cast; ring) | simp

/-- A square is not negative. -/
theorem sq_nonneg_ereal (a : EReal) : 0 ≤ a * a := by
  induction a
  · simp
  · norm_cast; exact mul_self_nonneg _
  · simp

/-- The square root keeps the order of numbers that are not negative. -/
theorem sqrt_mono {a b : EReal} (ha : 0 ≤ a) (h : a ≤ b) : Ideal.sqrt a ≤ Ideal.sqrt b := by
  induction a
  · exact absurd ha (by simp)
  · induction b
    · exact absurd h (by simp)
    · have ha' := EReal.coe_nonneg.1 ha
      have h' := EReal.coe_le_coe_iff.1 h
      show (if _ then _ else _) ≤ (if _ then _ else _)
      rw [if_neg (not_lt.2 ha'), if_neg (not_lt.2 (ha'.trans h'))]
      exact EReal.coe_le_coe_iff.2 (Real.sqrt_le_sqrt h')
    · exact le_top
  · rw [top_le_iff] at h
    rw [h]

/-- A vector divided by its length, the length at least `tiny`. -/
def unit3 (v : Fin 3 → EReal) (k : Fin 3) : EReal := Ideal.div (v k) (max (Ideal.sqrt (v 0 * v 0 + v 1 * v 1 + v 2 * v 2)) tiny)

/-- The cross product. -/
def cross3 (u v : Fin 3 → EReal) : Fin 3 → EReal := ![u 1 * v 2 - u 2 * v 1, u 2 * v 0 - u 0 * v 2, u 0 * v 1 - u 1 * v 0]

/-- The directions of the frame of three nodes `p`, `q`, `r` in a row: along the bisector, normal to the plane, and their
    cross product. -/
def fwd (p q : Fin 3 → EReal) : Fin 3 → EReal := unit3 fun k => q k - p k
def bis (p q r : Fin 3 → EReal) : Fin 3 → EReal := unit3 fun k => fwd p q k - fwd q r k
def nrm (p q r : Fin 3 → EReal) : Fin 3 → EReal := unit3 (cross3 (fwd p q) (fwd q r))

/-- The frame of three nodes in a row, nine numbers. -/
def frame9 (p q r : Fin 3 → EReal) (j : ℕ) : EReal :=
  if h : j < 3 then bis p q r ⟨j, h⟩
  else if h : j - 3 < 3 then nrm p q r ⟨j - 3, h⟩
  else cross3 (bis p q r) (nrm p q r) ⟨(j - 6) % 3, Nat.mod_lt _ (by decide)⟩

/-- The squared distance of two nodes. -/
def dist2 (p q : Fin 3 → EReal) : EReal := (p 0 - q 0) * (p 0 - q 0) + (p 1 - q 1) * (p 1 - q 1) + (p 2 - q 2) * (p 2 - q 2)

theorem dist2_comm (p q : Fin 3 → EReal) : dist2 p q = dist2 q p := by
  unfold dist2
  rw [sq_sub_comm (p 0), sq_sub_comm (p 1), sq_sub_comm (p 2)]

theorem dist2_nonneg (p q : Fin 3 → EReal) : 0 ≤ dist2 p q :=
  add_nonneg (add_nonneg (sq_nonneg_ereal _) (sq_nonneg_ereal _)) (sq_nonneg_ereal _)

/-- What is added to a squared distance under the root. -/
def smooth : EReal := Ideal.ofBits .f32 0x358637BD#32

theorem smooth_nonneg : 0 ≤ smooth := by
  unfold smooth
  simp [Ideal.ofBits, Ideal.ieee]
  norm_num
  exact (EReal.mul_pos (EReal.coe_pos.2 (by norm_num)) (EReal.coe_pos.2 (by norm_num))).le

/-- The distance of two nodes, smoothed at zero. -/
def dist (p q : Fin 3 → EReal) : EReal := Ideal.sqrt (dist2 p q + smooth)

/-- The distance keeps the order of the squared distances. -/
theorem dist_mono (o p q : Fin 3 → EReal) (h : dist2 o p ≤ dist2 o q) : dist o p ≤ dist o q :=
  sqrt_mono (add_nonneg (dist2_nonneg _ _) smooth_nonneg) (add_le_add_left h _)

/-- Where the distances from `o` differ, so do the squared distances, and the two orders agree. -/
theorem dist2_injective {n : ℕ} (o : Fin 3 → EReal) (p : Fin n → Fin 3 → EReal) (h : Function.Injective fun j => dist o (p j)) :
    Function.Injective fun j => dist2 o (p j) := fun i j e => h (congrArg (fun z => Ideal.sqrt (z + smooth)) e)

theorem dist_lt_iff {n : ℕ} (o : Fin 3 → EReal) (p : Fin n → Fin 3 → EReal) (h : Function.Injective fun j => dist o (p j)) (i j : Fin n) :
    dist o (p j) < dist o (p i) ↔ dist2 o (p j) < dist2 o (p i) := by
  constructor
  · intro hlt
    by_contra hc
    exact absurd (dist_mono o _ _ (not_lt.1 hc)) (not_le.2 hlt)
  · intro hlt
    refine lt_of_le_of_ne (dist_mono o _ _ hlt.le) fun e => ?_
    have := h e
    rw [this] at hlt
    exact lt_irrefl _ hlt

theorem dist_comm (p q : Fin 3 → EReal) : dist p q = dist q p := congrArg (fun z => Ideal.sqrt (z + smooth)) (dist2_comm p q)

/-! ## Nodes of an array of coordinates -/

/-- The coordinates of node `s` of batch entry `b`. -/
def pt (x : FVec Ideal (⟨3, ![8, 1024, 3]⟩ : Shape) .f32) (b : Fin 8) (s : Fin 1024) : Fin 3 → EReal := fun k => x (ix3 b s k)

/-- Row `q` of the frames at node `c`: the frame of the node with the nodes before and after it, zero at the first node and
    the last two. -/
def frameAt (x : FVec Ideal (⟨3, ![8, 1024, 3]⟩ : Shape) .f32) (b : Fin 8) (q : ℕ) (c : Fin 1024) : EReal :=
  if h : 1 ≤ c.val ∧ c.val < 1022 then
    frame9 (pt x b ⟨c.val - 1, by omega⟩) (pt x b c) (pt x b ⟨c.val + 1, by omega⟩) q
  else 0

/-- What plane `p` holds for node `n` of batch entry `b` and its neighbour `i`: the squared distance, the offset `i - n`, the
    neighbour's coordinates, the node's own, the neighbour's frame and the node's own. -/
def planeVal (x : FVec Ideal (⟨3, ![8, 1024, 3]⟩ : Shape) .f32) (p : ℕ) (b : Fin 8) (n i : Fin 1024) : EReal :=
  if p < 1 then dist2 (pt x b n) (pt x b i)
  else if p < 2 then
    FloatOps.subf (F := Ideal) (φ := .f32) (FloatOps.sitofp .f32 (BitVec.ofNat 32 i.val)) (FloatOps.sitofp .f32 (BitVec.ofNat 32 n.val))
  else if h : p - 2 < 3 then pt x b i ⟨p - 2, h⟩
  else if h : p - 5 < 3 then pt x b n ⟨p - 5, h⟩
  else if p < 17 then frameAt x b (p - 8) i
  else frameAt x b (p - 17) n

end Cert.Proof.Knn

end

end
-- ==== Proof.TopRef.lean ====
/-
  What the reference's choice of neighbours computes on the extended reals, where the mask is one and the distances from a
  node differ: place `k` of a node's list holds the node that exactly `k` nodes are nearer than.
-/
module

public import proofs.«01_k».proof.Proof.Gen.ReferenceIdeal.Run
public import proofs.«01_k».proof.Proof.Gen.Pre_distinct
public import proofs.«01_k».proof.Proof.Math
public import Idealize.ShloMosaic.Lib.IdealHost
public import Idealize.ShloMosaic.Lib.SortFacts
public import Idealize.ShloMosaic.PureOps.Ideal
public import Idealize.ShloMosaic.Lib.Pointwise
public import Idealize.ShloMosaic.Lib.ReduceAll
public import Idealize.ShloMosaic.Lib.Pipeline.Value
public import Idealize.ShloMosaic.Lib.StableHlo.Predicate

@[expose] public section

set_option maxRecDepth 8192

noncomputable section

namespace Cert.Proof.Knn.Ref

open Cert.ReferenceIdeal Cert.ReferenceIdeal.Gen
open Idealize.ShloMosaic Idealize.SL.Sem

/-! ## A sort by different keys -/

/-- Where the keys differ, the place a sort by rising keys gives a position is the number of keys below its own. -/
theorem sorted_rank {n : ℕ} (x : Fin n → EReal) (hx : Function.Injective x) (B : Fin n → Fin n → Bool)
    (hB : ∀ a b, B a b = true ↔ x a < x b) (k i : Fin n)
    (hk : (Finset.univ.filter fun j => x j < x i).card = k.val) : sortedFrom B k = i := by
  obtain ⟨k', rfl⟩ := sortedFrom_surjective B i
  have hBf : ∀ a b, B a b = false ↔ x b ≤ x a := fun a b => by
    rw [← not_lt, ← hB, Bool.not_eq_true]
  have hno : ∀ i j : Fin n, i < j → x (sortedFrom B i) < x (sortedFrom B j) := fun i j hij => by
    refine lt_of_le_of_ne ((hBf _ _).1 (sortedFrom_noInversion B B ?_ (fun _ _ h => h) ?_ i j hij)) fun h => ?_
    · intro a b h
      exact (hBf _ _).2 ((hB _ _).1 h).le
    · intro a b c h h'
      exact (hBf _ _).2 (((hBf _ _).1 h').trans ((hBf _ _).1 h))
    · exact hij.ne (sortedFrom_injective B (hx h))
  have e : (Finset.univ.filter fun j => x j < x (sortedFrom B k'))
      = (Finset.univ.filter fun j => j < k').image (sortedFrom B) := by
    ext j
    obtain ⟨j', rfl⟩ := sortedFrom_surjective B j
    simp only [Finset.mem_filter, Finset.mem_univ, true_and, Finset.mem_image]
    constructor
    · intro h
      refine ⟨j', ?_, rfl⟩
      by_contra hc
      rcases (not_lt.1 hc).lt_or_eq with h' | h'
      · exact absurd (hno _ _ h') (not_lt.2 h.le)
      · exact absurd h (by rw [h']; exact lt_irrefl _)
    · rintro ⟨a, ha, hae⟩
      rw [← hae]
      exact hno _ _ ha
  rw [e, Finset.card_image_of_injective _ (sortedFrom_injective B)] at hk
  have hc : (Finset.univ.filter fun j : Fin n => j < k').card = k'.val := by
    rw [Finset.filter_gt_eq_Iio, Fin.card_Iio]
  exact congrArg _ (Fin.ext (by rw [← hk, hc]))

/-! ## The list of neighbours -/

/-- The reference's choice of neighbours from the distances `x`: the 30 lowest of each row, as `jax.lax.top_k` of the
    negated row has them. -/
def top (x : FVec Ideal S8x1024x1024 .f32) : FVec Ideal S8x1024x30 .f32 × IVec S8x1024x30 32 :=
  Host.topK S8x1024x30 2 (FloatOps.cmpfTotal .gt) (Host.negf x) sliceFits_S8x1024x1024_S8x1024x30

/-- Position `i` of the row that place `(b, n, k)` of the list is of. -/
theorem along_row (b : Fin 8) (n i i' : Fin 1024) :
    Shape.Idx.along (s := S8x1024x1024) (ix3 b n i') (2 : Fin 3) i = ix3 b n i := by
  funext a
  match a with
  | ⟨0, _⟩ => rfl
  | ⟨1, _⟩ => rfl
  | ⟨2, _⟩ => rfl

/-- The entry that exactly `k` entries of its row are below is the one at place `k` of the row's list. -/
theorem top_at (x : FVec Ideal S8x1024x1024 .f32) (b : Fin 8) (n : Fin 1024)
    (hx : Function.Injective fun i : Fin 1024 => (x (ix3 b n i) : EReal)) (k : Fin 30) (i : Fin 1024)
    (hk : (Finset.univ.filter fun j : Fin 1024 => (x (ix3 b n j) : EReal) < x (ix3 b n i)).card = k.val) :
    (top x).1 (ix3 b n k) = -(x (ix3 b n i) : EReal) ∧ (top x).2 (ix3 b n k) = BitVec.ofNat 32 i.val := by
  have hj : (fun a : Fin 3 => (⟨0 + (ix3 b n k a).val, by
      have := (ix3 b n k a).isLt
      match a with
      | ⟨0, _⟩ => simpa using this
      | ⟨1, _⟩ => simpa using this
      | ⟨2, _⟩ => have h2 : (ix3 b n k 2).val < 30 := k.isLt
                  show 0 + (ix3 b n k 2).val < 1024
                  omega⟩ : Fin (S8x1024x1024.size a))) = ix3 b n (⟨k.val, by omega⟩ : Fin 1024) := by
    funext a
    match a with
    | ⟨0, _⟩ => exact Fin.ext (Nat.zero_add _)
    | ⟨1, _⟩ => exact Fin.ext (Nat.zero_add _)
    | ⟨2, _⟩ => exact Fin.ext (Nat.zero_add _)
  have hp : ∀ {α : Type} (g : S8x1024x1024.Idx → α) (J : S8x1024x1024.Idx), J = ix3 b n (⟨k.val, by omega⟩ : Fin 1024) →
      g (Shape.Idx.along J (2 : Fin 3)
        (sortedFrom (fun c c' => FloatOps.cmpfTotal (F := Ideal) (φ := .f32) .gt
            (Host.negf x (Shape.Idx.along J (2 : Fin 3) c)) (Host.negf x (Shape.Idx.along J (2 : Fin 3) c')) == 1#1) (J 2)))
        = g (ix3 b n i) := by
    intro α g J hJ
    subst hJ
    refine congrArg g (Eq.trans ?_ (along_row b n i ⟨k.val, by omega⟩))
    refine congrArg (Shape.Idx.along (s := S8x1024x1024) (ix3 b n (⟨k.val, by omega⟩ : Fin 1024)) (2 : Fin 3)) ?_
    refine sorted_rank (n := 1024) (fun i : Fin 1024 => (x (ix3 b n i) : EReal)) hx _ (fun c c' => ?_) ⟨k.val, by omega⟩ i hk
    rw [beq_iff_eq, along_row, along_row]
    exact (Ideal.cmp_ogt_eq_one _ _).trans EReal.neg_lt_neg_iff
  exact ⟨hp (Host.negf x) _ hj, hp (iotaInDim S8x1024x1024 32 2) _ hj⟩

/-- Two words of one bit whose conjunction is one are one. -/
theorem and_one {a b : BitVec 1} (h : IntOp.andi a b = 1#1) : a = 1#1 ∧ b = 1#1 := by
  revert a b
  decide

/-! ## The distances -/

variable (V0 : Valuation τ sig (Elt Ideal))

/-- The coordinates and the mask. -/
abbrev xs : FVec Ideal S8x1024x3 .f32 := V0 (Proc.devRef .tc main_arg0)
abbrev ms : FVec Ideal S8x1024 .f32 := V0 (Proc.devRef .tc main_arg1)

/-- The differences of the coordinates of two nodes. -/
theorem v9_at (b : Fin 8) (i j : Fin 1024) (k : Fin 3) : Value.res_main_v9 V0 (ix4 b i j k) = pt (xs V0) b j k - pt (xs V0) b i k := by
  unfold Value.res_main_v9 pt
  pointwise

/-- The mask of two nodes, where the mask is one. -/
theorem v4_at (hm : ∀ b i, ms V0 (ix2 b i) = (1 : EReal)) (b : Fin 8) (i j : Fin 1024) : Value.res_main_v4 V0 (ix3 b i j) = (1 : EReal) := by
  unfold Value.res_main_v4
  pointwise
  have h1 := hm b i
  have h2 := hm b j
  unfold ms at h1 h2
  rw [h1, h2]
  exact mul_one (1 : EReal)

/-- The masked distances of two nodes, where the mask is one. -/
theorem v15_at (hm : ∀ b i, ms V0 (ix2 b i) = (1 : EReal)) (b : Fin 8) (i j : Fin 1024) :
    Value.res_main_v15 V0 (ix3 b i j) = dist (pt (xs V0) b i) (pt (xs V0) b j) := by
  have h := v9_at V0 b i j
  have h4 := v4_at V0 hm b i j
  unfold Value.res_main_v15
  pointwise
  rw [h4, one_mul, dist_comm]
  simp only [h, Fin.sum_univ_three, zero_add]
  rfl

/-- What the choice of neighbours is made by. -/
def adj : FVec Ideal S8x1024x1024 .f32 :=
  addf (Value.res_main_v15 V0) (mulf (subf (broadcastInDim S8x1024x1024 ![] bcast_S_S8x1024x1024 (constant S_ .f32 0x3F800000#32)) (Value.res_main_v4 V0))
    (broadcastInDim S8x1024x1024 ![0, 1, 2] bcast_S8x1024x1_S8x1024x1024_0_1_2 (broadcastInDim S8x1024x1 ![0, 1] bcast_S8x1024_S8x1024x1_0_1
      (Host.reduce FloatOps.maximumf (Value.res_main_v15 V0) (constant S_ .f32 0xFF800000#32) reducesTo_S8x1024x1024_S8x1024_d2 h_S_))))

theorem indices_eq : Value.res_main_indices V0 = (top (adj V0)).2 := rfl

/-- Adding a multiple of `1 - 1` changes nothing. -/
theorem add_zero_mul (a c : EReal) : a + (1 - 1) * c = a := by
  have h : (1 : EReal) - 1 = 0 := by
    show ((1 : ℝ) : EReal) - ((1 : ℝ) : EReal) = 0
    rw [← EReal.coe_sub, sub_self]
    rfl
  rw [h, zero_mul, add_zero]

/-- Where the mask is one it is made by the distances. -/
theorem adj_at (hm : ∀ b i, ms V0 (ix2 b i) = (1 : EReal)) (b : Fin 8) (i j : Fin 1024) :
    adj V0 (ix3 b i j) = dist (pt (xs V0) b i) (pt (xs V0) b j) := by
  have h := v15_at V0 hm b i j
  have h4 := v4_at V0 hm b i j
  unfold adj
  generalize Host.reduce FloatOps.maximumf (Value.res_main_v15 V0) (constant S_ .f32 0xFF800000#32) reducesTo_S8x1024x1024_S8x1024_d2 h_S_ = z
  pointwise
  rw [h4, h, add_zero_mul]

/-- Place `k` of a node's list holds the node that exactly `k` nodes are nearer than, by the squared distances. -/
theorem indices_at (hm : ∀ b i, ms V0 (ix2 b i) = (1 : EReal)) (b : Fin 8) (n : Fin 1024)
    (hd : Function.Injective fun j : Fin 1024 => dist (pt (xs V0) b n) (pt (xs V0) b j)) (k : Fin 30) (i : Fin 1024)
    (hk : (Finset.univ.filter fun j : Fin 1024 => dist2 (pt (xs V0) b n) (pt (xs V0) b j) < dist2 (pt (xs V0) b n) (pt (xs V0) b i)).card = k.val) :
    Value.res_main_indices V0 (ix3 b n k) = BitVec.ofNat 32 i.val := by
  have e : (fun j : Fin 1024 => (adj V0 (ix3 b n j) : EReal)) = fun j => dist (pt (xs V0) b n) (pt (xs V0) b j) :=
    funext fun j => adj_at V0 hm b n j
  rw [indices_eq]
  refine (top_at (adj V0) b n (e ▸ hd) k i ?_).2
  rw [← hk]
  refine congrArg Finset.card (Finset.filter_congr fun j _ => ?_)
  have h1 := congrFun e j
  have h2 := congrFun e i
  rw [show (adj V0 (ix3 b n j) : EReal) = _ from h1, show (adj V0 (ix3 b n i) : EReal) = _ from h2]
  exact dist_lt_iff (pt (xs V0) b n) (fun j => pt (xs V0) b j) hd i j

/-! ## The precondition -/

/-- The precondition says that the mask is one and that the distances from a node differ. -/
theorem pre_rows (x : FVec Ideal S8x1024x3 .f32) (w : FVec Ideal S8x1024 .f32) (h : Cert.Pre_distinct.fn (F := Ideal) x w = fun _ => 1#1) :
    (∀ b i, w (ix2 b i) = (1 : EReal)) ∧ ∀ b n, Function.Injective fun j : Fin 1024 => dist (pt x b n) (pt x b j) := by
  have h0 := congrFun h ix0
  unfold Cert.Pre_distinct.fn Cert.Pre_distinct.fn_part1 at h0
  dsimp only at h0
  obtain ⟨ha, hb⟩ := and_one h0
  constructor
  · intro b i
    have h1 := Host.reduce_andi_eq_one _ _ _ _ _ ha (ix2 b i) (funext fun a => a.elim0)
    pointwise at h1
    exact of_decide_eq_true ((StableHlo.Predicate.ofBool_eq_one_iff _).1 h1)
  · intro b n i j hij
    by_contra hne
    have h1 := Host.reduce_andi_eq_one _ _ _ _ _ hb (ix4 b n i j) (funext fun a => a.elim0)
    unfold Cert.Pre_distinct.fn_where at h1
    pointwise at h1
    have hc : IntOp.cmpi .ne (BitVec.ofNat 32 i.val) (BitVec.ofNat 32 j.val) = 1#1 := by
      have hn : BitVec.ofNat 32 i.val ≠ BitVec.ofNat 32 j.val := fun e => hne (Fin.ext (by
        have e' := congrArg BitVec.toNat e
        rw [BitVec.toNat_ofNat, BitVec.toNat_ofNat] at e'
        omega))
      exact (StableHlo.Predicate.ofBool_eq_one_iff _).2 (bne_iff_ne.2 hn)
    have hsum : ∀ l : Fin 1024, Ideal.sqrt (∑ k : Fin 3, (x (ix3 b l k) - x (ix3 b n k) : EReal) * (x (ix3 b l k) - x (ix3 b n k))
        + Ideal.ofBits .f32 0x358637BD#32) = dist (pt x b n) (pt x b l) := fun l => by
      rw [Fin.sum_univ_three, dist_comm]
      rfl
    have hx := decide_eq_false (not_not.2 (((hsum i).trans hij).trans (hsum j).symm))
    rw [hc, hx] at h1
    exact absurd h1 (by decide)

end Cert.Proof.Knn.Ref

end

end
-- ==== Proof.RefFrame.lean ====
/-
  The frames the reference builds on the extended reals, read at a node: nine numbers of the node and the two beside it.
-/
module

public import proofs.«01_k».proof.Proof.TopRef

@[expose] public section

set_option maxRecDepth 8192

noncomputable section

namespace Cert.Proof.Knn.Ref

open Cert.ReferenceIdeal Cert.ReferenceIdeal.Gen
open Idealize.ShloMosaic Idealize.SL.Sem

attribute [local irreducible] frame9

variable (V0 : Valuation τ sig (Elt Ideal))

/-- The differences of nodes next to each other. -/
theorem v26_at (b : Fin 8) (s : Fin 1023) (k : Fin 3) :
    Value.res_main_v26 V0 (ix3 b s k) = pt (xs V0) b ⟨1 + s.val, by omega⟩ k - pt (xs V0) b ⟨s.val, by omega⟩ k := by
  unfold Value.res_main_v26 pt
  pointwise

/-- The unit vectors from a node to the next. -/
theorem v34_at (b : Fin 8) (s : Fin 1023) (k : Fin 3) :
    Value.res_main_v34 V0 (ix3 b s k) = fwd (pt (xs V0) b ⟨s.val, by omega⟩) (pt (xs V0) b ⟨1 + s.val, by omega⟩) k := by
  have h := v26_at V0 b s
  unfold Value.res_main_v34
  pointwise
  simp only [h, Fin.sum_univ_three, zero_add]
  rfl

/-- The two unit vectors at a node that has both. -/
def fst (b : Fin 8) (s : Fin 1021) : Fin 3 → EReal := fwd (pt (xs V0) b ⟨s.val, by omega⟩) (pt (xs V0) b ⟨1 + s.val, by omega⟩)
def snd (b : Fin 8) (s : Fin 1021) : Fin 3 → EReal := fwd (pt (xs V0) b ⟨1 + s.val, by omega⟩) (pt (xs V0) b ⟨1 + (1 + s.val), by omega⟩)

theorem v35_at (b : Fin 8) (s : Fin 1021) (k : Fin 3) : Value.res_main_v35 V0 (ix3 b s k) = fst V0 b s k := by
  have h := v34_at V0 b ⟨s.val, by omega⟩ k
  unfold Value.res_main_v35
  pointwise
  exact h

theorem v36_at (b : Fin 8) (s : Fin 1021) (k : Fin 3) : Value.res_main_v36 V0 (ix3 b s k) = snd V0 b s k := by
  have h := v34_at V0 b ⟨1 + s.val, by omega⟩ k
  unfold Value.res_main_v36
  pointwise
  exact h

/-- Three columns side by side. -/
theorem cols_at (z0 z1 z2 : FVec Ideal S8x1021x1 .f32) (b : Fin 8) (s : Fin 1021) (k : Fin 3) :
    concatenate S8x1021x3 2 [⟨S8x1021x1, z0⟩, ⟨S8x1021x1, z1⟩, ⟨S8x1021x1, z2⟩] concatenates_S8x1021x1_S8x1021x1_S8x1021x1_S8x1021x3_d2 (ix3 b s k)
      = (![z0 (ix3 b s 0), z1 (ix3 b s 0), z2 (ix3 b s 0)] : Fin 3 → EReal) k := by
  match k with
  | ⟨0, _⟩ => pointwise
  | ⟨1, _⟩ => pointwise
  | ⟨2, _⟩ => pointwise

/-- The cross products, from three columns each. -/
theorem v52_at (b : Fin 8) (s : Fin 1021) (k : Fin 3) : Value.res_main_v52 V0 (ix3 b s k) = cross3 (fst V0 b s) (snd V0 b s) k := by
  have h1 := v35_at V0 b s
  have h2 := v36_at V0 b s
  unfold Value.res_main_v52
  rw [cols_at]
  unfold Value.res_main_v37 Value.res_main_v38 Value.res_main_v39 Value.res_main_v40 Value.res_main_v41 Value.res_main_v42
  pointwise
  simp only [h1, h2]
  rfl

/-- The normals. -/
theorem v60_at (b : Fin 8) (s : Fin 1021) (k : Fin 3) : Value.res_main_v60 V0 (ix3 b s k) = unit3 (cross3 (fst V0 b s) (snd V0 b s)) k := by
  have h := v52_at V0 b s
  unfold Value.res_main_v60
  pointwise
  simp only [h, Fin.sum_univ_three, zero_add]
  rfl

/-- The bisectors. -/
theorem v69_at (b : Fin 8) (s : Fin 1021) (k : Fin 3) :
    Value.res_main_v69 V0 (ix3 b s k) = unit3 (fun k => fst V0 b s k - snd V0 b s k) k := by
  have h1 := v35_at V0 b s
  have h2 := v36_at V0 b s
  unfold Value.res_main_v69 Value.res_main_v61
  pointwise
  simp only [h1, h2, Fin.sum_univ_three, zero_add]
  rfl

/-- The third directions. -/
def thd : FVec Ideal S8x1021x3 .f32 :=
  concatenate S8x1021x3 2
    [⟨S8x1021x1, subf (mulf (Value.res_main_v71 V0) (Value.res_main_v75 V0)) (mulf (Value.res_main_v72 V0) (Value.res_main_v74 V0))⟩,
      ⟨S8x1021x1, subf (mulf (Value.res_main_v72 V0) (Value.res_main_v73 V0)) (mulf (Value.res_main_v70 V0) (Value.res_main_v75 V0))⟩,
      ⟨S8x1021x1, subf (mulf (Value.res_main_v70 V0) (Value.res_main_v74 V0)) (mulf (Value.res_main_v71 V0) (Value.res_main_v73 V0))⟩]
    concatenates_S8x1021x1_S8x1021x1_S8x1021x1_S8x1021x3_d2

theorem thd_at (b : Fin 8) (s : Fin 1021) (k : Fin 3) :
    thd V0 (ix3 b s k) = cross3 (unit3 fun k => fst V0 b s k - snd V0 b s k) (unit3 (cross3 (fst V0 b s) (snd V0 b s))) k := by
  have h1 := v69_at V0 b s
  have h2 := v60_at V0 b s
  unfold thd
  rw [cols_at]
  unfold Value.res_main_v70 Value.res_main_v71 Value.res_main_v72 Value.res_main_v73 Value.res_main_v74 Value.res_main_v75
  pointwise
  simp only [h1, h2]
  rfl

/-- The nine numbers of the frames, side by side. -/
theorem nine_at (z0 z1 z2 : FVec Ideal S8x1021x3 .f32) (b : Fin 8) (s : Fin 1021) (q : Fin 9) :
    concatenate S8x1021x9 2 [⟨S8x1021x3, z0⟩, ⟨S8x1021x3, z1⟩, ⟨S8x1021x3, z2⟩] concatenates_S8x1021x3_S8x1021x3_S8x1021x3_S8x1021x9_d2 (ix3 b s q)
      = if h : q.val < 3 then z0 (ix3 b s ⟨q.val, h⟩) else if h : q.val - 3 < 3 then z1 (ix3 b s ⟨q.val - 3, h⟩)
        else z2 (ix3 b s ⟨(q.val - 6) % 3, Nat.mod_lt _ (by decide)⟩) := by
  pointwise
  by_cases h1 : q.val < 3
  · rw [dif_pos h1, dif_pos h1]
  rw [dif_neg h1, dif_neg h1]
  by_cases h2 : q.val - 3 < 3
  · rw [dif_pos h2, dif_pos h2]
  rw [dif_neg h2, dif_neg h2]
  exact congrArg (fun k => z2 (ix3 b s k)) (Fin.ext (show q.val - 3 - 3 = (q.val - 6) % 3 by omega))

/-- The frames before their ends are padded. -/
def nine : FVec Ideal S8x1021x9 .f32 :=
  concatenate S8x1021x9 2 [⟨S8x1021x3, (Value.res_main_v69 V0 : FVec Ideal S8x1021x3 .f32)⟩, ⟨S8x1021x3, (Value.res_main_v60 V0 : FVec Ideal S8x1021x3 .f32)⟩,
    ⟨S8x1021x3, thd V0⟩] concatenates_S8x1021x3_S8x1021x3_S8x1021x3_S8x1021x9_d2

theorem frame_at (b : Fin 8) (s : Fin 1021) (q : Fin 9) : nine V0 (ix3 b s q)
    = frame9 (pt (xs V0) b ⟨s.val, by omega⟩) (pt (xs V0) b ⟨1 + s.val, by omega⟩) (pt (xs V0) b ⟨1 + (1 + s.val), by omega⟩) q.val := by
  unfold nine frame9
  rw [nine_at]
  simp only [v69_at, v60_at, thd_at]
  rfl

theorem v88_eq : Value.res_main_v88 V0 = transpose S8x9x1024 [0, 2, 1]
    (pad S8x1024x9 ![0, 1, 0] ![0, 2, 0] ![0, 0, 0] (nine V0)
      (sitofp (F := Ideal) .f32 (constantI S_ 32 0#32)) pads_S8x1021x9_S8x1024x9_000_120_000 h_S_) transposes_S8x1024x9_S8x9x1024_0_2_1 := rfl

/-- The padding is zero. -/
theorem zero_word : (FloatOps.sitofp (F := Ideal) .f32 (0#32) : EReal) = 0 := by
  show (((0#32 : BitVec 32).toInt : ℝ) : EReal) = 0
  simp

/-- The frames as a table of nine rows: zero at the first node and the last two. -/
theorem v88_at (b : Fin 8) (q : Fin 9) (c : Fin 1024) : Value.res_main_v88 V0 (ix3 b q c) = frameAt (xs V0) b q.val c := by
  have h := frame_at V0 b
  rw [v88_eq]
  generalize nine V0 = z at h ⊢
  pointwise
  unfold frameAt
  have hc := c.isLt
  by_cases hh : 1 ≤ c.val ∧ c.val < 1022
  · rw [dif_pos (show 1 ≤ c.val ∧ c.val - 1 < 1021 by omega), dif_pos hh, h]
    have e1 : (⟨1 + (c.val - 1), by omega⟩ : Fin 1024) = c := Fin.ext (by dsimp only; omega)
    have e2 : (⟨1 + (1 + (c.val - 1)), by omega⟩ : Fin 1024) = ⟨c.val + 1, by omega⟩ := Fin.ext (by dsimp only; omega)
    exact (congrArg (fun z => frame9 _ (pt (xs V0) b z) _ q.val) e1).trans (congrArg (fun z => frame9 _ _ (pt (xs V0) b z) q.val) e2)
  · rw [dif_neg (show ¬(1 ≤ c.val ∧ c.val - 1 < 1021) by omega), dif_neg hh]
    exact zero_word

end Cert.Proof.Knn.Ref

end

end
-- ==== Proof.Planes.lean ====
/-
  The 26 planes the reference builds on the extended reals, read at a place: what the plane holds of a node and its
  neighbour.
-/
module

public import proofs.«01_k».proof.Proof.RefFrame
public import proofs.«01_k».proof.Proof.Flat

@[expose] public section

set_option maxRecDepth 8192

noncomputable section

namespace Cert.Proof.Knn.Ref

open Cert.ReferenceIdeal Cert.ReferenceIdeal.Gen
open Idealize.ShloMosaic Idealize.SL.Sem

/-! ## Rows of the table picked by a column of positions -/

/-- A position in range, read as a start of a slice of one, is itself. -/
theorem clamp_at {w : BitVec 32} (i : Fin 1024) (h : w = BitVec.ofNat 32 i.val) : min w.toInt.toNat (1024 - 1) + 0 + 0 = i.val := by
  rw [h, StableHlo.Predicate.toInt_ofNat_small _ (by omega)]
  omega

/-- Picking from a table of three rows reads the row at the position given. -/
theorem gather3_at (z : FVec Ideal S8x3x1024 .f32) (idx : IVec S8x1024x30x1 32) (b : Fin 8) (q : Fin 3) (n : Fin 1024) (k : Fin 30)
    (i : Fin 1024) (h : idx (ix4 b n k 0) = BitVec.ofNat 32 i.val) :
    Host.gather gather_S8x3x1024_S8x1024x30x1_S8x3x1024x30_1_2_0_0_2_3_131 z idx (ix4 b q n k) = z (ix3 b q i) := by
  unfold Host.gather
  refine congrArg z (funext fun a => Fin.ext ?_)
  match a with
  | ⟨0, _⟩ => exact Nat.zero_add _
  | ⟨1, _⟩ => exact Nat.zero_add _
  | ⟨2, _⟩ =>
    refine clamp_at i ((congrArg idx (funext fun a => ?_)).trans h)
    match a with
    | ⟨0, _⟩ => rfl
    | ⟨1, _⟩ => rfl
    | ⟨2, _⟩ => rfl
    | ⟨3, _⟩ => rfl

/-- Picking from a table of nine rows reads the row at the position given. -/
theorem gather9_at (z : FVec Ideal S8x9x1024 .f32) (idx : IVec S8x1024x30x1 32) (b : Fin 8) (q : Fin 9) (n : Fin 1024) (k : Fin 30)
    (i : Fin 1024) (h : idx (ix4 b n k 0) = BitVec.ofNat 32 i.val) :
    Host.gather gather_S8x9x1024_S8x1024x30x1_S8x9x1024x30_1_2_0_0_2_3_191 z idx (ix4 b q n k) = z (ix3 b q i) := by
  unfold Host.gather
  refine congrArg z (funext fun a => Fin.ext ?_)
  match a with
  | ⟨0, _⟩ => exact Nat.zero_add _
  | ⟨1, _⟩ => exact Nat.zero_add _
  | ⟨2, _⟩ =>
    refine clamp_at i ((congrArg idx (funext fun a => ?_)).trans h)
    match a with
    | ⟨0, _⟩ => rfl
    | ⟨1, _⟩ => rfl
    | ⟨2, _⟩ => rfl
    | ⟨3, _⟩ => rfl

/-! ## The planes -/

/-- The neighbours' positions as the column that picks from the table: a position below zero would be counted from the end. -/
def col (w : IVec S8x1024x30 32) : IVec S8x1024x30x1 32 :=
  broadcastInDim S8x1024x30x1 ![0, 1, 2] bcast_S8x1024x30_S8x1024x30x1_0_1_2
    (select (cmpi .slt w (broadcastInDim S8x1024x30 ![] bcast_S_S8x1024x30 (constantI S_ 32 0#32)))
      (addi w (broadcastInDim S8x1024x30 ![] bcast_S_S8x1024x30 (constantI S_ 32 1024#32))) w)

/-- A position in range is kept as it is. -/
theorem col_at (w : IVec S8x1024x30 32) (b : Fin 8) (n : Fin 1024) (k : Fin 30) (i : Fin 1024)
    (h : w (ix3 b n k) = BitVec.ofNat 32 i.val) : col w (ix4 b n k 0) = BitVec.ofNat 32 i.val := by
  unfold col
  pointwise
  rw [h]
  have hc : IntOp.cmpi .slt (BitVec.ofNat 32 i.val) 0#32 = 0#1 := by
    refine congrArg BitVec.ofBool (Bool.eq_false_iff.2 fun hs => ?_)
    rw [BitVec.slt_iff_toInt_lt, StableHlo.Predicate.toInt_ofNat_small _ (by omega)] at hs
    exact absurd hs (by simp)
  rw [hc]
  rfl

variable (V0 : Valuation τ sig (Elt Ideal))

/-- The nodes' coordinates, by row. -/
theorem v89_at (b : Fin 8) (k : Fin 3) (s : Fin 1024) : Value.res_main_v89 V0 (ix3 b k s) = pt (xs V0) b s k := by
  unfold Value.res_main_v89 pt
  pointwise

/-- The neighbours' coordinates. -/
theorem v101_at (k : Fin 3) (b : Fin 8) (n : Fin 1024) (j : Fin 30) (i : Fin 1024) (h : Value.res_main_indices V0 (ix3 b n j) = BitVec.ofNat 32 i.val) :
    Value.res_main_v101 V0 (ix4 k b n j) = pt (xs V0) b i k := by
  have hc := gather3_at (Value.res_main_v89 V0) (col (Value.res_main_indices V0)) b k n j i (col_at _ b n j i h)
  have e : Value.res_main_v101 V0 = transpose S3x8x1024x30 [1, 0, 2, 3]
      (Host.gather gather_S8x3x1024_S8x1024x30x1_S8x3x1024x30_1_2_0_0_2_3_131 (Value.res_main_v89 V0) (col (Value.res_main_indices V0)))
      transposes_S8x3x1024x30_S3x8x1024x30_1_0_2_3 := rfl
  rw [e]
  generalize Host.gather gather_S8x3x1024_S8x1024x30x1_S8x3x1024x30_1_2_0_0_2_3_131 (Value.res_main_v89 V0) (col (Value.res_main_indices V0)) = z at hc ⊢
  pointwise
  exact hc.trans (v89_at V0 b k i)

/-- The nodes' own coordinates, once for each neighbour. -/
theorem v104_at (k : Fin 3) (b : Fin 8) (n : Fin 1024) (j : Fin 30) : Value.res_main_v104 V0 (ix4 k b n j) = pt (xs V0) b n k := by
  have h := v89_at V0 b k n
  unfold Value.res_main_v104
  pointwise
  exact h

/-- The squared distances of the neighbours. -/
def sqs : FVec Ideal S8x1024x30 .f32 :=
  Host.reduceAdd (mulf (Value.res_main_v105 V0) (Value.res_main_v105 V0)) (constant S_ .f32 0x00000000#32) reducesTo_S3x8x1024x30_S8x1024x30_d0 h_S_

theorem sqs_at (b : Fin 8) (n : Fin 1024) (j : Fin 30) (i : Fin 1024) (h : Value.res_main_indices V0 (ix3 b n j) = BitVec.ofNat 32 i.val) :
    sqs V0 (ix3 b n j) = dist2 (pt (xs V0) b n) (pt (xs V0) b i) := by
  have h1 := fun k => v101_at V0 k b n j i h
  have h2 := fun k => v104_at V0 k b n j
  unfold sqs Value.res_main_v105
  pointwise
  simp only [h1, h2, Fin.sum_univ_three, zero_add]
  exact dist2_comm (pt (xs V0) b i) (pt (xs V0) b n)

/-- The neighbours' frames. -/
def theirs : FVec Ideal S9x8x1024x30 .f32 :=
  transpose S9x8x1024x30 [1, 0, 2, 3]
    (Host.gather gather_S8x9x1024_S8x1024x30x1_S8x9x1024x30_1_2_0_0_2_3_191 (Value.res_main_v88 V0) (col (Value.res_main_indices V0)))
    transposes_S8x9x1024x30_S9x8x1024x30_1_0_2_3

theorem theirs_at (q : Fin 9) (b : Fin 8) (n : Fin 1024) (j : Fin 30) (i : Fin 1024) (h : Value.res_main_indices V0 (ix3 b n j) = BitVec.ofNat 32 i.val) :
    theirs V0 (ix4 q b n j) = frameAt (xs V0) b q.val i := by
  have hc := gather9_at (Value.res_main_v88 V0) (col (Value.res_main_indices V0)) b q n j i (col_at _ b n j i h)
  unfold theirs
  generalize Host.gather gather_S8x9x1024_S8x1024x30x1_S8x9x1024x30_1_2_0_0_2_3_191 (Value.res_main_v88 V0) (col (Value.res_main_indices V0)) = z at hc ⊢
  pointwise
  exact hc.trans (v88_at V0 b q i)

/-- The nodes' own frames, once for each neighbour. -/
def own : FVec Ideal S9x8x1024x30 .f32 :=
  broadcastInDim S9x8x1024x30 ![0, 1, 2, 3] bcast_S9x8x1024x1_S9x8x1024x30_0_1_2_3
    (broadcastInDim S9x8x1024x1 ![0, 1, 2] bcast_S9x8x1024_S9x8x1024x1_0_1_2
      (transpose (α := Ideal .f32) S9x8x1024 [1, 0, 2] (Value.res_main_v88 V0) transposes_S8x9x1024_S9x8x1024_1_0_2))

theorem own_at (q : Fin 9) (b : Fin 8) (n : Fin 1024) (j : Fin 30) : own V0 (ix4 q b n j) = frameAt (xs V0) b q.val n := by
  have h := v88_at V0 b q n
  unfold own
  pointwise
  exact h

/-- The offsets of the neighbours' numbers. -/
def offs : FVec Ideal S8x1024x30 .f32 := subf (sitofp .f32 (Value.res_main_indices V0)) (sitofp .f32 (iotaInDim S8x1024x30 32 1))

/-- The 26 planes the reference stacks. -/
def planes : FVec Ideal S26x8x1024x30 .f32 :=
  concatenate S26x8x1024x30 0
    [⟨S1x8x1024x30, broadcastInDim S1x8x1024x30 ![1, 2, 3] bcast_S8x1024x30_S1x8x1024x30_1_2_3 (sqs V0)⟩,
      ⟨S1x8x1024x30, broadcastInDim S1x8x1024x30 ![1, 2, 3] bcast_S8x1024x30_S1x8x1024x30_1_2_3 (offs V0)⟩,
      ⟨S3x8x1024x30, (Value.res_main_v101 V0 : FVec Ideal S3x8x1024x30 .f32)⟩, ⟨S3x8x1024x30, (Value.res_main_v104 V0 : FVec Ideal S3x8x1024x30 .f32)⟩,
      ⟨S9x8x1024x30, theirs V0⟩, ⟨S9x8x1024x30, own V0⟩]
    concatenates_S1x8x1024x30_S1x8x1024x30_S3x8x1024x30_S3x8x1024x30_S9x8x1024x30_S9x8x1024x30_S26x8x1024x30_d0

/-- Six pieces stacked, read at a place piece by piece. -/
theorem stack_at (z0 z1 : FVec Ideal S8x1024x30 .f32) (z2 z3 : FVec Ideal S3x8x1024x30 .f32) (z4 z5 : FVec Ideal S9x8x1024x30 .f32)
    (p : Fin 26) (b : Fin 8) (n : Fin 1024) (k : Fin 30) :
    concatenate S26x8x1024x30 0
      [⟨S1x8x1024x30, broadcastInDim S1x8x1024x30 ![1, 2, 3] bcast_S8x1024x30_S1x8x1024x30_1_2_3 z0⟩,
        ⟨S1x8x1024x30, broadcastInDim S1x8x1024x30 ![1, 2, 3] bcast_S8x1024x30_S1x8x1024x30_1_2_3 z1⟩,
        ⟨S3x8x1024x30, z2⟩, ⟨S3x8x1024x30, z3⟩, ⟨S9x8x1024x30, z4⟩, ⟨S9x8x1024x30, z5⟩]
      concatenates_S1x8x1024x30_S1x8x1024x30_S3x8x1024x30_S3x8x1024x30_S9x8x1024x30_S9x8x1024x30_S26x8x1024x30_d0 (ix4 p b n k) =
      if h : p.val < 1 then z0 (ix3 b n k)
      else if h : p.val - 1 < 1 then z1 (ix3 b n k)
      else if h : p.val - 1 - 1 < 3 then z2 (ix4 ⟨p.val - 1 - 1, h⟩ b n k)
      else if h : p.val - 1 - 1 - 3 < 3 then z3 (ix4 ⟨p.val - 1 - 1 - 3, h⟩ b n k)
      else if h : p.val - 1 - 1 - 3 - 3 < 9 then z4 (ix4 ⟨p.val - 1 - 1 - 3 - 3, h⟩ b n k)
      else z5 (ix4 ⟨p.val - 1 - 1 - 3 - 3 - 9, by omega⟩ b n k) := by
  pointwise

/-- What the planes hold at a place whose neighbour is node `i`. -/
theorem planes_at (p : Fin 26) (b : Fin 8) (n : Fin 1024) (k : Fin 30) (i : Fin 1024) (h : Value.res_main_indices V0 (ix3 b n k) = BitVec.ofNat 32 i.val) :
    planes V0 (ix4 p b n k) = planeVal (xs V0) p.val b n i := by
  have hp := p.isLt
  unfold planes planeVal
  rw [stack_at]
  by_cases c1 : p.val < 1
  · rw [dif_pos c1, if_pos c1]
    exact sqs_at V0 b n k i h
  rw [dif_neg c1, if_neg c1]
  by_cases c2 : p.val < 2
  · rw [dif_pos (by omega), if_pos c2]
    unfold offs
    pointwise
    rw [h]
  rw [dif_neg (by omega), if_neg c2]
  by_cases c3 : p.val - 2 < 3
  · rw [dif_pos (by omega), dif_pos c3]
    exact v101_at V0 _ b n k i h
  rw [dif_neg (by omega), dif_neg c3]
  by_cases c4 : p.val - 5 < 3
  · rw [dif_pos (by omega), dif_pos c4]
    exact (v104_at V0 _ b n k).trans (congrArg (pt (xs V0) b n) (Fin.ext (show p.val - 1 - 1 - 3 = p.val - 5 by omega)))
  rw [dif_neg (by omega), dif_neg c4]
  by_cases c5 : p.val < 17
  · rw [dif_pos (by omega), if_pos c5]
    exact (theirs_at V0 _ b n k i h).trans (congrArg (fun q => frameAt (xs V0) b q i) (show p.val - 1 - 1 - 3 - 3 = p.val - 8 by omega))
  rw [dif_neg (by omega), if_neg c5]
  exact (own_at V0 _ b n k).trans (congrArg (fun q => frameAt (xs V0) b q n) (show p.val - 1 - 1 - 3 - 3 - 9 = p.val - 17 by omega))

/-! ## The flat result -/

/-- The reference's second result: the planes, flat. -/
def planesOut : FVec Ideal S6389760 .f32 := shapeCast _ (planes V0) shapeCasts_S26x8x1024x30_S6389760

/-- Place `30 (1024 b + n) + k` of plane `p`, in the flat planes. -/
theorem planesOut_at (p : Fin 26) (b : Fin 8) (n : Fin 1024) (k : Fin 30) :
    planesOut V0 (cell 6389760 (245760 * p.val + (30 * (1024 * b.val + n.val) + k.val))) = planes V0 (ix4 p b n k) := by
  refine shapeCast_apply _ _ _ _ ?_
  rw [Shape.rowMajor_val_one, Shape.rowMajor_val_four, cell_val (by omega)]
  show ((p.val * 8 + b.val) * 1024 + n.val) * 30 + k.val = _
  omega

/-- The run of the reference, its results named. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_indices) = Value.res_main_indices (StableHlo.launchContents m c)
      ∧ r.2.mem ((c.tc : Thread nD τ).loc main_v122) = planesOut (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Cert.Proof.Knn.Ref

end

end
-- ==== Proof.KerTab.lean ====
/-
  What one grid point of the first call computes on the extended reals: the squared distances of its nodes from all the
  nodes of the batch entry, and the entry's table of frames and coordinates.
-/
module

public import proofs.«01_k».proof.Proof.Region
public import proofs.«01_k».proof.Proof.Math
public import Idealize.ShloMosaic.Lib.IdealHost
public import Idealize.ShloMosaic.Lib.Pipeline.Value

@[expose] public section

set_option maxRecDepth 8192

noncomputable section

namespace Cert.Proof.Knn

open Cert.KernelIdeal Cert.KernelIdeal.Gen
open Idealize.ShloMosaic Idealize.SL.Sem

/-- Node `s` of the transposed coordinates' block. -/
def nod (w : FVec Ideal S3x1024 .f32) (s : ℕ) (h : s < 1024) : Fin 3 → EReal := fun k => w (ix2 k ⟨s, h⟩)

/-- The differences of nodes next to each other. -/
theorem pay15_at (w : FVec Ideal S3x1024 .f32) (s : Fin 1023) :
    k0_pay15 w (ix2 0 s) = nod w (1 + s.val) (by omega) 0 - nod w s.val (by omega) 0 := by
  unfold k0_pay15 k0_pay12 nod
  pointwise

theorem pay16_at (w : FVec Ideal S3x1024 .f32) (s : Fin 1023) :
    k0_pay16 w (ix2 0 s) = nod w (1 + s.val) (by omega) 1 - nod w s.val (by omega) 1 := by
  unfold k0_pay16 k0_pay13 nod
  pointwise

theorem pay17_at (w : FVec Ideal S3x1024 .f32) (s : Fin 1023) :
    k0_pay17 w (ix2 0 s) = nod w (1 + s.val) (by omega) 2 - nod w s.val (by omega) 2 := by
  unfold k0_pay17 k0_pay14 nod
  pointwise

theorem pay18_at (w : FVec Ideal S3x1024 .f32) (s : Fin 1023) :
    k0_pay18 w (ix2 0 s) = Ideal.div 1 (max (Ideal.sqrt (k0_pay15 w (ix2 0 s) * k0_pay15 w (ix2 0 s) + k0_pay16 w (ix2 0 s) * k0_pay16 w (ix2 0 s)
      + k0_pay17 w (ix2 0 s) * k0_pay17 w (ix2 0 s))) tiny) := by
  unfold k0_pay18
  pointwise
  rfl

/-- The unit vectors from a node to the next. -/
theorem fwd_at (w : FVec Ideal S3x1024 .f32) (s : Fin 1023) :
    k0_pay19 w (ix2 0 s) = fwd (nod w s.val (by omega)) (nod w (1 + s.val) (by omega)) 0
      ∧ k0_pay20 w (ix2 0 s) = fwd (nod w s.val (by omega)) (nod w (1 + s.val) (by omega)) 1
      ∧ k0_pay21 w (ix2 0 s) = fwd (nod w s.val (by omega)) (nod w (1 + s.val) (by omega)) 2 := by
  unfold k0_pay19 k0_pay20 k0_pay21
  pointwise
  rw [pay18_at, mul_recip _ _ (max_tiny_ne _), mul_recip _ _ (max_tiny_ne _), mul_recip _ _ (max_tiny_ne _), pay15_at, pay16_at, pay17_at]
  exact ⟨rfl, rfl, rfl⟩

/-- The two unit vectors at a node that has both. -/
def fst (w : FVec Ideal S3x1024 .f32) (s : Fin 1021) : Fin 3 → EReal := fwd (nod w s.val (by omega)) (nod w (1 + s.val) (by omega))
def snd (w : FVec Ideal S3x1024 .f32) (s : Fin 1021) : Fin 3 → EReal := fwd (nod w (1 + s.val) (by omega)) (nod w (1 + (1 + s.val)) (by omega))

theorem fst_at (w : FVec Ideal S3x1024 .f32) (s : Fin 1021) :
    k0_pay22 w (ix2 0 s) = fst w s 0 ∧ k0_pay23 w (ix2 0 s) = fst w s 1 ∧ k0_pay24 w (ix2 0 s) = fst w s 2 := by
  obtain ⟨h0, h1, h2⟩ := fwd_at w ⟨s.val, by omega⟩
  unfold k0_pay22 k0_pay23 k0_pay24
  pointwise
  exact ⟨h0, h1, h2⟩

theorem snd_at (w : FVec Ideal S3x1024 .f32) (s : Fin 1021) :
    k0_pay25 w (ix2 0 s) = snd w s 0 ∧ k0_pay26 w (ix2 0 s) = snd w s 1 ∧ k0_pay27 w (ix2 0 s) = snd w s 2 := by
  obtain ⟨h0, h1, h2⟩ := fwd_at w ⟨1 + s.val, by omega⟩
  unfold k0_pay25 k0_pay26 k0_pay27
  pointwise
  exact ⟨h0, h1, h2⟩

/-- The normals before they are divided by their lengths, and the lengths. -/
theorem pay28_at (w : FVec Ideal S3x1024 .f32) (s : Fin 1021) :
    k0_pay28 w (ix2 0 s) = cross3 (fst w s) (snd w s) 0 ∧ k0_pay29 w (ix2 0 s) = cross3 (fst w s) (snd w s) 1
      ∧ k0_pay30 w (ix2 0 s) = cross3 (fst w s) (snd w s) 2 := by
  obtain ⟨a0, a1, a2⟩ := fst_at w s
  obtain ⟨b0, b1, b2⟩ := snd_at w s
  unfold k0_pay28 k0_pay29 k0_pay30
  pointwise
  rw [a0, a1, a2, b0, b1, b2]
  exact ⟨rfl, rfl, rfl⟩

theorem pay31_at (w : FVec Ideal S3x1024 .f32) (s : Fin 1021) :
    k0_pay31 w (ix2 0 s) = max (Ideal.sqrt (k0_pay28 w (ix2 0 s) * k0_pay28 w (ix2 0 s) + k0_pay29 w (ix2 0 s) * k0_pay29 w (ix2 0 s)
      + k0_pay30 w (ix2 0 s) * k0_pay30 w (ix2 0 s))) tiny := by
  unfold k0_pay31
  pointwise
  rfl

/-- The normals. -/
theorem nrm_at (w : FVec Ideal S3x1024 .f32) (s : Fin 1021) :
    k0_pay33 (k0_pay28 w) (k0_pay31 w) (ix2 0 s) = unit3 (cross3 (fst w s) (snd w s)) 0
      ∧ k0_pay34 (k0_pay29 w) (k0_pay31 w) (ix2 0 s) = unit3 (cross3 (fst w s) (snd w s)) 1
      ∧ k0_pay35 (k0_pay30 w) (k0_pay31 w) (ix2 0 s) = unit3 (cross3 (fst w s) (snd w s)) 2 := by
  obtain ⟨a0, a1, a2⟩ := pay28_at w s
  unfold k0_pay33 k0_pay34 k0_pay35 k0_pay32
  pointwise
  rw [pay31_at, mul_recip _ _ (max_tiny_ne _), mul_recip _ _ (max_tiny_ne _), mul_recip _ _ (max_tiny_ne _), a0, a1, a2]
  exact ⟨rfl, rfl, rfl⟩

/-- The bisectors before they are divided by their lengths. -/
theorem pay36_at (w : FVec Ideal S3x1024 .f32) (s : Fin 1021) :
    k0_pay36 (k0_pay22 w) (k0_pay25 w) (ix2 0 s) = fst w s 0 - snd w s 0
      ∧ k0_pay37 (k0_pay23 w) (k0_pay26 w) (ix2 0 s) = fst w s 1 - snd w s 1
      ∧ k0_pay38 (k0_pay24 w) (k0_pay27 w) (ix2 0 s) = fst w s 2 - snd w s 2 := by
  obtain ⟨a0, a1, a2⟩ := fst_at w s
  obtain ⟨b0, b1, b2⟩ := snd_at w s
  unfold k0_pay36 k0_pay37 k0_pay38
  pointwise
  rw [a0, a1, a2, b0, b1, b2]
  exact ⟨rfl, rfl, rfl⟩

theorem pay39_at (a b c d e f : FVec Ideal S1x1021 .f32) (s : Fin 1021) :
    k0_pay39 a b c d e f (ix2 0 s) = Ideal.div 1 (max (Ideal.sqrt (k0_pay36 a d (ix2 0 s) * k0_pay36 a d (ix2 0 s)
      + k0_pay37 b e (ix2 0 s) * k0_pay37 b e (ix2 0 s) + k0_pay38 c f (ix2 0 s) * k0_pay38 c f (ix2 0 s))) tiny) := by
  unfold k0_pay39
  pointwise
  rfl

/-- The bisectors. -/
theorem bis_at (w : FVec Ideal S3x1024 .f32) (s : Fin 1021) :
    k0_pay40 (k0_pay22 w) (k0_pay23 w) (k0_pay24 w) (k0_pay25 w) (k0_pay26 w) (k0_pay27 w) (ix2 0 s) = unit3 (fun k => fst w s k - snd w s k) 0
      ∧ k0_pay41 (k0_pay22 w) (k0_pay23 w) (k0_pay24 w) (k0_pay25 w) (k0_pay26 w) (k0_pay27 w) (ix2 0 s) = unit3 (fun k => fst w s k - snd w s k) 1
      ∧ k0_pay42 (k0_pay22 w) (k0_pay23 w) (k0_pay24 w) (k0_pay25 w) (k0_pay26 w) (k0_pay27 w) (ix2 0 s) = unit3 (fun k => fst w s k - snd w s k) 2 := by
  obtain ⟨a0, a1, a2⟩ := pay36_at w s
  unfold k0_pay40 k0_pay41 k0_pay42
  pointwise
  rw [pay39_at, mul_recip _ _ (max_tiny_ne _), mul_recip _ _ (max_tiny_ne _), mul_recip _ _ (max_tiny_ne _), a0, a1, a2]
  exact ⟨rfl, rfl, rfl⟩

/-- The frames' third directions. -/
theorem thd_at (w : FVec Ideal S3x1024 .f32) (s : Fin 1021) :
    k0_pay43 (k0_pay22 w) (k0_pay23 w) (k0_pay24 w) (k0_pay25 w) (k0_pay26 w) (k0_pay27 w) (k0_pay29 w) (k0_pay30 w) (k0_pay31 w) (ix2 0 s)
        = cross3 (unit3 fun k => fst w s k - snd w s k) (unit3 (cross3 (fst w s) (snd w s))) 0
      ∧ k0_pay44 (k0_pay22 w) (k0_pay23 w) (k0_pay24 w) (k0_pay25 w) (k0_pay26 w) (k0_pay27 w) (k0_pay28 w) (k0_pay30 w) (k0_pay31 w) (ix2 0 s)
        = cross3 (unit3 fun k => fst w s k - snd w s k) (unit3 (cross3 (fst w s) (snd w s))) 1
      ∧ k0_pay45 (k0_pay22 w) (k0_pay23 w) (k0_pay24 w) (k0_pay25 w) (k0_pay26 w) (k0_pay27 w) (k0_pay28 w) (k0_pay29 w) (k0_pay31 w) (ix2 0 s)
        = cross3 (unit3 fun k => fst w s k - snd w s k) (unit3 (cross3 (fst w s) (snd w s))) 2 := by
  obtain ⟨a0, a1, a2⟩ := bis_at w s
  obtain ⟨b0, b1, b2⟩ := nrm_at w s
  unfold k0_pay43 k0_pay44 k0_pay45
  pointwise
  rw [a0, a1, a2, b0, b1, b2]
  exact ⟨rfl, rfl, rfl⟩

/-! ## The table's block -/

/-- A place of the table's block. -/
def bx (q : ℕ) (hq : q < 16) (c : ℕ) (hc : c < 1024) : S1x16x1024.Idx := ix3 (0 : Fin 1) (⟨q, hq⟩ : Fin 16) (⟨c, hc⟩ : Fin 1024)

/-- A store of row `q'` from column `o` on does not reach the other rows, nor the columns outside it. -/
theorem canon_skip (q' o n : ℕ) (hin : ∀ a, (![0, q', o] : Fin 3 → ℕ) a + (![1, 1, n] : Fin 3 → ℕ) a ≤ S1x16x1024.size a)
    (v : FVec Ideal (⟨3, ![1, 1, n]⟩ : Shape) .f32) (L : List (View.Piece (Elt Ideal) S1x16x1024 .f32)) (q : ℕ) (hq : q < 16) (c : ℕ) (hc : c < 1024)
    (h : q ≠ q' ∨ c < o ∨ o + n ≤ c) :
    View.canon ((⟨Rect.unit (s := S1x16x1024) ![0, q', o] ![1, 1, n] hin, v⟩ : View.Piece (Elt Ideal) S1x16x1024 .f32) :: L) (bx q hq c hc) = View.canon L (bx q hq c hc) := by
  refine View.canon_cons_of_not_mem _ _ fun hm => ?_
  rw [Rect.mem_set_unit] at hm
  have h1 := hm 1
  have h2 := hm 2
  have e1 : q' ≤ q ∧ q < q' + 1 := h1
  have e2 : o ≤ c ∧ c < o + n := h2
  omega

/-- A store of row `q` from column `o` on leaves its payload there. -/
theorem canon_hit (q o n : ℕ) (hin : ∀ a, (![0, q, o] : Fin 3 → ℕ) a + (![1, 1, n] : Fin 3 → ℕ) a ≤ S1x16x1024.size a)
    (v : FVec Ideal (⟨3, ![1, 1, n]⟩ : Shape) .f32) (L : List (View.Piece (Elt Ideal) S1x16x1024 .f32)) (hq : q < 16) (s : Fin n) (hc : o + s.val < 1024) :
    View.canon ((⟨Rect.unit (s := S1x16x1024) ![0, q, o] ![1, 1, n] hin, v⟩ : View.Piece (Elt Ideal) S1x16x1024 .f32) :: L) (bx q hq (o + s.val) hc) = v (ix3 0 0 s) := by
  have e : bx q hq (o + s.val) hc = (Rect.unit (s := S1x16x1024) ![0, q, o] ![1, 1, n] hin).emb (ix3 0 0 s) := by
    funext a
    refine Fin.ext ?_
    match a with
    | ⟨0, _⟩ => rfl
    | ⟨1, _⟩ => exact (Nat.add_zero q).symm
    | ⟨2, _⟩ => exact congrArg (o + ·) (Nat.one_mul _).symm
  rw [e]
  exact View.canon_cons_emb _ _ _ _

/-- A row cast to a block of one row is read at its column. -/
theorem row_cast (n : ℕ) (x : FVec Ideal (⟨2, ![1, n]⟩ : Shape) .f32) (h : (⟨2, ![1, n]⟩ : Shape).ShapeCasts (⟨3, ![1, 1, n]⟩ : Shape)) (s : Fin n) :
    shapeCast (⟨3, ![1, 1, n]⟩ : Shape) x h (ix3 0 0 s) = x (ix2 0 s) := by
  refine shapeCast_apply _ _ _ _ ?_
  rw [Shape.rowMajor_val_two, Shape.rowMajor_val_three]
  show 0 * n + s.val = (0 * 1 + 0) * n + s.val
  omega

/-- The table's block holds zeros at the first column and the last two of the frames' rows. -/
theorem tabBlk_edge (v : Vec Ideal S1x3x1024 .f32) (q : ℕ) (hq : q < 9) (c : ℕ) (hc : c < 1024) (h : c < 1 ∨ 1 + 1021 ≤ c) :
    tabBlk v (bx q (by omega) c hc) = (0 : EReal) := by
  unfold tabBlk tabPieces
  iterate 3 refine (canon_skip _ 0 1024 _ _ _ _ _ _ _ (Or.inl (by omega))).trans ?_
  iterate 9 refine (canon_skip _ 1 1021 _ _ _ _ _ _ _ (Or.inr h)).trans ?_
  rw [View.canon_unit_zero zero3]
  unfold k0_pay11
  exact Ideal.ofBits_zero_f32

/-- A row of the coordinates. -/
theorem pay12_at (w : FVec Ideal S3x1024 .f32) (c : Fin 1024) : k0_pay12 w (ix2 0 c) = w (ix2 0 c) := by
  unfold k0_pay12
  pointwise
theorem pay13_at (w : FVec Ideal S3x1024 .f32) (c : Fin 1024) : k0_pay13 w (ix2 0 c) = w (ix2 1 c) := by
  unfold k0_pay13
  pointwise
theorem pay14_at (w : FVec Ideal S3x1024 .f32) (c : Fin 1024) : k0_pay14 w (ix2 0 c) = w (ix2 2 c) := by
  unfold k0_pay14
  pointwise

/-- A column counted from the first. -/
theorem bx_zero (q : ℕ) (hq : q < 16) (c : Fin 1024) : bx q hq c.val c.isLt = bx q hq (0 + c.val) (by omega) := by
  congr 1
  exact (Nat.zero_add _).symm

/-- Its rows 9 to 11 hold the coordinates. -/
theorem tabBlk_coord (v : Vec Ideal S1x3x1024 .f32) (c : Fin 1024) :
    tabBlk v (bx 9 (by omega) c.val c.isLt) = k0_pay1 v (ix2 0 c) ∧ tabBlk v (bx 10 (by omega) c.val c.isLt) = k0_pay1 v (ix2 1 c)
      ∧ tabBlk v (bx 11 (by omega) c.val c.isLt) = k0_pay1 v (ix2 2 c) := by
  have h12 := pay12_at (k0_pay1 v) c
  have h13 := pay13_at (k0_pay1 v) c
  have h14 := pay14_at (k0_pay1 v) c
  rw [bx_zero, bx_zero, bx_zero]
  unfold tabBlk tabPieces
  refine ⟨?_, ?_, ?_⟩
  · iterate 2 refine (canon_skip _ 0 1024 _ _ _ _ _ _ _ (Or.inl (by simp))).trans ?_
    exact (canon_hit _ 0 1024 _ _ _ _ c _).trans ((row_cast 1024 (k0_pay12 (k0_pay1 v)) _ c).trans h12)
  · iterate 1 refine (canon_skip _ 0 1024 _ _ _ _ _ _ _ (Or.inl (by simp))).trans ?_
    exact (canon_hit _ 0 1024 _ _ _ _ c _).trans ((row_cast 1024 (k0_pay13 (k0_pay1 v)) _ c).trans h13)
  · exact (canon_hit _ 0 1024 _ _ _ _ c _).trans ((row_cast 1024 (k0_pay14 (k0_pay1 v)) _ c).trans h14)

/-- Its rows 0 to 8 hold at the other columns the frames. -/
theorem tabBlk_frame (v : Vec Ideal S1x3x1024 .f32) (q : Fin 9) (s : Fin 1021) :
    tabBlk v (bx q.val (by omega) (1 + s.val) (by omega))
      = frame9 (nod (k0_pay1 v) s.val (by omega)) (nod (k0_pay1 v) (1 + s.val) (by omega)) (nod (k0_pay1 v) (1 + (1 + s.val)) (by omega)) q.val := by
  obtain ⟨t0, t1, t2⟩ := thd_at (k0_pay1 v) s
  obtain ⟨n0, n1, n2⟩ := nrm_at (k0_pay1 v) s
  obtain ⟨b0, b1, b2⟩ := bis_at (k0_pay1 v) s
  unfold tabBlk tabPieces
  iterate 3 refine (canon_skip _ 0 1024 _ _ _ _ _ _ _ (Or.inl (by omega))).trans ?_
  match q with
  | ⟨0, _⟩ =>
    iterate 8 refine (canon_skip _ 1 1021 _ _ _ _ _ _ _ (Or.inl (by simp))).trans ?_
    exact (canon_hit _ 1 1021 _ _ _ _ s _).trans ((row_cast 1021 _ _ s).trans b0)
  | ⟨1, _⟩ =>
    iterate 7 refine (canon_skip _ 1 1021 _ _ _ _ _ _ _ (Or.inl (by simp))).trans ?_
    exact (canon_hit _ 1 1021 _ _ _ _ s _).trans ((row_cast 1021 _ _ s).trans b1)
  | ⟨2, _⟩ =>
    iterate 6 refine (canon_skip _ 1 1021 _ _ _ _ _ _ _ (Or.inl (by simp))).trans ?_
    exact (canon_hit _ 1 1021 _ _ _ _ s _).trans ((row_cast 1021 _ _ s).trans b2)
  | ⟨3, _⟩ =>
    iterate 5 refine (canon_skip _ 1 1021 _ _ _ _ _ _ _ (Or.inl (by simp))).trans ?_
    exact (canon_hit _ 1 1021 _ _ _ _ s _).trans ((row_cast 1021 _ _ s).trans n0)
  | ⟨4, _⟩ =>
    iterate 4 refine (canon_skip _ 1 1021 _ _ _ _ _ _ _ (Or.inl (by simp))).trans ?_
    exact (canon_hit _ 1 1021 _ _ _ _ s _).trans ((row_cast 1021 _ _ s).trans n1)
  | ⟨5, _⟩ =>
    iterate 3 refine (canon_skip _ 1 1021 _ _ _ _ _ _ _ (Or.inl (by simp))).trans ?_
    exact (canon_hit _ 1 1021 _ _ _ _ s _).trans ((row_cast 1021 _ _ s).trans n2)
  | ⟨6, _⟩ =>
    iterate 2 refine (canon_skip _ 1 1021 _ _ _ _ _ _ _ (Or.inl (by simp))).trans ?_
    exact (canon_hit _ 1 1021 _ _ _ _ s _).trans ((row_cast 1021 _ _ s).trans t0)
  | ⟨7, _⟩ =>
    iterate 1 refine (canon_skip _ 1 1021 _ _ _ _ _ _ _ (Or.inl (by simp))).trans ?_
    exact (canon_hit _ 1 1021 _ _ _ _ s _).trans ((row_cast 1021 _ _ s).trans t1)
  | ⟨8, _⟩ =>
    exact (canon_hit _ 1 1021 _ _ _ _ s _).trans ((row_cast 1021 _ _ s).trans t2)

end Cert.Proof.Knn

end

end
-- ==== Proof.KerArr.lean ====
/-
  What the SparseCore call is handed, in the nodes' coordinates: the array of squared distances and the flat table of frames
  and coordinates that the first call leaves.
-/
module

public import proofs.«01_k».proof.Proof.KerTab
public import proofs.«01_k».proof.Proof.Main
public import proofs.«01_k».proof.Proof.Flat

@[expose] public section

set_option maxRecDepth 8192

noncomputable section

namespace Cert.Proof.Knn

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (x : FVec Ideal S8x1024x3 .f32)

theorem lt8 (t : Fin cfg0.N) : t.val / 4 < 8 := by
  have := t.isLt
  have : cfg0.N = 32 := N_0
  omega

/-- A node of the transposed coordinates' block is a node of the batch entry. -/
theorem nod_at (c : Dev nD) (hy : V c main_v0 = transpose S8x3x1024 [0, 2, 1] x transposes_S8x1024x3_S8x3x1024_0_2_1) (t : Fin cfg0.N)
    (s : ℕ) (hs : s < 1024) : nod (k0_pay1 (yBlk V c t)) s hs = pt x ⟨t.val / 4, lt8 t⟩ ⟨s, hs⟩ := by
  funext k
  have h1 : k0_pay1 (yBlk V c t) (ix2 k ⟨s, hs⟩) = yBlk V c t (ix3 0 k ⟨s, hs⟩) := by
    unfold k0_pay1
    refine shapeCast_apply _ _ _ _ ?_
    rw [Shape.rowMajor_val_two, Shape.rowMajor_val_three]
    show (0 * 3 + k.val) * 1024 + s = k.val * 1024 + s
    omega
  refine h1.trans ((yBlk_apply V c t _).trans ?_)
  rw [hy]
  refine congrArg x (funext fun a => ?_)
  match a with
  | ⟨0, _⟩ => rfl
  | ⟨1, _⟩ => rfl
  | ⟨2, _⟩ => rfl

/-- A node of the coordinates' block is a node of the batch entry. -/
theorem xBlk_at (c : Dev nD) (hx : V c main_arg0 = x) (t : Fin cfg0.N) (r : Fin 256) (k : Fin 3) :
    xBlk V c t (ix3 0 r k) = pt x ⟨t.val / 4, lt8 t⟩ ⟨256 * (t.val % 4) + r.val, by omega⟩ k := by
  obtain ⟨e0, e1, e2⟩ := index0 t
  show V c main_arg0 (((cfg0.win 0).blk t).view.emb (ix3 0 r k)) = _
  rw [hx]
  refine congrArg x (funext fun a => Fin.ext ?_)
  match a with
  | ⟨0, _⟩ => show win0_0.index t (0 : Fin 3) * 1 + 1 * 0 = t.val / 4; omega
  | ⟨1, _⟩ => show win0_0.index t (1 : Fin 3) * 256 + 1 * r.val = 256 * (t.val % 4) + r.val; omega
  | ⟨2, _⟩ => show win0_0.index t (2 : Fin 3) * 3 + 1 * k.val = k.val; omega

/-- A point's squared distances, in the entries of its two blocks. -/
theorem pay2_at (u : Vec Ideal S1x256x3 .f32) (v : Vec Ideal S1x3x1024 .f32) (r : Fin 256) (s : Fin 1024) :
    k0_pay2 u v (ix3 0 r s) = dist2 (fun k => u (ix3 0 r k)) (nod (k0_pay1 v) s.val s.isLt) := by
  unfold k0_pay2 dist2 nod
  generalize k0_pay1 v = w
  pointwise

/-- A point's squared distances. -/
theorem dist_at (c : Dev nD) (hx : V c main_arg0 = x) (hy : V c main_v0 = transpose S8x3x1024 [0, 2, 1] x transposes_S8x1024x3_S8x3x1024_0_2_1)
    (t : Fin cfg0.N) (r : Fin 256) (s : Fin 1024) :
    k0_pay2 (xBlk V c t) (yBlk V c t) (ix3 0 r s)
      = dist2 (pt x ⟨t.val / 4, lt8 t⟩ ⟨256 * (t.val % 4) + r.val, by omega⟩) (pt x ⟨t.val / 4, lt8 t⟩ s) := by
  rw [pay2_at, nod_at V x c hy]
  exact congrArg (fun p => dist2 p _) (funext fun k => xBlk_at V x c hx t r k)

/-- The array of squared distances. -/
def dArr : FVec Ideal S8x1024x1024 .f32 := fun i => dist2 (pt x (i 0) (i 1)) (pt x (i 0) (i 2))

theorem emb2_val (t : Fin cfg0.N) (j : S1x256x1024.Idx) :
    (((cfg0.win 2).blk t).view.emb j : S8x1024x1024.Idx)
      = ix3 (⟨t.val / 4, lt8 t⟩ : Fin 8) (⟨256 * (t.val % 4) + (j 1).val, by have : (j 1).val < 256 := (j 1).isLt; omega⟩ : Fin 1024) (⟨(j 2).val, (j 2).isLt⟩ : Fin 1024) := by
  obtain ⟨e0, e1, e2⟩ := index2 t
  have h0 : (j 0).val < 1 := (j 0).isLt
  refine funext fun a => Fin.ext ?_
  match a with
  | ⟨0, _⟩ => show win0_2.index t (0 : Fin 3) * 1 + 1 * (j 0).val = t.val / 4; omega
  | ⟨1, _⟩ => show win0_2.index t (1 : Fin 3) * 256 + 1 * (j 1).val = 256 * (t.val % 4) + (j 1).val; omega
  | ⟨2, _⟩ => show win0_2.index t (2 : Fin 3) * 1024 + 1 * (j 2).val = (j 2).val; omega

/-- The first node of a point's block, by batch entry and node. -/
def ptOf (b : Fin 8) (n : Fin 1024) : Fin cfg0.N := ⟨4 * b.val + n.val / 256, lt_of_lt_of_eq (show 4 * b.val + n.val / 256 < 32 by omega) N_0.symm⟩

theorem covered2 (i : S8x1024x1024.Idx) : ∃ t : Fin cfg0.N, (cfg0.win 2).flush t = true ∧ i ∈ ((cfg0.win 2).blk t).view.set := by
  have h0 : (i 0).val < 8 := (i 0).isLt
  have h1 : (i 1).val < 1024 := (i 1).isLt
  refine ⟨ptOf (i 0) (i 1), flush0_2 _, ?_⟩
  have h := ((cfg0.win 2).blk (ptOf (i 0) (i 1))).view.emb_mem_set (ix3 (0 : Fin 1) (⟨(i 1).val % 256, by omega⟩ : Fin 256) (i 2) : S1x256x1024.Idx)
  rw [emb2_val] at h
  have e : i = ix3 (⟨(ptOf (i 0) (i 1)).val / 4, lt8 _⟩ : Fin 8)
      (⟨256 * ((ptOf (i 0) (i 1)).val % 4) + (i 1).val % 256, by omega⟩ : Fin 1024) (⟨(i 2).val, (i 2).isLt⟩ : Fin 1024) := by
    funext a
    match a with
    | ⟨0, _⟩ => refine Fin.ext ?_; show (i 0).val = (4 * (i 0).val + (i 1).val / 256) / 4; omega
    | ⟨1, _⟩ => refine Fin.ext ?_; show (i 1).val = 256 * ((4 * (i 0).val + (i 1).val / 256) % 4) + (i 1).val % 256; omega
    | ⟨2, _⟩ => rfl
  exact (congrArg (fun z => z ∈ ((cfg0.win 2).blk (ptOf (i 0) (i 1))).view.set) e).mpr h

/-- The first call leaves the array of squared distances. -/
theorem dAfter_eq (c : Dev nD) (hx : V c main_arg0 = x) (hy : V c main_v0 = transpose S8x3x1024 [0, 2, 1] x transposes_S8x1024x3_S8x3x1024_0_2_1) :
    dAfter V c = dArr x := by
  unfold dAfter
  refine (dat V c).arrAt_eq_of_cover 2 (dArr x) (fun t _ => funext fun j => ?_) fun i => ?_
  · show (dat V c).after 2 t j = dArr x (((cfg0.win 2).blk t).view.emb j)
    rw [after_2, emb2_val]
    have hj : (j : S1x256x1024.Idx) = ix3 (0 : Fin 1) (⟨(j 1).val, (j 1).isLt⟩ : Fin 256) (⟨(j 2).val, (j 2).isLt⟩ : Fin 1024) := by
      funext a
      match a with
      | ⟨0, _⟩ => exact Fin.ext (Nat.lt_one_iff.1 (j 0).isLt)
      | ⟨1, _⟩ => rfl
      | ⟨2, _⟩ => rfl
    refine (congrArg (k0_pay2 (xBlk V c t) (yBlk V c t)) hj).trans ((dist_at V x c hx hy t _ _).trans rfl)
  · exact covered2 i

/-! ## The table -/

attribute [local irreducible] tabBlk frame9

theorem emb3_val (t : Fin cfg0.N) (j : S1x16x1024.Idx) :
    (((cfg0.win 3).blk t).view.emb j : S8x16x1024.Idx)
      = ix3 (⟨t.val / 4, lt8 t⟩ : Fin 8) (⟨(j 1).val, (j 1).isLt⟩ : Fin 16) (⟨(j 2).val, (j 2).isLt⟩ : Fin 1024) := by
  obtain ⟨e0, e1, e2⟩ := index3 t
  have h0 : (j 0).val < 1 := (j 0).isLt
  refine funext fun a => Fin.ext ?_
  match a with
  | ⟨0, _⟩ => show win0_3.index t (0 : Fin 3) * 1 + 1 * (j 0).val = t.val / 4; omega
  | ⟨1, _⟩ => show win0_3.index t (1 : Fin 3) * 16 + 1 * (j 1).val = (j 1).val; omega
  | ⟨2, _⟩ => show win0_3.index t (2 : Fin 3) * 1024 + 1 * (j 2).val = (j 2).val; omega

/-- The last point of a batch entry. -/
def lastPt (b : Fin 8) : Fin cfg0.N := ⟨4 * b.val + 3, lt_of_lt_of_eq (show 4 * b.val + 3 < 32 by omega) N_0.symm⟩

/-- The table of all batch entries. -/
def tArr (c : Dev nD) : FVec Ideal S8x16x1024 .f32 := fun i => tabBlk (yBlk V c (lastPt (i 0))) (bx (i 1).val (i 1).isLt (i 2).val (i 2).isLt)

theorem covered3 (i : S8x16x1024.Idx) : ∃ t : Fin cfg0.N, (cfg0.win 3).flush t = true ∧ i ∈ ((cfg0.win 3).blk t).view.set := by
  refine ⟨lastPt (i 0), (flush0_3 _).mpr (show (4 * (i 0).val + 3) % 4 = 3 by omega), ?_⟩
  have h := ((cfg0.win 3).blk (lastPt (i 0))).view.emb_mem_set (ix3 (0 : Fin 1) (i 1) (i 2) : S1x16x1024.Idx)
  rw [emb3_val] at h
  have e : i = ix3 (⟨(lastPt (i 0)).val / 4, lt8 _⟩ : Fin 8) (⟨(i 1).val, (i 1).isLt⟩ : Fin 16) (⟨(i 2).val, (i 2).isLt⟩ : Fin 1024) := by
    funext a
    match a with
    | ⟨0, _⟩ => refine Fin.ext ?_; show (i 0).val = (4 * (i 0).val + 3) / 4; omega
    | ⟨1, _⟩ => rfl
    | ⟨2, _⟩ => rfl
  exact (congrArg (fun z => z ∈ ((cfg0.win 3).blk (lastPt (i 0))).view.set) e).mpr h

/-- The first call leaves the table. -/
theorem tAfter_eq (c : Dev nD) : tAfter V c = tArr V c := by
  unfold tAfter
  refine (dat V c).arrAt_eq_of_cover 3 (tArr V c) (fun t ht => funext fun j => ?_) fun i => covered3 i
  show (dat V c).after 3 t j = tArr V c (((cfg0.win 3).blk t).view.emb j)
  rw [after_3, emb3_val]
  have hm : t.val % 4 = 3 := (flush0_3 t).mp ht
  have hl : lastPt ⟨t.val / 4, lt8 t⟩ = t := Fin.ext (show 4 * (t.val / 4) + 3 = t.val by omega)
  have hj : (j : S1x16x1024.Idx) = bx (j 1).val (j 1).isLt (j 2).val (j 2).isLt := by
    funext a
    match a with
    | ⟨0, _⟩ => exact Fin.ext (Nat.lt_one_iff.1 (j 0).isLt)
    | ⟨1, _⟩ => rfl
    | ⟨2, _⟩ => rfl
  show _ = tabBlk (yBlk V c (lastPt ⟨t.val / 4, lt8 t⟩)) (bx (j 1).val (j 1).isLt (j 2).val (j 2).isLt)
  rw [hl]
  exact congrArg (tabBlk (yBlk V c t)) hj

/-- The batch entry's nodes, in the block of its last point. -/
theorem nod_last (c : Dev nD) (hy : V c main_v0 = transpose S8x3x1024 [0, 2, 1] x transposes_S8x1024x3_S8x3x1024_0_2_1) (b : Fin 8)
    (s : ℕ) (hs : s < 1024) : nod (k0_pay1 (yBlk V c (lastPt b))) s hs = pt x b ⟨s, hs⟩ :=
  (nod_at V x c hy (lastPt b) s hs).trans (congrArg (fun z => pt x z ⟨s, hs⟩) (Fin.ext (show (4 * b.val + 3) / 4 = b.val by omega)))

/-- Rows 0 to 8 of the table hold the frames. -/
theorem tArr_frame (c : Dev nD) (hy : V c main_v0 = transpose S8x3x1024 [0, 2, 1] x transposes_S8x1024x3_S8x3x1024_0_2_1) (b : Fin 8)
    (q : ℕ) (hq : q < 9) (s : Fin 1024) : tArr V c (ix3 b (⟨q, by omega⟩ : Fin 16) s) = frameAt x b q s := by
  show tabBlk (yBlk V c (lastPt b)) (bx q _ s.val s.isLt) = _
  have hs := s.isLt
  unfold frameAt
  by_cases h : 1 ≤ s.val ∧ s.val < 1022
  · rw [dif_pos h]
    have e : bx q (by omega) s.val s.isLt = bx q (by omega) (1 + (⟨s.val - 1, by omega⟩ : Fin 1021).val) (by dsimp only; omega) := by
      congr 1; dsimp only; omega
    rw [e]
    refine (tabBlk_frame _ ⟨q, hq⟩ ⟨s.val - 1, by omega⟩).trans ?_
    rw [nod_last V x c hy, nod_last V x c hy, nod_last V x c hy]
    have e1 : (⟨1 + (s.val - 1), by omega⟩ : Fin 1024) = s := Fin.ext (by dsimp only; omega)
    have e2 : (⟨1 + (1 + (s.val - 1)), by omega⟩ : Fin 1024) = ⟨s.val + 1, by omega⟩ := Fin.ext (by dsimp only; omega)
    exact (congrArg (fun z => frame9 _ (pt x b z) _ q) e1).trans (congrArg (fun z => frame9 _ _ (pt x b z) q) e2)
  · rw [dif_neg h]
    exact tabBlk_edge _ q hq _ _ (by omega)

/-- Rows 9 to 11 of the table hold the coordinates. -/
theorem tArr_coord (c : Dev nD) (hy : V c main_v0 = transpose S8x3x1024 [0, 2, 1] x transposes_S8x1024x3_S8x3x1024_0_2_1) (b : Fin 8)
    (k : Fin 3) (s : Fin 1024) : tArr V c (ix3 b (⟨9 + k.val, by omega⟩ : Fin 16) s) = pt x b s k := by
  obtain ⟨h0, h1, h2⟩ := tabBlk_coord (yBlk V c (lastPt b)) s
  refine Eq.trans ?_ (congrFun (nod_last V x c hy b s.val s.isLt) k)
  match k with
  | ⟨0, _⟩ => exact h0
  | ⟨1, _⟩ => exact h1
  | ⟨2, _⟩ => exact h2

/-- The flat table. -/
def fArr (c : Dev nD) : FVec Ideal S131072 .f32 := shapeCast S131072 (tArr V c) shapeCasts_S8x16x1024_S131072

/-- Place `16384 b + 1024 q + s` of the flat table is entry `(b, q, s)`. -/
theorem fArr_at (c : Dev nD) (b : Fin 8) (q : ℕ) (hq : q < 16) (s : Fin 1024) :
    fArr V c (cell 131072 (16384 * b.val + 1024 * q + s.val)) = tArr V c (ix3 b (⟨q, hq⟩ : Fin 16) s) := by
  refine shapeCast_apply _ _ _ _ ?_
  rw [Shape.rowMajor_val_one, Shape.rowMajor_val_three, cell_val (by omega)]
  show (b.val * 16 + q) * 1024 + s.val = _
  omega

end Cert.Proof.Knn

end

end
-- ==== Proof.Equal.lean ====
/-
  The two results of the program are the two results of the reference, where the distances from a node differ: row by
  row, then over the whole arrays.
-/
module

public import proofs.«01_k».proof.Proof.Lanes
public import proofs.«01_k».proof.Proof.Planes
public import proofs.«01_k».proof.Proof.KerArr

@[expose] public section

set_option maxRecDepth 8192

noncomputable section

namespace Cert.Proof.Knn

open Cert.KernelIdeal Cert.KernelIdeal.Gen
open Idealize.ShloMosaic Idealize.SL.Sem

/-! ## The places of a row -/

/-- The tile's batch entry, and the node of a row, as indices of the array of distances. -/
def batF (i : grid1.Coords) : Fin 8 := ⟨bat i, bat_lt i⟩
theorem node_lt (i : grid1.Coords) (t : Fin k1_t1_loop.trips) (r : Fin k1_t2_loop.trips) : row0 i t.val + r.val < 1024 := by
  have := t1_lt t
  have := r_lt r
  unfold row0; omega
def nodeF (i : grid1.Coords) (t : Fin k1_t1_loop.trips) (r : Fin k1_t2_loop.trips) : Fin 1024 := ⟨row0 i t.val + r.val, node_lt i t r⟩

/-- Where a row's entries lie in the array of neighbours. -/
theorem place_eq (i : grid1.Coords) (t : Fin k1_t1_loop.trips) (r : Fin k1_t2_loop.trips) (k : ℕ) :
    960 * blk i t.val + 30 * r.val + k = 30 * (1024 * (batF i).val + (nodeF i t r).val) + k := by
  show _ = 30 * (1024 * bat i + (row0 i t.val + r.val)) + k
  unfold blk row0 bat; omega

theorem ix3_at3 (b n c : ℕ) (hb : b < 8) (hn : n < 1024) (hc : c < 1024) :
    at3 b n c = ix3 (⟨b, hb⟩ : Fin 8) (⟨n, hn⟩ : Fin 1024) (⟨c, hc⟩ : Fin 1024) := by
  funext a
  match a with
  | ⟨0, _⟩ => exact Fin.ext (Nat.mod_eq_of_lt hb)
  | ⟨1, _⟩ => exact Fin.ext (Nat.mod_eq_of_lt hn)
  | ⟨2, _⟩ => exact Fin.ext (Nat.mod_eq_of_lt hc)

/-- Entry `j` of a staged row is an entry of the array of distances. -/
theorem rowAt_rows (x : Vec Ideal S8x1024x1024 .f32) (i : grid1.Coords) (t : Fin k1_t1_loop.trips) (r : Fin k1_t2_loop.trips) (j : Fin 1024) :
    rowAt (rowsOf x i t.val) r.val j.val = x (ix3 (batF i) (nodeF i t r) j) := by
  have hr := r_lt r
  unfold rowAt rowsOf
  rw [cell_val (by omega)]
  have e1 : (1024 * r.val + j.val) / 1024 = r.val := by omega
  have e2 : (1024 * r.val + j.val) % 1024 = j.val := by omega
  rw [e1, e2, ix3_at3 _ _ _ (bat_lt i) (node_lt i t r) j.isLt]
  rfl

/-! ## The values of a row -/

theorem toNat_small (n : ℕ) (h : n < 32768) : (BitVec.ofNat 32 n).toNat = n := by rw [BitVec.toNat_ofNat]; omega

theorem toNat_add_small (a b : ℕ) (ha : a < 32768) (hb : b < 32768) : (BitVec.ofNat 32 a + BitVec.ofNat 32 b).toNat = a + b := by
  rw [BitVec.toNat_add, toNat_small a ha, toNat_small b hb]; omega

/-- A word of the tile's table is a word of the table of all batch entries. -/
theorem tabOf_at (y : Vec Ideal S131072 .f32) (i : grid1.Coords) (o : ℕ) (h : o < 16384) :
    tabOf y i (cell 16384 o) = y (cell 131072 (16384 * (batF i).val + o)) := by
  unfold tabOf
  rw [cell_val h]
  rfl

/-- What a table of the nodes must hold, flat, for the nodes' coordinates `x`: in each batch entry nine rows of the
    frames, then three of the coordinates. -/
structure TabFor (x : FVec Ideal S8x1024x3 .f32) (y : Vec Ideal S131072 .f32) : Prop where
  frame : ∀ (b : Fin 8) (q : ℕ) (_ : q < 9) (s : Fin 1024), y (cell 131072 (16384 * b.val + (1024 * q + s.val))) = frameAt x b q s
  coord : ∀ (b : Fin 8) (k : ℕ) (h : k < 3) (s : Fin 1024), y (cell 131072 (16384 * b.val + (1024 * (9 + k) + s.val))) = pt x b s ⟨k, h⟩

/-- What a row writes for a neighbour `j`. -/
theorem oneVal_eq {x : FVec Ideal S8x1024x3 .f32} {y : Vec Ideal S131072 .f32} (hy : TabFor x y) (i : grid1.Coords) (b : Fin 8) (hb : batF i = b)
    (n j : Fin 1024) (p : ℕ) (hp : p < 26) :
    oneVal (tabOf y i) (BitVec.ofNat 32 n.val) (dArr x (ix3 b n j)) (BitVec.ofNat 32 j.val) p = planeVal x p b n j := by
  subst hb
  have hn := n.isLt
  have hj := j.isLt
  unfold oneVal planeVal
  by_cases c1 : p < 1
  · rw [if_pos c1, if_pos c1]; rfl
  rw [if_neg c1, if_neg c1]
  by_cases c2 : p < 2
  · rw [if_pos c2, if_pos c2]
  rw [if_neg c2, if_neg c2]
  by_cases c3 : p < 5
  · have h := hy.coord (batF i) (p - 2) (by omega) j
    rw [if_pos c3, dif_pos (by omega), toNat_small _ (by omega), tabOf_at _ _ _ (by omega), ← h]
    exact congrArg y (congrArg (cell 131072) (by omega))
  rw [if_neg c3, dif_neg (by omega)]
  by_cases c4 : p < 8
  · have h := hy.coord (batF i) (p - 5) (by omega) n
    rw [if_pos c4, dif_pos (by omega), toNat_add_small _ _ (by omega) (by omega), tabOf_at _ _ _ (by omega), ← h]
    exact congrArg y (congrArg (cell 131072) (by omega))
  rw [if_neg c4, dif_neg (by omega)]
  by_cases c5 : p < 17
  · have h := hy.frame (batF i) (p - 8) (by omega) j
    rw [if_pos c5, if_pos c5, toNat_small _ (by omega), tabOf_at _ _ _ (by omega), ← h]
  have h := hy.frame (batF i) (p - 17) (by omega) n
  rw [if_neg c5, if_neg c5, toNat_add_small _ _ (by omega) (by omega), tabOf_at _ _ _ (by omega), ← h]

/-- What a row writes: at rank `k` the node `c` that lies at that rank, and the planes' values of it. -/
theorem row_equal {x : FVec Ideal S8x1024x3 .f32} {y : Vec Ideal S131072 .f32} (hy : TabFor x y)
    (hd : ∀ b n, Function.Injective fun j : Fin 1024 => dist2 (pt x b n) (pt x b j))
    {i : grid1.Coords} {t : Fin k1_t1_loop.trips} {r : Fin k1_t2_loop.trips} {fe : Vec Ideal S245760 .i32} {fp : Vec Ideal S6389760 .f32}
    (h : RowOut (dArr x) y i t r fe fp) (k : Fin 30) :
    ∃ c : Fin 1024,
      (Finset.univ.filter fun j : Fin 1024 => dist2 (pt x (batF i) (nodeF i t r)) (pt x (batF i) j) < dist2 (pt x (batF i) (nodeF i t r)) (pt x (batF i) c)).card = k.val
      ∧ fe (cell 245760 (30 * (1024 * (batF i).val + (nodeF i t r).val) + k.val)) = BitVec.ofNat 32 c.val
      ∧ ∀ p : Fin 26, fp (cell 6389760 (245760 * p.val + (30 * (1024 * (batF i).val + (nodeF i t r).val) + k.val)))
          = planeVal x p.val (batF i) (nodeF i t r) c := by
  obtain ⟨m, hlow, he, hp⟩ := h
  obtain ⟨c, hc, hat, hcard⟩ := row_lowest hlow (fun a ha b hb hab => by
    rw [rowAt_rows (dArr x) i t r ⟨a, ha⟩, rowAt_rows (dArr x) i t r ⟨b, hb⟩] at hab
    exact congrArg Fin.val (hd _ _ hab)) k.isLt
  have hv : rowAt (rowsOf (dArr x) i t.val) r.val c = dArr x (ix3 (batF i) (nodeF i t r) ⟨c, hc⟩) := rowAt_rows (dArr x) i t r ⟨c, hc⟩
  have hrank : (Finset.univ.filter fun j : Fin 1024 =>
      (dArr x (ix3 (batF i) (nodeF i t r) j) : EReal) < dArr x (ix3 (batF i) (nodeF i t r) ⟨c, hc⟩)).card = k.val := by
    rw [← hcard]
    refine Finset.card_bij (fun j _ => j.val) (fun j hj => ?_) (fun _ _ _ _ e => Fin.ext e) fun j hj => ?_
    · rw [Finset.mem_filter] at hj ⊢
      refine ⟨Finset.mem_range.2 j.isLt, ?_⟩
      rw [hv, rowAt_rows (dArr x) i t r j]
      exact hj.2
    · rw [Finset.mem_filter, Finset.mem_range] at hj
      refine ⟨⟨j, hj.1⟩, ?_, rfl⟩
      rw [Finset.mem_filter]
      refine ⟨Finset.mem_univ _, ?_⟩
      have := hj.2
      rw [hv, rowAt_rows (dArr x) i t r ⟨j, hj.1⟩] at this
      exact this
  have hnd : nodeAt i t r = BitVec.ofNat 32 (nodeF i t r).val := nodeAt_eq i t ⟨r.val, r_lt r⟩
  refine ⟨⟨c, hc⟩, hrank, ?_, fun p => ?_⟩
  · rw [← place_eq i t r, he k.val k.isLt, low30_at, hat]
    exact low10_ofNat c hc
  · rw [← place_eq i t r, ← Nat.add_assoc, ← Nat.add_assoc, hp p.val p.isLt k.val k.isLt, rowVal_at, hat, hnd, low10_ofNat c hc, hv]
    exact oneVal_eq hy i _ rfl _ ⟨c, hc⟩ p.val p.isLt

/-! ## The whole results -/

theorem exists_tile : ∀ w : Fin 32, ∃ i : grid1.Coords, wid i = w.val := by decide

/-- Every place of the array of neighbours is a row's. -/
theorem exists_place (j : ℕ) (hj : j < 245760) :
    ∃ i t r, ∃ k : Fin 30, j = 30 * (1024 * (batF i).val + (nodeF i t r).val) + k.val := by
  obtain ⟨i, hi⟩ := exists_tile ⟨j / 7680, by omega⟩
  refine ⟨i, ⟨j / 960 % 8, by show _ < 8; omega⟩, ⟨j / 30 % 32, by show _ < 32; omega⟩, ⟨j % 30, by omega⟩, ?_⟩
  rw [← place_eq]
  unfold blk
  rw [hi]
  show j = 960 * (8 * (j / 7680) + j / 960 % 8) + 30 * (j / 30 % 32) + j % 30
  omega

/-- A place of the first result, in the flat array it was laid out from. -/
theorem eRes_at (fe : Vec Ideal S245760 .i32) (b : Fin 8) (n : Fin 1024) (k : Fin 30) :
    eRes (F := Ideal) fe (ix3 b n k) = fe (cell 245760 (30 * (1024 * b.val + n.val) + k.val)) := by
  refine shapeCast_apply _ _ _ _ ?_
  rw [Shape.rowMajor_val_one, Shape.rowMajor_val_three, cell_val (by omega)]
  show _ = (b.val * 1024 + n.val) * 30 + k.val
  omega

/-- The program's results are any two arrays that hold, at each rank, the node that lies at that rank, and the planes'
    values of it. -/
theorem results_equal {x : FVec Ideal S8x1024x3 .f32} {y : Vec Ideal S131072 .f32} (hy : TabFor x y)
    (hd : ∀ b n, Function.Injective fun j : Fin 1024 => dist2 (pt x b n) (pt x b j))
    (fe : Vec Ideal S245760 .i32) (fp : Vec Ideal S6389760 .f32) (h : ∀ i t r, RowOut (dArr x) y i t r fe fp)
    (I : IVec S8x1024x30 32) (P : FVec Ideal S6389760 .f32)
    (hI : ∀ b n (k : Fin 30) (c : Fin 1024),
      (Finset.univ.filter fun j : Fin 1024 => dist2 (pt x b n) (pt x b j) < dist2 (pt x b n) (pt x b c)).card = k.val → I (ix3 b n k) = BitVec.ofNat 32 c.val)
    (hP : ∀ (p : Fin 26) b n (k : Fin 30) (c : Fin 1024), I (ix3 b n k) = BitVec.ofNat 32 c.val →
      P (cell 6389760 (245760 * p.val + (30 * (1024 * b.val + n.val) + k.val))) = planeVal x p.val b n c) :
    eRes (F := Ideal) fe = I ∧ fp = P := by
  have hsplit : ∀ j : ℕ, j < 245760 → ∃ (b : Fin 8) (n : Fin 1024) (k : Fin 30) (c : Fin 1024), j = 30 * (1024 * b.val + n.val) + k.val
      ∧ I (ix3 b n k) = BitVec.ofNat 32 c.val ∧ fe (cell 245760 j) = BitVec.ofNat 32 c.val
      ∧ ∀ p : Fin 26, fp (cell 6389760 (245760 * p.val + j)) = planeVal x p.val b n c := by
    intro j hj
    obtain ⟨i, t, r, k, rfl⟩ := exists_place j hj
    obtain ⟨c, h1, h2, h3⟩ := row_equal hy hd (h i t r) k
    exact ⟨batF i, nodeF i t r, k, c, rfl, hI _ _ _ _ h1, h2, h3⟩
  constructor
  · funext j
    obtain ⟨b, n, k, rfl⟩ : ∃ (b : Fin 8) (n : Fin 1024) (k : Fin 30), j = ix3 b n k := ⟨j 0, j 1, j 2, by funext a; fin_cases a <;> rfl⟩
    rw [eRes_at]
    obtain ⟨b', n', k', c, e, h1, h2, -⟩ := hsplit (30 * (1024 * b.val + n.val) + k.val) (by omega)
    have e1 : b = b' := Fin.ext (by omega)
    have e2 : n = n' := Fin.ext (by omega)
    have e3 : k = k' := Fin.ext (by omega)
    subst e1 e2 e3
    rw [h1, h2]
  · funext j
    rw [← cell_eq j]
    have hj : (j 0).val < 6389760 := (j 0).isLt
    obtain ⟨b, n, k, c, e, h1, -, h3⟩ := hsplit ((j 0).val % 245760) (by omega)
    have e' : (j 0).val = 245760 * ((j 0).val / 245760) + (j 0).val % 245760 := by omega
    rw [e', h3 ⟨(j 0).val / 245760, by omega⟩, e, hP ⟨(j 0).val / 245760, by omega⟩ b n k c h1]

/-- The table that the TensorCore call leaves, laid flat, is a table for the nodes. -/
theorem tabFor (V : (c : Dev nD) → (b : Ref sig .tc) → Buf (Elt Ideal) ((c.tc : Thread nD τ).loc b)) (x : FVec Ideal S8x1024x3 .f32) (c : Dev nD)
    (hy : V c main_v0 = transpose S8x3x1024 [0, 2, 1] x transposes_S8x1024x3_S8x3x1024_0_2_1) : TabFor x (fArr V c) where
  frame b q hq s := by
    rw [← Nat.add_assoc, fArr_at V c b q (by omega) s]
    exact tArr_frame V x c hy b q hq s
  coord b k hk s := by
    rw [← Nat.add_assoc, fArr_at V c b (9 + k) (by omega) s]
    exact tArr_coord V x c hy b ⟨k, hk⟩ s

end Cert.Proof.Knn

end

end
-- ==== Proof.Value.lean ====
/-
  The value claim, and the frames of the reference and of the runs under the precondition.
-/
module

public import proofs.«01_k».proof.Defs
public import proofs.«01_k».proof.Proof.Frames
public import proofs.«01_k».proof.Proof.Equal
public import Idealize.ShloMosaic.Init

@[expose] public section

noncomputable section

namespace Cert.Proof.Knn

open Idealize.ShloMosaic Idealize.SL.Sem

/-- The kernel over the extended reals, under the precondition. -/
theorem frame_ideal_distinct : Cert.quiescent_KernelIdeal_pre_distinct := fun m ρ _ =>
  (θ_run Cert.KernelIdeal.defs _ _).mono (fun _ h => ⟨fun c => ⟨(h.1 c).1, (h.1 c).2.1⟩, h.2⟩) (run_main (F := Ideal) m ρ)

/-- The reference over the extended reals: its arguments end unchanged, and it declares no semaphore. -/
theorem frame_ref : Cert.quiescent_ReferenceIdeal := fun m ρ _ =>
  (θ_run Cert.ReferenceIdeal.defs _ _).mono
    (fun r h => ⟨fun c => ⟨(h c).2.2.1, (h c).2.2.2⟩, Idealize.ShloMosaic.sem_eq_zero_of_no_sems (by decide) r.2⟩) (Ref.ref_run m ρ)

/-- The reference under the precondition. -/
theorem frame_ref_distinct : Cert.quiescent_ReferenceIdeal_pre_distinct := fun m ρ _ =>
  (θ_run Cert.ReferenceIdeal.defs _ _).mono
    (fun r h => ⟨fun c => ⟨(h c).2.2.1, (h c).2.2.2⟩, Idealize.ShloMosaic.sem_eq_zero_of_no_sems (by decide) r.2⟩) (Ref.ref_run m ρ)

/-- The kernel and the reference compute the same two arrays: those of the reference's run. -/
theorem algebraic : Cert.algebraic_KernelIdeal_ReferenceIdeal_pre_distinct := by
  intro m g m' g' hpre hagree
  refine ⟨fun c => Cert.ReferenceIdeal.Value.res_main_indices (StableHlo.launchContents m' c), fun c => Ref.planesOut (StableHlo.launchContents m' c), ?_, ?_⟩
  · refine (θ_run Cert.KernelIdeal.defs _ _).mono (fun r h c => ?_) (run_main (F := Ideal) m g)
    obtain ⟨h0, h1, fe, he, hr⟩ := h.1 c
    obtain ⟨hm, hd⟩ := Ref.pre_rows _ _ (hpre c)
    have hx : Ref.xs (StableHlo.launchContents m' c) = m (xLoc c) := (hagree c).1
    have hw : Ref.ms (StableHlo.launchContents m' c) = m (mLoc c) := (hagree c).2
    have ha : mm m (aLoc c) = dArr (m (xLoc c)) := (V3_a m c).trans (dAfter_eq (VR m) _ c (V1_x m c) (V1_y m c))
    have hb : mm m (bLoc c) = fArr (VR m) c := (V3_b m c).trans (congrArg (fun z => shapeCast _ z _) (tAfter_eq (VR m) c))
    have e := results_equal (tabFor (VR m) (m (xLoc c)) c (V1_y m c)) (fun b n => dist2_injective _ _ (hd b n)) fe (r.2.mem (pLoc c))
      (fun i t q => by have := hr i t q; rw [ha, hb] at this; exact this)
      (Cert.ReferenceIdeal.Value.res_main_indices (StableHlo.launchContents m' c)) (Ref.planesOut (StableHlo.launchContents m' c))
      (fun b n k i hk => by
        rw [← hx] at hk
        exact Ref.indices_at _ (fun b i => by rw [hw]; exact hm b i) b n (by rw [hx]; exact hd b n) k i hk)
      (fun p b n k i hk => by rw [Ref.planesOut_at, Ref.planes_at _ p b n k i hk, hx])
    exact ⟨he.trans e.1, e.2, h0, h1⟩
  · exact (θ_run Cert.ReferenceIdeal.defs _ _).mono (fun r h c => h c) (Ref.ref_run m' g')

end Cert.Proof.Knn

end
-- ==== Proof.EdgeFrames.lean ====
/-
  The third call and its reference run: both programs of the call end with their arguments unchanged and every counter at zero,
  so does the reference; and the two programs differ in the three ways the rules allow.
-/
module

public import proofs.«01_k».proof.Defs
public import proofs.«01_k».proof.Proof.Gen.Features.Frame
public import proofs.«01_k».proof.Proof.Gen.FeaturesIdeal.Frame
public import proofs.«01_k».proof.Proof.Gen.EdgesIdeal.Run
public import Idealize.ShloMosaic.Lib.Quiescent

@[expose] public section

noncomputable section

namespace Cert.Proof.Edge

open Idealize.ShloMosaic Idealize.ShloMosaic.TcCoe Idealize.SL.Sem

/-- The call as it is printed runs, and leaves its arguments and the counters as they were. -/
theorem frame_call : Cert.quiescent_Features := fun m ρ _ => Cert.Features.Gen.frame m ρ

/-- So does the call read on the extended reals. -/
theorem frame_call_ideal : Cert.quiescent_FeaturesIdeal := fun m ρ _ => Cert.FeaturesIdeal.Gen.frame m ρ

/-- So does the reference. -/
theorem frame_edges : Cert.quiescent_EdgesIdeal := fun m ρ _ =>
  (θ_run Cert.EdgesIdeal.defs _ _).mono
    (fun r h => ⟨fun c => (h c).2, Idealize.ShloMosaic.sem_eq_zero_of_no_sems (by decide) r.2⟩) (Cert.EdgesIdeal.Value.run m ρ)

/-- The two halves of the period are the numbers their names stand for, and the sign is read off the value. -/
theorem preserves_call : Cert.preserves_Features_FeaturesIdeal :=
  ⟨IdealRules.named_const.statement _ _ _ _ _ rfl, IdealRules.named_const.statement _ _ _ _ _ rfl, IdealRules.sign_bit.statement _ _⟩

end Cert.Proof.Edge

end

end
-- ==== Proof.EdgeMath.lean ====
/-
  The thirty-nine features of an edge on the extended reals, from its twenty-six planes: how the launch writes them, how the
  plain program writes them, and that the two agree.
-/
module

public import proofs.«01_k».proof.Proof.Gen.FeaturesIdeal.Value
public import proofs.«01_k».proof.Proof.Gen.EdgesIdeal.Run
public import proofs.«01_k».proof.Proof.Math
public import Idealize.ShloMosaic.PureOps.Ideal.Laws

@[expose] public section

noncomputable section

namespace Cert.Proof.Edge

open Idealize.ShloMosaic Cert.Proof.Knn

/-- A binary32 literal as a number. -/
abbrev lit (b : BitVec 32) : EReal := Ideal.ofBits .f32 b

/-- The two parts of 2π that the launch takes off an angle. -/
def turnHi : EReal := Named.named (F := Ideal) (φ := .f32) Cert.FeaturesIdeal.κ "two_pi_hi" 0x40C90FDB#32
/-- The second part. -/
def turnLo : EReal := Named.named (F := Ideal) (φ := .f32) Cert.FeaturesIdeal.κ "two_pi_lo" 0xB43BBD2E#32

/-- The first part as a multiple of π. -/
theorem turnHi_eq : turnHi = (((200000005565507 / 100000000000000) * Real.pi : ℝ) : EReal) :=
  IdealRules.named_const.ideal_named_scalar _ _ _ _ rfl
/-- The second part as a multiple of π; the two add up to 2π. -/
theorem turnLo_eq : turnLo = (((-5565507 / 100000000000000) * Real.pi : ℝ) : EReal) :=
  IdealRules.named_const.ideal_named_scalar _ _ _ _ rfl

/-- How many whole turns the launch takes an angle to have. -/
def turns (a : EReal) : EReal := Ideal.liftRound Ideal.roundHalfEven (a * lit 0x3E22F983#32)

/-- An angle less its whole turns. -/
def reduced (a : EReal) : EReal := (a - turns a * turnHi) - turns a * turnLo

/-- The literal for the turns in one radian is finite. -/
theorem perTurn_real : ∃ r : ℝ, lit 0x3E22F983#32 = (r : EReal) := by
  refine ⟨(lit 0x3E22F983#32).toReal, (EReal.coe_toReal ?_ ?_).symm⟩ <;>
  · simp [lit, Ideal.ofBits, Ideal.ieee]
    try norm_cast
    try exact EReal.coe_ne_top _
    try exact EReal.coe_ne_bot _

/-- A finite angle less its whole turns is finite, and an integer number of turns away. -/
theorem reduced_coe (a : ℝ) : ∃ n : ℤ, reduced a = ((a - n * (2 * Real.pi) : ℝ) : EReal) := by
  obtain ⟨r, hr⟩ := perTurn_real
  refine ⟨Ideal.roundHalfEven (a * r), ?_⟩
  have ht : turns a = ((Ideal.roundHalfEven (a * r) : ℝ) : EReal) := by
    unfold turns
    rw [hr, ← EReal.coe_mul, Ideal.liftRound_coe]
  unfold reduced
  rw [ht, turnHi_eq, turnLo_eq]
  rw [← EReal.coe_mul, ← EReal.coe_mul, ← EReal.coe_sub, ← EReal.coe_sub]
  exact congrArg Real.toEReal (by ring)

/-- An infinite angle stays infinite. -/
theorem reduced_inf (a : EReal) (h : a = ⊥ ∨ a = ⊤) : reduced a = ⊥ ∨ reduced a = ⊤ := by
  have sub_inf : ∀ x y : EReal, (x = ⊥ ∨ x = ⊤) → (x - y = ⊥ ∨ x - y = ⊤) := by
    rintro x y (rfl | rfl)
    · exact .inl (by simp)
    · induction y
      · exact .inr (by simp)
      · exact .inr (by simp)
      · exact .inl (by simp [sub_eq_add_neg])
  exact sub_inf _ _ (sub_inf _ _ h)

/-- The cosine does not see whole turns taken off. -/
theorem cos_reduced (a : EReal) : Ideal.cos (reduced a) = Ideal.cos a := by
  have inf : ∀ x : EReal, (x = ⊥ ∨ x = ⊤) → Ideal.cos x = ⊥ := by rintro x (rfl | rfl) <;> rfl
  induction a
  · rw [inf _ (reduced_inf _ (.inl rfl))]; rfl
  · rename_i a
    obtain ⟨n, hn⟩ := reduced_coe a
    rw [hn]
    exact congrArg Real.toEReal (Real.cos_sub_int_mul_two_pi a n)
  · rw [inf _ (reduced_inf _ (.inr rfl))]; rfl

/-- Nor does the sine. -/
theorem sin_reduced (a : EReal) : Ideal.sin (reduced a) = Ideal.sin a := by
  have inf : ∀ x : EReal, (x = ⊥ ∨ x = ⊤) → Ideal.sin x = ⊥ := by rintro x (rfl | rfl) <;> rfl
  induction a
  · rw [inf _ (reduced_inf _ (.inl rfl))]; rfl
  · rename_i a
    obtain ⟨n, hn⟩ := reduced_coe a
    rw [hn]
    exact congrArg Real.toEReal (Real.sin_sub_int_mul_two_pi a n)
  · rw [inf _ (reduced_inf _ (.inr rfl))]; rfl

/-! ## The parts of the features that both programs write alike -/

/-- The angle of frequency `k` at offset `p 1`. -/
def angle (p : Fin 26 → EReal) (k : Fin 8) : EReal := p 1 * lit (Cert.EdgesIdeal.lit0 k)

/-- The distance from the centre `k`, in widths. -/
def widths (p : Fin 26 → EReal) (k : Fin 16) : EReal :=
  Ideal.div (Ideal.sqrt (p 0 + smooth) - lit (Cert.EdgesIdeal.lit1 k)) (lit 0x3FA00000#32)

/-- Entry `i`, `j` of the node's own frame, of its neighbour's. -/
def own (p : Fin 26 → EReal) (i j : Fin 3) : EReal := p ⟨17 + 3 * i + j, by omega⟩
/-- The frame of the neighbour. -/
def their (p : Fin 26 → EReal) (i j : Fin 3) : EReal := p ⟨8 + 3 * i + j, by omega⟩

/-- The way to the neighbour, and its coordinates in the node's frame. -/
def way (p : Fin 26 → EReal) (j : Fin 3) : EReal := p ⟨2 + j, by omega⟩ - p ⟨5 + j, by omega⟩
/-- The way to the neighbour in the node's own frame. -/
def local3 (p : Fin 26 → EReal) (i : Fin 3) : EReal := own p i 0 * way p 0 + own p i 1 * way p 1 + own p i 2 * way p 2

/-- The rotation between the two frames. -/
def rot (p : Fin 26 → EReal) (i j : Fin 3) : EReal := own p 0 i * their p 0 j + own p 1 i * their p 1 j + own p 2 i * their p 2 j

/-- The four entries of the quaternion before it is made a unit: the launch writes a negation as a difference from zero. -/
def half (x : EReal) : EReal := lit 0x3F000000#32 * Ideal.sqrt (max (lit 0x3F800000#32 + x) (-(lit 0x3F800000#32 + x)))
/-- The fourth part of the quaternion. -/
def quatW (p : Fin 26 → EReal) : EReal :=
  Ideal.div (Ideal.sqrt (max (lit 0x3F800000#32 + (rot p 0 0 + rot p 1 1 + rot p 2 2)) (lit 0x00000000#32))) (lit 0x40000000#32)

/-- The sign as the launch selects it. -/
def signSel (a : EReal) : EReal :=
  Scalar.select (FloatOps.cmpf (F := Ideal) (φ := .f32) .ogt (FloatOps.absf (F := Ideal) (φ := .f32) a) (Scalar.ofBits .f32 0x00000000#32))
    (Scalar.select (FloatOps.cmpf (F := Ideal) (φ := .f32) .olt a (Scalar.ofBits .f32 0x00000000#32)) (Scalar.ofBits (F := Ideal) .f32 0xBF800000#32)
      (Scalar.ofBits (F := Ideal) .f32 0x3F800000#32)) a

/-- The quaternion as the launch computes it. -/
def quatK (p : Fin 26 → EReal) : Fin 4 → EReal := ![
  signSel (rot p 2 1 - rot p 1 2) * half (rot p 0 0 - rot p 1 1 - rot p 2 2),
  signSel (rot p 0 2 - rot p 2 0) * half (lit 0x00000000#32 - rot p 0 0 + rot p 1 1 - rot p 2 2),
  signSel (rot p 1 0 - rot p 0 1) * half (lit 0x00000000#32 - rot p 0 0 - rot p 1 1 + rot p 2 2),
  quatW p]

/-- The quaternion as the plain program computes it. -/
def quat (p : Fin 26 → EReal) : Fin 4 → EReal := ![
  Ideal.sign (rot p 2 1 - rot p 1 2) * half (rot p 0 0 - rot p 1 1 - rot p 2 2),
  Ideal.sign (rot p 0 2 - rot p 2 0) * half (-rot p 0 0 + rot p 1 1 - rot p 2 2),
  Ideal.sign (rot p 1 0 - rot p 0 1) * half (-rot p 0 0 - rot p 1 1 + rot p 2 2),
  quatW p]

/-- The two agree. -/
theorem quatK_eq (p : Fin 26 → EReal) : quatK p = quat p := by
  have hs : ∀ a, signSel a = Ideal.sign a := fun a => jnp_sign a
  have hz : ∀ x : EReal, lit 0x00000000#32 - x = -x := fun x => by
    rw [show lit 0x00000000#32 = 0 from Ideal.ofBits_zero_f32, zero_sub]
  unfold quatK quat
  simp only [hs, hz]
where jnp_sign (a : EReal) : signSel a = Ideal.sign a := Ideal.jnp_sign_eq_sign_f32 a

/-- The lengths of the two vectors. -/
def norm3 (u : Fin 3 → EReal) : EReal := Ideal.sqrt (u 0 * u 0 + u 1 * u 1 + u 2 * u 2)
/-- The length of four numbers. -/
def norm4 (u : Fin 4 → EReal) : EReal := Ideal.sqrt (u 0 * u 0 + u 1 * u 1 + u 2 * u 2 + u 3 * u 3)

/-- Row `k` of the features as the launch writes it; row 39 is zero. -/
def featK (p : Fin 26 → EReal) (k : Fin 40) : EReal :=
  if h : k.val < 8 then Ideal.cos (reduced (angle p ⟨k, h⟩))
  else if h : k.val - 8 < 8 then Ideal.sin (reduced (angle p ⟨k - 8, h⟩))
  else if h : k.val - 16 < 16 then Ideal.exp (lit 0x00000000#32 - widths p ⟨k - 16, h⟩ * widths p ⟨k - 16, h⟩)
  else if h : k.val - 32 < 3 then
    local3 p ⟨k - 32, h⟩ * Ideal.div (lit 0x3F800000#32) (max (norm3 (local3 p)) tiny)
  else if h : k.val - 35 < 4 then
    quatK p ⟨k - 35, h⟩ * Ideal.div (lit 0x3F800000#32) (max (norm4 (quatK p)) tiny)
  else lit 0x00000000#32

/-- The features as the plain program writes them. -/
def feat (p : Fin 26 → EReal) (k : Fin 39) : EReal :=
  if h : k.val < 8 then Ideal.cos (angle p ⟨k, h⟩)
  else if h : k.val - 8 < 8 then Ideal.sin (angle p ⟨k - 8, h⟩)
  else if h : k.val - 16 < 16 then Ideal.exp (-(widths p ⟨k - 16, h⟩ * widths p ⟨k - 16, h⟩))
  else if h : k.val - 32 < 3 then Ideal.div (local3 p ⟨k - 32, h⟩) (max (norm3 (local3 p)) tiny)
  else if h : k.val - 35 < 4 then Ideal.div (quat p ⟨k - 35, h⟩) (max (norm4 (quat p)) tiny)
  else 0

/-- The literal one is one. -/
theorem lit_one : lit 0x3F800000#32 = 1 := IdealRules.sign_bit.ideal_onePat .f32
/-- The literal zero is zero. -/
theorem lit_zero : lit 0x00000000#32 = 0 := Ideal.ofBits_zero_f32

/-- The two agree on the thirty-nine rows. -/
theorem featK_eq (p : Fin 26 → EReal) (k : Fin 39) : featK p k.castSucc = feat p k := by
  unfold featK feat
  simp only [quatK_eq, lit_one, lit_zero, cos_reduced, sin_reduced, zero_sub, mul_recip _ _ (max_tiny_ne _), Fin.val_castSucc]

/-- And the launch's last row is zero. -/
theorem featK_last (p : Fin 26 → EReal) : featK p (Fin.last 39) = 0 := lit_zero

end Cert.Proof.Edge

end
-- ==== Proof.EdgeRows.lean ====
/-
  The scratch of the third launch: row `k` of it holds feature `k` of the edges of the block.
-/
module

public import proofs.«01_k».proof.Proof.EdgeMath
public import Idealize.ShloMosaic.Lib.Pipeline.ValueKit.Tiles

@[expose] public section

set_option maxRecDepth 16384

noncomputable section

namespace Cert.Proof.Edge

open Cert.FeaturesIdeal Cert.FeaturesIdeal.Gen Idealize.ShloMosaic Idealize.ShloMosaic.TcCoe Idealize.ShloMosaic.Pipeline

/-- The planes of the edge at place `r`, `l` of the block. -/
def planesAt (x : Vec Ideal S26x1x8x512 .f32) (r : Fin 8) (l : Fin 512) (p : Fin 26) : EReal := x (ix4 p 0 r l)

/-- Plane `k` of the block. -/
def plane (x : Vec Ideal S26x1x8x512 .f32) (k : Fin 26) : FVec Ideal S8x512 .f32 := fun j => planesAt x (j 0) (j 1) k

variable (c : Dev nD) (arg1 : Memref sig .tc .vmem S26x1x8x512 .f32) (harg1 : arg1.IsWhole) (x : Vec Ideal S26x1x8x512 .f32)

/-- Loading plane `n` of the block and dropping its unit axes. -/
theorem load_plane (n : ℕ) (inb : ∀ a, (![n, 0, 0, 0] : Fin 4 → ℕ) a + S1x1x8x512.size a ≤ S26x1x8x512.size a) (h : S1x1x8x512.ShapeCasts S8x512) :
    shapeCast S8x512 (View.readAt (Elt Ideal) arg1.view (Rect.unit (s := S26x1x8x512) ![n, 0, 0, 0] S1x1x8x512.size inb).toLoadRect
      (harg1.unread (Val := Elt Ideal) x) : FVec Ideal S1x1x8x512 .f32) h = plane x ⟨n, inb 0⟩ := by
  funext j
  rw [shapeCast_apply _ h j (ix4 0 0 (j 0) (j 1)) (by
    rw [Shape.rowMajor_val_two, Shape.rowMajor_val_four]; simp [ix4])]
  rw [View.readAt_eq_ld, harg1.read_unread]
  refine congrArg x (funext fun a => Fin.ext ?_)
  fin_cases a <;> simp [ix4]

/-- A vector over the block's edges, given a unit axis, at a place. -/
theorem widen (v : FVec Ideal S8x512 .f32) (h : S8x512.ShapeCasts S8x1x512) (h' : S8x1x512.ShapeCasts S8x1x512) (r : Fin 8) (l : Fin 512) :
    shapeCast S8x1x512 (shapeCast S8x1x512 v h) h' (ix3 r 0 l) = v (ix2 r l) := by
  rw [shapeCast_apply _ h' _ _ rfl, shapeCast_apply _ h _ (ix2 r l) (by
    rw [Shape.rowMajor_val_two, Shape.rowMajor_val_three]
    simp [ix2, ix3])]

/-- A store into row `k`, where it holds the place. -/
theorem tile (k : ℕ) (hk : k < 40) (w : FVec Ideal S8x1x512 .f32) (hw : ∀ (r : Fin 8) (l : Fin 512), w (ix3 r 0 l) = featK (planesAt x r l) ⟨k, hk⟩) (y : S8x40x512.Idx) :
    View.TileAt (Val := Elt Ideal) (S := S8x40x512) (e := .f32) y ![0, k, 0] S8x1x512.size w (featK (planesAt x (y 0) (y 2)) (y 1)) := by
  intro i hi
  have h0 := hi 0
  have h1 := hi 1
  have h2 := hi 2
  have b1 : (i 1).val = 0 := by have : (i 1).val < 1 := (i 1).isLt; omega
  have e0 : y 0 = i 0 := Fin.ext (by simpa using h0)
  have e1 : y 1 = ⟨k, hk⟩ := Fin.ext (by simpa [b1] using h1)
  have e2 : y 2 = i 2 := Fin.ext (by simpa using h2)
  rw [e0, e1, e2]
  refine Eq.trans (congrArg w (funext fun a => Fin.ext ?_)) (hw (i 0) (i 2))
  fin_cases a
  · rfl
  · exact b1
  · rfl

/-- The twenty-six planes as the launch loads them. -/
theorem planes_eq :
    kernelRun0_A.sl.r c arg1 harg1 x = plane x 0 ∧
    kernelRun0_A.sl.r_1 c arg1 harg1 x = plane x 1 ∧
    kernelRun0_A.sl.r_2 c arg1 harg1 x = plane x 2 ∧
    kernelRun0_A.sl.r_3 c arg1 harg1 x = plane x 3 ∧
    kernelRun0_A.sl.r_4 c arg1 harg1 x = plane x 4 ∧
    kernelRun0_A.sl.r_5 c arg1 harg1 x = plane x 5 ∧
    kernelRun0_A.sl.r_6 c arg1 harg1 x = plane x 6 ∧
    kernelRun0_A.sl.r_7 c arg1 harg1 x = plane x 7 ∧
    kernelRun0_A.sl.r_8 c arg1 harg1 x = plane x 8 ∧
    kernelRun0_A.sl.r_10 c arg1 harg1 x = plane x 9 ∧
    kernelRun0_A.sl.r_11 c arg1 harg1 x = plane x 10 ∧
    kernelRun0_A.sl.r_12 c arg1 harg1 x = plane x 11 ∧
    kernelRun0_A.sl.r_13 c arg1 harg1 x = plane x 12 ∧
    kernelRun0_A.sl.r_14 c arg1 harg1 x = plane x 13 ∧
    kernelRun0_A.sl.r_15 c arg1 harg1 x = plane x 14 ∧
    kernelRun0_A.sl.r_16 c arg1 harg1 x = plane x 15 ∧
    kernelRun0_A.sl.r_17 c arg1 harg1 x = plane x 16 ∧
    kernelRun0_A.sl.r_18 c arg1 harg1 x = plane x 17 ∧
    kernelRun0_A.sl.r_19 c arg1 harg1 x = plane x 18 ∧
    kernelRun0_A.sl.r_21 c arg1 harg1 x = plane x 19 ∧
    kernelRun0_A.sl.r_22 c arg1 harg1 x = plane x 20 ∧
    kernelRun0_A.sl.r_23 c arg1 harg1 x = plane x 21 ∧
    kernelRun0_A.sl.r_24 c arg1 harg1 x = plane x 22 ∧
    kernelRun0_A.sl.r_25 c arg1 harg1 x = plane x 23 ∧
    kernelRun0_A.sl.r_26 c arg1 harg1 x = plane x 24 ∧
    kernelRun0_A.sl.r_27 c arg1 harg1 x = plane x 25 := by
  refine ⟨?_, ?_, ?_, ?_, ?_, ?_, ?_, ?_, ?_, ?_, ?_, ?_, ?_, ?_, ?_, ?_, ?_, ?_, ?_, ?_, ?_, ?_, ?_, ?_, ?_, ?_⟩ <;> exact load_plane arg1 harg1 x _ _ _

/-- Entry `i`, `j` of the rotation over the block. -/
def rotation (i j : Fin 3) : FVec Ideal S8x512 .f32 := fun e => rot (planesAt x (e 0) (e 1)) i j

/-- The nine entries of the rotation as the launch computes them. -/
theorem rotation_eq :
    kernelRun0_A.sl.r_94 c arg1 harg1 x = rotation x 0 0 ∧
    kernelRun0_A.sl.r_95 c arg1 harg1 x = rotation x 0 1 ∧
    kernelRun0_A.sl.r_96 c arg1 harg1 x = rotation x 0 2 ∧
    kernelRun0_A.sl.r_97 c arg1 harg1 x = rotation x 1 0 ∧
    kernelRun0_A.sl.r_98 c arg1 harg1 x = rotation x 1 1 ∧
    kernelRun0_A.sl.r_99 c arg1 harg1 x = rotation x 1 2 ∧
    kernelRun0_A.sl.r_100 c arg1 harg1 x = rotation x 2 0 ∧
    kernelRun0_A.sl.r_101 c arg1 harg1 x = rotation x 2 1 ∧
    kernelRun0_A.sl.r_102 c arg1 harg1 x = rotation x 2 2 := by
  obtain ⟨h0, h1, h2, h3, h4, h5, h6, h7, h8, h9, h10, h11, h12, h13, h14, h15, h16, h17, h18, h19, h20, h21, h22, h23, h24, h25⟩ := planes_eq c arg1 harg1 x
  refine ⟨?_, ?_, ?_, ?_, ?_, ?_, ?_, ?_, ?_⟩
  all_goals
    simp only [kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102,
      h8, h9, h10, h11, h12, h13, h14, h15, h16, h17, h18, h19, h20, h21, h22, h23, h24, h25]
    rfl

/-- Entry `i` of the quaternion over the block. -/
def quaternion (i : Fin 4) : FVec Ideal S8x512 .f32 := fun e => quatK (planesAt x (e 0) (e 1)) i

/-- The four entries of the quaternion as the launch computes them. -/
theorem quaternion_eq :
    k0_pay123 (kernelRun0_A.sl.r_104 c arg1 harg1 x) (kernelRun0_A.sl.r_107 c arg1 harg1 x) = quaternion x 0 ∧
    k0_pay124 (kernelRun0_A.sl.r_105 c arg1 harg1 x) (kernelRun0_A.sl.r_108 c arg1 harg1 x) = quaternion x 1 ∧
    k0_pay125 (kernelRun0_A.sl.r_106 c arg1 harg1 x) (kernelRun0_A.sl.r_109 c arg1 harg1 x) (kernelRun0_A.sl.r_110 c arg1 harg1 x) (kernelRun0_A.sl.r_111 c arg1 harg1 x) k0_pay122 = quaternion x 2 ∧
    k0_pay126 (kernelRun0_A.sl.r_94 c arg1 harg1 x) (kernelRun0_A.sl.r_98 c arg1 harg1 x) (kernelRun0_A.sl.r_102 c arg1 harg1 x) = quaternion x 3 := by
  obtain ⟨R0, R1, R2, R3, R4, R5, R6, R7, R8⟩ := rotation_eq c arg1 harg1 x
  have D0 := R0
  have D1 := R4
  have D2 := R8
  simp only [kernelRun0_A.sl.r_94, kernelRun0_A.sl.r_98, kernelRun0_A.sl.r_102] at D0 D1 D2
  simp only [k0_pay113, D0, D1, D2, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, R0, R1, R2, R3, R4, R5, R6, R7, R8]
  refine ⟨?_, ?_, ?_, ?_⟩
  · rfl
  · rfl
  · rfl
  · rfl

set_option maxHeartbeats 800000 in
/-- Every store into the scratch holds its feature. -/
theorem rows_allAt (y : S8x40x512.Idx) :
    View.AllAt (kernelRun0_A.sl.HS0_40 (F := Ideal) c arg1 harg1 x) y (featK (planesAt x (y 0) (y 2)) (y 1)) := by
  obtain ⟨h0, h1, h2, h3, h4, h5, h6, h7, h8, h9, h10, h11, h12, h13, h14, h15, h16, h17, h18, h19, h20, h21, h22, h23, h24, h25⟩ := planes_eq c arg1 harg1 x
  obtain ⟨Q0, Q1, Q2, Q3⟩ := quaternion_eq c arg1 harg1 x
  unfold kernelRun0_A.sl.HS0_40
  repeat' first | exact View.allAt_nil _ _ | refine View.allAt_cons_unit _ _ _ _ _ ?_ ?_
  all_goals
    refine tile x _ (by decide) _ (fun r l => ?_) y
    simp only [kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, k0_pay127, k0_pay128, k0_pay129,
      k0_pay130, k0_pay131, k0_pay133, k0_pay134, k0_pay135, k0_pay136, k0_pay137, k0_pay138, k0_pay139, k0_pay140, k0_pay141, k0_pay142,
      k0_pay143, k0_pay144, k0_pay145, k0_pay146, k0_pay147, k0_pay148, k0_pay149, k0_pay150, k0_pay151, k0_pay152, k0_pay153, k0_pay154,
      k0_pay155, k0_pay156, k0_pay157, k0_pay158, k0_pay159, k0_pay160, k0_pay161, k0_pay162, k0_pay163, k0_pay164, k0_pay165, k0_pay166,
      k0_pay167, k0_pay168, k0_pay169, k0_pay170, k0_pay171, k0_pay172, k0_pay173, k0_pay174, widen, Q0, Q1, Q2, Q3]
    try simp only [kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39,
      kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51,
      kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63,
      kernelRun0_A.sl.r_64, kernelRun0_A.sl.r_65, kernelRun0_A.sl.r_66, kernelRun0_A.sl.r_67, kernelRun0_A.sl.r_68, kernelRun0_A.sl.r_87, kernelRun0_A.sl.r_88, kernelRun0_A.sl.r_89, kernelRun0_A.sl.r_90, kernelRun0_A.sl.r_91, kernelRun0_A.sl.r_92, kernelRun0_A.sl.r_93,
      h0, h1, h2, h3, h4, h5, h6, h7, h8, h9, h10, h11, h12, h13, h14, h15, h16, h17,
      h18, h19, h20, h21, h22, h23, h24, h25]
    rfl

end Cert.Proof.Edge

end
-- ==== Proof.EdgeBlock.lean ====
/-
  One block of the third launch: eight rows of 512 edges, each row a product of its features with the weights, normalised
  over its 128 columns.
-/
module

public import proofs.«01_k».proof.Proof.EdgeRows

@[expose] public section

set_option maxRecDepth 16384

noncomputable section

namespace Cert.Proof.Edge

open Cert.FeaturesIdeal Cert.FeaturesIdeal.Gen Idealize.ShloMosaic Idealize.ShloMosaic.TcCoe Idealize.ShloMosaic.Pipeline Cert.Proof.Knn

/-- The mean of 128 numbers, and their spread about it. -/
def mean (v : Fin 128 → EReal) : EReal := Ideal.div (∑ k, v k) (lit 0x43000000#32)
/-- The spread of 128 numbers about their mean. -/
def spread (v : Fin 128 → EReal) : EReal :=
  Ideal.sqrt (Ideal.div (∑ k, (v k - mean v) * (v k - mean v)) (lit 0x42FE0000#32) + smooth)

/-- The numbers less their mean, over their spread, scaled and shifted. -/
def normed (v g s : Fin 128 → EReal) (k : Fin 128) : EReal := Ideal.div (g k * (v k - mean v)) (spread v + smooth) + s k

/-- What the launch stores for one row of edges, at edge `l` and column `q`. -/
theorem row_block (b g s : FVec Ideal S1x128 .f32) (w : FVec Ideal S40x128 .bf16) (v : Vec Ideal S1x40x512 .f32) (l : Fin 512) (q : Fin 128) :
    k0_pay180 (F := Ideal) b g s w v (ix4 0 0 l q)
      = normed (fun q => (∑ k : Fin 40, v (ix3 0 k l) * w (ix2 k q)) + b (ix2 0 q)) (fun q => g (ix2 0 q)) (fun q => s (ix2 0 q)) q := by
  unfold normed spread mean smooth
  pointwise [k0_pay180]

/-- Dropping no axis of a vector leaves the vector. -/
theorem shapeCast_refl {α : Type} (s : Shape) (v : s.Idx → α) (h : s.ShapeCasts s) : shapeCast s v h = v :=
  funext fun j => shapeCast_apply v h j j rfl

variable (c : Dev nD) (arg1 : Memref sig .tc .vmem S26x1x8x512 .f32) (harg1 : arg1.IsWhole) (arg2 : Memref sig .tc .vmem S40x128 .f32) (harg2 : arg2.IsWhole)
  (arg3 : Memref sig .tc .vmem S1x128 .f32) (harg3 : arg3.IsWhole) (arg7 : Memref sig .tc .vmem S8x40x512 .f32)
  (x : Vec Ideal S26x1x8x512 .f32)

/-- Row `r` of the scratch read back, at feature `k` of edge `l`. -/
theorem scratch_row (r : ℕ) (inb : ∀ a, (![r, 0, 0] : Fin 3 → ℕ) a + S1x40x512.size a ≤ S8x40x512.size a) (k : Fin 40) (l : Fin 512) :
    (arg7.view.readCov (kernelRun0_A.sl.HS0_40 (F := Ideal) c arg1 harg1 x)
      (Rect.unit (s := S8x40x512) ![r, 0, 0] S1x40x512.size inb).toLoadRect : Vec Ideal S1x40x512 .f32) (ix3 0 k l)
      = featK (planesAt x ⟨r, inb 0⟩ l) k := by
  rw [View.readCov_eq_canon']
  have e : (Rect.unit (s := S8x40x512) ![r, 0, 0] S1x40x512.size inb).toLoadRect.idx (ix3 0 k l) = ix3 ⟨r, inb 0⟩ k l := by
    funext a
    apply Fin.ext
    fin_cases a <;> simp [ix3, Rect.unit]
  refine (congrArg _ e).trans ?_
  refine View.canon_eq_of_allAt _ _ _ ?_ (rows_allAt c arg1 harg1 x (ix3 ⟨r, inb 0⟩ k l))
  unfold kernelRun0_A.sl.HS0_40
  exact View.cover_of_tiled_head _ _ _ (by rfl) _

/-- The origin of a table is the zero index. -/
theorem zero2 : (![0, 0] : Fin 2 → ℕ) = fun _ => 0 := funext fun a => by fin_cases a <;> rfl

/-- Loading the whole of a two-axis block reads the block. -/
theorem load_whole {S : Shape} (h2 : S.rank = 2) (a : Memref sig .tc .vmem S .f32) (ha : a.IsWhole) (off : Fin S.rank → ℕ) (h0 : off = fun _ => 0)
    (inb : ∀ i, off i + S.size i ≤ S.size i) (y : Vec Ideal S .f32) :
    View.readAt (Elt Ideal) a.view (Rect.unit (s := S) off S.size inb).toLoadRect (ha.unread (Val := Elt Ideal) y) = y := by
  rw [View.readAt_eq_ld, ha.read_unread, View.ld_unit_zero h0]

/-- The weights and the three rows of 128 as the launch loads them. -/
theorem load_weights (y : Vec Ideal S40x128 .f32) : kernelRun0_A.sl.r_125 (F := Ideal) c arg2 harg2 y = y := by
  unfold kernelRun0_A.sl.r_125 k0_pay178 kernelRun0_A.sl.r_121
  rw [load_whole rfl _ _ _ zero2]
  exact shapeCast_refl _ y _

/-- A row of 128 is loaded whole, in each of its three uses. -/
theorem load_bias (y : Vec Ideal S1x128 .f32) : kernelRun0_A.sl.r_122 (F := Ideal) c arg3 harg3 y = y ∧
    kernelRun0_A.sl.r_123 (F := Ideal) c arg3 harg3 y = y ∧ kernelRun0_A.sl.r_124 (F := Ideal) c arg3 harg3 y = y := by
  unfold kernelRun0_A.sl.r_122 kernelRun0_A.sl.r_123 kernelRun0_A.sl.r_124 k0_pay175 k0_pay176 k0_pay177
  rw [load_whole rfl _ _ _ zero2]
  exact ⟨shapeCast_refl _ y _, shapeCast_refl _ y _, shapeCast_refl _ y _⟩

/-- What the block holds at row `r`, edge `l`, column `q`. -/
def blockVal (x : Vec Ideal S26x1x8x512 .f32) (w : Vec Ideal S40x128 .f32) (b g s : Vec Ideal S1x128 .f32) (r : Fin 8) (l : Fin 512) (q : Fin 128) : EReal :=
  normed (fun q => (∑ k : Fin 40, featK (planesAt x r l) k * w (ix2 k q)) + b (ix2 0 q)) (fun q => g (ix2 0 q)) (fun q => s (ix2 0 q)) q

/-- A store of one row of the block, where it holds the place. -/
theorem block_tile (w : Vec Ideal S40x128 .f32) (b g s : Vec Ideal S1x128 .f32) (v : Vec Ideal S1x40x512 .f32) (r : ℕ) (hr : r < 8)
    (hv : ∀ (k : Fin 40) (l : Fin 512), v (ix3 0 k l) = featK (planesAt x ⟨r, hr⟩ l) k) (y : S1x8x512x128.Idx) :
    View.TileAt (Val := Elt Ideal) (S := S1x8x512x128) (e := .f32) y ![0, r, 0, 0] S1x1x512x128.size (k0_pay180 (F := Ideal) b g s w v)
      (blockVal x w b g s (y 1) (y 2) (y 3)) := by
  intro i hi
  have h1 := hi 1
  have h2 := hi 2
  have h3 := hi 3
  have b0 : (i 0).val = 0 := by have : (i 0).val < 1 := (i 0).isLt; omega
  have b1 : (i 1).val = 0 := by have : (i 1).val < 1 := (i 1).isLt; omega
  have e1 : y 1 = ⟨r, hr⟩ := Fin.ext (by simpa [b1] using h1)
  have e2 : y 2 = i 2 := Fin.ext (by simpa using h2)
  have e3 : y 3 = i 3 := Fin.ext (by simpa using h3)
  rw [e1, e2, e3]
  refine Eq.trans (congrArg _ (funext fun a => Fin.ext ?_)) ((row_block b g s w v (i 2) (i 3)).trans ?_)
  · fin_cases a
    · exact b0
    · exact b1
    · rfl
    · rfl
  · exact congrArg (fun u : Fin 40 → EReal => normed (fun q => (∑ k : Fin 40, u k * w (ix2 k q)) + b (ix2 0 q)) (fun q => g (ix2 0 q))
      (fun q => s (ix2 0 q)) (i 3)) (funext fun k => hv k (i 2))

variable (i : grid0.Coords) (arg4 : Memref sig .tc .vmem S1x128 .f32) (harg4 : arg4.IsWhole) (arg5 : Memref sig .tc .vmem S1x128 .f32) (harg5 : arg5.IsWhole)
  (arg6 : Memref sig .tc .vmem S1x8x512x128 .f32) (harg6 : arg6.IsWhole) (harg7 : arg7.IsWhole) (w : Vec Ideal S40x128 .f32) (b g s : Vec Ideal S1x128 .f32)

/-- The block that one grid point leaves. -/
theorem block_eq (y : S1x8x512x128.Idx) :
    out0_A_5 (F := Ideal) c i arg1 harg1 arg2 harg2 arg3 harg3 arg4 harg4 arg5 harg5 arg6 harg6 arg7 harg7 x w b g s y
      = blockVal x w b g s (y 1) (y 2) (y 3) := by
  unfold out0_A_5
  rw [View.read_writes_junk_eq_canon]
  unfold kernelRun0_A
  dsimp only
  refine View.canon_eq_of_allAt _ _ _ (View.cover_of_tiled_head _ _ _ (by rfl) _) ?_
  have hw := load_weights c arg2 harg2 w
  have hb := (load_bias c arg3 harg3 b).1
  have hg := (load_bias c arg4 harg4 g).2.1
  have hs := (load_bias c arg5 harg5 s).2.2
  have key : ∀ (r : ℕ) (hr : r < 8) (v : Vec Ideal S1x40x512 .f32) (P : FVec Ideal S1x1x512x128 .f32)
      (_ : ∀ (k : Fin 40) (l : Fin 512), v (ix3 0 k l) = featK (planesAt x ⟨r, hr⟩ l) k)
      (_ : P = k0_pay180 (F := Ideal) (kernelRun0_A.sl.r_122 (F := Ideal) c arg3 harg3 b) (kernelRun0_A.sl.r_123 (F := Ideal) c arg4 harg4 g) (kernelRun0_A.sl.r_124 (F := Ideal) c arg5 harg5 s) (kernelRun0_A.sl.r_125 (F := Ideal) c arg2 harg2 w) v),
      View.TileAt (Val := Elt Ideal) (S := S1x8x512x128) (e := .f32) y ![0, r, 0, 0] S1x1x512x128.size P (blockVal x w b g s (y 1) (y 2) (y 3)) := by
    rintro r hr v P hv rfl
    rw [hw, hb, hg, hs]
    exact block_tile x w b g s v r hr hv y
  repeat' first | exact View.allAt_nil _ _ | refine View.allAt_cons_unit _ _ _ _ _ ?_ ?_
  · exact key 7 (by decide) (kernelRun0_A.sl.v881 (F := Ideal) c arg1 harg1 arg7 x) _ (scratch_row c arg1 harg1 arg7 x 7 _) rfl
  · exact key 6 (by decide) (kernelRun0_A.sl.v850 (F := Ideal) c arg1 harg1 arg7 x) _ (scratch_row c arg1 harg1 arg7 x 6 _) rfl
  · exact key 5 (by decide) (kernelRun0_A.sl.v819 (F := Ideal) c arg1 harg1 arg7 x) _ (scratch_row c arg1 harg1 arg7 x 5 _) rfl
  · exact key 4 (by decide) (kernelRun0_A.sl.v788 (F := Ideal) c arg1 harg1 arg7 x) _ (scratch_row c arg1 harg1 arg7 x 4 _) rfl
  · exact key 3 (by decide) (kernelRun0_A.sl.v757 (F := Ideal) c arg1 harg1 arg7 x) _ (scratch_row c arg1 harg1 arg7 x 3 _) rfl
  · exact key 2 (by decide) (kernelRun0_A.sl.v726 (F := Ideal) c arg1 harg1 arg7 x) _ (scratch_row c arg1 harg1 arg7 x 2 _) rfl
  · exact key 1 (by decide) (kernelRun0_A.sl.v695 (F := Ideal) c arg1 harg1 arg7 x) _ (scratch_row c arg1 harg1 arg7 x 1 _) rfl
  · exact key 0 (by decide) (kernelRun0_A.sl.v664 (F := Ideal) c arg1 harg1 arg7 x) _ (scratch_row c arg1 harg1 arg7 x 0 _) rfl

end Cert.Proof.Edge

end
-- ==== Proof.EdgeRun.lean ====
/-
  The third launch over the extended reals: its result as one array of the five arguments.
-/
module

public import proofs.«01_k».proof.Proof.EdgeBlock

@[expose] public section

set_option maxRecDepth 16384

noncomputable section

namespace Cert.Proof.Edge

open Cert.FeaturesIdeal Cert.FeaturesIdeal.Gen Cert.FeaturesIdeal.Value Idealize.ShloMosaic Idealize.ShloMosaic.TcCoe Idealize.SL.Sem Cert.Proof.Knn
open Idealize.ShloMosaic.Pipeline (Dat)

/-- The result array of the planes, the padded weights and the three rows of 128. -/
def edgeArr (P : Vec Ideal S26x60x8x512 .f32) (w : Vec Ideal S40x128 .f32) (b g s : Vec Ideal S1x128 .f32) : Vec Ideal S60x8x512x128 .f32 := fun e =>
  normed (fun q => (∑ k : Fin 40, featK (fun p => P (ix4 p (e 0) (e 1) (e 2))) k * w (ix2 k q)) + b (ix2 0 q)) (fun q => g (ix2 0 q)) (fun q => s (ix2 0 q)) (e 3)

variable (m : (ℓ : Loc nD τ sig) → Buf (Elt Ideal) ℓ) (ρ : Dev nD → PrngReg)

/-- The block index of every window at a grid point: the point along one axis for the planes and the result, zero for the
    rest. -/
theorem idx0 : ∀ t : Fin cfg0.N, win0_0.index t (0 : Fin 4) = 0 ∧ win0_0.index t (1 : Fin 4) = t.val ∧ win0_0.index t (2 : Fin 4) = 0 ∧ win0_0.index t (3 : Fin 4) = 0 :=
  (by decide +kernel : ∀ t : Fin grid0.N, _)
/-- The block of the result that a step writes. -/
theorem idx5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)
/-- The weights are one block at every step. -/
theorem idx1 : ∀ t : Fin cfg0.N, win0_1.index t (0 : Fin 2) = 0 ∧ win0_1.index t (1 : Fin 2) = 0 := (by decide +kernel : ∀ t : Fin grid0.N, _)
/-- So is the bias, -/
theorem idx2 : ∀ t : Fin cfg0.N, win0_2.index t (0 : Fin 2) = 0 ∧ win0_2.index t (1 : Fin 2) = 0 := (by decide +kernel : ∀ t : Fin grid0.N, _)
/-- and the scale, -/
theorem idx3 : ∀ t : Fin cfg0.N, win0_3.index t (0 : Fin 2) = 0 ∧ win0_3.index t (1 : Fin 2) = 0 := (by decide +kernel : ∀ t : Fin grid0.N, _)
/-- and the shift. -/
theorem idx4 : ∀ t : Fin cfg0.N, win0_4.index t (0 : Fin 2) = 0 ∧ win0_4.index t (1 : Fin 2) = 0 := (by decide +kernel : ∀ t : Fin grid0.N, _)

/-- An index of the planes' block, of the result's, in the whole array. -/
theorem emb0 (t : Fin cfg0.N) (j : S26x1x8x512.Idx) : ((cfg0.win 0).blk t).view.emb j = ix4 (j 0) t (j 2) (j 3) := by
  obtain ⟨e0, e1, e2, e3⟩ := idx0 t
  have h1 : (j 1).val < 1 := (j 1).isLt
  funext a
  apply Fin.ext
  match a with
  | ⟨0, _⟩ => show win0_0.index t (0 : Fin 4) * 26 + 1 * (j 0).val = (j 0).val; omega
  | ⟨1, _⟩ => show win0_0.index t (1 : Fin 4) * 1 + 1 * (j 1).val = t.val; omega
  | ⟨2, _⟩ => show win0_0.index t (2 : Fin 4) * 8 + 1 * (j 2).val = (j 2).val; omega
  | ⟨3, _⟩ => show win0_0.index t (3 : Fin 4) * 512 + 1 * (j 3).val = (j 3).val; omega

/-- Where an entry of a step's block lies in the result. -/
theorem emb5 (t : Fin cfg0.N) (j : S1x8x512x128.Idx) : ((cfg0.win 5).blk t).view.emb j = ix4 t (j 1) (j 2) (j 3) := by
  obtain ⟨e0, e1, e2, e3⟩ := idx5 t
  have h1 : (j 0).val < 1 := (j 0).isLt
  funext a
  apply Fin.ext
  match a with
  | ⟨0, _⟩ => show win0_5.index t (0 : Fin 4) * 1 + 1 * (j 0).val = t.val; omega
  | ⟨1, _⟩ => show win0_5.index t (1 : Fin 4) * 8 + 1 * (j 1).val = (j 1).val; omega
  | ⟨2, _⟩ => show win0_5.index t (2 : Fin 4) * 512 + 1 * (j 2).val = (j 2).val; omega
  | ⟨3, _⟩ => show win0_5.index t (3 : Fin 4) * 128 + 1 * (j 3).val = (j 3).val; omega

/-- The other four operands are staged whole. -/
theorem iblk1 (c : Dev nD) (t : Fin cfg0.N) : iblk m c 1 t = V m c main_v3 := by
  obtain ⟨e0, e1⟩ := idx1 t
  funext j
  refine congrArg (V m c main_v3) (funext fun a => Fin.ext ?_)
  match a with
  | ⟨0, _⟩ => show win0_1.index t (0 : Fin 2) * 40 + 1 * (j 0).val = (j 0).val; omega
  | ⟨1, _⟩ => show win0_1.index t (1 : Fin 2) * 128 + 1 * (j 1).val = (j 1).val; omega

/-- A step reads the bias whole, -/
theorem iblk2 (c : Dev nD) (t : Fin cfg0.N) : iblk m c 2 t = V m c main_v4 := by
  obtain ⟨e0, e1⟩ := idx2 t
  funext j
  refine congrArg (V m c main_v4) (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- the scale whole, -/
theorem iblk3 (c : Dev nD) (t : Fin cfg0.N) : iblk m c 3 t = V m c main_v5 := by
  obtain ⟨e0, e1⟩ := idx3 t
  funext j
  refine congrArg (V m c main_v5) (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- and the shift whole. -/
theorem iblk4 (c : Dev nD) (t : Fin cfg0.N) : iblk m c 4 t = V m c main_v6 := by
  obtain ⟨e0, e1⟩ := idx4 t
  funext j
  refine congrArg (V m c main_v6) (funext fun a => Fin.ext ?_)
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- The planes of an edge of the block are those of the edge. -/
theorem planes_block (c : Dev nD) (t : Fin cfg0.N) (r : Fin 8) (l : Fin 512) :
    planesAt (iblk m c 0 t) r l = fun p => (V m c main_v0 : Vec Ideal S26x60x8x512 .f32) (ix4 p t r l) := by
  funext p
  show V m c main_v0 (((cfg0.win 0).blk t).view.emb (ix4 p 0 r l)) = _
  rw [emb0]
  rfl

/-- What a grid point writes back is its block of the result array. -/
theorem flushed_eq (c : Dev nD) (t : Fin cfg0.N) :
    (dats m 0 c).flushed 5 t = ((cfg0.win 5).blk t).view.read (Elt Ideal)
      (edgeArr (V m c main_v0) (V m c main_v3) (V m c main_v4) (V m c main_v5) (V m c main_v6)) := by
  rw [flushed5_A, iblk1, iblk2, iblk3, iblk4]
  funext j
  refine (block_eq c _ _ _ _ _ _ _ _ _ _ _ _ _ _ _ _ _ _ _ _ j).trans ?_
  show _ = edgeArr _ _ _ _ _ (((cfg0.win 5).blk t).view.emb j)
  rw [emb5]
  exact congrArg (fun P : Fin 26 → EReal => normed (fun q => (∑ k : Fin 40, featK P k * (V m c main_v3 : Vec Ideal S40x128 .f32) (ix2 k q))
    + (V m c main_v4 : Vec Ideal S1x128 .f32) (ix2 0 q)) (fun q => (V m c main_v5 : Vec Ideal S1x128 .f32) (ix2 0 q))
    (fun q => (V m c main_v6 : Vec Ideal S1x128 .f32) (ix2 0 q)) (j 3)) (planes_block m c t (j 1) (j 2))

/-- Every place of the result is in some point's block. -/
theorem mem_block (t : Fin cfg0.N) (j : S1x8x512x128.Idx) (e : S60x8x512x128.Idx) (h : ix4 t (j 1) (j 2) (j 3) = e) :
    e ∈ ((cfg0.win 5).blk t).view.set := by
  subst h
  have h := ((cfg0.win 5).blk t).view.emb_mem_set j
  rwa [emb5] at h

/-- Every entry of the result is in the block of a step that writes it. -/
theorem covered (e : S60x8x512x128.Idx) : ∃ t : Fin cfg0.N, (cfg0.win 5).flush t = true ∧ e ∈ ((cfg0.win 5).blk t).view.set :=
  ⟨(e 0 : Fin 60), flush0_5 _, mem_block (e 0) (ix4 0 (e 1) (e 2) (e 3)) e (funext fun a => by
    match a with
    | ⟨0, _⟩ => rfl
    | ⟨1, _⟩ => rfl
    | ⟨2, _⟩ => rfl
    | ⟨3, _⟩ => rfl)⟩

/-- The result array after the run. -/
theorem final5 (c : Dev nD) : (dats m 0 c).arrAt 5 cfg0.N
    = edgeArr (V m c main_v0) (V m c main_v3) (V m c main_v4) (V m c main_v5) (V m c main_v6) :=
  (dats m 0 c).arrAt_eq_of_cover 5 _ (fun t _ => flushed_eq m c t) covered

/-- The planes as the host leaves them, in blocks. -/
def planes4 (a : FVec Ideal S6389760 .f32) : Vec Ideal S26x60x8x512 .f32 := shapeCast _ a shapeCasts_S6389760_S26x60x8x512
/-- The weights transposed, with a row of zeros. -/
def padded (a : FVec Ideal S128x39 .f32) : Vec Ideal S40x128 .f32 :=
  concatenate S40x128 0 [⟨S39x128, transpose S39x128 [1, 0] a transposes_S128x39_S39x128_1_0⟩,
    ⟨S1x128, broadcastInDim S1x128 ![] bcast_S_S1x128 (constant (F := Ideal) S_ .f32 0x00000000#32)⟩] concatenates_S39x128_S1x128_S40x128_d0
/-- A row of 128 with a unit axis. -/
def row1 (a : FVec Ideal S128 .f32) : Vec Ideal S1x128 .f32 := shapeCast _ a shapeCasts_S128_S1x128

/-- What the launch finds as its planes, -/
theorem V_v0 (c : Dev nD) : V m c main_v0 = planes4 (m ((c : Thread nD τ).loc main_arg0)) := by
  show StableHlo.after hostOps0 _ (Proc.devRef .tc main_v0) = _
  after_results
  rfl
/-- as its weights, -/
theorem V_v3 (c : Dev nD) : V m c main_v3 = padded (m ((c : Thread nD τ).loc main_arg1)) := by
  show StableHlo.after hostOps0 _ (Proc.devRef .tc main_v3) = _
  after_results
  rfl
/-- as its bias, -/
theorem V_v4 (c : Dev nD) : V m c main_v4 = row1 (m ((c : Thread nD τ).loc main_arg2)) := by
  show StableHlo.after hostOps0 _ (Proc.devRef .tc main_v4) = _
  after_results
  rfl
/-- as its scale, -/
theorem V_v5 (c : Dev nD) : V m c main_v5 = row1 (m ((c : Thread nD τ).loc main_arg3)) := by
  show StableHlo.after hostOps0 _ (Proc.devRef .tc main_v5) = _
  after_results
  rfl
/-- and as its shift. -/
theorem V_v6 (c : Dev nD) : V m c main_v6 = row1 (m ((c : Thread nD τ).loc main_arg4)) := by
  show StableHlo.after hostOps0 _ (Proc.devRef .tc main_v6) = _
  after_results
  rfl

end Cert.Proof.Edge

end
-- ==== Proof.EdgeRef.lean ====
/-
  The plain program of the edges' features on the extended reals, read at an edge.
-/
module

public import proofs.«01_k».proof.Proof.EdgeBlock

@[expose] public section

set_option maxRecDepth 16384

noncomputable section

namespace Cert.Proof.Edge

open Cert.EdgesIdeal Cert.EdgesIdeal.Gen Cert.EdgesIdeal.Value Idealize.ShloMosaic Idealize.ShloMosaic.TcCoe Idealize.SL.Sem Cert.Proof.Knn

variable (V0 : Valuation τ sig (Elt Ideal))

/-- The planes of edge `e`. -/
def edgePlanes (e : Fin 245760) (p : Fin 26) : EReal := (res_main_v1 (F := Ideal) V0 : FVec Ideal S245760x26 .f32) (ix2 e p)

/-- The node's own frame, read at an edge. -/
theorem own_at (e : Fin 245760) (i j : Fin 3) : (res_main_v11 (F := Ideal) V0 : FVec Ideal S245760x3x3 .f32) (ix3 e i j) = own (edgePlanes V0 e) i j := by
  unfold res_main_v11 own edgePlanes
  generalize (res_main_v1 (F := Ideal) V0) = P
  revert P
  intro (P : FVec Ideal S245760x26 .f32)
  pointwise
  exact congrArg P (congrArg (ix2 e) (Fin.ext (by simp; omega)))

/-- The angles of the positional features. -/
theorem angle_at (e : Fin 245760) (k : Fin 8) : (res_main_v16 (F := Ideal) V0 : FVec Ideal S245760x8 .f32) (ix2 e k) = angle (edgePlanes V0 e) k := by
  unfold res_main_v16 angle edgePlanes
  generalize (res_main_v1 (F := Ideal) V0) = P
  revert P
  intro (P : FVec Ideal S245760x26 .f32)
  pointwise
  have : S8.rowMajor (ix1 k) = k := Fin.ext (by rw [Shape.rowMajor_val_one]; rfl)
  rw [this]

/-- The distances from the centres, in widths. -/
theorem widths_at (e : Fin 245760) (k : Fin 16) : (res_main_v29 (F := Ideal) V0 : FVec Ideal S245760x16 .f32) (ix2 e k) = widths (edgePlanes V0 e) k := by
  unfold res_main_v29 widths edgePlanes smooth
  generalize (res_main_v1 (F := Ideal) V0) = P
  revert P
  intro (P : FVec Ideal S245760x26 .f32)
  pointwise
  have : S16.rowMajor (ix1 k) = k := Fin.ext (by rw [Shape.rowMajor_val_one]; rfl)
  rw [this]

/-- The way to the neighbour in the own frame. -/
theorem local_at (e : Fin 245760) (i : Fin 3) : (res_main_v37 (F := Ideal) V0 : FVec Ideal S245760x3 .f32) (ix2 e i) = local3 (edgePlanes V0 e) i := by
  unfold res_main_v37 local3 way
  simp only [← own_at]
  unfold edgePlanes
  generalize (res_main_v1 (F := Ideal) V0) = P
  generalize (res_main_v11 (F := Ideal) V0) = Q
  revert P Q
  intro (P : FVec Ideal S245760x26 .f32) (Q : FVec Ideal S245760x3x3 .f32)
  pointwise
  rw [Fin.sum_univ_three]
  rfl

/-- The rotation between the two frames. -/
theorem rot_at (e : Fin 245760) (i j : Fin 3) : (res_main_v51 (F := Ideal) V0 : FVec Ideal S245760x3x3 .f32) (ix3 e i j) = rot (edgePlanes V0 e) i j := by
  unfold res_main_v51 rot their
  simp only [← own_at]
  unfold edgePlanes
  generalize (res_main_v1 (F := Ideal) V0) = P
  generalize (res_main_v11 (F := Ideal) V0) = Q
  revert P Q
  intro (P : FVec Ideal S245760x26 .f32) (Q : FVec Ideal S245760x3x3 .f32)
  pointwise
  rw [Fin.sum_univ_three]
  simp only [Fin.val_zero, Fin.val_one, Fin.val_two, Nat.zero_mul, Nat.zero_add, Nat.one_mul, ← Nat.add_assoc]

/-- Its first diagonal entry. -/
theorem rotxx_at (e : Fin 245760) : (res_main_v53 (F := Ideal) V0 : FVec Ideal S245760 .f32) (ix1 e) = rot (edgePlanes V0 e) 0 0 := by
  rw [← rot_at]
  unfold res_main_v53
  generalize (res_main_v51 (F := Ideal) V0) = P
  revert P
  intro (P : FVec Ideal S245760x3x3 .f32)
  pointwise
/-- Its second. -/
theorem rotyy_at (e : Fin 245760) : (res_main_v55 (F := Ideal) V0 : FVec Ideal S245760 .f32) (ix1 e) = rot (edgePlanes V0 e) 1 1 := by
  rw [← rot_at]
  unfold res_main_v55
  generalize (res_main_v51 (F := Ideal) V0) = P
  revert P
  intro (P : FVec Ideal S245760x3x3 .f32)
  pointwise
/-- Its third. -/
theorem rotzz_at (e : Fin 245760) : (res_main_v57 (F := Ideal) V0 : FVec Ideal S245760 .f32) (ix1 e) = rot (edgePlanes V0 e) 2 2 := by
  rw [← rot_at]
  unfold res_main_v57
  generalize (res_main_v51 (F := Ideal) V0) = P
  revert P
  intro (P : FVec Ideal S245760x3x3 .f32)
  pointwise

/-- The quaternion of the rotation. -/
theorem quat_at (e : Fin 245760) (k : Fin 4) : (res_main_v106 (F := Ideal) V0 : FVec Ideal S245760x4 .f32) (ix2 e k) = quat (edgePlanes V0 e) k := by
  unfold res_main_v106 quat quatW half
  simp only [← rotxx_at, ← rotyy_at, ← rotzz_at]
  simp only [← rot_at]
  generalize (res_main_v51 (F := Ideal) V0) = P
  generalize (res_main_v53 (F := Ideal) V0) = X
  generalize (res_main_v55 (F := Ideal) V0) = Y
  generalize (res_main_v57 (F := Ideal) V0) = Z
  revert P X Y Z
  intro (P : FVec Ideal S245760x3x3 .f32) (X : FVec Ideal S245760 .f32) (Y : FVec Ideal S245760 .f32) (Z : FVec Ideal S245760 .f32)
  fin_cases k
  all_goals pointwise
  all_goals rfl

end Cert.Proof.Edge

end
-- ==== Proof.EdgeLin.lean ====
/-
  The plain program of the edges' features on the extended reals, continued: the linear map and the
  normalization over the 128 columns, read at an edge.
-/
module

public import proofs.«01_k».proof.Proof.EdgeRef

@[expose] public section

set_option maxRecDepth 16384

noncomputable section

namespace Cert.Proof.Edge

open Cert.EdgesIdeal Cert.EdgesIdeal.Gen Cert.EdgesIdeal.Value Idealize.ShloMosaic Idealize.ShloMosaic.TcCoe Idealize.SL.Sem Cert.Proof.Knn

variable (V0 : Valuation τ sig (Elt Ideal))

/-- The weights and the bias, as the program's arguments hold them. -/
def weights : FVec Ideal S128x39 .f32 := V0 (Proc.devRef .tc main_arg1)
/-- The bias. -/
def biases : FVec Ideal S128 .f32 := V0 (Proc.devRef .tc main_arg2)
/-- The scale. -/
def gains : FVec Ideal S128 .f32 := V0 (Proc.devRef .tc main_arg3)
/-- The shift. -/
def shifts : FVec Ideal S128 .f32 := V0 (Proc.devRef .tc main_arg4)

/-- The linear map at an edge. -/
def lin (e : Fin 245760) (q : Fin 128) : EReal := (∑ k : Fin 39, feat (edgePlanes V0 e) k * weights V0 (ix2 q k)) + biases V0 (ix1 q)

/-- The program's product of the features with the weights, with the bias, is the linear map of the features. -/
theorem lin_at (e : Fin 245760) (q : Fin 128) : (res_main_v120 (F := Ideal) V0 : FVec Ideal S245760x128 .f32) (ix2 e q) = lin V0 e q := by
  unfold res_main_v120 lin feat weights biases norm3 norm4
  simp only [← angle_at, ← widths_at, ← local_at, ← quat_at]
  generalize (res_main_v16 (F := Ideal) V0) = A
  generalize (res_main_v29 (F := Ideal) V0) = B
  generalize (res_main_v37 (F := Ideal) V0) = C
  generalize (res_main_v106 (F := Ideal) V0) = D
  generalize V0 (Proc.devRef .tc main_arg1) = W
  generalize V0 (Proc.devRef .tc main_arg2) = b
  revert A B C D W b
  intro (A : FVec Ideal S245760x8 .f32) (B : FVec Ideal S245760x16 .f32) (C : FVec Ideal S245760x3 .f32) (D : FVec Ideal S245760x4 .f32) (W : FVec Ideal S128x39 .f32) (b : FVec Ideal S128 .f32)
  pointwise
  refine congrArg (· + b (ix1 q)) (Finset.sum_congr rfl fun x _ => congrArg (· * W (ix2 q x)) ?_)
  rw [Fin.sum_univ_three, Fin.sum_univ_four]
  simp only [Nat.sub_sub, Nat.reduceAdd]
  have hx := x.isLt
  by_cases h1 : x.val < 8
  · rw [dif_pos (show x.val < 16 by omega), dif_pos h1, dif_pos h1]
  rw [dif_neg h1]
  by_cases h2 : x.val < 16
  · rw [dif_pos h2, dif_neg h1, dif_pos (show x.val - 8 < 8 by omega)]
  rw [dif_neg h2, dif_neg (show ¬ x.val - 8 < 8 by omega)]
  by_cases h3 : x.val - 16 < 16
  · rw [dif_pos h3, dif_pos h3]
  rw [dif_neg h3, dif_neg h3]
  by_cases h4 : x.val - 32 < 3
  · rw [dif_pos h4, dif_pos h4]
    rfl
  rw [dif_neg h4, dif_neg h4, dif_pos (show x.val - 35 < 4 by omega)]
  rfl

/-- The program's mean of a row is the mean of the linear map. -/
theorem mean_at (e : Fin 245760) : (res_main_v124 (F := Ideal) V0 : FVec Ideal S245760x1 .f32) (ix2 e 0) = mean (lin V0 e) := by
  unfold res_main_v124 mean
  simp only [← lin_at]
  generalize (res_main_v120 (F := Ideal) V0) = P
  revert P
  intro (P : FVec Ideal S245760x128 .f32)
  pointwise

/-- The program's row less its mean. -/
theorem centred_at (e : Fin 245760) (q : Fin 128) : (res_main_v126 (F := Ideal) V0 : FVec Ideal S245760x128 .f32) (ix2 e q) = lin V0 e q - mean (lin V0 e) := by
  rw [← lin_at, ← mean_at]
  unfold res_main_v126
  generalize (res_main_v120 (F := Ideal) V0) = P
  generalize (res_main_v124 (F := Ideal) V0) = M
  revert P M
  intro (P : FVec Ideal S245760x128 .f32) (M : FVec Ideal S245760x1 .f32)
  pointwise

/-- The normalized rows, edge by edge: the program's result before its reshape, of the rows, their means, the rows less
    their means, the scale and the shift. -/
def rowsOut (P : FVec Ideal S245760x128 .f32) (M : FVec Ideal S245760x1 .f32) (C : FVec Ideal S245760x128 .f32) (W b : FVec Ideal S128 .f32) :
    FVec Ideal S245760x128 .f32 :=
  (addf (Host.divf (mulf (broadcastInDim S245760x128 ![0, 1] bcast_S1x128_S245760x128_0_1 (broadcastInDim S1x128 ![1] bcast_S128_S1x128_1 W)) (subf P (broadcastInDim S245760x128 ![0, 1] bcast_S245760x1_S245760x128_0_1 M))) (broadcastInDim S245760x128 ![0, 1] bcast_S245760x1_S245760x128_0_1 (addf (Host.sqrt (addf (Host.divf (broadcastInDim S245760x1 ![0] bcast_S245760_S245760x1_0 (Host.reduceAdd (mulf C C) (constant S_ .f32 0x00000000#32) reducesTo_S245760x128_S245760_d1 h_S_)) (broadcastInDim S245760x1 ![] bcast_S_S245760x1 (constant S_ .f32 0x42FE0000#32))) (broadcastInDim S245760x1 ![] bcast_S_S245760x1 (constant S_ .f32 0x358637BD#32)))) (broadcastInDim S245760x1 ![] bcast_S_S245760x1 (constant S_ .f32 0x358637BD#32))))) (broadcastInDim S245760x128 ![0, 1] bcast_S1x128_S245760x128_0_1 (broadcastInDim S1x128 ![1] bcast_S128_S1x128_1 b)))

/-- The normalized rows read at an edge and a column. -/
theorem rowsOut_apply (P : FVec Ideal S245760x128 .f32) (M : FVec Ideal S245760x1 .f32) (C : FVec Ideal S245760x128 .f32) (W b : FVec Ideal S128 .f32)
    (e : Fin 245760) (q : Fin 128) : rowsOut P M C W b (ix2 e q)
      = Ideal.div (W (ix1 q) * (P (ix2 e q) - M (ix2 e 0)))
          (Ideal.sqrt (Ideal.div (∑ k : Fin 128, C (ix2 e k) * C (ix2 e k)) (lit 0x42FE0000#32) + smooth) + smooth) + b (ix1 q) := by
  unfold smooth
  pointwise [rowsOut]

/-- The program's result at an edge and a column. -/
theorem rowsOut_at (e : Fin 245760) (q : Fin 128) :
    rowsOut (res_main_v120 (F := Ideal) V0) (res_main_v124 (F := Ideal) V0) (res_main_v126 (F := Ideal) V0) (gains V0) (shifts V0) (ix2 e q)
      = normed (lin V0 e) (fun q => gains V0 (ix1 q)) (fun q => shifts V0 (ix1 q)) q := by
  refine (rowsOut_apply _ _ _ _ _ e q).trans ?_
  unfold normed spread
  rw [lin_at, mean_at]
  simp only [centred_at]

end Cert.Proof.Edge

end
-- ==== Proof.EdgeValue.lean ====
/-
  The launch of the edges' features and the plain program compute the same array.
-/
module

public import proofs.«01_k».proof.Defs
public import proofs.«01_k».proof.Proof.EdgeRun
public import proofs.«01_k».proof.Proof.EdgeLin
public import Idealize.ShloMosaic.Init

@[expose] public section

set_option maxRecDepth 16384

noncomputable section

namespace Cert.Proof.Edge

open Idealize.ShloMosaic Idealize.ShloMosaic.TcCoe Idealize.SL.Sem Cert.Proof.Knn
open Cert.FeaturesIdeal Cert.FeaturesIdeal.Gen in
/-- The padded weights at one of the first thirty-nine rows. -/
theorem padded_at (a : FVec Ideal S128x39 .f32) (k : Fin 39) (q : Fin 128) : padded a (ix2 k.castSucc q) = a (ix2 q k) := by
  unfold padded
  pointwise
  rw [dif_pos (show (k.castSucc).val < 39 from k.isLt)]
  rfl

open Cert.FeaturesIdeal Cert.FeaturesIdeal.Gen in
/-- A row with a unit axis, read at a column. -/
theorem row1_at (a : FVec Ideal S128 .f32) (q : Fin 128) : row1 a (ix2 0 q) = a (ix1 q) := by
  unfold row1
  pointwise

/-- Edge `(r, l)` of step `i`, in row-major order. -/
def edge (i : Fin 60) (r : Fin 8) (l : Fin 512) : Fin 245760 := ⟨(i.val * 8 + r.val) * 512 + l.val, by omega⟩

open Cert.EdgesIdeal Cert.EdgesIdeal.Gen Cert.EdgesIdeal.Value in
/-- The plain program's planes of an edge are the launch's. -/
theorem planes_link (V0 : Valuation τ sig (Elt Ideal)) (a : FVec Ideal S6389760 .f32) (h : V0 (Proc.devRef .tc main_arg0) = a)
    (i : Fin 60) (r : Fin 8) (l : Fin 512) : edgePlanes V0 (edge i r l) = fun p => planes4 a (ix4 p i r l) := by
  funext p
  unfold edgePlanes res_main_v1 planes4
  rw [h]
  pointwise
  exact congrArg a (congrArg ix1 (Fin.ext (by simp only [edge]; omega)))

open Cert.EdgesIdeal Cert.EdgesIdeal.Gen Cert.EdgesIdeal.Value

/-- A row of the launch's product, with its row of zeros, is the plain product. -/
theorem lin_link (V0 : Valuation τ sig (Elt Ideal)) (i : Fin 60) (r : Fin 8) (l : Fin 512) (q : Fin 128)
    (a : FVec Ideal S6389760 .f32) (h : V0 (Proc.devRef .tc main_arg0) = a) :
    (∑ k : Fin 40, featK (fun p => planes4 a (ix4 p i r l)) k * padded (weights V0) (ix2 k q)) + row1 (biases V0) (ix2 0 q)
      = lin V0 (edge i r l) q := by
  unfold lin
  rw [planes_link V0 a h i r l, Fin.sum_univ_castSucc, featK_last, zero_mul, add_zero, row1_at]
  simp only [featK_eq, padded_at]

/-- The rows given the result's shape, read at an index. -/
theorem reshaped_at (Z : FVec Ideal S245760x128 .f32) (i : Fin 60) (r : Fin 8) (l : Fin 512) (q : Fin 128) :
    (shapeCast _ Z shapeCasts_S245760x128_S60x8x512x128 : FVec Ideal S60x8x512x128 .f32) (ix4 i r l q) = Z (ix2 (edge i r l) q) := by
  refine shapeCast_apply _ _ (ix4 i r l q) (ix2 (edge i r l) q) ?_
  rw [Shape.rowMajor_val_two, Shape.rowMajor_val_four]
  rfl

/-- Every index is its four coordinates. -/
theorem idx_eta (e : S60x8x512x128.Idx) : ∃ (i : Fin 60) (r : Fin 8) (l : Fin 512) (q : Fin 128), e = ix4 i r l q :=
  ⟨e 0, e 1, e 2, e 3, funext fun k => by
    match k with
    | ⟨0, _⟩ => rfl
    | ⟨1, _⟩ => rfl
    | ⟨2, _⟩ => rfl
    | ⟨3, _⟩ => rfl⟩

/-- An array of rows whose every row is the launch's is, reshaped, the launch's array. -/
theorem arrays_equal (Z : FVec Ideal S245760x128 .f32) (P : Vec Ideal Cert.FeaturesIdeal.S26x60x8x512 .f32) (w : Vec Ideal Cert.FeaturesIdeal.S40x128 .f32) (b g s : Vec Ideal Cert.FeaturesIdeal.S1x128 .f32)
    (h : ∀ (i : Fin 60) (r : Fin 8) (l : Fin 512) (q : Fin 128), Z (ix2 (edge i r l) q)
      = normed (fun q => (∑ k : Fin 40, featK (fun p => P (ix4 p i r l)) k * w (ix2 k q)) + b (ix2 0 q)) (fun q => g (ix2 0 q)) (fun q => s (ix2 0 q)) q) :
    (shapeCast _ Z shapeCasts_S245760x128_S60x8x512x128 : FVec Ideal S60x8x512x128 .f32) = edgeArr P w b g s := by
  funext e
  obtain ⟨i, r, l, q, rfl⟩ := idx_eta e
  exact (reshaped_at Z i r l q).trans (h i r l q)

/-- The whole results agree. -/
theorem outs_equal (V0 : Valuation τ sig (Elt Ideal)) (a : FVec Ideal S6389760 .f32) (h : V0 (Proc.devRef .tc main_arg0) = a) :
    (shapeCast _ (rowsOut (res_main_v120 (F := Ideal) V0) (res_main_v124 (F := Ideal) V0) (res_main_v126 (F := Ideal) V0) (gains V0) (shifts V0))
      shapeCasts_S245760x128_S60x8x512x128 : FVec Ideal S60x8x512x128 .f32)
      = edgeArr (planes4 a) (padded (weights V0)) (row1 (biases V0)) (row1 (gains V0)) (row1 (shifts V0)) := by
  refine arrays_equal _ _ _ _ _ _ fun i r l q => (rowsOut_at V0 (edge i r l) q).trans ?_
  simp only [lin_link V0 i r l _ a h]
  simp only [row1_at]

/-- The call and its reference compute the same array: the one of the reference's run. -/
theorem algebraic_call : Cert.algebraic_FeaturesIdeal_EdgesIdeal := by
  intro m g m' g' _ hagree
  refine ⟨fun c => (shapeCast _ (rowsOut (res_main_v120 (F := Ideal) (StableHlo.launchContents m' c)) (res_main_v124 (F := Ideal) (StableHlo.launchContents m' c))
    (res_main_v126 (F := Ideal) (StableHlo.launchContents m' c)) (gains (StableHlo.launchContents m' c)) (shifts (StableHlo.launchContents m' c)))
      shapeCasts_S245760x128_S60x8x512x128 : FVec Ideal S60x8x512x128 .f32), ?_, ?_⟩
  · refine (θ_run Cert.FeaturesIdeal.defs _ _).mono (fun r h c => ?_) (Cert.FeaturesIdeal.Value.run_blocks (F := Ideal) m g)
    obtain ⟨hv, hk⟩ := h c
    obtain ⟨a0, a1, a2, a3, a4⟩ := hagree c
    have e1 : weights (StableHlo.launchContents m' c) = m ((c : Thread Cert.FeaturesIdeal.nD Cert.FeaturesIdeal.τ).loc Cert.FeaturesIdeal.main_arg1) := a1
    have e2 : biases (StableHlo.launchContents m' c) = m ((c : Thread Cert.FeaturesIdeal.nD Cert.FeaturesIdeal.τ).loc Cert.FeaturesIdeal.main_arg2) := a2
    have e3 : gains (StableHlo.launchContents m' c) = m ((c : Thread Cert.FeaturesIdeal.nD Cert.FeaturesIdeal.τ).loc Cert.FeaturesIdeal.main_arg3) := a3
    have e4 : shifts (StableHlo.launchContents m' c) = m ((c : Thread Cert.FeaturesIdeal.nD Cert.FeaturesIdeal.τ).loc Cert.FeaturesIdeal.main_arg4) := a4
    refine ⟨hv.trans ((final5 m c).trans ?_), hk⟩
    rw [V_v0, V_v3, V_v4, V_v5, V_v6, ← e1, ← e2, ← e3, ← e4]
    exact (outs_equal (StableHlo.launchContents m' c) _ a0).symm
  · exact (θ_run Cert.EdgesIdeal.defs _ _).mono (fun r h c => h c) (run (F := Ideal) m' g')

end Cert.Proof.Edge

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_distinct
public import proofs.«01_k».proof.Proof.Gen.Features
public import proofs.«01_k».proof.Proof.Gen.Features.Frame
public import proofs.«01_k».proof.Proof.Gen.FeaturesIdeal
public import proofs.«01_k».proof.Proof.Gen.FeaturesIdeal.Frame
public import proofs.«01_k».proof.Proof.Gen.FeaturesIdeal.Value
public import proofs.«01_k».proof.Proof.Gen.EdgesIdeal
public import proofs.«01_k».proof.Proof.Gen.EdgesIdeal.Run
public import proofs.«01_k».proof.Proof.Frames
public import proofs.«01_k».proof.Proof.Value
public import proofs.«01_k».proof.Proof.EdgeFrames
public import proofs.«01_k».proof.Proof.EdgeValue
public import Idealize.ShloMosaic.Adequacy
public import Idealize.ShloMosaic.Init

@[expose] public section

noncomputable section

namespace Cert.Proof

open Idealize.ShloMosaic Idealize.SL.Sem Cert.Kernel

/-- Everything claimed: the frames, the ideal programs, and the values of the results of the two statements. -/
theorem claim : Cert.Claim := ⟨Cert.Kernel.Gen.facts, Cert.KernelIdeal.Gen.facts, Cert.ReferenceIdeal.Gen.facts, Cert.Features.Gen.facts,
  Cert.FeaturesIdeal.Gen.facts, Cert.EdgesIdeal.Gen.facts, Cert.Pre_distinct.Gen.facts,
  Knn.frame_kernel, Knn.frame_ideal, Knn.frame_ideal_distinct, Knn.frame_ref, Knn.frame_ref_distinct,
  Edge.frame_call, Edge.frame_call_ideal, Edge.frame_edges, trivial, Knn.algebraic, Edge.preserves_call, Edge.algebraic_call⟩

end Cert.Proof

end
